-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v19_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v19_5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_v253) = v1 c
          ∧ r.2.mem ((c.tc : Thread Cert.ReferenceIdeal.nD Cert.ReferenceIdeal.τ).loc Cert.ReferenceIdeal.main_v254) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25)) (v1 : (c : Dev Cert.Kernel2Ideal.nD) → Buf (Elt Ideal) ((c.tc : Thread Cert.Kernel2Ideal.nD Cert.Kernel2Ideal.τ).loc Cert.Kernel2Ideal.main_v27)) (v2 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_v27) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v28)) (v2 : (c : Dev Cert.Kernel3Ideal.nD) → Buf (Elt Ideal) ((c.tc : Thread Cert.Kernel3Ideal.nD Cert.Kernel3Ideal.τ).loc Cert.Kernel3Ideal.main_v36)) (v3 : (c : Dev Cert.Kernel3Ideal.nD) → Buf (Elt Ideal) ((c.tc : Thread Cert.Kernel3Ideal.nD Cert.Kernel3Ideal.τ).loc Cert.Kernel3Ideal.main_v24_2)) (v4 : (c : Dev Cert.Kernel3Ideal.nD) → Buf (Elt Ideal) ((c.tc : Thread Cert.Kernel3Ideal.nD Cert.Kernel3Ideal.τ).loc Cert.Kernel3Ideal.main_v32)) (v5 : (c : Dev Cert.Kernel3Ideal.nD) → Buf (Elt Ideal) ((c.tc : Thread Cert.Kernel3Ideal.nD Cert.Kernel3Ideal.τ).loc Cert.Kernel3Ideal.main_v40)) (v6 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v28) = v1 c
          ∧ r.2.mem ((c.tc : Thread Cert.Kernel3Ideal.nD Cert.Kernel3Ideal.τ).loc Cert.Kernel3Ideal.main_v36) = v2 c
          ∧ r.2.mem ((c.tc : Thread Cert.Kernel3Ideal.nD Cert.Kernel3Ideal.τ).loc Cert.Kernel3Ideal.main_v24_2) = v3 c
          ∧ r.2.mem ((c.tc : Thread Cert.Kernel3Ideal.nD Cert.Kernel3Ideal.τ).loc Cert.Kernel3Ideal.main_v32) = v4 c
          ∧ r.2.mem ((c.tc : Thread Cert.Kernel3Ideal.nD Cert.Kernel3Ideal.τ).loc Cert.Kernel3Ideal.main_v40) = v5 c
          ∧ r.2.mem ((c.tc : Thread Cert.Kernel3Ideal.nD Cert.Kernel3Ideal.τ).loc Cert.Kernel3Ideal.main_v23) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_v48) = v4 c
          ∧ r.2.mem ((c.tc : Thread Cert.Reference3Ideal.nD Cert.Reference3Ideal.τ).loc Cert.Reference3Ideal.main_v49) = v5 c
          ∧ r.2.mem ((c.tc : Thread Cert.Reference3Ideal.nD Cert.Reference3Ideal.τ).loc Cert.Reference3Ideal.main_v50) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v18)) (v2 : (c : Dev Cert.Kernel4Ideal.nD) → Buf (Elt Ideal) ((c.tc : Thread Cert.Kernel4Ideal.nD Cert.Kernel4Ideal.τ).loc Cert.Kernel4Ideal.main_v55)) (v3 : (c : Dev Cert.Kernel4Ideal.nD) → Buf (Elt Ideal) ((c.tc : Thread Cert.Kernel4Ideal.nD Cert.Kernel4Ideal.τ).loc Cert.Kernel4Ideal.main_v56)) (v4 : (c : Dev Cert.Kernel4Ideal.nD) → Buf (Elt Ideal) ((c.tc : Thread Cert.Kernel4Ideal.nD Cert.Kernel4Ideal.τ).loc Cert.Kernel4Ideal.main_v57)) (v5 : (c : Dev Cert.Kernel4Ideal.nD) → Buf (Elt Ideal) ((c.tc : Thread Cert.Kernel4Ideal.nD Cert.Kernel4Ideal.τ).loc Cert.Kernel4Ideal.main_v26)) (v6 : (c : Dev Cert.Kernel4Ideal.nD) → Buf (Elt Ideal) ((c.tc : Thread Cert.Kernel4Ideal.nD Cert.Kernel4Ideal.τ).loc Cert.Kernel4Ideal.main_v54)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v18) = v1 c
          ∧ r.2.mem ((c.tc : Thread Cert.Kernel4Ideal.nD Cert.Kernel4Ideal.τ).loc Cert.Kernel4Ideal.main_v55) = v2 c
          ∧ r.2.mem ((c.tc : Thread Cert.Kernel4Ideal.nD Cert.Kernel4Ideal.τ).loc Cert.Kernel4Ideal.main_v56) = v3 c
          ∧ r.2.mem ((c.tc : Thread Cert.Kernel4Ideal.nD Cert.Kernel4Ideal.τ).loc Cert.Kernel4Ideal.main_v57) = v4 c
          ∧ r.2.mem ((c.tc : Thread Cert.Kernel4Ideal.nD Cert.Kernel4Ideal.τ).loc Cert.Kernel4Ideal.main_v26) = v5 c
          ∧ r.2.mem ((c.tc : Thread Cert.Kernel4Ideal.nD Cert.Kernel4Ideal.τ).loc Cert.Kernel4Ideal.main_v54) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_v5) = v3 c
          ∧ r.2.mem ((c.tc : Thread Cert.Reference4Ideal.nD Cert.Reference4Ideal.τ).loc Cert.Reference4Ideal.main_v6) = v4 c
          ∧ r.2.mem ((c.tc : Thread Cert.Reference4Ideal.nD Cert.Reference4Ideal.τ).loc Cert.Reference4Ideal.main_v7) = v5 c
          ∧ r.2.mem ((c.tc : Thread Cert.Reference4Ideal.nD Cert.Reference4Ideal.τ).loc Cert.Reference4Ideal.main_v14) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v18)) (v1 : (c : Dev Cert.Kernel5Ideal.nD) → Buf (Elt Ideal) ((c.tc : Thread Cert.Kernel5Ideal.nD Cert.Kernel5Ideal.τ).loc Cert.Kernel5Ideal.main_v19)) (v2 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_v19) = v1 c
          ∧ r.2.mem ((c.tc : Thread Cert.Kernel5Ideal.nD Cert.Kernel5Ideal.τ).loc Cert.Kernel5Ideal.main_v21) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_args.lean ====
abbrev S4096x6144 : Shape := ⟨2, ![4096, 6144]⟩
abbrev S1x32 : Shape := ⟨2, ![1, 32]⟩
abbrev S4096x4096 : Shape := ⟨2, ![4096, 4096]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x6144 .f32) (main_arg1 : FVec F S1x32 .f32) (main_arg2 : FVec F S4096x4096 .bf16) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S4096x4096 .bf16 := Host.absf main_arg2
  let main_cst_2 : FVec F S_ .bf16 := constant S_ .bf16 0x7F80#16
  let main_v10 : FVec F S4096x4096 .bf16 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x6144 : Shape := ⟨2, ![4096, 6144]⟩
abbrev S1x32 : Shape := ⟨2, ![1, 32]⟩
abbrev S4096x4096 : Shape := ⟨2, ![4096, 4096]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S8x4x1x1 : Shape := ⟨4, ![8, 4, 1, 1]⟩
abbrev S4096x1024 : Shape := ⟨2, ![4096, 1024]⟩
abbrev S128x512 : Shape := ⟨2, ![128, 512]⟩
abbrev S128x128 : Shape := ⟨2, ![128, 128]⟩
abbrev S1x4x1x1 : Shape := ⟨4, ![1, 4, 1, 1]⟩
abbrev S128x64 : Shape := ⟨2, ![128, 64]⟩
abbrev S1x1x1x1 : Shape := ⟨4, ![1, 1, 1, 1]⟩
abbrev S1x1 : Shape := ⟨2, ![1, 1]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1 : Shape := ⟨1, ![1]⟩
abbrev S128x384 : Shape := ⟨2, ![128, 384]⟩
abbrev S1x6144 : Shape := ⟨2, ![1, 6144]⟩
abbrev S128x4096 : Shape := ⟨2, ![128, 4096]⟩
abbrev S128x1024 : Shape := ⟨2, ![128, 1024]⟩
abbrev S128x6144 : Shape := ⟨2, ![128, 6144]⟩
abbrev S6144 : Shape := ⟨1, ![6144]⟩

abbrev nBuf : Space → Nat
  | .hbm => 34
  | .vmem => 47
  | .smem => 0
  | _ => 0

abbrev bufTy : (tb : Table) → Fin (tcTables nBuf tb) → BufTy
  | .hbm, ⟨0, _⟩ => ⟨S4096x6144, .f32⟩
  | .hbm, ⟨1, _⟩ => ⟨S1x32, .f32⟩
  | .hbm, ⟨2, _⟩ => ⟨S4096x4096, .bf16⟩
  | .hbm, ⟨3, _⟩ => ⟨S4096, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S8x4x1x1, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S8x4x1x1, .f32⟩
  | .hbm, ⟨32, _⟩ => ⟨S4096x6144, .bf16⟩
  | .hbm, ⟨33, _⟩ => ⟨S1x6144, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x4x1x1, .f32⟩
  | .local _ .vmem, ⟨11, _⟩ => ⟨S1x4x1x1, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S128x64, .f32⟩
  | .local _ .vmem, ⟨17, _⟩ => ⟨S128x64, .f32⟩
  | .local _ .vmem, ⟨18, _⟩ => ⟨S128x64, .f32⟩
  | .local _ .vmem, ⟨19, _⟩ => ⟨S128x64, .f32⟩
  | .local _ .vmem, ⟨20, _⟩ => ⟨S128x512, .bf16⟩
  | .local _ .vmem, ⟨21, _⟩ => ⟨S128x512, .bf16⟩
  | .local _ .vmem, ⟨22, _⟩ => ⟨S128x512, .f32⟩
  | .local _ .vmem, ⟨23, _⟩ => ⟨S128x512, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S1x4x1x1, .f32⟩
  | .local _ .vmem, ⟨33, _⟩ => ⟨S1x4x1x1, .f32⟩
  | .local _ .vmem, ⟨34, _⟩ => ⟨S128x4096, .f32⟩
  | .local _ .vmem, ⟨35, _⟩ => ⟨S128x4096, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x6144, .bf16⟩
  | .local _ .vmem, ⟨45, _⟩ => ⟨S128x6144, .bf16⟩
  | .local _ .vmem, ⟨46, _⟩ => ⟨S1x6144, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc1_stg0_0 : Ref sig .tc := ⟨.vmem, 34, rfl⟩
abbrev cc1_stg0_1 : Ref sig .tc := ⟨.vmem, 35, rfl⟩
abbrev cc1_stg1_0 : Ref sig .tc := ⟨.vmem, 36, rfl⟩
abbrev cc1_stg1_1 : Ref sig .tc := ⟨.vmem, 37, rfl⟩
abbrev cc1_stg2_0 : Ref sig .tc := ⟨.vmem, 38, rfl⟩
abbrev cc1_stg2_1 : Ref sig .tc := ⟨.vmem, 39, rfl⟩
abbrev cc1_stg3_0 : Ref sig .tc := ⟨.vmem, 40, rfl⟩
abbrev cc1_stg3_1 : Ref sig .tc := ⟨.vmem, 41, rfl⟩
abbrev cc1_stg4_0 : Ref sig .tc := ⟨.vmem, 42, rfl⟩
abbrev cc1_stg4_1 : Ref sig .tc := ⟨.vmem, 43, rfl⟩
abbrev cc1_stg5_0 : Ref sig .tc := ⟨.vmem, 44, rfl⟩
abbrev cc1_stg5_1 : Ref sig .tc := ⟨.vmem, 45, rfl⟩
abbrev cc1_stg6_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc1_sem0_0 : DmaSem sig := 34
abbrev cc1_sem0_1 : DmaSem sig := 35
abbrev cc1_sem1_0 : DmaSem sig := 36
abbrev cc1_sem1_1 : DmaSem sig := 37
abbrev cc1_sem2_0 : DmaSem sig := 38
abbrev cc1_sem2_1 : DmaSem sig := 39
abbrev cc1_sem3_0 : DmaSem sig := 40
abbrev cc1_sem3_1 : DmaSem sig := 41
abbrev cc1_sem4_0 : DmaSem sig := 42
abbrev cc1_sem4_1 : DmaSem sig := 43
abbrev cc1_sem5_0 : DmaSem sig := 44
abbrev cc1_sem5_1 : DmaSem sig := 45
abbrev cc1_sem6_0 : DmaSem sig := 46

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c32_i32 : BitVec 32 := 32#32
  let v2 : BitVec 32 := Scalar.addi c32_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c40_i32 : BitVec 32 := 40#32
  let v2 : BitVec 32 := Scalar.addi c40_i32 arg0
  let c0_i32_0 : BitVec 32 := 0#32
  ![v1.toNat, v2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x6144 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x6144 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S4096x6144 : Shape := ⟨2, ![4096, 6144]⟩
abbrev S1x32 : Shape := ⟨2, ![1, 32]⟩
abbrev S4096x4096 : Shape := ⟨2, ![4096, 4096]⟩
abbrev S_ : Shape := ⟨0, ![]⟩
abbrev S6144 : Shape := ⟨1, ![6144]⟩
abbrev S32 : Shape := ⟨1, ![32]⟩
abbrev S1x6144 : Shape := ⟨2, ![1, 6144]⟩
abbrev S4096x1024 : Shape := ⟨2, ![4096, 1024]⟩
abbrev S4096x32x128 : Shape := ⟨3, ![4096, 32, 128]⟩
abbrev S4096x8x128 : Shape := ⟨3, ![4096, 8, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x32x64 : Shape := ⟨3, ![4096, 32, 64]⟩
abbrev S4096x1x64 : Shape := ⟨3, ![4096, 1, 64]⟩
abbrev S4096x8x64 : Shape := ⟨3, ![4096, 8, 64]⟩
abbrev S32x128x8x4x128 : Shape := ⟨5, ![32, 128, 8, 4, 128]⟩
abbrev S32x128x8x128 : Shape := ⟨4, ![32, 128, 8, 128]⟩
abbrev S1x128x8x128 : Shape := ⟨4, ![1, 128, 8, 128]⟩
abbrev S31x128x8x128 : Shape := ⟨4, ![31, 128, 8, 128]⟩
abbrev S32x256x8x128 : Shape := ⟨4, ![32, 256, 8, 128]⟩
abbrev S32x8x256x128x4 : Shape := ⟨5, ![32, 8, 256, 128, 4]⟩
abbrev S32x8x4x128x256 : Shape := ⟨5, ![32, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S8x4 : Shape := ⟨2, ![8, 4]⟩
abbrev S1x8x4x1x1 : Shape := ⟨5, ![1, 8, 4, 1, 1]⟩
abbrev S32x8x4x128 : Shape := ⟨4, ![32, 8, 4, 128]⟩
abbrev S32x8x4x128x1 : Shape := ⟨5, ![32, 8, 4, 128, 1]⟩
abbrev S32x8x128x4x128 : Shape := ⟨5, ![32, 8, 128, 4, 128]⟩
abbrev S32x8x128x256 : Shape := ⟨4, ![32, 8, 128, 256]⟩
abbrev S8x4x1 : Shape := ⟨3, ![8, 4, 1]⟩
abbrev S32x8x256x128 : Shape := ⟨4, ![32, 8, 256, 128]⟩
abbrev S8x4x1x1 : Shape := ⟨4, ![8, 4, 1, 1]⟩

abbrev nBuf : Space → Nat
  | .hbm => 304
  | .vmem => 0
  | .smem => 0
  | _ => 0

abbrev hbmTy0_0 (i : Nat) : BufTy := match i % 128 with
  | 0 => ⟨S4096x6144, .f32⟩
  | 1 => ⟨S1x32, .f32⟩
  | 2 => ⟨S4096x4096, .bf16⟩
  | 3 => ⟨S_, .f32⟩
  | 4 => ⟨S6144, .f32⟩
  | 5 => ⟨S32, .f32⟩
  | 6 => ⟨S1x6144, .f32⟩
  | 7 => ⟨S4096x6144, .f32⟩
  | 8 => ⟨S4096x6144, .f32⟩
  | 9 => ⟨S4096x4096, .f32⟩
  | 10 => ⟨S4096x1024, .f32⟩
  | 11 => ⟨S4096x1024, .f32⟩
  | 12 => ⟨S4096x32x128, .f32⟩
  | 13 => ⟨S4096x8x128, .f32⟩
  | 14 => ⟨S4096x8x128, .f32⟩
  | 15 => ⟨S4096, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S4096x1, .f32⟩
  | 31 => ⟨S1x64, .f32⟩
  | 32 => ⟨S4096x64, .f32⟩
  | 33 => ⟨S4096x64, .f32⟩
  | 34 => ⟨S4096x64, .f32⟩
  | 35 => ⟨S4096x64, .f32⟩
  | 36 => ⟨S4096x64, .f32⟩
  | 37 => ⟨S4096x32x64, .f32⟩
  | 38 => ⟨S4096x32x64, .f32⟩
  | 39 => ⟨S4096x1x64, .f32⟩
  | 40 => ⟨S4096x1x64, .f32⟩
  | 41 => ⟨S4096x32x64, .f32⟩
  | 42 => ⟨S4096x32x64, .f32⟩
  | 43 => ⟨S4096x32x64, .f32⟩
  | 44 => ⟨S4096x32x64, .f32⟩
  | 45 => ⟨S4096x32x64, .f32⟩
  | 46 => ⟨S4096x32x64, .f32⟩
  | 47 => ⟨S4096x32x64, .f32⟩
  | 48 => ⟨S4096x32x64, .f32⟩
  | 49 => ⟨S4096x32x64, .f32⟩
  | 50 => ⟨S4096x32x64, .f32⟩
  | 51 => ⟨S4096x32x128, .f32⟩
  | 52 => ⟨S4096x8x64, .f32⟩
  | 53 => ⟨S4096x8x64, .f32⟩
  | 54 => ⟨S4096x1x64, .f32⟩
  | 55 => ⟨S4096x1x64, .f32⟩
  | 56 => ⟨S4096x8x64, .f32⟩
  | 57 => ⟨S4096x8x64, .f32⟩
  | 58 => ⟨S4096x8x64, .f32⟩
  | 59 => ⟨S4096x8x64, .f32⟩
  | 60 => ⟨S4096x8x64, .f32⟩
  | 61 => ⟨S4096x8x64, .f32⟩
  | 62 => ⟨S4096x8x64, .f32⟩
  | 63 => ⟨S4096x8x64, .f32⟩
  | 64 => ⟨S4096x8x64, .f32⟩
  | 65 => ⟨S4096x8x64, .f32⟩
  | 66 => ⟨S4096x8x128, .f32⟩
  | 67 => ⟨S32x128x8x4x128, .f32⟩
  | 68 => ⟨S32x128x8x128, .f32⟩
  | 69 => ⟨S1x128x8x128, .f32⟩
  | 70 => ⟨S_, .f32⟩
  | 71 => ⟨S1x128x8x128, .f32⟩
  | 72 => ⟨S31x128x8x128, .f32⟩
  | 73 => ⟨S32x128x8x128, .f32⟩
  | 74 => ⟨S_, .f32⟩
  | 75 => ⟨S1x128x8x128, .f32⟩
  | 76 => ⟨S32x256x8x128, .f32⟩
  | 77 => ⟨S32x128x8x128, .f32⟩
  | 78 => ⟨S1x128x8x128, .f32⟩
  | 79 => ⟨S_, .f32⟩
  | 80 => ⟨S1x128x8x128, .f32⟩
  | 81 => ⟨S31x128x8x128, .f32⟩
  | 82 => ⟨S32x128x8x128, .f32⟩
  | 83 => ⟨S_, .f32⟩
  | 84 => ⟨S1x128x8x128, .f32⟩
  | 85 => ⟨S32x256x8x128, .f32⟩
  | 86 => ⟨S32x8x256x128x4, .f32⟩
  | 87 => ⟨S32x8x4x128x256, .f32⟩
  | 88 => ⟨S_, .f32⟩
  | 89 => ⟨S32x8x4x128x256, .f32⟩
  | 90 => ⟨S32x8x4x128x256, .f32⟩
  | 91 => ⟨S128, .i32⟩
  | 92 => ⟨S128x1, .i32⟩
  | 93 => ⟨S256, .i32⟩
  | 94 => ⟨S1x256, .i32⟩
  | 95 => ⟨S_, .i32⟩
  | 96 => ⟨S128x1, .i32⟩
  | 97 => ⟨S128x1, .i32⟩
  | 98 => ⟨S128x256, .i32⟩
  | 99 => ⟨S128x256, .i32⟩
  | 100 => ⟨S128x256, .i32⟩
  | 101 => ⟨S32, .i32⟩
  | 102 => ⟨S32x1x1, .i32⟩
  | 103 => ⟨S_, .i32⟩
  | 104 => ⟨S32x1x1, .i32⟩
  | 105 => ⟨S32x1x1, .i32⟩
  | 106 => ⟨S1x1x256, .i32⟩
  | 107 => ⟨S32x1x256, .i32⟩
  | 108 => ⟨S32x1x256, .i32⟩
  | 109 => ⟨S32x1x256, .i32⟩
  | 110 => ⟨S_, .i32⟩
  | 111 => ⟨S32x1x256, .i32⟩
  | 112 => ⟨S32x1x256, .i32⟩
  | 113 => ⟨S_, .i32⟩
  | 114 => ⟨S128x256, .i32⟩
  | 115 => ⟨S128x256, .i1⟩
  | 116 => ⟨S_, .i32⟩
  | 117 => ⟨S128x256, .i32⟩
  | 118 => ⟨S128x256, .i1⟩
  | 119 => ⟨S128x256, .i1⟩
  | 120 => ⟨S_, .i32⟩
  | 121 => ⟨S32x1x256, .i32⟩
  | 122 => ⟨S32x1x256, .i1⟩
  | 123 => ⟨S1x128x256, .i1⟩
  | 124 => ⟨S32x128x256, .i1⟩
  | 125 => ⟨S32x128x256, .i1⟩
  | 126 => ⟨S32x128x256, .i1⟩
  | 127 => ⟨S32x1x1x128x256, .i1⟩
  | _ => ⟨S4096x6144, .f32⟩

abbrev hbmTy0_1 (i : Nat) : BufTy := match i % 128 with
  | 0 => ⟨S_, .f32⟩
  | 1 => ⟨S_, .f32⟩
  | 2 => ⟨S32x8x4x128x256, .i1⟩
  | 3 => ⟨S32x8x4x128x256, .f32⟩
  | 4 => ⟨S32x8x4x128x256, .f32⟩
  | 5 => ⟨S_, .f32⟩
  | 6 => ⟨S32x8x4x128x256, .f32⟩
  | 7 => ⟨S8x4, .f32⟩
  | 8 => ⟨S1x8x4x1x1, .f32⟩
  | 9 => ⟨S_, .f32⟩
  | 10 => ⟨S32x8x4x128, .f32⟩
  | 11 => ⟨S32x8x4x128x1, .f32⟩
  | 12 => ⟨S32x8x4x128x256, .f32⟩
  | 13 => ⟨S32x8x4x128x256, .i1⟩
  | 14 => ⟨S32x8x4x128x256, .f32⟩
  | 15 => ⟨S_, .f32⟩
  | 16 => ⟨S32x8x4x128, .f32⟩
  | 17 => ⟨S32x8x4x128x1, .f32⟩
  | 18 => ⟨S32x8x4x128x1, .f32⟩
  | 19 => ⟨S32x8x4x128x1, .f32⟩
  | 20 => ⟨S32x8x4x128x1, .f32⟩
  | 21 => ⟨S32x8x4x128x1, .i1⟩
  | 22 => ⟨S32x8x4x128x1, .f32⟩
  | 23 => ⟨S32x8x4x128x1, .i1⟩
  | 24 => ⟨S_, .f32⟩
  | 25 => ⟨S32x8x4x128x1, .f32⟩
  | 26 => ⟨S_, .f32⟩
  | 27 => ⟨S32x8x4x128x1, .f32⟩
  | 28 => ⟨S_, .f32⟩
  | 29 => ⟨S32x8x4x128x1, .f32⟩
  | 30 => ⟨S32x8x4x128x1, .f32⟩
  | 31 => ⟨S32x8x4x128x1, .f32⟩
  | 32 => ⟨S32x8x4x128x1, .f32⟩
  | 33 => ⟨S32x8x4x128x1, .i1⟩
  | 34 => ⟨S32x8x4x128x1, .f32⟩
  | 35 => ⟨S32x8x4x128x1, .i1⟩
  | 36 => ⟨S_, .f32⟩
  | 37 => ⟨S32x8x4x128x1, .f32⟩
  | 38 => ⟨S_, .f32⟩
  | 39 => ⟨S32x8x4x128x1, .f32⟩
  | 40 => ⟨S_, .f32⟩
  | 41 => ⟨S32x8x4x128x1, .f32⟩
  | 42 => ⟨S32x8x4x128x1, .f32⟩
  | 43 => ⟨S32x8x4x128x1, .f32⟩
  | 44 => ⟨S32x8x4x128x256, .f32⟩
  | 45 => ⟨S32x8x4x128x256, .f32⟩
  | 46 => ⟨S32x8x4x128x256, .f32⟩
  | 47 => ⟨S_, .f32⟩
  | 48 => ⟨S32x8x4x128, .f32⟩
  | 49 => ⟨S32x8x4x128x1, .f32⟩
  | 50 => ⟨S32x8x4x128x1, .f32⟩
  | 51 => ⟨S32x8x4x128x1, .f32⟩
  | 52 => ⟨S32x8x4x128x1, .f32⟩
  | 53 => ⟨S32x8x4x128x1, .f32⟩
  | 54 => ⟨S32x8x4x128x256, .f32⟩
  | 55 => ⟨S32x8x4x128x256, .f32⟩
  | 56 => ⟨S32x8x4x128x1, .f32⟩
  | 57 => ⟨S_, .f32⟩
  | 58 => ⟨S32x8x4x128x1, .f32⟩
  | 59 => ⟨S32x8x4x128x1, .f32⟩
  | 60 => ⟨S32x8x128x4x128, .f32⟩
  | 61 => ⟨S32x128x8x4x128, .f32⟩
  | 62 => ⟨S4096x4096, .f32⟩
  | 63 => ⟨S4096x4096, .f32⟩
  | 64 => ⟨S32x128x8x4x128, .f32⟩
  | 65 => ⟨S32x8x128x4x128, .f32⟩
  | 66 => ⟨S32x8x4x128x256, .f32⟩
  | 67 => ⟨S32x8x128x256, .f32⟩
  | 68 => ⟨S32x256x8x128, .f32⟩
  | 69 => ⟨S32x8x4x128x256, .f32⟩
  | 70 => ⟨S32x8x4x128x256, .f32⟩
  | 71 => ⟨S32x8x4x128x256, .f32⟩
  | 72 => ⟨S_, .f32⟩
  | 73 => ⟨S32x8x4x128, .f32⟩
  | 74 => ⟨S32x8x4x128x1, .f32⟩
  | 75 => ⟨S32x8x4x128x1, .f32⟩
  | 76 => ⟨S32x8x4x128x256, .f32⟩
  | 77 => ⟨S32x8x4x128x256, .f32⟩
  | 78 => ⟨S32x8x4x128x1, .f32⟩
  | 79 => ⟨S_, .f32⟩
  | 80 => ⟨S8x4x1, .f32⟩
  | 81 => ⟨S1x8x4x1x1, .f32⟩
  | 82 => ⟨S32x8x4x128x1, .f32⟩
  | 83 => ⟨S_, .f32⟩
  | 84 => ⟨S32x8x4x128, .f32⟩
  | 85 => ⟨S32x8x4x128x256, .f32⟩
  | 86 => ⟨S32x8x4x128x256, .f32⟩
  | 87 => ⟨S32x8x4x128x256, .f32⟩
  | 88 => ⟨S32x8x4x128x256, .f32⟩
  | 89 => ⟨S_, .f32⟩
  | 90 => ⟨S32x8x4x128, .f32⟩
  | 91 => ⟨S32x8x4x128x1, .f32⟩
  | 92 => ⟨S32x8x4x128x1, .f32⟩
  | 93 => ⟨S32x8x4x128x1, .f32⟩
  | 94 => ⟨S_, .f32⟩
  | 95 => ⟨S8x4x1, .f32⟩
  | 96 => ⟨S1x8x4x1x1, .f32⟩
  | 97 => ⟨S1x8x4x1x1, .f32⟩
  | 98 => ⟨S32x8x4x128x1, .f32⟩
  | 99 => ⟨S_, .f32⟩
  | 100 => ⟨S32x8x4x128, .f32⟩
  | 101 => ⟨S32x8x4x128, .f32⟩
  | 102 => ⟨S32x8x4x128x256, .f32⟩
  | 103 => ⟨S32x8x4x128x256, .f32⟩
  | 104 => ⟨S32x8x4x128x256, .f32⟩
  | 105 => ⟨S_, .f32⟩
  | 106 => ⟨S8x4, .f32⟩
  | 107 => ⟨S32, .f32⟩
  | 108 => ⟨S_, .f32⟩
  | 109 => ⟨S32x8x4x128x256, .f32⟩
  | 110 => ⟨S32x8x4x128x256, .f32⟩
  | 111 => ⟨S_, .f32⟩
  | 112 => ⟨S32x8x4x128x256, .f32⟩
  | 113 => ⟨S32x8x4x128x256, .f32⟩
  | 114 => ⟨S32x8x256x128x4, .f32⟩
  | 115 => ⟨S32x8x128x4x128, .f32⟩
  | 116 => ⟨S32x128x8x4x128, .f32⟩
  | 117 => ⟨S32x8x256x128, .f32⟩
  | 118 => ⟨S32x256x8x128, .f32⟩
  | 119 => ⟨S32x128x8x128, .f32⟩
  | 120 => ⟨S32x128x8x128, .f32⟩
  | 121 => ⟨S1x128x8x128, .f32⟩
  | 122 => ⟨S31x128x8x128, .f32⟩
  | 123 => ⟨S_, .f32⟩
  | 124 => ⟨S32x128x8x128, .f32⟩
  | 125 => ⟨S32x128x8x128, .f32⟩
  | 126 => ⟨S4096x8x128, .f32⟩
  | 127 => ⟨S32x128x8x128, .f32⟩
  | _ => ⟨S4096x6144, .f32⟩

abbrev hbmTy0_2 (i : Nat) : BufTy := match i % 128 with
  | 0 => ⟨S32x128x8x128, .f32⟩
  | 1 => ⟨S1x128x8x128, .f32⟩
  | 2 => ⟨S31x128x8x128, .f32⟩
  | 3 => ⟨S_, .f32⟩
  | 4 => ⟨S32x128x8x128, .f32⟩
  | 5 => ⟨S32x128x8x128, .f32⟩
  | 6 => ⟨S4096x8x128, .f32⟩
  | 7 => ⟨S4096x32x128, .f32⟩
  | 8 => ⟨S4096x8x64, .f32⟩
  | 9 => ⟨S4096x8x64, .f32⟩
  | 10 => ⟨S4096x8x64, .f32⟩
  | 11 => ⟨S4096x8x64, .f32⟩
  | 12 => ⟨S4096x8x64, .f32⟩
  | 13 => ⟨S4096x8x64, .f32⟩
  | 14 => ⟨S4096x8x64, .f32⟩
  | 15 => ⟨S4096x8x64, .f32⟩
  | 16 => ⟨S4096x8x64, .f32⟩
  | 17 => ⟨S4096x8x64, .f32⟩
  | 18 => ⟨S4096x8x64, .f32⟩
  | 19 => ⟨S4096x8x64, .f32⟩
  | 20 => ⟨S4096x8x64, .f32⟩
  | 21 => ⟨S4096x8x128, .f32⟩
  | 22 => ⟨S4096x32x64, .f32⟩
  | 23 => ⟨S4096x32x64, .f32⟩
  | 24 => ⟨S4096x32x64, .f32⟩
  | 25 => ⟨S4096x32x64, .f32⟩
  | 26 => ⟨S4096x32x64, .f32⟩
  | 27 => ⟨S4096x32x64, .f32⟩
  | 28 => ⟨S4096x32x64, .f32⟩
  | 29 => ⟨S4096x32x64, .f32⟩
  | 30 => ⟨S4096x32x64, .f32⟩
  | 31 => ⟨S4096x32x64, .f32⟩
  | 32 => ⟨S4096x32x64, .f32⟩
  | 33 => ⟨S4096x32x64, .f32⟩
  | 34 => ⟨S4096x32x64, .f32⟩
  | 35 => ⟨S4096x32x128, .f32⟩
  | 36 => ⟨S4096x1024, .f32⟩
  | 37 => ⟨S4096x1024, .f32⟩
  | 38 => ⟨S4096x4096, .f32⟩
  | 39 => ⟨S4096x6144, .f32⟩
  | 40 => ⟨S_, .f32⟩
  | 41 => ⟨S6144, .f32⟩
  | 42 => ⟨S1x6144, .f32⟩
  | 43 => ⟨S_, .f32⟩
  | 44 => ⟨S6144, .f32⟩
  | 45 => ⟨S4096x6144, .bf16⟩
  | 46 => ⟨S1x6144, .f32⟩
  | 47 => ⟨S8x4x1x1, .f32⟩
  | _ => ⟨S4096x6144, .f32⟩

abbrev hbmTy (i : Nat) : BufTy := match i / 128 with
  | 0 => hbmTy0_0 i
  | 1 => hbmTy0_1 i
  | 2 => hbmTy0_2 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_6 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_7 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_8 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_c_9 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_c_10 : Ref sig .tc := ⟨.hbm, 110, rfl⟩
abbrev main_v95 : Ref sig .tc := ⟨.hbm, 111, rfl⟩
abbrev main_v96 : Ref sig .tc := ⟨.hbm, 112, rfl⟩
abbrev main_c_11 : Ref sig .tc := ⟨.hbm, 113, rfl⟩
abbrev main_v97 : Ref sig .tc := ⟨.hbm, 114, rfl⟩
abbrev main_v98 : Ref sig .tc := ⟨.hbm, 115, rfl⟩
abbrev main_c_12 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_c_13 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_14 : Ref sig .tc := ⟨.hbm, 128, rfl⟩
abbrev main_call0_v0 : Ref sig .tc := ⟨.hbm, 129, rfl⟩
abbrev main_v109_1 : Ref sig .tc := ⟨.hbm, 130, rfl⟩
abbrev main_call0_v2 : Ref sig .tc := ⟨.hbm, 131, rfl⟩
abbrev main_v109_0 : Ref sig .tc := ⟨.hbm, 132, rfl⟩
abbrev main_call0_cst : Ref sig .tc := ⟨.hbm, 133, rfl⟩
abbrev main_v109_2 : Ref sig .tc := ⟨.hbm, 134, rfl⟩
abbrev main_v110 : Ref sig .tc := ⟨.hbm, 135, rfl⟩
abbrev main_v111 : Ref sig .tc := ⟨.hbm, 136, rfl⟩
abbrev main_cst_15 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_16 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_17 : Ref sig .tc := ⟨.hbm, 152, rfl⟩
abbrev main_v125 : Ref sig .tc := ⟨.hbm, 153, rfl⟩
abbrev main_cst_18 : Ref sig .tc := ⟨.hbm, 154, rfl⟩
abbrev main_v126 : Ref sig .tc := ⟨.hbm, 155, rfl⟩
abbrev main_cst_19 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_20 : Ref sig .tc := ⟨.hbm, 164, rfl⟩
abbrev main_v134 : Ref sig .tc := ⟨.hbm, 165, rfl⟩
abbrev main_cst_21 : Ref sig .tc := ⟨.hbm, 166, rfl⟩
abbrev main_v135 : Ref sig .tc := ⟨.hbm, 167, rfl⟩
abbrev main_cst_22 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_23 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_24 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_25 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_26 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_27 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_cst_28 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_29 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_30 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_31 : Ref sig .tc := ⟨.hbm, 233, rfl⟩
abbrev main_v192 : Ref sig .tc := ⟨.hbm, 234, rfl⟩
abbrev main_v193 : Ref sig .tc := ⟨.hbm, 235, rfl⟩
abbrev main_call1_cst : Ref sig .tc := ⟨.hbm, 236, rfl⟩
abbrev main_call1_v0 : Ref sig .tc := ⟨.hbm, 237, rfl⟩
abbrev main_v194 : Ref sig .tc := ⟨.hbm, 238, rfl⟩
abbrev main_cst_32 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_cst_33 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_34 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_cst_35 : Ref sig .tc := ⟨.hbm, 296, rfl⟩
abbrev main_v249 : Ref sig .tc := ⟨.hbm, 297, rfl⟩
abbrev main_v250 : Ref sig .tc := ⟨.hbm, 298, rfl⟩
abbrev main_cst_36 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩

abbrev nD : Nat := 1
abbrev τ : Topo := Topo.v7x

variable {F : FTy → Type} [FloatOps F]
-- ==== Kernel2.lean ====
abbrev S4096x4096 : Shape := ⟨2, ![4096, 4096]⟩
abbrev S4096x11008 : Shape := ⟨2, ![4096, 11008]⟩
abbrev S11008x4096 : Shape := ⟨2, ![11008, 4096]⟩
abbrev S4096x8x1376 : Shape := ⟨3, ![4096, 8, 1376]⟩
abbrev S8x4096x1376 : Shape := ⟨3, ![8, 4096, 1376]⟩
abbrev S8x1376x4096 : Shape := ⟨3, ![8, 1376, 4096]⟩
abbrev S32768x1376 : Shape := ⟨2, ![32768, 1376]⟩
abbrev S512x1376 : Shape := ⟨2, ![512, 1376]⟩
abbrev S1x4096x4096 : Shape := ⟨3, ![1, 4096, 4096]⟩
abbrev S1x512x4096 : Shape := ⟨3, ![1, 512, 4096]⟩
abbrev S1x1376x4096 : Shape := ⟨3, ![1, 1376, 4096]⟩
abbrev S1x512x1376 : Shape := ⟨3, ![1, 512, 1376]⟩
abbrev S512x4096 : Shape := ⟨2, ![512, 4096]⟩
abbrev S1376x4096 : Shape := ⟨2, ![1376, 4096]⟩
abbrev S1x4096x1376 : Shape := ⟨3, ![1, 4096, 1376]⟩
abbrev S1x4096x512 : Shape := ⟨3, ![1, 4096, 512]⟩
abbrev S1x1376x512 : Shape := ⟨3, ![1, 1376, 512]⟩
abbrev S4096x1376 : Shape := ⟨2, ![4096, 1376]⟩
abbrev S4096x512 : Shape := ⟨2, ![4096, 512]⟩
abbrev S1376x512 : Shape := ⟨2, ![1376, 512]⟩

abbrev nBuf : Space → Nat
  | .hbm => 34
  | .vmem => 40
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x4096, .bf16⟩
  | .hbm, ⟨5, _⟩ => ⟨S4096x4096, .f32⟩
  | .hbm, ⟨6, _⟩ => ⟨S4096x11008, .f32⟩
  | .hbm, ⟨7, _⟩ => ⟨S4096x8x1376, .f32⟩
  | .hbm, ⟨8, _⟩ => ⟨S8x4096x1376, .f32⟩
  | .hbm, ⟨9, _⟩ => ⟨S4096x4096, .f32⟩
  | .hbm, ⟨10, _⟩ => ⟨S4096x11008, .f32⟩
  | .hbm, ⟨11, _⟩ => ⟨S4096x8x1376, .f32⟩
  | .hbm, ⟨12, _⟩ => ⟨S8x4096x1376, .f32⟩
  | .hbm, ⟨13, _⟩ => ⟨S11008x4096, .bf16⟩
  | .hbm, ⟨14, _⟩ => ⟨S8x1376x4096, .bf16⟩
  | .hbm, ⟨15, _⟩ => ⟨S32768x1376, .f32⟩
  | .hbm, ⟨16, _⟩ => ⟨S32768x1376, .f32⟩
  | .hbm, ⟨17, _⟩ => ⟨S32768x1376, .bf16⟩
  | .hbm, ⟨18, _⟩ => ⟨S8x4096x1376, .bf16⟩
  | .hbm, ⟨19, _⟩ => ⟨S1x4096x4096, .bf16⟩
  | .hbm, ⟨20, _⟩ => ⟨S8x4096x1376, .bf16⟩
  | .hbm, ⟨21, _⟩ => ⟨S1x4096x4096, .bf16⟩
  | .hbm, ⟨22, _⟩ => ⟨S8x1376x4096, .bf16⟩
  | .hbm, ⟨23, _⟩ => ⟨S32768x1376, .f32⟩
  | .hbm, ⟨24, _⟩ => ⟨S32768x1376, .f32⟩
  | .hbm, ⟨25, _⟩ => ⟨S32768x1376, .bf16⟩
  | .hbm, ⟨26, _⟩ => ⟨S32768x1376, .bf16⟩
  | .hbm, ⟨27, _⟩ => ⟨S32768x1376, .bf16⟩
  | .hbm, ⟨28, _⟩ => ⟨S8x4096x1376, .bf16⟩
  | .hbm, ⟨29, _⟩ => ⟨S8x4096x1376, .bf16⟩
  | .hbm, ⟨30, _⟩ => ⟨S1x4096x4096, .bf16⟩
  | .hbm, ⟨31, _⟩ => ⟨S8x4096x1376, .bf16⟩
  | .hbm, ⟨32, _⟩ => ⟨S1x4096x4096, .bf16⟩
  | .hbm, ⟨33, _⟩ => ⟨S8x4096x1376, .bf16⟩
  | .local _ .vmem, ⟨0, _⟩ => ⟨S512x1376, .f32⟩
  | .local _ .vmem, ⟨1, _⟩ => ⟨S512x1376, .f32⟩
  | .local _ .vmem, ⟨2, _⟩ => ⟨S512x1376, .f32⟩
  | .local _ .vmem, ⟨3, _⟩ => ⟨S512x1376, .f32⟩
  | .local _ .vmem, ⟨4, _⟩ => ⟨S512x1376, .bf16⟩
  | .local _ .vmem, ⟨5, _⟩ => ⟨S512x1376, .bf16⟩
  | .local _ .vmem, ⟨6, _⟩ => ⟨S1x512x4096, .bf16⟩
  | .local _ .vmem, ⟨7, _⟩ => ⟨S1x512x4096, .bf16⟩
  | .local _ .vmem, ⟨8, _⟩ => ⟨S1x1376x4096, .bf16⟩
  | .local _ .vmem, ⟨9, _⟩ => ⟨S1x1376x4096, .bf16⟩
  | .local _ .vmem, ⟨10, _⟩ => ⟨S1x512x1376, .bf16⟩
  | .local _ .vmem, ⟨11, _⟩ => ⟨S1x512x1376, .bf16⟩
  | .local _ .vmem, ⟨12, _⟩ => ⟨S1x4096x1376, .bf16⟩
  | .local _ .vmem, ⟨13, _⟩ => ⟨S1x4096x1376, .bf16⟩
  | .local _ .vmem, ⟨14, _⟩ => ⟨S1x4096x512, .bf16⟩
  | .local _ .vmem, ⟨15, _⟩ => ⟨S1x4096x512, .bf16⟩
  | .local _ .vmem, ⟨16, _⟩ => ⟨S1x1376x512, .bf16⟩
  | .local _ .vmem, ⟨17, _⟩ => ⟨S1x1376x512, .bf16⟩
  | .local _ .vmem, ⟨18, _⟩ => ⟨S512x1376, .f32⟩
  | .local _ .vmem, ⟨19, _⟩ => ⟨S512x1376, .f32⟩
  | .local _ .vmem, ⟨20, _⟩ => ⟨S512x1376, .f32⟩
  | .local _ .vmem, ⟨21, _⟩ => ⟨S512x1376, .f32⟩
  | .local _ .vmem, ⟨22, _⟩ => ⟨S512x1376, .bf16⟩
  | .local _ .vmem, ⟨23, _⟩ => ⟨S512x1376, .bf16⟩
  | .local _ .vmem, ⟨24, _⟩ => ⟨S512x1376, .bf16⟩
  | .local _ .vmem, ⟨25, _⟩ => ⟨S512x1376, .bf16⟩
  | .local _ .vmem, ⟨26, _⟩ => ⟨S512x1376, .bf16⟩
  | .local _ .vmem, ⟨27, _⟩ => ⟨S512x1376, .bf16⟩
  | .local _ .vmem, ⟨28, _⟩ => ⟨S1x4096x512, .bf16⟩
  | .local _ .vmem, ⟨29, _⟩ => ⟨S1x4096x512, .bf16⟩
  | .local _ .vmem, ⟨30, _⟩ => ⟨S1x4096x1376, .bf16⟩
  | .local _ .vmem, ⟨31, _⟩ => ⟨S1x4096x1376, .bf16⟩
  | .local _ .vmem, ⟨32, _⟩ => ⟨S1x512x1376, .bf16⟩
  | .local _ .vmem, ⟨33, _⟩ => ⟨S1x512x1376, .bf16⟩
  | .local _ .vmem, ⟨34, _⟩ => ⟨S1x4096x512, .bf16⟩
  | .local _ .vmem, ⟨35, _⟩ => ⟨S1x4096x512, .bf16⟩
  | .local _ .vmem, ⟨36, _⟩ => ⟨S1x4096x1376, .bf16⟩
  | .local _ .vmem, ⟨37, _⟩ => ⟨S1x4096x1376, .bf16⟩
  | .local _ .vmem, ⟨38, _⟩ => ⟨S1x512x1376, .bf16⟩
  | .local _ .vmem, ⟨39, _⟩ => ⟨S1x512x1376, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨4, ![8, 8, 1, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x1376x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x512x1376 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![8, 1, 8, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x4096x1376 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 2 → Memref sig .tc .vmem S1x4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x1376x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1376 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1376 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1376 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1376 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1376 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨4, ![8, 8, 1, 1], ![false, false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S1x4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, true]

abbrev stage4_1 : Fin 2 → Memref sig .tc .vmem S1x4096x1376 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true, true]

abbrev stage4_2 : Fin 2 → Memref sig .tc .vmem S1x512x1376 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev grid5 : Pipeline.Grid := ⟨4, ![8, 8, 1, 1], ![false, false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage5_0 : Fin 2 → Memref sig .tc .vmem S1x4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false, true]

abbrev stage5_1 : Fin 2 → Memref sig .tc .vmem S1x4096x1376 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true, true]

abbrev stage5_2 : Fin 2 → Memref sig .tc .vmem S1x512x1376 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true, false]
-- ==== Reference2Ideal.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩
abbrev S4096x8x1376 : Shape := ⟨3, ![4096, 8, 1376]⟩
abbrev S8x4096x1376 : Shape := ⟨3, ![8, 4096, 1376]⟩
abbrev S8x1376x4096 : Shape := ⟨3, ![8, 1376, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x4096, .bf16⟩
  | .hbm, ⟨5, _⟩ => ⟨S4096x4096, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S_, .f32⟩
  | .hbm, ⟨13, _⟩ => ⟨S4096x11008, .f32⟩
  | .hbm, ⟨14, _⟩ => ⟨S4096x11008, .f32⟩
  | .hbm, ⟨15, _⟩ => ⟨S_, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S4096x11008, .f32⟩
  | .hbm, ⟨21, _⟩ => ⟨S4096x11008, .f32⟩
  | .hbm, ⟨22, _⟩ => ⟨S4096x4096, .f32⟩
  | .hbm, ⟨23, _⟩ => ⟨S4096x4096, .f32⟩
  | .hbm, ⟨24, _⟩ => ⟨S4096x11008, .f32⟩
  | .hbm, ⟨25, _⟩ => ⟨S11008x4096, .f32⟩
  | .hbm, ⟨26, _⟩ => ⟨S4096x11008, .f32⟩
  | .hbm, ⟨27, _⟩ => ⟨S4096x11008, .f32⟩
  | .hbm, ⟨28, _⟩ => ⟨S4096x11008, .f32⟩
  | .hbm, ⟨29, _⟩ => ⟨S11008x4096, .f32⟩
  | .hbm, ⟨30, _⟩ => ⟨S4096x11008, .f32⟩
  | .hbm, ⟨31, _⟩ => ⟨S4096x11008, .f32⟩
  | .hbm, ⟨32, _⟩ => ⟨S4096x11008, .f32⟩
  | .hbm, ⟨33, _⟩ => ⟨S4096x11008, .f32⟩
  | .hbm, ⟨34, _⟩ => ⟨S4096x11008, .f32⟩
  | .hbm, ⟨35, _⟩ => ⟨S11008x4096, .f32⟩
  | .hbm, ⟨36, _⟩ => ⟨S4096x11008, .f32⟩
  | .hbm, ⟨37, _⟩ => ⟨S4096x8x1376, .f32⟩
  | .hbm, ⟨38, _⟩ => ⟨S8x4096x1376, .f32⟩
  | .hbm, ⟨39, _⟩ => ⟨S8x4096x1376, .bf16⟩
  | .hbm, ⟨40, _⟩ => ⟨S4096x8x1376, .f32⟩
  | .hbm, ⟨41, _⟩ => ⟨S8x4096x1376, .f32⟩
  | .hbm, ⟨42, _⟩ => ⟨S8x4096x1376, .bf16⟩
  | .hbm, ⟨43, _⟩ => ⟨S8x1376x4096, .f32⟩
  | .hbm, ⟨44, _⟩ => ⟨S8x1376x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Kernel3.lean ====
abbrev S4096x4096 : Shape := ⟨2, ![4096, 4096]⟩
abbrev S4096x8192 : Shape := ⟨2, ![4096, 8192]⟩
abbrev S1x4096x4096 : Shape := ⟨3, ![1, 4096, 4096]⟩
abbrev S1x512x4096 : Shape := ⟨3, ![1, 512, 4096]⟩
abbrev S1x4096x1024 : Shape := ⟨3, ![1, 4096, 1024]⟩
abbrev S1x512x1024 : Shape := ⟨3, ![1, 512, 1024]⟩
abbrev S512x4096 : Shape := ⟨2, ![512, 4096]⟩
abbrev S4096x1024 : Shape := ⟨2, ![4096, 1024]⟩
abbrev S512x1024 : Shape := ⟨2, ![512, 1024]⟩
abbrev S128x4096 : Shape := ⟨2, ![128, 4096]⟩
abbrev S128x8192 : Shape := ⟨2, ![128, 8192]⟩
abbrev S1x1024x4096 : Shape := ⟨3, ![1, 1024, 4096]⟩
abbrev S1024x4096 : Shape := ⟨2, ![1024, 4096]⟩
abbrev S1x4096x512 : Shape := ⟨3, ![1, 4096, 512]⟩
abbrev S4096x512 : Shape := ⟨2, ![4096, 512]⟩

abbrev nBuf : Space → Nat
  | .hbm => 50
  | .vmem => 76
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S1x4096x4096, .bf16⟩
  | .hbm, ⟨11, _⟩ => ⟨S1x4096x4096, .bf16⟩
  | .hbm, ⟨12, _⟩ => ⟨S1x4096x4096, .f32⟩
  | .hbm, ⟨13, _⟩ => ⟨S4096x4096, .f32⟩
  | .hbm, ⟨14, _⟩ => ⟨S1x4096x4096, .bf16⟩
  | .hbm, ⟨15, _⟩ => ⟨S1x4096x4096, .bf16⟩
  | .hbm, ⟨16, _⟩ => ⟨S1x4096x4096, .f32⟩
  | .hbm, ⟨17, _⟩ => ⟨S4096x4096, .f32⟩
  | .hbm, ⟨18, _⟩ => ⟨S4096x4096, .bf16⟩
  | .hbm, ⟨19, _⟩ => ⟨S1x4096x4096, .bf16⟩
  | .hbm, ⟨20, _⟩ => ⟨S1x4096x4096, .bf16⟩
  | .hbm, ⟨21, _⟩ => ⟨S1x4096x4096, .f32⟩
  | .hbm, ⟨22, _⟩ => ⟨S4096x4096, .f32⟩
  | .hbm, ⟨23, _⟩ => ⟨S1x4096x4096, .bf16⟩
  | .hbm, ⟨24, _⟩ => ⟨S1x4096x4096, .bf16⟩
  | .hbm, ⟨25, _⟩ => ⟨S1x4096x4096, .f32⟩
  | .hbm, ⟨26, _⟩ => ⟨S4096x4096, .f32⟩
  | .hbm, ⟨27, _⟩ => ⟨S1x4096x4096, .bf16⟩
  | .hbm, ⟨28, _⟩ => ⟨S1x4096x4096, .bf16⟩
  | .hbm, ⟨29, _⟩ => ⟨S1x4096x4096, .bf16⟩
  | .hbm, ⟨30, _⟩ => ⟨S4096x4096, .bf16⟩
  | .hbm, ⟨31, _⟩ => ⟨S4096x4096, .bf16⟩
  | .hbm, ⟨32, _⟩ => ⟨S4096x4096, .bf16⟩
  | .hbm, ⟨33, _⟩ => ⟨S4096x8192, .bf16⟩
  | .hbm, ⟨34, _⟩ => ⟨S1x4096x4096, .bf16⟩
  | .hbm, ⟨35, _⟩ => ⟨S1x4096x4096, .bf16⟩
  | .hbm, ⟨36, _⟩ => ⟨S1x4096x4096, .bf16⟩
  | .hbm, ⟨37, _⟩ => ⟨S4096x4096, .bf16⟩
  | .hbm, ⟨38, _⟩ => ⟨S1x4096x4096, .bf16⟩
  | .hbm, ⟨39, _⟩ => ⟨S1x4096x4096, .bf16⟩
  | .hbm, ⟨40, _⟩ => ⟨S1x4096x4096, .bf16⟩
  | .hbm, ⟨41, _⟩ => ⟨S4096x4096, .bf16⟩
  | .hbm, ⟨42, _⟩ => ⟨S1x4096x4096, .bf16⟩
  | .hbm, ⟨43, _⟩ => ⟨S1x4096x4096, .bf16⟩
  | .hbm, ⟨44, _⟩ => ⟨S1x4096x4096, .bf16⟩
  | .hbm, ⟨45, _⟩ => ⟨S4096x4096, .bf16⟩
  | .hbm, ⟨46, _⟩ => ⟨S1x4096x4096, .bf16⟩
  | .hbm, ⟨47, _⟩ => ⟨S1x4096x4096, .bf16⟩
  | .hbm, ⟨48, _⟩ => ⟨S1x4096x4096, .bf16⟩
  | .hbm, ⟨49, _⟩ => ⟨S4096x4096, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x4096, .bf16⟩
  | .local _ .vmem, ⟨7, _⟩ => ⟨S1x512x4096, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1x512x1024, .f32⟩
  | .local _ .vmem, ⟨11, _⟩ => ⟨S1x512x1024, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x8192, .f32⟩
  | .local _ .vmem, ⟨17, _⟩ => ⟨S128x8192, .f32⟩
  | .local _ .vmem, ⟨18, _⟩ => ⟨S128x4096, .bf16⟩
  | .local _ .vmem, ⟨19, _⟩ => ⟨S128x4096, .bf16⟩
  | .local _ .vmem, ⟨20, _⟩ => ⟨S1x512x4096, .bf16⟩
  | .local _ .vmem, ⟨21, _⟩ => ⟨S1x512x4096, .bf16⟩
  | .local _ .vmem, ⟨22, _⟩ => ⟨S1x4096x1024, .bf16⟩
  | .local _ .vmem, ⟨23, _⟩ => ⟨S1x4096x1024, .bf16⟩
  | .local _ .vmem, ⟨24, _⟩ => ⟨S1x512x1024, .f32⟩
  | .local _ .vmem, ⟨25, _⟩ => ⟨S1x512x1024, .f32⟩
  | .local _ .vmem, ⟨26, _⟩ => ⟨S1x512x4096, .bf16⟩
  | .local _ .vmem, ⟨27, _⟩ => ⟨S1x512x4096, .bf16⟩
  | .local _ .vmem, ⟨28, _⟩ => ⟨S1x1024x4096, .bf16⟩
  | .local _ .vmem, ⟨29, _⟩ => ⟨S1x1024x4096, .bf16⟩
  | .local _ .vmem, ⟨30, _⟩ => ⟨S1x512x1024, .f32⟩
  | .local _ .vmem, ⟨31, _⟩ => ⟨S1x512x1024, .f32⟩
  | .local _ .vmem, ⟨32, _⟩ => ⟨S1x4096x512, .bf16⟩
  | .local _ .vmem, ⟨33, _⟩ => ⟨S1x4096x512, .bf16⟩
  | .local _ .vmem, ⟨34, _⟩ => ⟨S1x4096x1024, .bf16⟩
  | .local _ .vmem, ⟨35, _⟩ => ⟨S1x4096x1024, .bf16⟩
  | .local _ .vmem, ⟨36, _⟩ => ⟨S1x512x1024, .bf16⟩
  | .local _ .vmem, ⟨37, _⟩ => ⟨S1x512x1024, .bf16⟩
  | .local _ .vmem, ⟨38, _⟩ => ⟨S128x4096, .f32⟩
  | .local _ .vmem, ⟨39, _⟩ => ⟨S128x4096, .f32⟩
  | .local _ .vmem, ⟨40, _⟩ => ⟨S128x4096, .f32⟩
  | .local _ .vmem, ⟨41, _⟩ => ⟨S128x4096, .f32⟩
  | .local _ .vmem, ⟨42, _⟩ => ⟨S128x8192, .f32⟩
  | .local _ .vmem, ⟨43, _⟩ => ⟨S128x8192, .f32⟩
  | .local _ .vmem, ⟨44, _⟩ => ⟨S128x4096, .f32⟩
  | .local _ .vmem, ⟨45, _⟩ => ⟨S128x4096, .f32⟩
  | .local _ .vmem, ⟨46, _⟩ => ⟨S128x4096, .bf16⟩
  | .local _ .vmem, ⟨47, _⟩ => ⟨S128x4096, .bf16⟩
  | .local _ .vmem, ⟨48, _⟩ => ⟨S128x4096, .bf16⟩
  | .local _ .vmem, ⟨49, _⟩ => ⟨S128x4096, .bf16⟩
  | .local _ .vmem, ⟨50, _⟩ => ⟨S128x8192, .bf16⟩
  | .local _ .vmem, ⟨51, _⟩ => ⟨S128x8192, .bf16⟩
  | .local _ .vmem, ⟨52, _⟩ => ⟨S1x512x4096, .bf16⟩
  | .local _ .vmem, ⟨53, _⟩ => ⟨S1x512x4096, .bf16⟩
  | .local _ .vmem, ⟨54, _⟩ => ⟨S1x1024x4096, .bf16⟩
  | .local _ .vmem, ⟨55, _⟩ => ⟨S1x1024x4096, .bf16⟩
  | .local _ .vmem, ⟨56, _⟩ => ⟨S1x512x1024, .bf16⟩
  | .local _ .vmem, ⟨57, _⟩ => ⟨S1x512x1024, .bf16⟩
  | .local _ .vmem, ⟨58, _⟩ => ⟨S1x4096x512, .bf16⟩
  | .local _ .vmem, ⟨59, _⟩ => ⟨S1x4096x512, .bf16⟩
  | .local _ .vmem, ⟨60, _⟩ => ⟨S1x4096x1024, .bf16⟩
  | .local _ .vmem, ⟨61, _⟩ => ⟨S1x4096x1024, .bf16⟩
  | .local _ .vmem, ⟨62, _⟩ => ⟨S1x512x1024, .bf16⟩
  | .local _ .vmem, ⟨63, _⟩ => ⟨S1x512x1024, .bf16⟩
  | .local _ .vmem, ⟨64, _⟩ => ⟨S1x512x4096, .bf16⟩
  | .local _ .vmem, ⟨65, _⟩ => ⟨S1x512x4096, .bf16⟩
  | .local _ .vmem, ⟨66, _⟩ => ⟨S1x1024x4096, .bf16⟩
  | .local _ .vmem, ⟨67, _⟩ => ⟨S1x1024x4096, .bf16⟩
  | .local _ .vmem, ⟨68, _⟩ => ⟨S1x512x1024, .bf16⟩
  | .local _ .vmem, ⟨69, _⟩ => ⟨S1x512x1024, .bf16⟩
  | .local _ .vmem, ⟨70, _⟩ => ⟨S1x4096x512, .bf16⟩
  | .local _ .vmem, ⟨71, _⟩ => ⟨S1x4096x512, .bf16⟩
  | .local _ .vmem, ⟨72, _⟩ => ⟨S1x4096x1024, .bf16⟩
  | .local _ .vmem, ⟨73, _⟩ => ⟨S1x4096x1024, .bf16⟩
  | .local _ .vmem, ⟨74, _⟩ => ⟨S1x512x1024, .bf16⟩
  | .local _ .vmem, ⟨75, _⟩ => ⟨S1x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc6_stg6_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg2_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg2_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem4_1 : DmaSem sig := 47
abbrev cc6_sem5_0 : DmaSem sig := 48
abbrev cc6_sem5_1 : DmaSem sig := 49
abbrev cc6_sem6_0 : DmaSem sig := 50
abbrev cc6_sem6_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc8_sem0_0 : DmaSem sig := 58
abbrev cc8_sem0_1 : DmaSem sig := 59
abbrev cc8_sem1_0 : DmaSem sig := 60
abbrev cc8_sem1_1 : DmaSem sig := 61
abbrev cc8_sem2_0 : DmaSem sig := 62
abbrev cc8_sem2_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem2_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75

abbrev nD : Nat := 1
abbrev τ : Topo := Topo.v7x

variable {F : FTy → Type} [FloatOps F]

abbrev grid0 : Pipeline.Grid := ⟨4, ![1, 8, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev grid1 : Pipeline.Grid := ⟨4, ![1, 8, 4, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨4, ![1, 8, 4, 1], ![false, false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage3_0 : Fin 2 → Memref sig .tc .vmem S1x512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]

abbrev grid4 : Pipeline.Grid := ⟨4, ![1, 8, 4, 1], ![false, false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage4_0 : Fin 2 → Memref sig .tc .vmem S1x512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, true]

abbrev stage4_1 : Fin 2 → Memref sig .tc .vmem S1x1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true, true]

abbrev stage4_2 : Fin 2 → Memref sig .tc .vmem S1x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true, false]

abbrev grid5 : Pipeline.Grid := ⟨4, ![1, 8, 4, 1], ![false, false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage5_0 : Fin 2 → Memref sig .tc .vmem S1x4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false, true]

abbrev stage5_1 : Fin 2 → Memref sig .tc .vmem S1x4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, false, true, true]

abbrev stage5_2 : Fin 2 → Memref sig .tc .vmem S1x512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x8192 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S128x4096 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S128x4096 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S128x4096 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S128x8192 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨4, ![1, 8, 4, 1], ![false, false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage7_0 : Fin 2 → Memref sig .tc .vmem S1x512x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, false, true]

abbrev stage7_1 : Fin 2 → Memref sig .tc .vmem S1x1024x4096 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, false, true, true]

abbrev stage7_2 : Fin 2 → Memref sig .tc .vmem S1x512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, true, false]

abbrev grid8 : Pipeline.Grid := ⟨4, ![1, 8, 4, 1], ![false, false, false, false]⟩

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage8_0 : Fin 2 → Memref sig .tc .vmem S1x4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true, false, true]

abbrev stage8_1 : Fin 2 → Memref sig .tc .vmem S1x4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, false, true, true]

abbrev stage8_2 : Fin 2 → Memref sig .tc .vmem S1x512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, true, false]

abbrev grid9 : Pipeline.Grid := ⟨4, ![1, 8, 4, 1], ![false, false, false, false]⟩

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage9_0 : Fin 2 → Memref sig .tc .vmem S1x512x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true, false, true]

abbrev stage9_1 : Fin 2 → Memref sig .tc .vmem S1x1024x4096 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, false, true, true]

abbrev stage9_2 : Fin 2 → Memref sig .tc .vmem S1x512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, true, false]

abbrev grid10 : Pipeline.Grid := ⟨4, ![1, 8, 4, 1], ![false, false, false, false]⟩

def cc10_transform_0 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc10_transform_2 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage10_0 : Fin 2 → Memref sig .tc .vmem S1x4096x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true, false, true]

abbrev stage10_1 : Fin 2 → Memref sig .tc .vmem S1x4096x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, false, true, true]

abbrev stage10_2 : Fin 2 → Memref sig .tc .vmem S1x512x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true, true, false]
-- ==== Reference3Ideal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x8192, .f32⟩
  | .hbm, ⟨58, _⟩ => ⟨S4096x4096, .bf16⟩
  | .hbm, ⟨59, _⟩ => ⟨S4096x4096, .bf16⟩
  | .hbm, ⟨60, _⟩ => ⟨S4096x8192, .bf16⟩
  | .hbm, ⟨61, _⟩ => ⟨S4096x4096, .bf16⟩
  | .hbm, ⟨62, _⟩ => ⟨S4096x4096, .bf16⟩
  | .hbm, ⟨63, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel4.lean ====
abbrev S4096x4096 : Shape := ⟨2, ![4096, 4096]⟩
abbrev S4096x27360 : Shape := ⟨2, ![4096, 27360]⟩
abbrev S1x6144 : Shape := ⟨2, ![1, 6144]⟩
abbrev S4096x6144 : Shape := ⟨2, ![4096, 6144]⟩
abbrev S4096x128 : Shape := ⟨2, ![4096, 128]⟩
abbrev S4096x480 : Shape := ⟨2, ![4096, 480]⟩
abbrev S4096x8192 : Shape := ⟨2, ![4096, 8192]⟩
abbrev S4096x12288 : Shape := ⟨2, ![4096, 12288]⟩
abbrev S_ : Shape := ⟨0, ![]⟩
abbrev S4096x512 : Shape := ⟨2, ![4096, 512]⟩
abbrev S4096x768 : Shape := ⟨2, ![4096, 768]⟩
abbrev S1x4096x4096 : Shape := ⟨3, ![1, 4096, 4096]⟩
abbrev S1x4096x6144 : Shape := ⟨3, ![1, 4096, 6144]⟩
abbrev S1x512x4096 : Shape := ⟨3, ![1, 512, 4096]⟩
abbrev S1x4096x1024 : Shape := ⟨3, ![1, 4096, 1024]⟩
abbrev S1x1024 : Shape := ⟨2, ![1, 1024]⟩
abbrev S1x512x1024 : Shape := ⟨3, ![1, 512, 1024]⟩
abbrev S512x4096 : Shape := ⟨2, ![512, 4096]⟩
abbrev S4096x1024 : Shape := ⟨2, ![4096, 1024]⟩
abbrev S512x1024 : Shape := ⟨2, ![512, 1024]⟩
abbrev S1x4096x12288 : Shape := ⟨3, ![1, 4096, 12288]⟩
abbrev S1x4096x768 : Shape := ⟨3, ![1, 4096, 768]⟩
abbrev S1x4096x256 : Shape := ⟨3, ![1, 4096, 256]⟩
abbrev S1x512x256 : Shape := ⟨3, ![1, 512, 256]⟩
abbrev S4096x256 : Shape := ⟨2, ![4096, 256]⟩
abbrev S512x256 : Shape := ⟨2, ![512, 256]⟩
abbrev S1x4096x8192 : Shape := ⟨3, ![1, 4096, 8192]⟩
abbrev S1x4096x512 : Shape := ⟨3, ![1, 4096, 512]⟩

abbrev nBuf : Space → Nat
  | .hbm => 73
  | .vmem => 62
  | .smem => 0
  | _ => 0

abbrev bufTy : (tb : Table) → Fin (tcTables nBuf tb) → BufTy
  | .hbm, ⟨0, _⟩ => ⟨S4096x4096, .bf16⟩
  | .hbm, ⟨1, _⟩ => ⟨S4096x27360, .f32⟩
  | .hbm, ⟨2, _⟩ => ⟨S1x6144, .f32⟩
  | .hbm, ⟨3, _⟩ => ⟨S4096x6144, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x128, .bf16⟩
  | .hbm, ⟨8, _⟩ => ⟨S4096x128, .bf16⟩
  | .hbm, ⟨9, _⟩ => ⟨S4096x480, .bf16⟩
  | .hbm, ⟨10, _⟩ => ⟨S4096x8192, .bf16⟩
  | .hbm, ⟨11, _⟩ => ⟨S4096x27360, .bf16⟩
  | .hbm, ⟨12, _⟩ => ⟨S4096x6144, .bf16⟩
  | .hbm, ⟨13, _⟩ => ⟨S4096x12288, .bf16⟩
  | .hbm, ⟨14, _⟩ => ⟨S4096x480, .bf16⟩
  | .hbm, ⟨15, _⟩ => ⟨S_, .i32⟩
  | .hbm, ⟨16, _⟩ => ⟨S_, .bf16⟩
  | .hbm, ⟨17, _⟩ => ⟨S4096x512, .bf16⟩
  | .hbm, ⟨18, _⟩ => ⟨S4096x128, .bf16⟩
  | .hbm, ⟨19, _⟩ => ⟨S4096x128, .bf16⟩
  | .hbm, ⟨20, _⟩ => ⟨S4096x768, .bf16⟩
  | .hbm, ⟨21, _⟩ => ⟨S4096x8192, .bf16⟩
  | .hbm, ⟨22, _⟩ => ⟨S_, .i32⟩
  | .hbm, ⟨23, _⟩ => ⟨S_, .bf16⟩
  | .hbm, ⟨24, _⟩ => ⟨S4096x512, .bf16⟩
  | .hbm, ⟨25, _⟩ => ⟨S4096x768, .bf16⟩
  | .hbm, ⟨26, _⟩ => ⟨S1x4096x4096, .bf16⟩
  | .hbm, ⟨27, _⟩ => ⟨S1x4096x6144, .bf16⟩
  | .hbm, ⟨28, _⟩ => ⟨S1x4096x6144, .f32⟩
  | .hbm, ⟨29, _⟩ => ⟨S4096x6144, .f32⟩
  | .hbm, ⟨30, _⟩ => ⟨S1x4096x4096, .bf16⟩
  | .hbm, ⟨31, _⟩ => ⟨S1x4096x12288, .bf16⟩
  | .hbm, ⟨32, _⟩ => ⟨S1x4096x12288, .f32⟩
  | .hbm, ⟨33, _⟩ => ⟨S4096x12288, .f32⟩
  | .hbm, ⟨34, _⟩ => ⟨S1x4096x4096, .bf16⟩
  | .hbm, ⟨35, _⟩ => ⟨S1x4096x768, .bf16⟩
  | .hbm, ⟨36, _⟩ => ⟨S1x4096x768, .f32⟩
  | .hbm, ⟨37, _⟩ => ⟨S4096x768, .f32⟩
  | .hbm, ⟨38, _⟩ => ⟨S1x4096x4096, .bf16⟩
  | .hbm, ⟨39, _⟩ => ⟨S1x4096x8192, .bf16⟩
  | .hbm, ⟨40, _⟩ => ⟨S1x4096x8192, .f32⟩
  | .hbm, ⟨41, _⟩ => ⟨S4096x8192, .f32⟩
  | .hbm, ⟨42, _⟩ => ⟨S1x4096x4096, .bf16⟩
  | .hbm, ⟨43, _⟩ => ⟨S1x4096x6144, .bf16⟩
  | .hbm, ⟨44, _⟩ => ⟨S1x4096x6144, .bf16⟩
  | .hbm, ⟨45, _⟩ => ⟨S4096x6144, .bf16⟩
  | .hbm, ⟨46, _⟩ => ⟨S1x4096x4096, .bf16⟩
  | .hbm, ⟨47, _⟩ => ⟨S1x4096x4096, .bf16⟩
  | .hbm, ⟨48, _⟩ => ⟨S1x4096x4096, .bf16⟩
  | .hbm, ⟨49, _⟩ => ⟨S4096x4096, .bf16⟩
  | .hbm, ⟨50, _⟩ => ⟨S1x4096x4096, .bf16⟩
  | .hbm, ⟨51, _⟩ => ⟨S1x4096x4096, .bf16⟩
  | .hbm, ⟨52, _⟩ => ⟨S1x4096x4096, .bf16⟩
  | .hbm, ⟨53, _⟩ => ⟨S4096x4096, .bf16⟩
  | .hbm, ⟨54, _⟩ => ⟨S1x4096x4096, .bf16⟩
  | .hbm, ⟨55, _⟩ => ⟨S1x4096x4096, .bf16⟩
  | .hbm, ⟨56, _⟩ => ⟨S1x4096x4096, .bf16⟩
  | .hbm, ⟨57, _⟩ => ⟨S4096x4096, .bf16⟩
  | .hbm, ⟨58, _⟩ => ⟨S1x4096x4096, .bf16⟩
  | .hbm, ⟨59, _⟩ => ⟨S1x4096x768, .bf16⟩
  | .hbm, ⟨60, _⟩ => ⟨S1x4096x768, .bf16⟩
  | .hbm, ⟨61, _⟩ => ⟨S4096x768, .bf16⟩
  | .hbm, ⟨62, _⟩ => ⟨S1x4096x4096, .bf16⟩
  | .hbm, ⟨63, _⟩ => ⟨S1x4096x8192, .bf16⟩
  | .hbm, ⟨64, _⟩ => ⟨S1x4096x8192, .bf16⟩
  | .hbm, ⟨65, _⟩ => ⟨S4096x8192, .bf16⟩
  | .hbm, ⟨66, _⟩ => ⟨S4096x128, .bf16⟩
  | .hbm, ⟨67, _⟩ => ⟨S4096x128, .bf16⟩
  | .hbm, ⟨68, _⟩ => ⟨S4096x480, .bf16⟩
  | .hbm, ⟨69, _⟩ => ⟨S4096x27360, .bf16⟩
  | .hbm, ⟨70, _⟩ => ⟨S4096x128, .f32⟩
  | .hbm, ⟨71, _⟩ => ⟨S4096x128, .f32⟩
  | .hbm, ⟨72, _⟩ => ⟨S4096x480, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x4096, .bf16⟩
  | .local _ .vmem, ⟨9, _⟩ => ⟨S1x512x4096, .bf16⟩
  | .local _ .vmem, ⟨10, _⟩ => ⟨S1x4096x1024, .bf16⟩
  | .local _ .vmem, ⟨11, _⟩ => ⟨S1x4096x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x4096, .bf16⟩
  | .local _ .vmem, ⟨15, _⟩ => ⟨S1x512x4096, .bf16⟩
  | .local _ .vmem, ⟨16, _⟩ => ⟨S1x4096x256, .bf16⟩
  | .local _ .vmem, ⟨17, _⟩ => ⟨S1x4096x256, .bf16⟩
  | .local _ .vmem, ⟨18, _⟩ => ⟨S1x512x256, .f32⟩
  | .local _ .vmem, ⟨19, _⟩ => ⟨S1x512x256, .f32⟩
  | .local _ .vmem, ⟨20, _⟩ => ⟨S1x512x4096, .bf16⟩
  | .local _ .vmem, ⟨21, _⟩ => ⟨S1x512x4096, .bf16⟩
  | .local _ .vmem, ⟨22, _⟩ => ⟨S1x4096x1024, .bf16⟩
  | .local _ .vmem, ⟨23, _⟩ => ⟨S1x4096x1024, .bf16⟩
  | .local _ .vmem, ⟨24, _⟩ => ⟨S1x512x1024, .f32⟩
  | .local _ .vmem, ⟨25, _⟩ => ⟨S1x512x1024, .f32⟩
  | .local _ .vmem, ⟨26, _⟩ => ⟨S1x4096x512, .bf16⟩
  | .local _ .vmem, ⟨27, _⟩ => ⟨S1x4096x512, .bf16⟩
  | .local _ .vmem, ⟨28, _⟩ => ⟨S1x4096x1024, .bf16⟩
  | .local _ .vmem, ⟨29, _⟩ => ⟨S1x4096x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x4096x512, .bf16⟩
  | .local _ .vmem, ⟨33, _⟩ => ⟨S1x4096x512, .bf16⟩
  | .local _ .vmem, ⟨34, _⟩ => ⟨S1x4096x1024, .bf16⟩
  | .local _ .vmem, ⟨35, _⟩ => ⟨S1x4096x1024, .bf16⟩
  | .local _ .vmem, ⟨36, _⟩ => ⟨S1x512x1024, .bf16⟩
  | .local _ .vmem, ⟨37, _⟩ => ⟨S1x512x1024, .bf16⟩
  | .local _ .vmem, ⟨38, _⟩ => ⟨S1x4096x512, .bf16⟩
  | .local _ .vmem, ⟨39, _⟩ => ⟨S1x4096x512, .bf16⟩
  | .local _ .vmem, ⟨40, _⟩ => ⟨S1x4096x1024, .bf16⟩
  | .local _ .vmem, ⟨41, _⟩ => ⟨S1x4096x1024, .bf16⟩
  | .local _ .vmem, ⟨42, _⟩ => ⟨S1x512x1024, .bf16⟩
  | .local _ .vmem, ⟨43, _⟩ => ⟨S1x512x1024, .bf16⟩
  | .local _ .vmem, ⟨44, _⟩ => ⟨S1x4096x512, .bf16⟩
  | .local _ .vmem, ⟨45, _⟩ => ⟨S1x4096x512, .bf16⟩
  | .local _ .vmem, ⟨46, _⟩ => ⟨S1x4096x1024, .bf16⟩
  | .local _ .vmem, ⟨47, _⟩ => ⟨S1x4096x1024, .bf16⟩
  | .local _ .vmem, ⟨48, _⟩ => ⟨S1x512x1024, .bf16⟩
  | .local _ .vmem, ⟨49, _⟩ => ⟨S1x512x1024, .bf16⟩
  | .local _ .vmem, ⟨50, _⟩ => ⟨S1x4096x512, .bf16⟩
  | .local _ .vmem, ⟨51, _⟩ => ⟨S1x4096x512, .bf16⟩
  | .local _ .vmem, ⟨52, _⟩ => ⟨S1x4096x256, .bf16⟩
  | .local _ .vmem, ⟨53, _⟩ => ⟨S1x4096x256, .bf16⟩
  | .local _ .vmem, ⟨54, _⟩ => ⟨S1x512x256, .bf16⟩
  | .local _ .vmem, ⟨55, _⟩ => ⟨S1x512x256, .bf16⟩
  | .local _ .vmem, ⟨56, _⟩ => ⟨S1x4096x512, .bf16⟩
  | .local _ .vmem, ⟨57, _⟩ => ⟨S1x4096x512, .bf16⟩
  | .local _ .vmem, ⟨58, _⟩ => ⟨S1x4096x1024, .bf16⟩
  | .local _ .vmem, ⟨59, _⟩ => ⟨S1x4096x1024, .bf16⟩
  | .local _ .vmem, ⟨60, _⟩ => ⟨S1x512x1024, .bf16⟩
  | .local _ .vmem, ⟨61, _⟩ => ⟨S1x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61

abbrev nD : Nat := 1
abbrev τ : Topo := Topo.v7x

variable {F : FTy → Type} [FloatOps F]

abbrev grid0 : Pipeline.Grid := ⟨4, ![1, 8, 6, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev grid1 : Pipeline.Grid := ⟨4, ![1, 8, 12, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨4, ![1, 8, 3, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 2 → Memref sig .tc .vmem S1x4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev grid3 : Pipeline.Grid := ⟨4, ![1, 8, 8, 1], ![false, false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage3_0 : Fin 2 → Memref sig .tc .vmem S1x512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]

abbrev grid4 : Pipeline.Grid := ⟨4, ![1, 8, 6, 1], ![false, false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage4_0 : Fin 2 → Memref sig .tc .vmem S1x4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, true]

abbrev stage4_1 : Fin 2 → Memref sig .tc .vmem S1x4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true, true]

abbrev stage4_2 : Fin 2 → Memref sig .tc .vmem S1x512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true, false]

abbrev grid5 : Pipeline.Grid := ⟨4, ![1, 8, 4, 1], ![false, false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage5_0 : Fin 2 → Memref sig .tc .vmem S1x4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false, true]

abbrev stage5_1 : Fin 2 → Memref sig .tc .vmem S1x4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, false, true, true]

abbrev stage5_2 : Fin 2 → Memref sig .tc .vmem S1x512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true, false]

abbrev grid6 : Pipeline.Grid := ⟨4, ![1, 8, 4, 1], ![false, false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage6_0 : Fin 2 → Memref sig .tc .vmem S1x4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, false, true]

abbrev stage6_1 : Fin 2 → Memref sig .tc .vmem S1x4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, false, true, true]

abbrev stage6_2 : Fin 2 → Memref sig .tc .vmem S1x512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, true, false]

abbrev grid7 : Pipeline.Grid := ⟨4, ![1, 8, 4, 1], ![false, false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage7_0 : Fin 2 → Memref sig .tc .vmem S1x4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, false, true]

abbrev stage7_1 : Fin 2 → Memref sig .tc .vmem S1x4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, false, true, true]

abbrev stage7_2 : Fin 2 → Memref sig .tc .vmem S1x512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, true, false]

abbrev grid8 : Pipeline.Grid := ⟨4, ![1, 8, 3, 1], ![false, false, false, false]⟩

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage8_0 : Fin 2 → Memref sig .tc .vmem S1x4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true, false, true]

abbrev stage8_1 : Fin 2 → Memref sig .tc .vmem S1x4096x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, false, true, true]

abbrev stage8_2 : Fin 2 → Memref sig .tc .vmem S1x512x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, true, false]

abbrev grid9 : Pipeline.Grid := ⟨4, ![1, 8, 8, 1], ![false, false, false, false]⟩

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage9_0 : Fin 2 → Memref sig .tc .vmem S1x4096x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true, false, true]

abbrev stage9_1 : Fin 2 → Memref sig .tc .vmem S1x4096x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, false, true, true]

abbrev stage9_2 : Fin 2 → Memref sig .tc .vmem S1x512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, true, false]
-- ==== Reference4Ideal.lean ====
abbrev S4096x4096 : Shape := ⟨2, ![4096, 4096]⟩
abbrev S4096x27360 : Shape := ⟨2, ![4096, 27360]⟩
abbrev S1x6144 : Shape := ⟨2, ![1, 6144]⟩
abbrev S4096x6144 : Shape := ⟨2, ![4096, 6144]⟩
abbrev S4096x128 : Shape := ⟨2, ![4096, 128]⟩
abbrev S4096x480 : Shape := ⟨2, ![4096, 480]⟩
abbrev S4096x8192 : Shape := ⟨2, ![4096, 8192]⟩
abbrev S4096x12288 : Shape := ⟨2, ![4096, 12288]⟩
abbrev S27360x4096 : Shape := ⟨2, ![27360, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x27360, .f32⟩
  | .hbm, ⟨2, _⟩ => ⟨S1x6144, .f32⟩
  | .hbm, ⟨3, _⟩ => ⟨S4096x6144, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x128, .bf16⟩
  | .hbm, ⟨8, _⟩ => ⟨S4096x128, .bf16⟩
  | .hbm, ⟨9, _⟩ => ⟨S4096x480, .bf16⟩
  | .hbm, ⟨10, _⟩ => ⟨S4096x8192, .bf16⟩
  | .hbm, ⟨11, _⟩ => ⟨S4096x4096, .f32⟩
  | .hbm, ⟨12, _⟩ => ⟨S4096x27360, .f32⟩
  | .hbm, ⟨13, _⟩ => ⟨S4096x6144, .f32⟩
  | .hbm, ⟨14, _⟩ => ⟨S4096x12288, .f32⟩
  | .hbm, ⟨15, _⟩ => ⟨S4096x128, .f32⟩
  | .hbm, ⟨16, _⟩ => ⟨S4096x128, .f32⟩
  | .hbm, ⟨17, _⟩ => ⟨S4096x480, .f32⟩
  | .hbm, ⟨18, _⟩ => ⟨S4096x8192, .f32⟩
  | .hbm, ⟨19, _⟩ => ⟨S4096x27360, .bf16⟩
  | .hbm, ⟨20, _⟩ => ⟨S4096x27360, .f32⟩
  | .hbm, ⟨21, _⟩ => ⟨S27360x4096, .f32⟩
  | .hbm, ⟨22, _⟩ => ⟨S4096x27360, .f32⟩
  | .hbm, ⟨23, _⟩ => ⟨S4096x6144, .f32⟩
  | .hbm, ⟨24, _⟩ => ⟨S4096x6144, .f32⟩
  | .hbm, ⟨25, _⟩ => ⟨S4096x27360, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel5.lean ====
abbrev S4096x128 : Shape := ⟨2, ![4096, 128]⟩
abbrev S4096x480 : Shape := ⟨2, ![4096, 480]⟩
abbrev S4096x4096 : Shape := ⟨2, ![4096, 4096]⟩
abbrev S_ : Shape := ⟨0, ![]⟩
abbrev S4096x512 : Shape := ⟨2, ![4096, 512]⟩
abbrev S4096x768 : Shape := ⟨2, ![4096, 768]⟩
abbrev S256x768 : Shape := ⟨2, ![256, 768]⟩
abbrev S256x512 : Shape := ⟨2, ![256, 512]⟩
abbrev S256x128 : Shape := ⟨2, ![256, 128]⟩
abbrev S1x4096x768 : Shape := ⟨3, ![1, 4096, 768]⟩
abbrev S1x4096x4096 : Shape := ⟨3, ![1, 4096, 4096]⟩
abbrev S1x768x4096 : Shape := ⟨3, ![1, 768, 4096]⟩
abbrev S1x4096x256 : Shape := ⟨3, ![1, 4096, 256]⟩
abbrev S1x4096x1024 : Shape := ⟨3, ![1, 4096, 1024]⟩
abbrev S1x256x1024 : Shape := ⟨3, ![1, 256, 1024]⟩
abbrev S4096x256 : Shape := ⟨2, ![4096, 256]⟩
abbrev S4096x1024 : Shape := ⟨2, ![4096, 1024]⟩
abbrev S256x1024 : Shape := ⟨2, ![256, 1024]⟩
abbrev S768x4096 : Shape := ⟨2, ![768, 4096]⟩
abbrev S512x4096 : Shape := ⟨2, ![512, 4096]⟩
abbrev S128x4096 : Shape := ⟨2, ![128, 4096]⟩
abbrev S480x4096 : Shape := ⟨2, ![480, 4096]⟩

abbrev nBuf : Space → Nat
  | .hbm => 30
  | .vmem => 22
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x480, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S_, .i32⟩
  | .hbm, ⟨7, _⟩ => ⟨S_, .f32⟩
  | .hbm, ⟨8, _⟩ => ⟨S4096x512, .f32⟩
  | .hbm, ⟨9, _⟩ => ⟨S4096x768, .f32⟩
  | .hbm, ⟨10, _⟩ => ⟨S4096x768, .bf16⟩
  | .hbm, ⟨11, _⟩ => ⟨S1x4096x768, .bf16⟩
  | .hbm, ⟨12, _⟩ => ⟨S1x4096x4096, .bf16⟩
  | .hbm, ⟨13, _⟩ => ⟨S1x768x4096, .f32⟩
  | .hbm, ⟨14, _⟩ => ⟨S768x4096, .f32⟩
  | .hbm, ⟨15, _⟩ => ⟨S512x4096, .f32⟩
  | .hbm, ⟨16, _⟩ => ⟨S1x4096x768, .bf16⟩
  | .hbm, ⟨17, _⟩ => ⟨S1x4096x4096, .bf16⟩
  | .hbm, ⟨18, _⟩ => ⟨S1x768x4096, .f32⟩
  | .hbm, ⟨19, _⟩ => ⟨S768x4096, .f32⟩
  | .hbm, ⟨20, _⟩ => ⟨S128x4096, .f32⟩
  | .hbm, ⟨21, _⟩ => ⟨S1x4096x768, .bf16⟩
  | .hbm, ⟨22, _⟩ => ⟨S1x4096x4096, .bf16⟩
  | .hbm, ⟨23, _⟩ => ⟨S1x768x4096, .f32⟩
  | .hbm, ⟨24, _⟩ => ⟨S768x4096, .f32⟩
  | .hbm, ⟨25, _⟩ => ⟨S128x4096, .f32⟩
  | .hbm, ⟨26, _⟩ => ⟨S128x4096, .bf16⟩
  | .hbm, ⟨27, _⟩ => ⟨S128x4096, .bf16⟩
  | .hbm, ⟨28, _⟩ => ⟨S480x4096, .f32⟩
  | .hbm, ⟨29, _⟩ => ⟨S480x4096, .bf16⟩
  | .local _ .vmem, ⟨0, _⟩ => ⟨S256x768, .f32⟩
  | .local _ .vmem, ⟨1, _⟩ => ⟨S256x768, .f32⟩
  | .local _ .vmem, ⟨2, _⟩ => ⟨S256x768, .bf16⟩
  | .local _ .vmem, ⟨3, _⟩ => ⟨S256x768, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x1024, .bf16⟩
  | .local _ .vmem, ⟨7, _⟩ => ⟨S1x4096x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x4096x256, .bf16⟩
  | .local _ .vmem, ⟨11, _⟩ => ⟨S1x4096x256, .bf16⟩
  | .local _ .vmem, ⟨12, _⟩ => ⟨S1x4096x1024, .bf16⟩
  | .local _ .vmem, ⟨13, _⟩ => ⟨S1x4096x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x4096x256, .bf16⟩
  | .local _ .vmem, ⟨17, _⟩ => ⟨S1x4096x256, .bf16⟩
  | .local _ .vmem, ⟨18, _⟩ => ⟨S1x4096x1024, .bf16⟩
  | .local _ .vmem, ⟨19, _⟩ => ⟨S1x4096x1024, .bf16⟩
  | .local _ .vmem, ⟨20, _⟩ => ⟨S1x256x1024, .f32⟩
  | .local _ .vmem, ⟨21, _⟩ => ⟨S1x256x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨4, ![1, 3, 4, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨4, ![1, 3, 4, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage2_0 : Fin 2 → Memref sig .tc .vmem S1x4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev grid3 : Pipeline.Grid := ⟨4, ![1, 3, 4, 1], ![false, false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage3_0 : Fin 2 → Memref sig .tc .vmem S1x4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true, true]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]
-- ==== Reference5Ideal.lean ====
abbrev S4096x128 : Shape := ⟨2, ![4096, 128]⟩
abbrev S4096x480 : Shape := ⟨2, ![4096, 480]⟩
abbrev S4096x4096 : Shape := ⟨2, ![4096, 4096]⟩
abbrev S_ : Shape := ⟨0, ![]⟩
abbrev S128x4096 : Shape := ⟨2, ![128, 4096]⟩
abbrev S480x4096 : Shape := ⟨2, ![480, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x480, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S128x4096, .f32⟩
  | .hbm, ⟨11, _⟩ => ⟨S_, .f32⟩
  | .hbm, ⟨12, _⟩ => ⟨S128x4096, .f32⟩
  | .hbm, ⟨13, _⟩ => ⟨S_, .f32⟩
  | .hbm, ⟨14, _⟩ => ⟨S480x4096, .f32⟩
  | .hbm, ⟨15, _⟩ => ⟨S4096x128, .f32⟩
  | .hbm, ⟨16, _⟩ => ⟨S4096x4096, .f32⟩
  | .hbm, ⟨17, _⟩ => ⟨S4096x4096, .f32⟩
  | .hbm, ⟨18, _⟩ => ⟨S4096x480, .f32⟩
  | .hbm, ⟨19, _⟩ => ⟨S4096x480, .f32⟩
  | .hbm, ⟨20, _⟩ => ⟨S_, .f32⟩
  | .hbm, ⟨21, _⟩ => ⟨S4096x480, .f32⟩
  | .hbm, ⟨22, _⟩ => ⟨S4096x480, .f32⟩
  | .hbm, ⟨23, _⟩ => ⟨S_, .f32⟩
  | .hbm, ⟨24, _⟩ => ⟨S4096x480, .f32⟩
  | .hbm, ⟨25, _⟩ => ⟨S4096x480, .f32⟩
  | .hbm, ⟨26, _⟩ => ⟨S4096x4096, .f32⟩
  | .hbm, ⟨27, _⟩ => ⟨S4096x480, .f32⟩
  | .hbm, ⟨28, _⟩ => ⟨S480x4096, .f32⟩
  | .hbm, ⟨29, _⟩ => ⟨S4096x128, .f32⟩
  | .hbm, ⟨30, _⟩ => ⟨S128x4096, .f32⟩
  | .hbm, ⟨31, _⟩ => ⟨S4096x128, .f32⟩
  | .hbm, ⟨32, _⟩ => ⟨S128x4096, .f32⟩
  | .hbm, ⟨33, _⟩ => ⟨S128x4096, .bf16⟩
  | .hbm, ⟨34, _⟩ => ⟨S128x4096, .bf16⟩
  | .hbm, ⟨35, _⟩ => ⟨S480x4096, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel6.lean ====
abbrev S4096x4096 : Shape := ⟨2, ![4096, 4096]⟩
abbrev S4096x12288 : Shape := ⟨2, ![4096, 12288]⟩
abbrev S1x4096x4096 : Shape := ⟨3, ![1, 4096, 4096]⟩
abbrev S1x512x4096 : Shape := ⟨3, ![1, 512, 4096]⟩
abbrev S1x1024x4096 : Shape := ⟨3, ![1, 1024, 4096]⟩
abbrev S1x512x1024 : Shape := ⟨3, ![1, 512, 1024]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 24
  | .vmem => 24
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x12288, .f32⟩
  | .hbm, ⟨5, _⟩ => ⟨S4096x12288, .bf16⟩
  | .hbm, ⟨6, _⟩ => ⟨S4096x4096, .bf16⟩
  | .hbm, ⟨7, _⟩ => ⟨S1x4096x4096, .bf16⟩
  | .hbm, ⟨8, _⟩ => ⟨S1x4096x4096, .bf16⟩
  | .hbm, ⟨9, _⟩ => ⟨S1x4096x4096, .f32⟩
  | .hbm, ⟨10, _⟩ => ⟨S1x4096x4096, .f32⟩
  | .hbm, ⟨11, _⟩ => ⟨S4096x4096, .f32⟩
  | .hbm, ⟨12, _⟩ => ⟨S4096x4096, .bf16⟩
  | .hbm, ⟨13, _⟩ => ⟨S1x4096x4096, .bf16⟩
  | .hbm, ⟨14, _⟩ => ⟨S1x4096x4096, .bf16⟩
  | .hbm, ⟨15, _⟩ => ⟨S1x4096x4096, .f32⟩
  | .hbm, ⟨16, _⟩ => ⟨S1x4096x4096, .f32⟩
  | .hbm, ⟨17, _⟩ => ⟨S4096x4096, .f32⟩
  | .hbm, ⟨18, _⟩ => ⟨S4096x4096, .bf16⟩
  | .hbm, ⟨19, _⟩ => ⟨S1x4096x4096, .bf16⟩
  | .hbm, ⟨20, _⟩ => ⟨S1x4096x4096, .bf16⟩
  | .hbm, ⟨21, _⟩ => ⟨S1x4096x4096, .f32⟩
  | .hbm, ⟨22, _⟩ => ⟨S1x4096x4096, .f32⟩
  | .hbm, ⟨23, _⟩ => ⟨S4096x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x4096, .bf16⟩
  | .local _ .vmem, ⟨9, _⟩ => ⟨S1x512x4096, .bf16⟩
  | .local _ .vmem, ⟨10, _⟩ => ⟨S1x1024x4096, .bf16⟩
  | .local _ .vmem, ⟨11, _⟩ => ⟨S1x1024x4096, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x4096, .bf16⟩
  | .local _ .vmem, ⟨17, _⟩ => ⟨S1x512x4096, .bf16⟩
  | .local _ .vmem, ⟨18, _⟩ => ⟨S1x1024x4096, .bf16⟩
  | .local _ .vmem, ⟨19, _⟩ => ⟨S1x1024x4096, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨4, ![1, 8, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev grid1 : Pipeline.Grid := ⟨4, ![1, 8, 4, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true, false]

abbrev grid2 : Pipeline.Grid := ⟨4, ![1, 8, 4, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  let c0_i32_1 : BitVec 32 := 0#32
  ![c0_i32_0.toNat, arg1.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg2.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 2 → Memref sig .tc .vmem S1x1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true, false]
-- ==== Reference6Ideal.lean ====
abbrev S4096x4096 : Shape := ⟨2, ![4096, 4096]⟩
abbrev S4096x12288 : Shape := ⟨2, ![4096, 12288]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x12288, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Row.lean ====
module
public import Idealize.ShloMosaic.Lib.Pointwise
@[expose] public section
noncomputable section

/-! One query row of the attention with a sink, and the derivative of its weights, on the extended
reals: `x` are the masked scores of the row against the 256 keys of its band (`⊥` where the mask
is off), `k` is the score of the sink and `dp` is the cotangent of the weights. -/
namespace Att
open Idealize.ShloMosaic Idealize.ShloMosaic.TcCoe Idealize.SL.Sem

/-- The scale of the scores, `128 ^ (-1/2)` rounded to `f32`. -/
def scale : EReal := Ideal.ofBits .f32 0x3DB504F3#32
/-- One half, the weight of either side of a tie of the maximum. -/
def half : EReal := Ideal.ofBits .f32 0x3F000000#32

/-- The largest score of the row. -/
def mx (x : Fin 256 → EReal) : EReal := Finset.univ.fold max ⊥ x
/-- One where the score is the largest, zero elsewhere. -/
def top (x : Fin 256 → EReal) (j : Fin 256) : EReal := if x j = mx x then 1 else 0
/-- How often the largest score is taken. -/
def cnt (x : Fin 256 → EReal) : EReal := ∑ j, top x j
/-- The shift of the exponentials. -/
def shf (x : Fin 256 → EReal) (k : EReal) : EReal := max (mx x) k
/-- The part of the derivative of the shift that goes to the row. -/
def wRow (x : Fin 256 → EReal) (k : EReal) : EReal := if k < mx x then 1 else if mx x = k then half else 0
/-- The part of the derivative of the shift that goes to the sink. -/
def wSink (x : Fin 256 → EReal) (k : EReal) : EReal := if mx x < k then 1 else if k = mx x then half else 0
/-- The exponentials of the row. -/
def ex (x : Fin 256 → EReal) (k : EReal) (j : Fin 256) : EReal := Ideal.exp (x j - shf x k)
/-- The exponential of the sink. -/
def exS (x : Fin 256 → EReal) (k : EReal) : EReal := Ideal.exp (k - shf x k)
/-- The denominator of the weights. -/
def den (x : Fin 256 → EReal) (k : EReal) : EReal := (∑ j, ex x k j) + exS x k
/-- The weights. -/
def prob (x : Fin 256 → EReal) (k : EReal) (j : Fin 256) : EReal := Ideal.div (ex x k j) (den x k)
/-- The cotangent of the denominator. -/
def dDen (x : Fin 256 → EReal) (k : EReal) (dp : Fin 256 → EReal) : EReal :=
  -(∑ j, dp j * Ideal.div 1 (den x k * den x k) * ex x k j)
/-- The cotangent of the sink's exponent. -/
def dSinkE (x : Fin 256 → EReal) (k : EReal) (dp : Fin 256 → EReal) : EReal := dDen x k dp * exS x k
/-- The cotangent of the row's exponents. -/
def dExp (x : Fin 256 → EReal) (k : EReal) (dp : Fin 256 → EReal) (j : Fin 256) : EReal :=
  (Ideal.div (dp j) (den x k) + dDen x k dp) * ex x k j
/-- The cotangent of the shift. -/
def dShf (x : Fin 256 → EReal) (k : EReal) (dp : Fin 256 → EReal) : EReal :=
  -(dSinkE x k dp) + ∑ j, -(dExp x k dp j)
/-- The cotangent of the raw scores of the row. -/
def dS (b : Fin 256 → BitVec 1) (x : Fin 256 → EReal) (k : EReal) (dp : Fin 256 → EReal) (j : Fin 256) : EReal :=
  Scalar.select (b j) ((dExp x k dp j + Ideal.div (dShf x k dp * wRow x k) (cnt x) * top x j) * scale) 0

/-- One head's vector turned by the angles of its position: `c` and `s` are the cosines and sines. -/
def rope (c s : Fin 64 → EReal) (x : Fin 128 → EReal) (d : Fin 128) : EReal :=
  if h : d.val < 64 then x ⟨d.val, by omega⟩ * c ⟨d.val, h⟩ - x ⟨64 + d.val, by omega⟩ * s ⟨d.val, h⟩
  else x ⟨64 + (d.val - 64), by omega⟩ * c ⟨d.val - 64, by omega⟩ + x ⟨d.val - 64, by omega⟩ * s ⟨d.val - 64, by omega⟩
/-- The derivative of `rope`: a cotangent turned back. -/
def unrope (c s : Fin 64 → EReal) (y : Fin 128 → EReal) (d : Fin 128) : EReal :=
  if h : d.val < 64 then y ⟨64 + d.val, by omega⟩ * s ⟨d.val, h⟩ + y ⟨d.val, by omega⟩ * c ⟨d.val, h⟩
  else y ⟨64 + (d.val - 64), by omega⟩ * c ⟨d.val - 64, by omega⟩ + -y ⟨d.val - 64, by omega⟩ * s ⟨d.val - 64, by omega⟩

theorem zsub (x : EReal) : 0 - x = -x := by rw [sub_eq_add_neg, zero_add]

theorem bot_bits : Ideal.ofBits .f32 4286578688#32 = ⊥ := by
  simp [Ideal.ofBits, Ideal.ieee]

theorem ind (p : Prop) [Decidable p] :
    FloatOps.sitofp (F := Ideal) .f32 (BitVec.setWidth 32 (BitVec.ofBool (decide p))) = if p then 1 else 0 := by
  by_cases h : p <;> simp [h, FloatOps.sitofp]

theorem indU (p : Prop) [Decidable p] :
    FloatOps.uitofp (F := Ideal) .f32 (BitVec.ofBool (decide p)) = if p then 1 else 0 := by
  by_cases h : p <;> simp [h, FloatOps.uitofp]

end Att
-- ==== Proof.Block.lean ====
module
public import proofs.«01_k».proof.Proof.Gen.KernelIdeal.Skeleton
public import proofs.«01_k».proof.Proof.Row
@[expose] public section
set_option maxRecDepth 16384
noncomputable section

/-! The values the attention's backward body computes at one grid point, named after the body's own
values, as functions of the blocks it reads. -/
namespace Cert.KernelIdeal.Att
open Idealize.ShloMosaic Idealize.ShloMosaic.TcCoe Idealize.SL.Sem
open Cert.KernelIdeal Cert.KernelIdeal.Gen

/-- The blocks one grid point reads, and whether it is the first block of its head. -/
structure In where
  /-- Queries of the block, four heads side by side. -/
  q : Vec Ideal S128x512 .f32
  /-- Keys of the block. -/
  kc : Vec Ideal S128x128 .f32
  /-- Keys of the previous block. -/
  kp : Vec Ideal S128x128 .f32
  /-- Values of the block. -/
  vc : Vec Ideal S128x128 .f32
  /-- Values of the previous block. -/
  vp : Vec Ideal S128x128 .f32
  /-- The sinks of the four heads. -/
  sk : Fin 4 → Vec Ideal S1x1x1x1 .f32
  /-- Cosines of the block. -/
  cc : Vec Ideal S128x64 .f32
  /-- Sines of the block. -/
  sc : Vec Ideal S128x64 .f32
  /-- Cosines of the previous block. -/
  cp : Vec Ideal S128x64 .f32
  /-- Sines of the previous block. -/
  sp : Vec Ideal S128x64 .f32
  /-- Cotangent of the attention's output, four heads side by side. -/
  d : Vec Ideal S128x512 .bf16
  /-- Whether the block is the first. -/
  first : BitVec 1

/-- Cosines of the block. -/
def v1 (I : In) : FVec Ideal S128x64 .f32 := k0_pay4 I.cc
/-- Sines of the block. -/
def v3 (I : In) : FVec Ideal S128x64 .f32 := k0_pay5 I.sc
/-- Cosines of the previous block. -/
def v5 (I : In) : FVec Ideal S128x64 .f32 := k0_pay6 I.cp
/-- Sines of the previous block. -/
def v7 (I : In) : FVec Ideal S128x64 .f32 := k0_pay7 I.sp
/-- Query head 0: sink score. -/
def v9 (I : In) : FVec Ideal S1x1 .f32 := k0_pay8 (I.sk 0)
/-- Query head 1: sink score. -/
def v11 (I : In) : FVec Ideal S1x1 .f32 := k0_pay9 (I.sk 1)
/-- Query head 2: sink score. -/
def v13 (I : In) : FVec Ideal S1x1 .f32 := k0_pay10 (I.sk 2)
/-- Query head 3: sink score. -/
def v15 (I : In) : FVec Ideal S1x1 .f32 := k0_pay11 (I.sk 3)
/-- First half of the previous block's keys. -/
def v22 (I : In) : FVec Ideal S128x64 .f32 := k0_pay12 I.kp
/-- The turned keys of the band. -/
def v41 (I : In) : FVec Ideal S256x128 .bf16 := k0_pay13 (v1 I) (v3 I) (v5 I) (v7 I) I.kc I.kp (v22 I)
/-- The values of the band. -/
def v43 (I : In) : FVec Ideal S256x128 .bf16 := k0_pay14 I.vc I.vp
/-- The mask. -/
def v59 (I : In) : IVec S128x256 1 := k0_pay15 I.first
/-- Query head 0: turned queries. -/
def v70 (I : In) : FVec Ideal S128x128 .bf16 := k0_pay16 (v1 I) (v3 I) I.q
/-- The value `v73` of the body. -/
def v73 (I : In) : FVec Ideal S128x256 .f32 := k0_pay17 (v1 I) (v3 I) (v5 I) (v7 I) I.q I.kc I.kp (v22 I)
/-- The value `v74` of the body. -/
def v74 (I : In) : FVec Ideal S128x256 .f32 := k0_pay18 (F := Ideal)
/-- Query head 0: masked scores. -/
def v75 (I : In) : FVec Ideal S128x256 .f32 := k0_pay19 (v59 I) (v73 I) (v74 I)
/-- Query head 0: row maxima. -/
def v76 (I : In) : FVec Ideal S128 .f32 := k0_pay20 (v59 I) (v73 I) (v74 I)
/-- Query head 0: places of the maximum. -/
def v81 (I : In) : FVec Ideal S128x256 .f32 := k0_pay21 (v59 I) (v73 I) (v74 I)
/-- Query head 0: number of maxima. -/
def v82 (I : In) : FVec Ideal S128 .f32 := k0_pay22 (v59 I) (v73 I) (v74 I)
/-- Query head 0: row maxima as a column. -/
def v83 (I : In) : FVec Ideal S128x1 .f32 := k0_pay23 (v59 I) (v73 I) (v74 I)
/-- Query head 0: shifts. -/
def v85 (I : In) : FVec Ideal S128x1 .f32 := k0_pay24 (v9 I) (v59 I) (v73 I) (v74 I)
/-- Query head 0: the row's share of the shift's derivative. -/
def v94 (I : In) : FVec Ideal S128x1 .f32 := k0_pay25 (v9 I) (v59 I) (v73 I) (v74 I)
/-- Query head 0: the sink's share of the shift's derivative. -/
def v103 (I : In) : FVec Ideal S128x1 .f32 := k0_pay26 (v9 I) (v59 I) (v73 I) (v74 I)
/-- Query head 0: exponentials. -/
def v106 (I : In) : FVec Ideal S128x256 .f32 := k0_pay27 (v9 I) (v59 I) (v73 I) (v74 I)
/-- Query head 0: the sink's exponential. -/
def v111 (I : In) : FVec Ideal S128x1 .f32 := k0_pay28 (v9 I) (v59 I) (v73 I) (v74 I)
/-- Query head 0: denominators. -/
def v112 (I : In) : FVec Ideal S128x1 .f32 := k0_pay29 (v9 I) (v59 I) (v73 I) (v74 I)
/-- Query head 0: reciprocal squares of the denominators. -/
def v117 (I : In) : FVec Ideal S128x1 .f32 := k0_pay30 (v9 I) (v59 I) (v73 I) (v74 I)
/-- Query head 0: weights. -/
def v118 (I : In) : FVec Ideal S128x256 .bf16 := k0_pay31 (v9 I) (v59 I) (v73 I) (v74 I)
/-- The value `v119` of the body. -/
def v119 (I : In) : FVec Ideal S128x128 .f32 := k0_pay32 I.q
/-- The value `v120` of the body. -/
def v120 (I : In) : FVec Ideal S128x64 .f32 := k0_pay33 I.q
/-- The value `v121` of the body. -/
def v121 (I : In) : FVec Ideal S128x64 .f32 := k0_pay34 I.q
/-- The value `v124` of the body. -/
def v124 (I : In) : FVec Ideal S128x64 .f32 := k0_pay35 (v1 I) (v3 I) I.q
/-- Query head 1: turned queries. -/
def v129 (I : In) : FVec Ideal S128x128 .bf16 := k0_pay36 (v1 I) (v3 I) (v120 I) (v121 I) (v124 I)
/-- Query head 1: masked scores. -/
def v134 (I : In) : FVec Ideal S128x256 .f32 := k0_pay37 (v1 I) (v3 I) (v41 I) (v59 I) (v120 I) (v121 I) (v124 I)
/-- Query head 1: row maxima. -/
def v135 (I : In) : FVec Ideal S128 .f32 := k0_pay38 (v1 I) (v3 I) (v41 I) (v59 I) (v120 I) (v121 I) (v124 I)
/-- Query head 1: places of the maximum. -/
def v140 (I : In) : FVec Ideal S128x256 .f32 := k0_pay39 (v1 I) (v3 I) (v41 I) (v59 I) (v120 I) (v121 I) (v124 I)
/-- Query head 1: number of maxima. -/
def v141 (I : In) : FVec Ideal S128 .f32 := k0_pay40 (v1 I) (v3 I) (v41 I) (v59 I) (v120 I) (v121 I) (v124 I)
/-- Query head 1: row maxima as a column. -/
def v142 (I : In) : FVec Ideal S128x1 .f32 := k0_pay41 (v1 I) (v3 I) (v41 I) (v59 I) (v120 I) (v121 I) (v124 I)
/-- Query head 1: shifts. -/
def v144 (I : In) : FVec Ideal S128x1 .f32 := k0_pay42 (v1 I) (v3 I) (v11 I) (v41 I) (v59 I) (v120 I) (v121 I) (v124 I)
/-- Query head 1: the row's share of the shift's derivative. -/
def v153 (I : In) : FVec Ideal S128x1 .f32 := k0_pay43 (v1 I) (v3 I) (v11 I) (v41 I) (v59 I) (v120 I) (v121 I) (v124 I)
/-- Query head 1: the sink's share of the shift's derivative. -/
def v162 (I : In) : FVec Ideal S128x1 .f32 := k0_pay44 (v1 I) (v3 I) (v11 I) (v41 I) (v59 I) (v120 I) (v121 I) (v124 I)
/-- Query head 1: exponentials. -/
def v165 (I : In) : FVec Ideal S128x256 .f32 := k0_pay45 (v1 I) (v3 I) (v11 I) (v41 I) (v59 I) (v120 I) (v121 I) (v124 I)
/-- Query head 1: the sink's exponential. -/
def v170 (I : In) : FVec Ideal S128x1 .f32 := k0_pay46 (v1 I) (v3 I) (v11 I) (v41 I) (v59 I) (v120 I) (v121 I) (v124 I)
/-- Query head 1: denominators. -/
def v171 (I : In) : FVec Ideal S128x1 .f32 := k0_pay47 (v1 I) (v3 I) (v11 I) (v41 I) (v59 I) (v120 I) (v121 I) (v124 I)
/-- The value `v172` of the body. -/
def v172 (I : In) : FVec Ideal S128x256 .f32 := k0_pay48 (v1 I) (v3 I) (v11 I) (v41 I) (v59 I) (v120 I) (v121 I) (v124 I)
/-- Query head 1: reciprocal squares of the denominators. -/
def v176 (I : In) : FVec Ideal S128x1 .f32 := k0_pay49 (v171 I)
/-- Query head 1: weights. -/
def v177 (I : In) : FVec Ideal S128x256 .bf16 := k0_pay50 (v165 I) (v172 I)
/-- Query head 2: turned queries. -/
def v188 (I : In) : FVec Ideal S128x128 .bf16 := k0_pay51 (v1 I) (v3 I) I.q
/-- Query head 2: masked scores. -/
def v193 (I : In) : FVec Ideal S128x256 .f32 := k0_pay52 (v1 I) (v3 I) I.q (v41 I) (v59 I)
/-- Query head 2: row maxima. -/
def v194 (I : In) : FVec Ideal S128 .f32 := k0_pay53 (v1 I) (v3 I) I.q (v41 I) (v59 I)
/-- Query head 2: places of the maximum. -/
def v199 (I : In) : FVec Ideal S128x256 .f32 := k0_pay54 (v1 I) (v3 I) I.q (v41 I) (v59 I)
/-- Query head 2: number of maxima. -/
def v200 (I : In) : FVec Ideal S128 .f32 := k0_pay55 (v1 I) (v3 I) I.q (v41 I) (v59 I)
/-- Query head 2: row maxima as a column. -/
def v201 (I : In) : FVec Ideal S128x1 .f32 := k0_pay56 (v1 I) (v3 I) I.q (v41 I) (v59 I)
/-- Query head 2: shifts. -/
def v203 (I : In) : FVec Ideal S128x1 .f32 := k0_pay57 (v1 I) (v3 I) (v13 I) I.q (v41 I) (v59 I)
/-- Query head 2: the row's share of the shift's derivative. -/
def v212 (I : In) : FVec Ideal S128x1 .f32 := k0_pay58 (v1 I) (v3 I) (v13 I) I.q (v41 I) (v59 I)
/-- The value `v214` of the body. -/
def v214 (I : In) : IVec S128x1 1 := k0_pay59 (v1 I) (v3 I) (v13 I) I.q (v41 I) (v59 I)
/-- The value `v217` of the body. -/
def v217 (I : In) : FVec Ideal S128x1 .f32 := k0_pay60 (F := Ideal)
/-- The value `v220` of the body. -/
def v220 (I : In) : FVec Ideal S128x1 .f32 := k0_pay61 (v1 I) (v3 I) (v13 I) I.q (v41 I) (v59 I)
/-- Query head 2: the sink's share of the shift's derivative. -/
def v221 (I : In) : FVec Ideal S128x1 .f32 := k0_pay62 (v214 I) (v217 I) (v220 I)
/-- Query head 2: exponentials. -/
def v224 (I : In) : FVec Ideal S128x256 .f32 := k0_pay63 (v193 I) (v203 I)
/-- Query head 2: the sink's exponential. -/
def v229 (I : In) : FVec Ideal S128x1 .f32 := k0_pay64 (v13 I) (v203 I)
/-- Query head 2: denominators. -/
def v230 (I : In) : FVec Ideal S128x1 .f32 := k0_pay65 (v13 I) (v193 I) (v203 I)
/-- Query head 2: reciprocal squares of the denominators. -/
def v235 (I : In) : FVec Ideal S128x1 .f32 := k0_pay66 (v13 I) (v193 I) (v203 I)
/-- Query head 2: weights. -/
def v236 (I : In) : FVec Ideal S128x256 .bf16 := k0_pay67 (v13 I) (v193 I) (v203 I)
/-- Query head 3: turned queries. -/
def v247 (I : In) : FVec Ideal S128x128 .bf16 := k0_pay68 (v1 I) (v3 I) I.q
/-- Query head 3: masked scores. -/
def v252 (I : In) : FVec Ideal S128x256 .f32 := k0_pay69 (v1 I) (v3 I) I.q (v41 I) (v59 I)
/-- Query head 3: row maxima. -/
def v253 (I : In) : FVec Ideal S128 .f32 := k0_pay70 (v1 I) (v3 I) I.q (v41 I) (v59 I)
/-- Query head 3: places of the maximum. -/
def v258 (I : In) : FVec Ideal S128x256 .f32 := k0_pay71 (v1 I) (v3 I) I.q (v41 I) (v59 I)
/-- Query head 3: number of maxima. -/
def v259 (I : In) : FVec Ideal S128 .f32 := k0_pay72 (v1 I) (v3 I) I.q (v41 I) (v59 I)
/-- Query head 3: row maxima as a column. -/
def v260 (I : In) : FVec Ideal S128x1 .f32 := k0_pay73 (v1 I) (v3 I) I.q (v41 I) (v59 I)
/-- Query head 3: shifts. -/
def v262 (I : In) : FVec Ideal S128x1 .f32 := k0_pay74 (v1 I) (v3 I) (v15 I) I.q (v41 I) (v59 I)
/-- The value `v264` of the body. -/
def v264 (I : In) : IVec S128x1 1 := k0_pay75 (v1 I) (v3 I) (v15 I) I.q (v41 I) (v59 I)
/-- The value `v267` of the body. -/
def v267 (I : In) : FVec Ideal S128x1 .f32 := k0_pay76 (F := Ideal)
/-- The value `v270` of the body. -/
def v270 (I : In) : FVec Ideal S128x1 .f32 := k0_pay77 (v1 I) (v3 I) (v15 I) I.q (v41 I) (v59 I)
/-- Query head 3: the row's share of the shift's derivative. -/
def v271 (I : In) : FVec Ideal S128x1 .f32 := k0_pay78 (v264 I) (v267 I) (v270 I)
/-- Query head 3: the sink's share of the shift's derivative. -/
def v280 (I : In) : FVec Ideal S128x1 .f32 := k0_pay79 (v15 I) (v260 I)
/-- Query head 3: exponentials. -/
def v283 (I : In) : FVec Ideal S128x256 .f32 := k0_pay80 (v252 I) (v262 I)
/-- Query head 3: the sink's exponential. -/
def v288 (I : In) : FVec Ideal S128x1 .f32 := k0_pay81 (v15 I) (v262 I)
/-- Query head 3: denominators. -/
def v289 (I : In) : FVec Ideal S128x1 .f32 := k0_pay82 (v15 I) (v252 I) (v262 I)
/-- The value `v297` of the body. -/
def v297 (I : In) : FVec Ideal S128x512 .f32 := k0_pay83 I.d
/-- Query head 0: cotangent columns. -/
def v298 (I : In) : FVec Ideal S128x128 .f32 := k0_pay84 I.d
/-- Query head 1: cotangent columns. -/
def v299 (I : In) : FVec Ideal S128x128 .f32 := k0_pay85 I.d
/-- Query head 2: cotangent columns. -/
def v300 (I : In) : FVec Ideal S128x128 .f32 := k0_pay86 I.d
/-- Query head 3: cotangent columns. -/
def v301 (I : In) : FVec Ideal S128x128 .f32 := k0_pay87 I.d
/-- The value `v304` of the body. -/
def v304 (I : In) : FVec Ideal S256x128 .bf16 := k0_pay88 (v15 I) (v252 I) (v262 I) I.d
/-- Query head 3: cotangent of the weights. -/
def v307 (I : In) : FVec Ideal S128x256 .f32 := k0_pay89 (v43 I) I.d
/-- Query head 3: cotangent of the denominators. -/
def v314 (I : In) : FVec Ideal S128x1 .f32 := k0_pay90 (v15 I) (v43 I) (v252 I) (v262 I) I.d
/-- The value `v316` of the body. -/
def v316 (I : In) : FVec Ideal S128x256 .f32 := k0_pay91 (v15 I) (v43 I) (v252 I) (v262 I) I.d
/-- Query head 3: cotangent of the sink's exponent. -/
def v317 (I : In) : FVec Ideal S128x1 .f32 := k0_pay92 (v15 I) (v43 I) (v252 I) (v262 I) I.d
/-- The value `v318` of the body. -/
def v318 (I : In) : FVec Ideal S1 .f32 := k0_pay93 (v15 I) (v43 I) (v252 I) (v262 I) I.d
/-- Query head 3: cotangent of the exponents. -/
def v326 (I : In) : FVec Ideal S128x256 .f32 := k0_pay94 (v283 I) (v314 I) (v316 I)
/-- Query head 3: cotangent of the shifts. -/
def v331 (I : In) : FVec Ideal S128x1 .f32 := k0_pay95 (v283 I) (v314 I) (v316 I) (v317 I)
/-- Query head 3: the sink's contribution. -/
def v335 (I : In) : FVec Ideal S1x1 .f32 := k0_pay96 (v280 I) (v283 I) (v314 I) (v316 I) (v317 I) (v318 I)
/-- Query head 3: cotangent of the scores. -/
def v346 (I : In) : FVec Ideal S128x256 .f32 := k0_pay97 (v59 I) (v258 I) (v259 I) (v271 I) (v283 I) (v314 I) (v316 I) (v317 I)
/-- The value `v348` of the body. -/
def v348 (I : In) : FVec Ideal S256x128 .bf16 := k0_pay98 (v59 I) (v247 I) (v258 I) (v259 I) (v271 I) (v283 I) (v314 I) (v316 I) (v317 I)
/-- The value `v351` of the body. -/
def v351 (I : In) : FVec Ideal S128x128 .f32 := k0_pay99 (v41 I) (v59 I) (v258 I) (v259 I) (v271 I) (v283 I) (v314 I) (v316 I) (v317 I)
/-- The value `v352` of the body. -/
def v352 (I : In) : FVec Ideal S128x64 .f32 := k0_pay100 (v41 I) (v59 I) (v258 I) (v259 I) (v271 I) (v283 I) (v314 I) (v316 I) (v317 I)
/-- The value `v353` of the body. -/
def v353 (I : In) : FVec Ideal S128x64 .f32 := k0_pay101 (v41 I) (v59 I) (v258 I) (v259 I) (v271 I) (v283 I) (v314 I) (v316 I) (v317 I)
/-- The value `v363` of the body. -/
def v363 (I : In) : FVec Ideal S128x128 .f32 := k0_pay102 (v1 I) (v3 I) (v41 I) (v59 I) (v258 I) (v259 I) (v271 I) (v283 I) (v314 I) (v316 I) (v317 I)
/-- The value `v365` of the body. -/
def v365 (I : In) : FVec Ideal S128x128 .f32 := k0_pay103 (v1 I) (v3 I) (v41 I) (v59 I) (v258 I) (v259 I) (v271 I) (v283 I) (v314 I) (v316 I) (v317 I)
/-- The value `v368` of the body. -/
def v368 (I : In) : FVec Ideal S128x512 .f32 := k0_pay104 (v363 I) (v365 I)
/-- The value `v372` of the body. -/
def v372 (I : In) : FVec Ideal S256x128 .bf16 := k0_pay105 (v236 I) (v300 I) (v304 I)
/-- Query head 2: cotangent of the weights. -/
def v375 (I : In) : FVec Ideal S128x256 .f32 := k0_pay106 (v43 I) (v300 I)
/-- Query head 2: cotangent of the denominators. -/
def v382 (I : In) : FVec Ideal S128x1 .f32 := k0_pay107 (v43 I) (v224 I) (v235 I) (v300 I)
/-- Query head 2: cotangent of the sink's exponent. -/
def v385 (I : In) : FVec Ideal S128x1 .f32 := k0_pay108 (v43 I) (v224 I) (v229 I) (v235 I) (v300 I)
/-- Query head 2: cotangent of the exponents. -/
def v394 (I : In) : FVec Ideal S128x256 .f32 := k0_pay109 (v43 I) (v224 I) (v230 I) (v235 I) (v300 I)
/-- Query head 2: cotangent of the shifts. -/
def v399 (I : In) : FVec Ideal S128x1 .f32 := k0_pay110 (v43 I) (v224 I) (v229 I) (v230 I) (v235 I) (v300 I)
/-- Query head 2: the sink's contribution. -/
def v403 (I : In) : FVec Ideal S1x1 .f32 := k0_pay111 (v43 I) (v221 I) (v224 I) (v229 I) (v230 I) (v235 I) (v300 I)
/-- The value `v412` of the body. -/
def v412 (I : In) : FVec Ideal S128x256 .f32 := k0_pay112 (v43 I) (v59 I) (v199 I) (v200 I) (v212 I) (v224 I) (v229 I) (v230 I) (v235 I) (v300 I)
/-- Query head 2: cotangent of the scores. -/
def v414 (I : In) : FVec Ideal S128x256 .f32 := k0_pay113 (v412 I)
/-- The value `v417` of the body. -/
def v417 (I : In) : FVec Ideal S256x128 .bf16 := k0_pay114 (v188 I) (v348 I) (v412 I)
/-- The value `v440` of the body. -/
def v440 (I : In) : FVec Ideal S128x512 .f32 := k0_pay115 (v1 I) (v3 I) (v41 I) (v368 I) (v412 I)
/-- The value `v444` of the body. -/
def v444 (I : In) : FVec Ideal S256x128 .bf16 := k0_pay116 (v177 I) (v299 I) (v372 I)
/-- Query head 1: cotangent of the weights. -/
def v447 (I : In) : FVec Ideal S128x256 .f32 := k0_pay117 (v43 I) (v299 I)
/-- Query head 1: cotangent of the denominators. -/
def v454 (I : In) : FVec Ideal S128x1 .f32 := k0_pay118 (v43 I) (v165 I) (v176 I) (v299 I)
/-- The value `v456` of the body. -/
def v456 (I : In) : FVec Ideal S128x256 .f32 := k0_pay119 (v43 I) (v171 I) (v299 I)
/-- Query head 1: cotangent of the sink's exponent. -/
def v457 (I : In) : FVec Ideal S128x1 .f32 := k0_pay120 (v43 I) (v165 I) (v170 I) (v176 I) (v299 I)
/-- The value `v459` of the body. -/
def v459 (I : In) : FVec Ideal S1x1 .f32 := k0_pay121 (v43 I) (v165 I) (v170 I) (v176 I) (v299 I)
/-- Query head 1: cotangent of the exponents. -/
def v466 (I : In) : FVec Ideal S128x256 .f32 := k0_pay122 (v165 I) (v454 I) (v456 I)
/-- Query head 1: cotangent of the shifts. -/
def v471 (I : In) : FVec Ideal S128x1 .f32 := k0_pay123 (v165 I) (v454 I) (v456 I) (v457 I) (Scalar.ofBits .f32 0x00000000#32)
/-- Query head 1: the sink's contribution. -/
def v475 (I : In) : FVec Ideal S1x1 .f32 := k0_pay124 (v162 I) (v165 I) (v454 I) (v456 I) (v457 I) (v459 I) (Scalar.ofBits .f32 0x00000000#32)
/-- Query head 1: cotangent of the scores. -/
def v486 (I : In) : FVec Ideal S128x256 .f32 := k0_pay125 (v59 I) (v140 I) (v141 I) (v153 I) (v165 I) (v454 I) (v456 I) (v457 I) (Scalar.ofBits .f32 0x00000000#32)
/-- The value `v489` of the body. -/
def v489 (I : In) : FVec Ideal S256x128 .bf16 := k0_pay126 (v59 I) (v129 I) (v140 I) (v141 I) (v153 I) (v165 I) (v417 I) (v454 I) (v456 I) (v457 I) (Scalar.ofBits .f32 0x00000000#32)
/-- The value `v507` of the body. -/
def v507 (I : In) : FVec Ideal S128x128 .f32 := k0_pay127 (v1 I) (v3 I) (v41 I) (v59 I) (v140 I) (v141 I) (v153 I) (v165 I) (v454 I) (v456 I) (v457 I) (Scalar.ofBits .f32 0x00000000#32)
/-- The value `v512` of the body. -/
def v512 (I : In) : FVec Ideal S128x512 .f32 := k0_pay128 (v440 I) (v507 I)
/-- The value `v516` of the body. -/
def v516 (I : In) : FVec Ideal S256x128 .bf16 := k0_pay129 (v118 I) (v298 I) (v444 I)
/-- Query head 0: cotangent of the weights. -/
def v519 (I : In) : FVec Ideal S128x256 .f32 := k0_pay130 (v43 I) (v298 I)
/-- Query head 0: cotangent of the denominators. -/
def v526 (I : In) : FVec Ideal S128x1 .f32 := k0_pay131 (v43 I) (v106 I) (v117 I) (v298 I)
/-- Query head 0: cotangent of the sink's exponent. -/
def v529 (I : In) : FVec Ideal S128x1 .f32 := k0_pay132 (v43 I) (v106 I) (v111 I) (v117 I) (v298 I)
/-- Query head 0: cotangent of the exponents. -/
def v538 (I : In) : FVec Ideal S128x256 .f32 := k0_pay133 (v43 I) (v106 I) (v112 I) (v117 I) (v298 I)
/-- Query head 0: cotangent of the shifts. -/
def v543 (I : In) : FVec Ideal S128x1 .f32 := k0_pay134 (v43 I) (v106 I) (v111 I) (v112 I) (v117 I) (v298 I)
/-- Query head 0: the sink's contribution. -/
def v547 (I : In) : FVec Ideal S1x1 .f32 := k0_pay135 (v43 I) (v103 I) (v106 I) (v111 I) (v112 I) (v117 I) (v298 I)
/-- The value `v554` of the body. -/
def v554 (I : In) : FVec Ideal S128x256 .f32 := k0_pay136 (v43 I) (v81 I) (v82 I) (v94 I) (v106 I) (v111 I) (v112 I) (v117 I) (v298 I)
/-- Query head 0: cotangent of the scores. -/
def v558 (I : In) : FVec Ideal S128x256 .f32 := k0_pay137 (v59 I) (v554 I) (Scalar.ofBits .f32 0x00000000#32)
/-- The derivative with respect to the queries. -/
def v582 (I : In) : FVec Ideal S128x512 .f32 := k0_pay138 (v1 I) (v3 I) (v41 I) (v59 I) (v512 I) (v554 I) (Scalar.ofBits .f32 0x00000000#32)
/-- The value `v583` of the body. -/
def v583 (I : In) : FVec Ideal S256x128 .f32 := k0_pay139 (v516 I)
/-- The derivative with respect to the previous block's values. -/
def v584 (I : In) : FVec Ideal S128x128 .f32 := k0_pay140 (v516 I)
/-- The derivative with respect to the block's values. -/
def v585 (I : In) : FVec Ideal S128x128 .f32 := k0_pay141 (v516 I)
/-- The value `v586` of the body. -/
def v586 (I : In) : FVec Ideal S256x128 .f32 := k0_pay142 (v59 I) (v70 I) (v489 I) (v554 I) (Scalar.ofBits .f32 0x00000000#32)
/-- The value `v587` of the body. -/
def v587 (I : In) : FVec Ideal S128x128 .f32 := k0_pay143 (v59 I) (v70 I) (v489 I) (v554 I) (Scalar.ofBits .f32 0x00000000#32)
/-- The derivative with respect to the block's keys. -/
def v603 (I : In) : FVec Ideal S128x128 .f32 := k0_pay144 (v1 I) (v3 I) (v59 I) (v70 I) (v489 I) (v554 I) (Scalar.ofBits .f32 0x00000000#32)
/-- The value `v604` of the body. -/
def v604 (I : In) : FVec Ideal S128x64 .f32 := k0_pay145 (v59 I) (v70 I) (v489 I) (v554 I) (Scalar.ofBits .f32 0x00000000#32)
/-- The derivative with respect to the previous block's keys. -/
def v618 (I : In) : FVec Ideal S128x128 .f32 := k0_pay146 (v5 I) (v7 I) (v587 I) (v604 I)

end Cert.KernelIdeal.Att
-- ==== Proof.BlockRow.lean ====
module
public import proofs.«01_k».proof.Proof.Block
@[expose] public section
set_option maxRecDepth 16384
noncomputable section

/-! The body's values at an index: the rows of `Att` applied to the scores of a query head. -/
namespace Cert.KernelIdeal.Att
open Idealize.ShloMosaic Idealize.ShloMosaic.TcCoe Idealize.SL.Sem
open Cert.KernelIdeal Cert.KernelIdeal.Gen _root_.Att

variable (I : In)

/-- The turned query of row `q` of head `g`. -/
def qr (g : Fin 4) (q : Fin 128) : Fin 128 → EReal :=
  rope (fun d => I.cc (ix2 q d)) (fun d => I.sc (ix2 q d)) (fun d => I.q (ix2 q ⟨128 * g.val + d.val, by omega⟩))
/-- The turned key `j` of the band. -/
def kk (j : Fin 256) : Fin 128 → EReal :=
  if h : j.val < 128 then
    rope (fun d => I.cp (ix2 ⟨j.val, h⟩ d)) (fun d => I.sp (ix2 ⟨j.val, h⟩ d)) (fun d => I.kp (ix2 ⟨j.val, h⟩ d))
  else rope (fun d => I.cc (ix2 ⟨j.val - 128, by omega⟩ d)) (fun d => I.sc (ix2 ⟨j.val - 128, by omega⟩ d))
    (fun d => I.kc (ix2 ⟨j.val - 128, by omega⟩ d))
/-- The value `j` of the band. -/
def vv (j : Fin 256) (d : Fin 128) : EReal :=
  if h : j.val < 128 then I.vp (ix2 ⟨j.val, h⟩ d) else I.vc (ix2 ⟨j.val - 128, by omega⟩ d)
/-- The mask of row `q`. -/
def mb (q : Fin 128) (j : Fin 256) : BitVec 1 := v59 I (ix2 q j)
/-- The masked scores of row `q` of head `g`. -/
def xr (g : Fin 4) (q : Fin 128) (j : Fin 256) : EReal :=
  Scalar.select (mb I q j) ((∑ d, qr I g q d * kk I j d) * scale) ⊥
/-- The sink of head `g`. -/
def sk (g : Fin 4) : EReal := I.sk g (ix4 0 0 0 0)
/-- The cotangent of the weights of row `q` of head `g`. -/
def dpr (g : Fin 4) (q : Fin 128) (j : Fin 256) : EReal :=
  ∑ d : Fin 128, I.d (ix2 q ⟨128 * g.val + d.val, by omega⟩) * vv I j d
/-- The cotangent of the scores of row `q` of head `g`. -/
def ds (g : Fin 4) (q : Fin 128) (j : Fin 256) : EReal := dS (mb I q) (xr I g q) (sk I g) (dpr I g q) j

theorem v1_at (q : Fin 128) (d : Fin 64) : v1 I (ix2 q d) = I.cc (ix2 q d) := by rw [v1]; pointwise [k0_pay4]
theorem v3_at (q : Fin 128) (d : Fin 64) : v3 I (ix2 q d) = I.sc (ix2 q d) := by rw [v3]; pointwise [k0_pay5]
theorem v5_at (q : Fin 128) (d : Fin 64) : v5 I (ix2 q d) = I.cp (ix2 q d) := by rw [v5]; pointwise [k0_pay6]
theorem v7_at (q : Fin 128) (d : Fin 64) : v7 I (ix2 q d) = I.sp (ix2 q d) := by rw [v7]; pointwise [k0_pay7]
theorem v22_at (q : Fin 128) (d : Fin 64) : v22 I (ix2 q d) = I.kp (ix2 q ⟨d.val, by omega⟩) := by
  rw [v22]; pointwise [k0_pay12]
theorem v9_at : v9 I (ix2 0 0) = sk I 0 := by rw [v9]; pointwise [k0_pay8]; rfl
theorem v11_at : v11 I (ix2 0 0) = sk I 1 := by rw [v11]; pointwise [k0_pay9]; rfl
theorem v13_at : v13 I (ix2 0 0) = sk I 2 := by rw [v13]; pointwise [k0_pay10]; rfl
theorem v15_at : v15 I (ix2 0 0) = sk I 3 := by rw [v15]; pointwise [k0_pay11]; rfl
theorem v41_at (j : Fin 256) (d : Fin 128) : v41 I (ix2 j d) = kk I j d := by
  rw [v41]; pointwise [k0_pay13]
  simp only [v1_at, v3_at, v5_at, v7_at, v22_at, kk, rope]
  split <;> rfl
theorem v43_at (j : Fin 256) (d : Fin 128) : v43 I (ix2 j d) = vv I j d := by
  rw [v43]; pointwise [k0_pay14]; rfl

theorem v298_at (q d : Fin 128) : v298 I (ix2 q d) = I.d (ix2 q ⟨128 * 0 + d.val, by omega⟩) := by
  rw [v298]; pointwise [k0_pay84, k0_pay83]
theorem v299_at (q d : Fin 128) : v299 I (ix2 q d) = I.d (ix2 q ⟨128 * 1 + d.val, by omega⟩) := by
  rw [v299]; pointwise [k0_pay85, k0_pay83]
theorem v300_at (q d : Fin 128) : v300 I (ix2 q d) = I.d (ix2 q ⟨128 * 2 + d.val, by omega⟩) := by
  rw [v300]; pointwise [k0_pay86, k0_pay83]
theorem v301_at (q d : Fin 128) : v301 I (ix2 q d) = I.d (ix2 q ⟨128 * 3 + d.val, by omega⟩) := by
  rw [v301]; pointwise [k0_pay87, k0_pay83]
theorem v70_at (q d : Fin 128) : v70 I (ix2 q d) = qr I 0 q d := by
  rw [v70]; pointwise [k0_pay16]; simp only [v1_at, v3_at, qr, rope, Fin.val_zero, Nat.mul_zero, Nat.zero_add]
theorem v129_at (q d : Fin 128) : v129 I (ix2 q d) = qr I 1 q d := by
  rw [v129]; pointwise [k0_pay36, v120, v121, v124, k0_pay33, k0_pay34, k0_pay35, k0_pay32]; simp only [v1_at, v3_at]; rfl
theorem v188_at (q d : Fin 128) : v188 I (ix2 q d) = qr I 2 q d := by
  rw [v188]; pointwise [k0_pay51]; simp only [v1_at, v3_at]; rfl
theorem v247_at (q d : Fin 128) : v247 I (ix2 q d) = qr I 3 q d := by
  rw [v247]; pointwise [k0_pay68]; simp only [v1_at, v3_at]; rfl
theorem v74_at (q : Fin 128) (j : Fin 256) : v74 I (ix2 q j) = ⊥ := by
  rw [v74]; pointwise [k0_pay18]; rfl
theorem v73_at (q : Fin 128) (j : Fin 256) : v73 I (ix2 q j) = (∑ d, qr I 0 q d * kk I j d) * scale := by
  rw [v73]; pointwise [k0_pay17]; simp only [← v70.eq_1, ← v41.eq_1, v70_at, v41_at]; rfl
theorem v75_at (q : Fin 128) (j : Fin 256) : v75 I (ix2 q j) = xr I 0 q j := by
  rw [v75]; pointwise [k0_pay19]; rw [v73_at, v74_at]; rfl
theorem v76_at (q : Fin 128) : v76 I (ix1 q) = mx (xr I 0 q) := by
  rw [v76]; pointwise [k0_pay20]; simp only [← v75.eq_1, v75_at, Fin.sum_univ_one, zsub]; rw [bot_bits]; rfl
theorem v81_at (q : Fin 128) (j : Fin 256) : v81 I (ix2 q j) = top (xr I 0 q) j := by
  rw [v81]; pointwise [k0_pay21]; simp only [← v75.eq_1, ← v76.eq_1, v75_at, v76_at, Fin.sum_univ_one, zsub]; rw [ind]; rfl
theorem v82_at (q : Fin 128) : v82 I (ix1 q) = cnt (xr I 0 q) := by
  rw [v82]; pointwise [k0_pay22]; simp only [← v81.eq_1, v81_at, Fin.sum_univ_one, zsub]; rfl
theorem v83_at (q : Fin 128) : v83 I (ix2 q 0) = mx (xr I 0 q) := by
  rw [v83]; pointwise [k0_pay23]; simp only [← v76.eq_1, v76_at, Fin.sum_univ_one, zsub]
theorem v85_at (q : Fin 128) : v85 I (ix2 q 0) = shf (xr I 0 q) (sk I 0) := by
  rw [v85]; pointwise [k0_pay24]; simp only [← v83.eq_1, ← v9.eq_1, v83_at, v9_at, Fin.sum_univ_one, zsub]; rfl
theorem v94_at (q : Fin 128) : v94 I (ix2 q 0) = wRow (xr I 0 q) (sk I 0) := by
  rw [v94]; pointwise [k0_pay25]; simp only [← v83.eq_1, ← v9.eq_1, v83_at, v9_at, Fin.sum_univ_one, zsub]; rfl
theorem v103_at (q : Fin 128) : v103 I (ix2 q 0) = wSink (xr I 0 q) (sk I 0) := by
  rw [v103]; pointwise [k0_pay26]; simp only [← v83.eq_1, ← v9.eq_1, v83_at, v9_at, Fin.sum_univ_one, zsub]; rfl
theorem v106_at (q : Fin 128) (j : Fin 256) : v106 I (ix2 q j) = ex (xr I 0 q) (sk I 0) j := by
  rw [v106]; pointwise [k0_pay27]; simp only [← v75.eq_1, ← v85.eq_1, v75_at, v85_at, Fin.sum_univ_one, zsub]; rfl
theorem v111_at (q : Fin 128) : v111 I (ix2 q 0) = exS (xr I 0 q) (sk I 0) := by
  rw [v111]; pointwise [k0_pay28]; simp only [← v9.eq_1, ← v85.eq_1, v9_at, v85_at, Fin.sum_univ_one, zsub]; rfl
theorem v112_at (q : Fin 128) : v112 I (ix2 q 0) = den (xr I 0 q) (sk I 0) := by
  rw [v112]; pointwise [k0_pay29]; simp only [← v106.eq_1, ← v111.eq_1, v106_at, v111_at, Fin.sum_univ_one, zsub]; rfl
theorem v117_at (q : Fin 128) : v117 I (ix2 q 0) = Ideal.div 1 (den (xr I 0 q) (sk I 0) * den (xr I 0 q) (sk I 0)) := by
  rw [v117]; pointwise [k0_pay30]; simp only [← v112.eq_1, v112_at, Fin.sum_univ_one, zsub]
theorem v118_at (q : Fin 128) (j : Fin 256) : v118 I (ix2 q j) = prob (xr I 0 q) (sk I 0) j := by
  rw [v118]; pointwise [k0_pay31]; simp only [← v106.eq_1, ← v112.eq_1, v106_at, v112_at, Fin.sum_univ_one, zsub]; rfl
theorem v519_at (q : Fin 128) (j : Fin 256) : v519 I (ix2 q j) = dpr I 0 q j := by
  rw [v519]; pointwise [k0_pay130]; simp only [← v298.eq_1, v298_at, Fin.sum_univ_one, zsub]; simp only [v43_at]; rfl
theorem v526_at (q : Fin 128) : v526 I (ix2 q 0) = dDen (xr I 0 q) (sk I 0) (dpr I 0 q) := by
  rw [v526]; pointwise [k0_pay131]; simp only [← v519.eq_1, ← v112.eq_1, ← v117.eq_1, ← v106.eq_1, v519_at, v112_at, v117_at, v106_at, Fin.sum_univ_one, zsub]; rfl
theorem v529_at (q : Fin 128) : v529 I (ix2 q 0) = dSinkE (xr I 0 q) (sk I 0) (dpr I 0 q) := by
  rw [v529]; pointwise [k0_pay132]; simp only [← v526.eq_1, ← v111.eq_1, v526_at, v111_at, Fin.sum_univ_one, zsub]; rfl
theorem v538_at (q : Fin 128) (j : Fin 256) : v538 I (ix2 q j) = dExp (xr I 0 q) (sk I 0) (dpr I 0 q) j := by
  rw [v538]; pointwise [k0_pay133]; simp only [← v519.eq_1, ← v112.eq_1, ← v526.eq_1, ← v106.eq_1, v519_at, v112_at, v526_at, v106_at, Fin.sum_univ_one, zsub]; rfl
theorem v543_at (q : Fin 128) : v543 I (ix2 q 0) = dShf (xr I 0 q) (sk I 0) (dpr I 0 q) := by
  rw [v543]; pointwise [k0_pay134]; simp only [← v529.eq_1, ← v538.eq_1, v529_at, v538_at, Fin.sum_univ_one, zsub]; rfl
theorem v547_at : v547 I (ix2 0 0) = ((∑ q, dSinkE (xr I 0 q) (sk I 0) (dpr I 0 q)) + ∑ q, dShf (xr I 0 q) (sk I 0) (dpr I 0 q) * wSink (xr I 0 q) (sk I 0)) := by
  rw [v547]; pointwise [k0_pay135]; simp only [← v529.eq_1, ← v543.eq_1, v529_at, v543_at, ← v538.eq_1, v538_at, v103_at, zsub]
theorem v558_at (q : Fin 128) (j : Fin 256) : v558 I (ix2 q j) = ds I 0 q j := by
  rw [v558]; pointwise [k0_pay137, v554, k0_pay136]
  simp only [← v538.eq_1, ← v543.eq_1, v538_at, v543_at, v94_at, v82_at, v81_at, v529_at, Fin.sum_univ_one, zsub]
  rfl
theorem v134_at (q : Fin 128) (j : Fin 256) : v134 I (ix2 q j) = xr I 1 q j := by
  rw [v134]; pointwise [k0_pay37]; simp only [← v129.eq_1, v129_at, v41_at]; rfl
theorem v135_at (q : Fin 128) : v135 I (ix1 q) = mx (xr I 1 q) := by
  rw [v135]; pointwise [k0_pay38]; simp only [← v134.eq_1, v134_at, Fin.sum_univ_one, zsub]; rw [bot_bits]; rfl
theorem v140_at (q : Fin 128) (j : Fin 256) : v140 I (ix2 q j) = top (xr I 1 q) j := by
  rw [v140]; pointwise [k0_pay39]; simp only [← v134.eq_1, ← v135.eq_1, v134_at, v135_at, Fin.sum_univ_one, zsub]; rw [ind]; rfl
theorem v141_at (q : Fin 128) : v141 I (ix1 q) = cnt (xr I 1 q) := by
  rw [v141]; pointwise [k0_pay40]; simp only [← v140.eq_1, v140_at, Fin.sum_univ_one, zsub]; rfl
theorem v142_at (q : Fin 128) : v142 I (ix2 q 0) = mx (xr I 1 q) := by
  rw [v142]; pointwise [k0_pay41]; simp only [← v135.eq_1, v135_at, Fin.sum_univ_one, zsub]
theorem v144_at (q : Fin 128) : v144 I (ix2 q 0) = shf (xr I 1 q) (sk I 1) := by
  rw [v144]; pointwise [k0_pay42]; simp only [← v142.eq_1, ← v11.eq_1, v142_at, v11_at, Fin.sum_univ_one, zsub]; rfl
theorem v153_at (q : Fin 128) : v153 I (ix2 q 0) = wRow (xr I 1 q) (sk I 1) := by
  rw [v153]; pointwise [k0_pay43]; simp only [← v142.eq_1, ← v11.eq_1, v142_at, v11_at, Fin.sum_univ_one, zsub]; rfl
theorem v162_at (q : Fin 128) : v162 I (ix2 q 0) = wSink (xr I 1 q) (sk I 1) := by
  rw [v162]; pointwise [k0_pay44]; simp only [← v142.eq_1, ← v11.eq_1, v142_at, v11_at, Fin.sum_univ_one, zsub]; rfl
theorem v165_at (q : Fin 128) (j : Fin 256) : v165 I (ix2 q j) = ex (xr I 1 q) (sk I 1) j := by
  rw [v165]; pointwise [k0_pay45]; simp only [← v134.eq_1, ← v144.eq_1, v134_at, v144_at, Fin.sum_univ_one, zsub]; rfl
theorem v170_at (q : Fin 128) : v170 I (ix2 q 0) = exS (xr I 1 q) (sk I 1) := by
  rw [v170]; pointwise [k0_pay46]; simp only [← v11.eq_1, ← v144.eq_1, v11_at, v144_at, Fin.sum_univ_one, zsub]; rfl
theorem v171_at (q : Fin 128) : v171 I (ix2 q 0) = den (xr I 1 q) (sk I 1) := by
  rw [v171]; pointwise [k0_pay47]; simp only [← v165.eq_1, ← v170.eq_1, v165_at, v170_at, Fin.sum_univ_one, zsub]; rfl
theorem v176_at (q : Fin 128) : v176 I (ix2 q 0) = Ideal.div 1 (den (xr I 1 q) (sk I 1) * den (xr I 1 q) (sk I 1)) := by
  rw [v176]; pointwise [k0_pay49]; simp only [← v171.eq_1, v171_at, Fin.sum_univ_one, zsub]
theorem v177_at (q : Fin 128) (j : Fin 256) : v177 I (ix2 q j) = prob (xr I 1 q) (sk I 1) j := by
  rw [v177]; pointwise [k0_pay50, v172, k0_pay48]; simp only [← v165.eq_1, ← v171.eq_1, v165_at, v171_at, Fin.sum_univ_one, zsub]; rfl
theorem v447_at (q : Fin 128) (j : Fin 256) : v447 I (ix2 q j) = dpr I 1 q j := by
  rw [v447]; pointwise [k0_pay117]; simp only [← v299.eq_1, v299_at, Fin.sum_univ_one, zsub]; simp only [v43_at]; rfl
theorem v454_at (q : Fin 128) : v454 I (ix2 q 0) = dDen (xr I 1 q) (sk I 1) (dpr I 1 q) := by
  rw [v454]; pointwise [k0_pay118]; simp only [← v447.eq_1, ← v171.eq_1, ← v176.eq_1, ← v165.eq_1, v447_at, v171_at, v176_at, v165_at, Fin.sum_univ_one, zsub]; rfl
theorem v457_at (q : Fin 128) : v457 I (ix2 q 0) = dSinkE (xr I 1 q) (sk I 1) (dpr I 1 q) := by
  rw [v457]; pointwise [k0_pay120]; simp only [← v454.eq_1, ← v170.eq_1, v454_at, v170_at, Fin.sum_univ_one, zsub]; rfl
theorem v456_at (q : Fin 128) (j : Fin 256) : v456 I (ix2 q j) = Ideal.div (dpr I 1 q j) (den (xr I 1 q) (sk I 1)) := by
  rw [v456]; pointwise [k0_pay119]; simp only [← v447.eq_1, v447_at, v171_at]
theorem v466_at (q : Fin 128) (j : Fin 256) : v466 I (ix2 q j) = dExp (xr I 1 q) (sk I 1) (dpr I 1 q) j := by
  rw [v466]; pointwise [k0_pay122]; simp only [← v456.eq_1, ← v454.eq_1, ← v165.eq_1, v456_at, v454_at, v165_at, Fin.sum_univ_one, zsub]; rfl
theorem v471_at (q : Fin 128) : v471 I (ix2 q 0) = dShf (xr I 1 q) (sk I 1) (dpr I 1 q) := by
  rw [v471]; pointwise [k0_pay123]; simp only [← v457.eq_1, ← v466.eq_1, v457_at, v466_at, Fin.sum_univ_one, zsub]; rfl
theorem v475_at : v475 I (ix2 0 0) = ((∑ q, dSinkE (xr I 1 q) (sk I 1) (dpr I 1 q)) + ∑ q, dShf (xr I 1 q) (sk I 1) (dpr I 1 q) * wSink (xr I 1 q) (sk I 1)) := by
  rw [v475]; pointwise [k0_pay124, v459, k0_pay121, k0_pay123]; simp only [← v457.eq_1, ← v471.eq_1, v457_at, v471_at, ← v466.eq_1, v466_at, v162_at, zsub]; rfl
theorem v486_at (q : Fin 128) (j : Fin 256) : v486 I (ix2 q j) = ds I 1 q j := by
  rw [v486]; pointwise [k0_pay125, k0_pay123]
  simp only [← v466.eq_1, ← v471.eq_1, v466_at, v471_at, v153_at, v141_at, v140_at, v457_at, Fin.sum_univ_one, zsub]
  rfl
theorem v193_at (q : Fin 128) (j : Fin 256) : v193 I (ix2 q j) = xr I 2 q j := by
  rw [v193]; pointwise [k0_pay52]; simp only [← v188.eq_1, v188_at, v41_at]; rfl
theorem v194_at (q : Fin 128) : v194 I (ix1 q) = mx (xr I 2 q) := by
  rw [v194]; pointwise [k0_pay53]; simp only [← v193.eq_1, v193_at, Fin.sum_univ_one, zsub]; rw [bot_bits]; rfl
theorem v199_at (q : Fin 128) (j : Fin 256) : v199 I (ix2 q j) = top (xr I 2 q) j := by
  rw [v199]; pointwise [k0_pay54]; simp only [← v193.eq_1, ← v194.eq_1, v193_at, v194_at, Fin.sum_univ_one, zsub]; rw [ind]; rfl
theorem v200_at (q : Fin 128) : v200 I (ix1 q) = cnt (xr I 2 q) := by
  rw [v200]; pointwise [k0_pay55]; simp only [← v199.eq_1, v199_at, Fin.sum_univ_one, zsub]; rfl
theorem v201_at (q : Fin 128) : v201 I (ix2 q 0) = mx (xr I 2 q) := by
  rw [v201]; pointwise [k0_pay56]; simp only [← v194.eq_1, v194_at, Fin.sum_univ_one, zsub]
theorem v203_at (q : Fin 128) : v203 I (ix2 q 0) = shf (xr I 2 q) (sk I 2) := by
  rw [v203]; pointwise [k0_pay57]; simp only [← v201.eq_1, ← v13.eq_1, v201_at, v13_at, Fin.sum_univ_one, zsub]; rfl
theorem v212_at (q : Fin 128) : v212 I (ix2 q 0) = wRow (xr I 2 q) (sk I 2) := by
  rw [v212]; pointwise [k0_pay58]; simp only [← v201.eq_1, ← v13.eq_1, v201_at, v13_at, Fin.sum_univ_one, zsub]; rfl
theorem v221_at (q : Fin 128) : v221 I (ix2 q 0) = wSink (xr I 2 q) (sk I 2) := by
  rw [v221]; pointwise [k0_pay62, v214, v217, v220, k0_pay59, k0_pay60, k0_pay61]; simp only [← v201.eq_1, ← v13.eq_1, v201_at, v13_at, Fin.sum_univ_one, zsub]; rfl
theorem v224_at (q : Fin 128) (j : Fin 256) : v224 I (ix2 q j) = ex (xr I 2 q) (sk I 2) j := by
  rw [v224]; pointwise [k0_pay63]; simp only [← v193.eq_1, ← v203.eq_1, v193_at, v203_at, Fin.sum_univ_one, zsub]; rfl
theorem v229_at (q : Fin 128) : v229 I (ix2 q 0) = exS (xr I 2 q) (sk I 2) := by
  rw [v229]; pointwise [k0_pay64]; simp only [← v13.eq_1, ← v203.eq_1, v13_at, v203_at, Fin.sum_univ_one, zsub]; rfl
theorem v230_at (q : Fin 128) : v230 I (ix2 q 0) = den (xr I 2 q) (sk I 2) := by
  rw [v230]; pointwise [k0_pay65]; simp only [← v224.eq_1, ← v229.eq_1, v224_at, v229_at, Fin.sum_univ_one, zsub]; rfl
theorem v235_at (q : Fin 128) : v235 I (ix2 q 0) = Ideal.div 1 (den (xr I 2 q) (sk I 2) * den (xr I 2 q) (sk I 2)) := by
  rw [v235]; pointwise [k0_pay66]; simp only [← v230.eq_1, v230_at, Fin.sum_univ_one, zsub]
theorem v236_at (q : Fin 128) (j : Fin 256) : v236 I (ix2 q j) = prob (xr I 2 q) (sk I 2) j := by
  rw [v236]; pointwise [k0_pay67]; simp only [← v224.eq_1, ← v230.eq_1, v224_at, v230_at, Fin.sum_univ_one, zsub]; rfl
theorem v375_at (q : Fin 128) (j : Fin 256) : v375 I (ix2 q j) = dpr I 2 q j := by
  rw [v375]; pointwise [k0_pay106]; simp only [← v300.eq_1, v300_at, Fin.sum_univ_one, zsub]; simp only [v43_at]; rfl
theorem v382_at (q : Fin 128) : v382 I (ix2 q 0) = dDen (xr I 2 q) (sk I 2) (dpr I 2 q) := by
  rw [v382]; pointwise [k0_pay107]; simp only [← v375.eq_1, ← v230.eq_1, ← v235.eq_1, ← v224.eq_1, v375_at, v230_at, v235_at, v224_at, Fin.sum_univ_one, zsub]; rfl
theorem v385_at (q : Fin 128) : v385 I (ix2 q 0) = dSinkE (xr I 2 q) (sk I 2) (dpr I 2 q) := by
  rw [v385]; pointwise [k0_pay108]; simp only [← v382.eq_1, ← v229.eq_1, v382_at, v229_at, Fin.sum_univ_one, zsub]; rfl
theorem v394_at (q : Fin 128) (j : Fin 256) : v394 I (ix2 q j) = dExp (xr I 2 q) (sk I 2) (dpr I 2 q) j := by
  rw [v394]; pointwise [k0_pay109]; simp only [← v375.eq_1, ← v230.eq_1, ← v382.eq_1, ← v224.eq_1, v375_at, v230_at, v382_at, v224_at, Fin.sum_univ_one, zsub]; rfl
theorem v399_at (q : Fin 128) : v399 I (ix2 q 0) = dShf (xr I 2 q) (sk I 2) (dpr I 2 q) := by
  rw [v399]; pointwise [k0_pay110]; simp only [← v385.eq_1, ← v394.eq_1, v385_at, v394_at, Fin.sum_univ_one, zsub]; rfl
theorem v403_at : v403 I (ix2 0 0) = ((∑ q, dSinkE (xr I 2 q) (sk I 2) (dpr I 2 q)) + ∑ q, dShf (xr I 2 q) (sk I 2) (dpr I 2 q) * wSink (xr I 2 q) (sk I 2)) := by
  rw [v403]; pointwise [k0_pay111]; simp only [← v385.eq_1, ← v399.eq_1, v385_at, v399_at, ← v394.eq_1, v394_at, v221_at, zsub]
theorem v414_at (q : Fin 128) (j : Fin 256) : v414 I (ix2 q j) = ds I 2 q j := by
  rw [v414]; pointwise [k0_pay113, v412, k0_pay112]
  simp only [← v394.eq_1, ← v399.eq_1, v394_at, v399_at, v212_at, v200_at, v199_at, v385_at, Fin.sum_univ_one, zsub]
  rfl
theorem v252_at (q : Fin 128) (j : Fin 256) : v252 I (ix2 q j) = xr I 3 q j := by
  rw [v252]; pointwise [k0_pay69]; simp only [← v247.eq_1, v247_at, v41_at]; rfl
theorem v253_at (q : Fin 128) : v253 I (ix1 q) = mx (xr I 3 q) := by
  rw [v253]; pointwise [k0_pay70]; simp only [← v252.eq_1, v252_at, Fin.sum_univ_one, zsub]; rw [bot_bits]; rfl
theorem v258_at (q : Fin 128) (j : Fin 256) : v258 I (ix2 q j) = top (xr I 3 q) j := by
  rw [v258]; pointwise [k0_pay71]; simp only [← v252.eq_1, ← v253.eq_1, v252_at, v253_at, Fin.sum_univ_one, zsub]; rw [ind]; rfl
theorem v259_at (q : Fin 128) : v259 I (ix1 q) = cnt (xr I 3 q) := by
  rw [v259]; pointwise [k0_pay72]; simp only [← v258.eq_1, v258_at, Fin.sum_univ_one, zsub]; rfl
theorem v260_at (q : Fin 128) : v260 I (ix2 q 0) = mx (xr I 3 q) := by
  rw [v260]; pointwise [k0_pay73]; simp only [← v253.eq_1, v253_at, Fin.sum_univ_one, zsub]
theorem v262_at (q : Fin 128) : v262 I (ix2 q 0) = shf (xr I 3 q) (sk I 3) := by
  rw [v262]; pointwise [k0_pay74]; simp only [← v260.eq_1, ← v15.eq_1, v260_at, v15_at, Fin.sum_univ_one, zsub]; rfl
theorem v271_at (q : Fin 128) : v271 I (ix2 q 0) = wRow (xr I 3 q) (sk I 3) := by
  rw [v271]; pointwise [k0_pay78, v264, v267, v270, k0_pay75, k0_pay76, k0_pay77]; simp only [← v260.eq_1, ← v15.eq_1, v260_at, v15_at, Fin.sum_univ_one, zsub]; rfl
theorem v280_at (q : Fin 128) : v280 I (ix2 q 0) = wSink (xr I 3 q) (sk I 3) := by
  rw [v280]; pointwise [k0_pay79]; simp only [← v260.eq_1, ← v15.eq_1, v260_at, v15_at, Fin.sum_univ_one, zsub]; rfl
theorem v283_at (q : Fin 128) (j : Fin 256) : v283 I (ix2 q j) = ex (xr I 3 q) (sk I 3) j := by
  rw [v283]; pointwise [k0_pay80]; simp only [← v252.eq_1, ← v262.eq_1, v252_at, v262_at, Fin.sum_univ_one, zsub]; rfl
theorem v288_at (q : Fin 128) : v288 I (ix2 q 0) = exS (xr I 3 q) (sk I 3) := by
  rw [v288]; pointwise [k0_pay81]; simp only [← v15.eq_1, ← v262.eq_1, v15_at, v262_at, Fin.sum_univ_one, zsub]; rfl
theorem v289_at (q : Fin 128) : v289 I (ix2 q 0) = den (xr I 3 q) (sk I 3) := by
  rw [v289]; pointwise [k0_pay82]; simp only [← v283.eq_1, ← v288.eq_1, v283_at, v288_at, Fin.sum_univ_one, zsub]; rfl
theorem v307_at (q : Fin 128) (j : Fin 256) : v307 I (ix2 q j) = dpr I 3 q j := by
  rw [v307]; pointwise [k0_pay89]; simp only [← v301.eq_1, v301_at, Fin.sum_univ_one, zsub]; simp only [v43_at]; rfl
theorem v314_at (q : Fin 128) : v314 I (ix2 q 0) = dDen (xr I 3 q) (sk I 3) (dpr I 3 q) := by
  rw [v314]; pointwise [k0_pay90]; simp only [← v307.eq_1, ← v289.eq_1, ← v283.eq_1, v307_at, v289_at, v283_at, Fin.sum_univ_one, zsub]; rfl
theorem v317_at (q : Fin 128) : v317 I (ix2 q 0) = dSinkE (xr I 3 q) (sk I 3) (dpr I 3 q) := by
  rw [v317]; pointwise [k0_pay92]; simp only [← v314.eq_1, ← v288.eq_1, v314_at, v288_at, Fin.sum_univ_one, zsub]; rfl
theorem v316_at (q : Fin 128) (j : Fin 256) : v316 I (ix2 q j) = Ideal.div (dpr I 3 q j) (den (xr I 3 q) (sk I 3)) := by
  rw [v316]; pointwise [k0_pay91]; simp only [← v307.eq_1, ← v289.eq_1, v307_at, v289_at]
theorem v326_at (q : Fin 128) (j : Fin 256) : v326 I (ix2 q j) = dExp (xr I 3 q) (sk I 3) (dpr I 3 q) j := by
  rw [v326]; pointwise [k0_pay94]; simp only [← v316.eq_1, ← v314.eq_1, ← v283.eq_1, v316_at, v314_at, v283_at, Fin.sum_univ_one, zsub]; rfl
theorem v331_at (q : Fin 128) : v331 I (ix2 q 0) = dShf (xr I 3 q) (sk I 3) (dpr I 3 q) := by
  rw [v331]; pointwise [k0_pay95]; simp only [← v317.eq_1, ← v326.eq_1, v317_at, v326_at, Fin.sum_univ_one, zsub]; rfl
theorem v335_at : v335 I (ix2 0 0) = ((∑ q, dSinkE (xr I 3 q) (sk I 3) (dpr I 3 q)) + ∑ q, dShf (xr I 3 q) (sk I 3) (dpr I 3 q) * wSink (xr I 3 q) (sk I 3)) := by
  rw [v335]; pointwise [k0_pay96, v318, k0_pay93]; simp only [← v317.eq_1, ← v331.eq_1, v317_at, v331_at, ← v326.eq_1, v326_at, v280_at, zsub]
theorem v346_at (q : Fin 128) (j : Fin 256) : v346 I (ix2 q j) = ds I 3 q j := by
  rw [v346]; pointwise [k0_pay97]
  simp only [← v326.eq_1, ← v331.eq_1, v326_at, v331_at, v271_at, v259_at, v258_at, v317_at, Fin.sum_univ_one, zsub]
  rfl

end Cert.KernelIdeal.Att
-- ==== Proof.BlockOut.lean ====
module
public import proofs.«01_k».proof.Proof.BlockRow
@[expose] public section
set_option maxRecDepth 16384
noncomputable section

/-! What the body leaves in its six outputs at one grid point, index by index. -/
namespace Cert.KernelIdeal.Att
open Idealize.ShloMosaic Idealize.ShloMosaic.TcCoe Idealize.SL.Sem
open Cert.KernelIdeal Cert.KernelIdeal.Gen _root_.Att

variable (I : In)

theorem v486_zero : k0_pay125 (v59 I) (v140 I) (v141 I) (v153 I) (v165 I) (v454 I) (v456 I) (v457 I) (0 : EReal) = v486 I := by
  rw [v486]; congr 1; exact Ideal.ofBits_zero_f32.symm
theorem v558_zero : k0_pay137 (v59 I) (v554 I) (0 : EReal) = v558 I := by
  rw [v558]; congr 1; exact Ideal.ofBits_zero_f32.symm
theorem v586_zero : k0_pay142 (v59 I) (v70 I) (v489 I) (v554 I) (0 : EReal) = v586 I := by
  rw [v586]; congr 1; exact Ideal.ofBits_zero_f32.symm

/-- What the block gives to the value `j` of the band: the four heads, the last first. -/
theorem v516_at (j : Fin 256) (d : Fin 128) : v516 I (ix2 j d) =
    (((∑ q : Fin 128, I.d (ix2 q ⟨128 * 3 + d.val, by omega⟩) * prob (xr I 3 q) (sk I 3) j)
      + ∑ q : Fin 128, I.d (ix2 q ⟨128 * 2 + d.val, by omega⟩) * prob (xr I 2 q) (sk I 2) j)
      + ∑ q : Fin 128, I.d (ix2 q ⟨128 * 1 + d.val, by omega⟩) * prob (xr I 1 q) (sk I 1) j)
      + ∑ q : Fin 128, I.d (ix2 q ⟨128 * 0 + d.val, by omega⟩) * prob (xr I 0 q) (sk I 0) j := by
  rw [v516]; pointwise [k0_pay129, v444, k0_pay116, v372, k0_pay105, v304, k0_pay88]
  simp only [← v301.eq_1, ← v283.eq_1, ← v289.eq_1, v301_at, v300_at, v299_at, v298_at, v283_at, v289_at, v118_at, v177_at, v236_at]
  simp [prob]
theorem v585_at (j d : Fin 128) : v585 I (ix2 j d) = v516 I (ix2 ⟨128 + j.val, by omega⟩ d) := by
  rw [v585]; pointwise [k0_pay141, k0_pay139]
theorem v584_at (j d : Fin 128) : v584 I (ix2 j d) = v516 I (ix2 ⟨j.val, by omega⟩ d) := by
  rw [v584]; pointwise [k0_pay140, k0_pay139]

/-- What the block gives to the turned key `j` of the band: the four heads, the last first. -/
theorem v586_at (j : Fin 256) (d : Fin 128) : v586 I (ix2 j d) =
    (((∑ q : Fin 128, ds I 3 q j * qr I 3 q d) + ∑ q : Fin 128, ds I 2 q j * qr I 2 q d)
      + ∑ q : Fin 128, ds I 1 q j * qr I 1 q d) + ∑ q : Fin 128, ds I 0 q j * qr I 0 q d := by
  rw [v586]; pointwise [k0_pay142, v489, k0_pay126, v417, k0_pay114, v348, k0_pay98]
  simp only [← v346.eq_1, ← v414.eq_1, v486_zero, v558_zero, v346_at, v414_at, v486_at, v558_at, v70_at, v129_at, v188_at, v247_at]

/-- The two halves of a turned-back row, each padded with zeros, add up to the row. -/
theorem unrope_halves (c s : Fin 64 → EReal) (y : Fin 128 → EReal) (d : Fin 128) :
    ((if h : d.val < 64 then (0 : EReal) else y ⟨64 + (d.val - 64), by omega⟩ * c ⟨d.val - 64, by omega⟩
        + -y ⟨d.val - 64, by omega⟩ * s ⟨d.val - 64, by omega⟩)
      + if h : d.val < 64 then y ⟨64 + d.val, by omega⟩ * s ⟨d.val, h⟩ + y ⟨d.val, by omega⟩ * c ⟨d.val, h⟩ else 0)
    = unrope c s y d := by
  unfold unrope; split <;> simp only [zero_add, add_zero]

theorem v603_at (j d : Fin 128) : v603 I (ix2 j d) =
    unrope (fun d => I.cc (ix2 j d)) (fun d => I.sc (ix2 j d)) (fun d => v586 I (ix2 ⟨128 + j.val, by omega⟩ d)) d := by
  rw [v603]; pointwise [k0_pay144]
  simp only [v586_zero, v1_at, v3_at, zsub]
  exact unrope_halves (fun d => I.cc (ix2 j d)) (fun d => I.sc (ix2 j d)) (fun d => v586 I (ix2 ⟨128 + j.val, by omega⟩ d)) d
theorem v618_at (j d : Fin 128) : v618 I (ix2 j d) =
    unrope (fun d => I.cp (ix2 j d)) (fun d => I.sp (ix2 j d)) (fun d => v586 I (ix2 ⟨j.val, by omega⟩ d)) d := by
  rw [v618]; pointwise [k0_pay146, v587, v604, k0_pay143, k0_pay145]
  simp only [v586_zero, v5_at, v7_at, zsub]
  exact unrope_halves (fun d => I.cp (ix2 j d)) (fun d => I.sp (ix2 j d)) (fun d => v586 I (ix2 ⟨j.val, by omega⟩ d)) d

/-- The cotangent of the turned query of row `q` of head `g`. -/
def dqT (g : Fin 4) (q : Fin 128) (d : Fin 128) : EReal := ∑ j : Fin 256, ds I g q j * kk I j d
/-- The cotangent of the query of row `q` of head `g`. -/
def dqU (g : Fin 4) (q : Fin 128) : Fin 128 → EReal :=
  unrope (fun d => I.cc (ix2 q d)) (fun d => I.sc (ix2 q d)) (dqT I g q)

set_option maxHeartbeats 1000000 in
theorem dq3 (q d : Fin 128) : v363 I (ix2 q d) + v365 I (ix2 q d) = dqU I 3 q d := by
  rw [v363, v365]; pointwise [k0_pay102, k0_pay103, k0_pay101, k0_pay100, k0_pay99]
  simp only [← v346.eq_1, v346_at, v41_at, v1_at, v3_at, zsub]
  exact unrope_halves (fun d => I.cc (ix2 q d)) (fun d => I.sc (ix2 q d)) (dqT I 3 q) d
theorem dq1 (q d : Fin 128) : v507 I (ix2 q d) = dqU I 1 q d := by
  rw [v507, k0_pay127]; rw [← v486.eq_1]; generalize hw : v486 I = w; pointwise; subst hw
  simp only [v486_at, v41_at, v1_at, v3_at, zsub]
  exact unrope_halves (fun d => I.cc (ix2 q d)) (fun d => I.sc (ix2 q d)) (dqT I 1 q) d

set_option maxHeartbeats 1000000 in
/-- The four heads' parts lie side by side. -/
theorem v582_at (q : Fin 128) (c : Fin 512) : v582 I (ix2 q c) =
    (((if h : c.val < 384 then (0 : EReal) else dqU I 3 q ⟨c.val - 384, by omega⟩) +
      if h : c.val < 384 then (if h : c.val < 256 then 0 else dqU I 2 q ⟨c.val - 256, by omega⟩) else 0) +
      if h : c.val < 256 then (if h : c.val < 128 then 0 else dqU I 1 q ⟨c.val - 128, by omega⟩) else 0) +
      if h : c.val < 128 then dqU I 0 q ⟨c.val, h⟩ else 0 := by
  rw [v582]; pointwise [k0_pay138, v512, k0_pay128, v440, k0_pay115, v368, k0_pay104]
  simp only [← v414.eq_1, v558_zero, dq3, dq1, v414_at, v558_at, v41_at, v1_at, v3_at, zsub]
  simp only [dqU, ← unrope_halves, dqT]
theorem dq_at (g : Fin 4) (q d : Fin 128) : v582 I (ix2 q ⟨128 * g.val + d.val, by omega⟩) = dqU I g q d := by
  rw [v582_at]
  fin_cases g <;>
    (split_ifs <;> first
      | (exfalso; dsimp at *; omega)
      | (simp only [zero_add, add_zero]; congr 1; apply Fin.ext; dsimp; omega))

end Cert.KernelIdeal.Att
-- ==== Proof.Point.lean ====
module
public import proofs.«01_k».proof.Proof.BlockOut
public import proofs.«01_k».proof.Proof.Gen.KernelIdeal.Frame
public import Idealize.ShloMosaic.Lib.Pipeline.ValueKit
@[expose] public section
set_option maxRecDepth 16384
noncomputable section

/-! What the first region's body leaves at a grid point, as the block functions of the blocks it reads. -/
namespace Cert.KernelIdeal.Att
open Idealize.ShloMosaic Idealize.ShloMosaic.TcCoe Idealize.SL.Sem
open Cert.KernelIdeal Cert.KernelIdeal.Gen _root_.Att

/-- The blocks of an attention on whole arrays: queries, keys and values `X`, tables `C` and `S`, sinks `K`,
cotangent `D`, at key head `h` and block `n`. The first block takes itself as its previous block. -/
def inAt (X : FVec Ideal S4096x6144 .f32) (C S : FVec Ideal S4096x64 .f32) (K : FVec Ideal S8x4x1x1 .f32)
    (D : FVec Ideal S4096x4096 .bf16) (h : Fin 8) (n : Fin 32) : In where
  q := fun i => X (ix2 ⟨128 * n.val + (i 0).val, by idx_vars i; dsimp; omega⟩ ⟨512 * h.val + (i 1).val, by idx_vars i; dsimp; omega⟩)
  kc := fun i => X (ix2 ⟨128 * n.val + (i 0).val, by idx_vars i; dsimp; omega⟩ ⟨4096 + 128 * h.val + (i 1).val, by idx_vars i; dsimp; omega⟩)
  kp := fun i => X (ix2 ⟨128 * (n.val - 1) + (i 0).val, by idx_vars i; dsimp; omega⟩ ⟨4096 + 128 * h.val + (i 1).val, by idx_vars i; dsimp; omega⟩)
  vc := fun i => X (ix2 ⟨128 * n.val + (i 0).val, by idx_vars i; dsimp; omega⟩ ⟨5120 + 128 * h.val + (i 1).val, by idx_vars i; dsimp; omega⟩)
  vp := fun i => X (ix2 ⟨128 * (n.val - 1) + (i 0).val, by idx_vars i; dsimp; omega⟩ ⟨5120 + 128 * h.val + (i 1).val, by idx_vars i; dsimp; omega⟩)
  sk := fun g _ => K (ix4 h g 0 0)
  cc := fun i => C (ix2 ⟨128 * n.val + (i 0).val, by idx_vars i; dsimp; omega⟩ (i 1))
  sc := fun i => S (ix2 ⟨128 * n.val + (i 0).val, by idx_vars i; dsimp; omega⟩ (i 1))
  cp := fun i => C (ix2 ⟨128 * (n.val - 1) + (i 0).val, by idx_vars i; dsimp; omega⟩ (i 1))
  sp := fun i => S (ix2 ⟨128 * (n.val - 1) + (i 0).val, by idx_vars i; dsimp; omega⟩ (i 1))
  d := fun i => D (ix2 ⟨128 * n.val + (i 0).val, by idx_vars i; dsimp; omega⟩ ⟨512 * h.val + (i 1).val, by idx_vars i; dsimp; omega⟩)
  first := if n.val = 0 then 1#1 else 0#1

variable (V : (c : Dev nD) → (b : Ref sig .tc) → Buf (Elt Ideal) ((c : Thread nD τ).loc b)) (c : Dev nD)

/-- The blocks of grid point `t`. -/
def blkIn (t : Fin cfg0.N) : In where
  q := iblk0 V c 0 t
  kc := iblk0 V c 1 t
  kp := iblk0 V c 2 t
  vc := iblk0 V c 3 t
  vp := iblk0 V c 4 t
  sk := fun
    | 0 => View.ld (iblk0 V c 5 t) (Rect.unit ![0, 0, 0, 0] ![1, 1, 1, 1] inb_S1x4x1x1_S1x1x1x1_0_0_0_0)
    | 1 => View.ld (iblk0 V c 5 t) (Rect.unit ![0, 1, 0, 0] ![1, 1, 1, 1] inb_S1x4x1x1_S1x1x1x1_0_1_0_0)
    | 2 => View.ld (iblk0 V c 5 t) (Rect.unit ![0, 2, 0, 0] ![1, 1, 1, 1] inb_S1x4x1x1_S1x1x1x1_0_2_0_0)
    | 3 => View.ld (iblk0 V c 5 t) (Rect.unit ![0, 3, 0, 0] ![1, 1, 1, 1] inb_S1x4x1x1_S1x1x1x1_0_3_0_0)
  cc := iblk0 V c 6 t
  sc := iblk0 V c 7 t
  cp := iblk0 V c 8 t
  sp := iblk0 V c 9 t
  d := iblk0 V c 10 t
  first := Scalar.cmpi CmpIPredicate.eq (BitVec.ofNat 32 ↑(grid0.coords t 1)) 0#32

theorem out11 (t : Fin cfg0.N) : (outsAt0 V c t.val t.isLt).1 = v582 (blkIn V c t) := by
  by_cases h0 : t.val % 32 = 0
  · rw [outsAt0_A V c t h0]; frame_out; chain_rfl
  · rw [outsAt0_B V c t h0]; frame_out; chain_rfl
theorem out12 (t : Fin cfg0.N) : (outsAt0 V c t.val t.isLt).2.1 = v603 (blkIn V c t) := by
  by_cases h0 : t.val % 32 = 0
  · rw [outsAt0_A V c t h0]; frame_out; chain_rfl
  · rw [outsAt0_B V c t h0]; frame_out; chain_rfl
theorem out13 (t : Fin cfg0.N) : (outsAt0 V c t.val t.isLt).2.2.1 = v618 (blkIn V c t) := by
  by_cases h0 : t.val % 32 = 0
  · rw [outsAt0_A V c t h0]; frame_out; chain_rfl
  · rw [outsAt0_B V c t h0]; frame_out; chain_rfl
theorem out14 (t : Fin cfg0.N) : (outsAt0 V c t.val t.isLt).2.2.2.1 = v585 (blkIn V c t) := by
  by_cases h0 : t.val % 32 = 0
  · rw [outsAt0_A V c t h0]; frame_out; chain_rfl
  · rw [outsAt0_B V c t h0]; frame_out; chain_rfl
theorem out15 (t : Fin cfg0.N) : (outsAt0 V c t.val t.isLt).2.2.2.2.1 = v584 (blkIn V c t) := by
  by_cases h0 : t.val % 32 = 0
  · rw [outsAt0_A V c t h0]; frame_out; chain_rfl
  · rw [outsAt0_B V c t h0]; frame_out; chain_rfl

end Cert.KernelIdeal.Att
-- ==== Proof.SinkPoint.lean ====
module
public import proofs.«01_k».proof.Proof.Point
public import Idealize.ShloMosaic.Lib.Pipeline.ReadBack
@[expose] public section
set_option maxRecDepth 16384
noncomputable section

/-! What the first region's body leaves in the accumulated cotangent of the sinks at a grid point. -/
namespace Cert.KernelIdeal.Att
open Idealize.ShloMosaic Idealize.ShloMosaic.TcCoe Idealize.SL.Sem
open Cert.KernelIdeal Cert.KernelIdeal.Gen _root_.Att

/-- The cell of head 0 of the block of the sinks. -/
abbrev c0 : Rect S1x4x1x1 := Rect.unit (s := S1x4x1x1) ![0, 0, 0, 0] ![1, 1, 1, 1] inb_S1x4x1x1_S1x1x1x1_0_0_0_0
/-- The cell of head 1. -/
abbrev c1 : Rect S1x4x1x1 := Rect.unit (s := S1x4x1x1) ![0, 1, 0, 0] ![1, 1, 1, 1] inb_S1x4x1x1_S1x1x1x1_0_1_0_0
/-- The cell of head 2. -/
abbrev c2 : Rect S1x4x1x1 := Rect.unit (s := S1x4x1x1) ![0, 2, 0, 0] ![1, 1, 1, 1] inb_S1x4x1x1_S1x1x1x1_0_2_0_0
/-- The cell of head 3. -/
abbrev c3 : Rect S1x4x1x1 := Rect.unit (s := S1x4x1x1) ![0, 3, 0, 0] ![1, 1, 1, 1] inb_S1x4x1x1_S1x1x1x1_0_3_0_0

/-- The block after the point adds `p0 … p3` to `P`. -/
def accB (P : Vec Ideal S1x4x1x1 .f32) (p0 p1 p2 p3 : FVec Ideal S1x1 .f32) : Vec Ideal S1x4x1x1 .f32 :=
  View.canon (Val := Elt Ideal) (s := S1x4x1x1) (e := .f32)
    [⟨c3, k0_pay3 p3 (View.ld P c3)⟩, ⟨c2, k0_pay2 p2 (View.ld P c2)⟩, ⟨c1, k0_pay1 p1 (View.ld P c1)⟩, ⟨c0, k0_pay148 p0 (View.ld P c0)⟩]

section
variable (p : FVec Ideal S1x1 .f32) (Q : Vec Ideal S1x1x1x1 .f32)
theorem pay148_at : k0_pay148 p Q (ix4 0 0 0 0) = Q (ix4 0 0 0 0) + p (ix2 0 0) := by pointwise [k0_pay148]
theorem pay1_at : k0_pay1 p Q (ix4 0 0 0 0) = Q (ix4 0 0 0 0) + p (ix2 0 0) := by pointwise [k0_pay1]
theorem pay2_at : k0_pay2 p Q (ix4 0 0 0 0) = Q (ix4 0 0 0 0) + p (ix2 0 0) := by pointwise [k0_pay2]
theorem pay3_at : k0_pay3 p Q (ix4 0 0 0 0) = Q (ix4 0 0 0 0) + p (ix2 0 0) := by pointwise [k0_pay3]
end
theorem emb0 : (ix4 0 0 0 0 : S1x4x1x1.Idx) = c0.emb (ix4 0 0 0 0) := by decide
theorem emb1 : (ix4 0 1 0 0 : S1x4x1x1.Idx) = c1.emb (ix4 0 0 0 0) := by decide
theorem emb2 : (ix4 0 2 0 0 : S1x4x1x1.Idx) = c2.emb (ix4 0 0 0 0) := by decide
theorem emb3 : (ix4 0 3 0 0 : S1x4x1x1.Idx) = c3.emb (ix4 0 0 0 0) := by decide
theorem cell_of (w0 w1 w2 w3 : S1x1x1x1.Idx → EReal) (L : List (View.Piece (Elt Ideal) S1x4x1x1 .f32)) (g : Fin 4) :
    View.canon (Val := Elt Ideal) (s := S1x4x1x1) (e := .f32) (⟨c3, w3⟩ :: ⟨c2, w2⟩ :: ⟨c1, w1⟩ :: ⟨c0, w0⟩ :: L) (ix4 0 g 0 0)
    = ![w0, w1, w2, w3] g (ix4 0 0 0 0) := by
  match g with
  | 0 =>
    have n3 : (ix4 0 0 0 0 : S1x4x1x1.Idx) ∉ c3.set := by decide
    have n2 : (ix4 0 0 0 0 : S1x4x1x1.Idx) ∉ c2.set := by decide
    have n1 : (ix4 0 0 0 0 : S1x4x1x1.Idx) ∉ c1.set := by decide
    refine (View.canon_cons_of_not_mem (Val := Elt Ideal) (s := S1x4x1x1) (e := .f32) ⟨c3, w3⟩ _ n3).trans ((View.canon_cons_of_not_mem (Val := Elt Ideal) (s := S1x4x1x1) (e := .f32) ⟨c2, w2⟩ _ n2).trans ((View.canon_cons_of_not_mem (Val := Elt Ideal) (s := S1x4x1x1) (e := .f32) ⟨c1, w1⟩ _ n1).trans (?_)))
    rw [emb0]; exact View.canon_cons_emb (Val := Elt Ideal) (s := S1x4x1x1) (e := .f32) c0 w0 _ _
  | 1 =>
    have n3 : (ix4 0 1 0 0 : S1x4x1x1.Idx) ∉ c3.set := by decide
    have n2 : (ix4 0 1 0 0 : S1x4x1x1.Idx) ∉ c2.set := by decide
    refine (View.canon_cons_of_not_mem (Val := Elt Ideal) (s := S1x4x1x1) (e := .f32) ⟨c3, w3⟩ _ n3).trans ((View.canon_cons_of_not_mem (Val := Elt Ideal) (s := S1x4x1x1) (e := .f32) ⟨c2, w2⟩ _ n2).trans (?_))
    rw [emb1]; exact View.canon_cons_emb (Val := Elt Ideal) (s := S1x4x1x1) (e := .f32) c1 w1 _ _
  | 2 =>
    have n3 : (ix4 0 2 0 0 : S1x4x1x1.Idx) ∉ c3.set := by decide
    refine (View.canon_cons_of_not_mem (Val := Elt Ideal) (s := S1x4x1x1) (e := .f32) ⟨c3, w3⟩ _ n3).trans (?_)
    rw [emb2]; exact View.canon_cons_emb (Val := Elt Ideal) (s := S1x4x1x1) (e := .f32) c2 w2 _ _
  | 3 =>
    rw [emb3]; exact View.canon_cons_emb (Val := Elt Ideal) (s := S1x4x1x1) (e := .f32) c3 w3 _ _

theorem cell_at (L : List (View.Piece (Elt Ideal) S1x4x1x1 .f32)) (P : Vec Ideal S1x4x1x1 .f32) (p0 p1 p2 p3 : FVec Ideal S1x1 .f32) (g : Fin 4) :
    View.canon (Val := Elt Ideal) (s := S1x4x1x1) (e := .f32) (⟨c3, k0_pay3 p3 (View.ld P c3)⟩ :: ⟨c2, k0_pay2 p2 (View.ld P c2)⟩ ::
      ⟨c1, k0_pay1 p1 (View.ld P c1)⟩ :: ⟨c0, k0_pay148 p0 (View.ld P c0)⟩ :: L) (ix4 0 g 0 0)
    = P (ix4 0 g 0 0) + (![p0, p1, p2, p3] g) (ix2 0 0) := by
  refine (cell_of _ _ _ _ L g).trans ?_
  match g with
  | 0 => exact (pay148_at p0 _).trans (congrArg (fun i => P i + p0 (ix2 0 0)) emb0.symm)
  | 1 => exact (pay1_at p1 _).trans (congrArg (fun i => P i + p1 (ix2 0 0)) emb1.symm)
  | 2 => exact (pay2_at p2 _).trans (congrArg (fun i => P i + p2 (ix2 0 0)) emb2.symm)
  | 3 => exact (pay3_at p3 _).trans (congrArg (fun i => P i + p3 (ix2 0 0)) emb3.symm)

theorem accB_at (P : Vec Ideal S1x4x1x1 .f32) (p0 p1 p2 p3 : FVec Ideal S1x1 .f32) (g : Fin 4) :
    accB P p0 p1 p2 p3 (ix4 0 g 0 0) = P (ix4 0 g 0 0) + (![p0, p1, p2, p3] g) (ix2 0 0) := cell_at [] P p0 p1 p2 p3 g

/-- The whole block. -/
abbrev call : Rect S1x4x1x1 := Rect.unit (s := S1x4x1x1) ![0, 0, 0, 0] ![1, 4, 1, 1] inb_S1x4x1x1_S1x4x1x1_0_0_0_0
/-- Writes into the block, the last first. -/
abbrev Writes := List (View.Piece (Elt Ideal) S1x4x1x1 .f32)
/-- The zeros a first point starts from. -/
def wz : Writes := [⟨call, k0_pay147 (F := Ideal)⟩]

section
variable {sp : Space} (v : View sig .tc sp S1x4x1x1 .f32) (p0 p1 p2 p3 : FVec Ideal S1x1 .f32)
/-- The writes up to head 0's. -/
def w0 : Writes := ⟨c0, k0_pay148 p0 (v.readCov (Val := Elt Ideal) wz c0.toLoadRect)⟩ :: wz
/-- The writes up to head 1's. -/
def w1 : Writes := ⟨c1, k0_pay1 p1 (v.readCov (Val := Elt Ideal) (w0 v p0) c1.toLoadRect)⟩ :: w0 v p0
/-- The writes up to head 2's. -/
def w2 : Writes := ⟨c2, k0_pay2 p2 (v.readCov (Val := Elt Ideal) (w1 v p0 p1) c2.toLoadRect)⟩ :: w1 v p0 p1
/-- The writes up to head 3's. -/
def w3 : Writes := ⟨c3, k0_pay3 p3 (v.readCov (Val := Elt Ideal) (w2 v p0 p1 p2) c3.toLoadRect)⟩ :: w2 v p0 p1 p2
/-- The block after a point that starts from zero. -/
def accA : Vec Ideal S1x4x1x1 .f32 := View.canon (Val := Elt Ideal) (s := S1x4x1x1) (e := .f32) (w3 v p0 p1 p2 p3)

theorem off0 : ∀ a : Fin S1x4x1x1.rank, (![0, 0, 0, 0] : Fin S1x4x1x1.rank → ℕ) a = 0 := by decide
theorem accA_at (g : Fin 4) : accA v p0 p1 p2 p3 (ix4 0 g 0 0) = 0 + (![p0, p1, p2, p3] g) (ix2 0 0) := by
  have r0 : v.readCov (Val := Elt Ideal) wz c0.toLoadRect = View.ld (k0_pay147 (F := Ideal)) c0 := View.readCov_fill v _ _ _ _ off0
  have r1 : v.readCov (Val := Elt Ideal) (w0 v p0) c1.toLoadRect = View.ld (k0_pay147 (F := Ideal)) c1 := by
    rw [w0, View.readCov_skip v _ _ _ _ (by decide)]; exact View.readCov_fill v _ _ _ _ off0
  have r2 : v.readCov (Val := Elt Ideal) (w1 v p0 p1) c2.toLoadRect = View.ld (k0_pay147 (F := Ideal)) c2 := by
    rw [w1, View.readCov_skip v _ _ _ _ (by decide), w0, View.readCov_skip v _ _ _ _ (by decide)]; exact View.readCov_fill v _ _ _ _ off0
  have r3 : v.readCov (Val := Elt Ideal) (w2 v p0 p1 p2) c3.toLoadRect = View.ld (k0_pay147 (F := Ideal)) c3 := by
    rw [w2, View.readCov_skip v _ _ _ _ (by decide), w1, View.readCov_skip v _ _ _ _ (by decide), w0, View.readCov_skip v _ _ _ _ (by decide)]
    exact View.readCov_fill v _ _ _ _ off0
  unfold accA w3; rw [r3]; unfold w2; rw [r2]; unfold w1; rw [r1]; unfold w0; rw [r0]; unfold wz
  rw [cell_at]; congr 1; exact Ideal.ofBits_zero_f32
end

variable (V : (c : Dev nD) → (b : Ref sig .tc) → Buf (Elt Ideal) ((c : Thread nD τ).loc b)) (c : Dev nD)

theorem out16A (t : Fin cfg0.N) (h0 : t.val % 32 = 0) : (outsAt0 V c t.val t.isLt).2.2.2.2.2 =
    accA (ms0_16 t).view (v547 (blkIn V c t)) (v475 (blkIn V c t)) (v403 (blkIn V c t)) (v335 (blkIn V c t)) := by
  rw [outsAt0_A V c t h0]; frame_out; chain_rfl
theorem out16B (t : Fin cfg0.N) (h0 : ¬t.val % 32 = 0) : (outsAt0 V c t.val t.isLt).2.2.2.2.2 =
    accB (outsAt0 V c (t.val - 1) (Nat.lt_of_le_of_lt (Nat.sub_le _ _) t.isLt)).2.2.2.2.2
      (v547 (blkIn V c t)) (v475 (blkIn V c t)) (v403 (blkIn V c t)) (v335 (blkIn V c t)) := by
  rw [outsAt0_B V c t h0]; frame_out; chain_rfl

/-- What the point adds to the cotangent of the sink of head `g`. -/
def dsk (I : In) (g : Fin 4) : EReal :=
  (∑ q, dSinkE (xr I g q) (sk I g) (dpr I g q)) + ∑ q, dShf (xr I g q) (sk I g) (dpr I g q) * wSink (xr I g q) (sk I g)
theorem dsk_eq (I : In) (g : Fin 4) : (![v547 I, v475 I, v403 I, v335 I] g) (ix2 0 0) = dsk I g := by
  match g with
  | 0 => exact v547_at I
  | 1 => exact v475_at I
  | 2 => exact v403_at I
  | 3 => exact v335_at I
theorem sink_first (t : Fin cfg0.N) (h0 : t.val % 32 = 0) (g : Fin 4) :
    (outsAt0 V c t.val t.isLt).2.2.2.2.2 (ix4 0 g 0 0) = 0 + dsk (blkIn V c t) g := by
  rw [out16A V c t h0, accA_at, dsk_eq]
theorem sink_step (t : Fin cfg0.N) (h0 : ¬t.val % 32 = 0) (g : Fin 4) :
    (outsAt0 V c t.val t.isLt).2.2.2.2.2 (ix4 0 g 0 0) =
      (outsAt0 V c (t.val - 1) (Nat.lt_of_le_of_lt (Nat.sub_le _ _) t.isLt)).2.2.2.2.2 (ix4 0 g 0 0) + dsk (blkIn V c t) g := by
  rw [out16B V c t h0, accB_at, dsk_eq]

end Cert.KernelIdeal.Att
-- ==== Proof.RefBand.lean ====
module
public import proofs.«01_k».proof.Proof.Row
public import proofs.«01_k».proof.Proof.Gen.ReferenceIdeal.Run
public import Idealize.ShloMosaic.Lib.Pipeline.ValueKit
public import Idealize.ShloMosaic.Lib.Pointwise
@[expose] public section
set_option maxRecDepth 16384
noncomputable section

/-! The reference: turned queries and keys, the band of keys and values, the mask and the scores. -/
namespace Cert.ReferenceIdeal.Att
open Idealize.ShloMosaic Idealize.ShloMosaic.TcCoe Idealize.SL.Sem
open Cert.ReferenceIdeal Cert.ReferenceIdeal.Value _root_.Att

variable (V : Valuation τ sig (Elt Ideal))

/-- Queries, keys and values side by side. -/
abbrev X : FVec Ideal S4096x6144 .f32 := V (Proc.devRef .tc main_arg0)
/-- The sinks. -/
abbrev K : FVec Ideal S1x32 .f32 := V (Proc.devRef .tc main_arg1)
/-- The cotangent of the output. -/
abbrev D : FVec Ideal S4096x4096 .bf16 := V (Proc.devRef .tc main_arg2)
/-- Cosines. -/
abbrev C : FVec Ideal S4096x64 .f32 := res_main_v27 V
/-- Sines. -/
abbrev S : FVec Ideal S4096x64 .f32 := res_main_v28 V

/-- Row `q` of block `n`. -/
def row (n : Fin 32) (q : Fin 128) : Fin 4096 := ⟨n.val * 128 + q.val, by omega⟩

/-- The turned query of row `q` of block `n`, key head `h`, group head `g`. -/
def rq (n : Fin 32) (q : Fin 128) (h : Fin 8) (g : Fin 4) : Fin 128 → EReal :=
  rope (fun d => C V (ix2 (row n q) d)) (fun d => S V (ix2 (row n q) d)) (fun d => X V (ix2 (row n q) ⟨(h.val * 4 + g.val) * 128 + d.val, by omega⟩))
/-- The turned key of row `q` of block `n`, key head `h`. -/
def rk (n : Fin 32) (q : Fin 128) (h : Fin 8) : Fin 128 → EReal :=
  rope (fun d => C V (ix2 (row n q) d)) (fun d => S V (ix2 (row n q) d)) (fun d => X V (ix2 (row n q) ⟨4096 + (h.val * 128 + d.val), by omega⟩))
/-- The value of row `q` of block `n`, key head `h`. -/
def rv (n : Fin 32) (q : Fin 128) (h : Fin 8) (d : Fin 128) : EReal := X V (ix2 (row n q) ⟨5120 + (h.val * 128 + d.val), by omega⟩)
/-- The band of block `n`: the block before it, zeros when there is none, and the block. -/
def band (f : Fin 32 → Fin 128 → Fin 8 → Fin 128 → EReal) (n : Fin 32) (j : Fin 256) (h : Fin 8) (d : Fin 128) : EReal :=
  if hj : j.val < 128 then (if hn : n.val < 1 then 0 else f ⟨n.val - 1, by omega⟩ ⟨j.val, hj⟩ h d) else f n ⟨j.val - 128, by omega⟩ h d

theorem v4_at (r : Fin 4096) (c : Fin 6144) : res_main_v4 V (ix2 r c) = X V (ix2 r c) := by
  pointwise [res_main_v4]
theorem v59_at (n : Fin 32) (q : Fin 128) (h : Fin 8) (g : Fin 4) (d : Fin 128) : res_main_v59 V (ix5 n q h g d) = rq V n q h g d := by
  pointwise [res_main_v59, res_main_v29, res_main_v30, res_main_v31, res_main_v32, res_main_v8]
  simp only [v4_at, rq, rope, row]
theorem v60_at (n : Fin 32) (q : Fin 128) (h : Fin 8) (d : Fin 128) : res_main_v60 V (ix4 n q h d) = rk V n q h d := by
  pointwise [res_main_v60, res_main_v44, res_main_v45, res_main_v46, res_main_v47, res_main_v9]
  simp only [v4_at, rk, rope, row]
theorem v67_at (n : Fin 32) (q : Fin 128) (h : Fin 8) (d : Fin 128) : res_main_v67 V (ix4 n q h d) = rv V n q h d := by
  pointwise [res_main_v67]
  rw [v4_at]; rfl
theorem v66_at (n : Fin 32) (j : Fin 256) (h : Fin 8) (d : Fin 128) : res_main_v66 V (ix4 n j h d) = band (rk V) n j h d := by
  pointwise [res_main_v66]
  simp only [v60_at, band]
theorem v73_at (n : Fin 32) (j : Fin 256) (h : Fin 8) (d : Fin 128) : res_main_v73 V (ix4 n j h d) = band (rv V) n j h d := by
  pointwise [res_main_v73]
  simp only [v67_at, band]
/-- The mask: the key is one of the row's last 128 and is not before the first. -/
def rb (n : Fin 32) (q : Fin 128) (j : Fin 256) : BitVec 1 :=
  IntOp.andi
    (IntOp.andi (IntOp.cmpi CmpIPredicate.sge (IntOp.subi (IntOp.addi (BitVec.ofNat 32 q.val) 128#32) (BitVec.ofNat 32 j.val)) 0#32)
      (IntOp.cmpi CmpIPredicate.slt (IntOp.subi (IntOp.addi (BitVec.ofNat 32 q.val) 128#32) (BitVec.ofNat 32 j.val)) 128#32))
    (IntOp.cmpi CmpIPredicate.sge
      (IntOp.subi (IntOp.addi (IntOp.muli (BitVec.ofNat 32 n.val) 128#32) (BitVec.ofNat 32 j.val)) 128#32) 0#32)
/-- The masked scores of a row. -/
def rx (n : Fin 32) (h : Fin 8) (g : Fin 4) (q : Fin 128) (j : Fin 256) : EReal :=
  Scalar.select (rb n q j) ((∑ d, band (rk V) n j h d * rq V n q h g d) * scale) ⊥
/-- The sink of a head. -/
def rs (h : Fin 8) (g : Fin 4) : EReal := K V (ix2 0 ⟨h.val * 4 + g.val, by omega⟩)
/-- The cotangent of the output of row `q` of block `n`. -/
def rd (n : Fin 32) (q : Fin 128) (h : Fin 8) (g : Fin 4) (d : Fin 128) : EReal :=
  D V (ix2 (row n q) ⟨h.val * 512 + g.val * 128 + d.val, by omega⟩)
/-- The cotangent of the weights of a row. -/
def rdp (n : Fin 32) (h : Fin 8) (g : Fin 4) (q : Fin 128) (j : Fin 256) : EReal := ∑ d, rd V n q h g d * band (rv V) n j h d

theorem v109_1_at (n : Fin 32) (h : Fin 8) (g : Fin 4) (q : Fin 128) (j : Fin 256) : res_main_v109_1 V (ix5 n h g q j) = rb n q j := by
  pointwise [res_main_v109_1, res_main_v86, res_main_v81]
  rfl
theorem v109_0_at (n : Fin 32) (h : Fin 8) (g : Fin 4) (q : Fin 128) (j : Fin 256) : res_main_v109_0 V (ix5 n h g q j) = rx V n h g q j := by
  pointwise [res_main_v109_0]
  simp only [v109_1_at, v66_at, v59_at, rx]
  congr 1
theorem v158_at (n : Fin 32) (h : Fin 8) (d : Fin 128) (g : Fin 4) (q : Fin 128) : res_main_v158 V (ix5 n h d g q) = rd V n q h g d := by
  pointwise [res_main_v158]; rfl
theorem v159_at (n : Fin 32) (h : Fin 8) (g : Fin 4) (q : Fin 128) (j : Fin 256) : res_main_v159 V (ix5 n h g q j) = rdp V n h g q j := by
  pointwise [res_main_v159]
  simp only [v158_at, v73_at, rdp]
theorem v111_at (h : Fin 8) (g : Fin 4) : res_main_v111 V (ix5 0 h g 0 0) = rs V h g := by
  pointwise [res_main_v111]; rfl

end Cert.ReferenceIdeal.Att
-- ==== Proof.RowReal.lean ====
module
public import proofs.«01_k».proof.Proof.Row
@[expose] public section
noncomputable section

/-! Two facts about a row: what the mask hides does not enter its derivative, and on real scores every
value of the derivative is real. -/
namespace Att
open Idealize.ShloMosaic Idealize.ShloMosaic.TcCoe Idealize.SL.Sem

/-! ## Real values -/

/-- A value that is neither infinity. -/
def R (x : EReal) : Prop := ∃ r : ℝ, x = (r : EReal)

theorem R.zero : R 0 := ⟨0, rfl⟩
theorem R.one : R 1 := ⟨1, rfl⟩
theorem R.add {x y : EReal} (hx : R x) (hy : R y) : R (x + y) := by
  obtain ⟨a, rfl⟩ := hx; obtain ⟨b, rfl⟩ := hy; exact ⟨a + b, (EReal.coe_add a b).symm⟩
theorem R.mul {x y : EReal} (hx : R x) (hy : R y) : R (x * y) := by
  obtain ⟨a, rfl⟩ := hx; obtain ⟨b, rfl⟩ := hy; exact ⟨a * b, (EReal.coe_mul a b).symm⟩
theorem R.neg {x : EReal} (hx : R x) : R (-x) := by
  obtain ⟨a, rfl⟩ := hx; exact ⟨-a, (EReal.coe_neg a).symm⟩
theorem R.sub {x y : EReal} (hx : R x) (hy : R y) : R (x - y) := by
  rw [sub_eq_add_neg]; exact hx.add hy.neg
theorem R.max {x y : EReal} (hx : R x) (hy : R y) : R (max x y) := by
  rcases max_choice x y with h | h <;> rw [h] <;> assumption
theorem R.div {x y : EReal} (hx : R x) (hy : R y) (h : y ≠ 0) : R (Ideal.div x y) := by
  obtain ⟨a, rfl⟩ := hx; obtain ⟨b, rfl⟩ := hy
  exact ⟨a * b⁻¹, by rw [Ideal.div, if_neg h, ← EReal.coe_inv, ← EReal.coe_mul]⟩
theorem R.sum {ι : Type*} (s : Finset ι) {f : ι → EReal} (h : ∀ i, R (f i)) : R (∑ i ∈ s, f i) :=
  Finset.sum_induction f R (fun _ _ => R.add) R.zero (fun i _ => h i)
theorem R.exp {x : EReal} (hx : R x) : R (Ideal.exp x) := by
  obtain ⟨a, rfl⟩ := hx; exact ⟨Real.exp a, rfl⟩
theorem R.of_ne {x : EReal} (h1 : x ≠ ⊥) (h2 : x ≠ ⊤) : R x := ⟨x.toReal, (EReal.coe_toReal h2 h1).symm⟩
theorem R.ne_bot {x : EReal} (h : R x) : x ≠ ⊥ := by obtain ⟨a, rfl⟩ := h; exact EReal.coe_ne_bot a
theorem R.ne_top {x : EReal} (h : R x) : x ≠ ⊤ := by obtain ⟨a, rfl⟩ := h; exact EReal.coe_ne_top a
theorem R.ite {p : Prop} [Decidable p] {x y : EReal} (hx : R x) (hy : R y) : R (if p then x else y) := by
  split <;> assumption
/-- A product with a real factor distributes over a sum of reals. -/
theorem R.add_mul {x y c : EReal} (hx : R x) (hy : R y) (hc : R c) : (x + y) * c = x * c + y * c := by
  obtain ⟨a, rfl⟩ := hx; obtain ⟨b, rfl⟩ := hy; obtain ⟨c, rfl⟩ := hc
  simp only [← EReal.coe_add, ← EReal.coe_mul]; congr 1; ring
theorem R.neg_add {x y : EReal} (hx : R x) (hy : R y) : -(x + y) = -x + -y := by
  obtain ⟨a, rfl⟩ := hx; obtain ⟨b, rfl⟩ := hy
  simp only [← EReal.coe_add, ← EReal.coe_neg]; congr 1; ring
theorem R.half : R half := by
  unfold Att.half; simp [Ideal.ofBits, Ideal.ieee]
  exact R.mul ⟨_, rfl⟩ ⟨_, (EReal.coe_inv _).symm⟩
theorem R.scale : R scale := by unfold Att.scale; simp [Ideal.ofBits, Ideal.ieee]; exact ⟨_, rfl⟩

/-- Real vectors turn into real vectors. -/
theorem R.rope {c s : Fin 64 → EReal} {x : Fin 128 → EReal} (hc : ∀ i, R (c i)) (hs : ∀ i, R (s i))
    (hx : ∀ i, R (x i)) (d : Fin 128) : R (rope c s x d) := by
  unfold Att.rope; split
  · exact ((hx _).mul (hc _)).sub ((hx _).mul (hs _))
  · exact ((hx _).mul (hc _)).add ((hx _).mul (hs _))
/-- Turning back is additive on real vectors. -/
theorem unrope_add {c s : Fin 64 → EReal} {x y : Fin 128 → EReal} (hc : ∀ i, R (c i)) (hs : ∀ i, R (s i))
    (hx : ∀ i, R (x i)) (hy : ∀ i, R (y i)) (d : Fin 128) :
    unrope c s (fun d => x d + y d) d = unrope c s x d + unrope c s y d := by
  unfold unrope
  split
  · rw [(hx _).add_mul (hy _) (hs _), (hx _).add_mul (hy _) (hc _)]; abel
  · rw [(hx _).neg_add (hy _), (hx _).add_mul (hy _) (hc _), (hx _).neg.add_mul (hy _).neg (hs _)]; abel

/-! ## A row of real or hidden scores -/

variable {b : Fin 256 → BitVec 1} {x : Fin 256 → EReal} {k : EReal} {dp : Fin 256 → EReal}

theorem le_mx (j : Fin 256) : x j ≤ mx x := by
  unfold mx; rw [Finset.le_fold_max]; exact .inr ⟨j, Finset.mem_univ _, le_rfl⟩
/-- The largest score is one of the scores, unless all are hidden. -/
theorem mx_eq (j0 : Fin 256) (h0 : x j0 ≠ ⊥) : ∃ j, mx x = x j := by
  have h := (Finset.le_fold_max (s := Finset.univ) (f := x) (b := (⊥ : EReal)) (mx x)).mp le_rfl
  rcases h with h | ⟨j, -, h⟩
  · exact absurd (le_bot_iff.mp (le_trans (le_mx j0) h)) h0
  · exact ⟨j, le_antisymm h (le_mx j)⟩

/-- The row's hypotheses: each score is real or hidden, one is real, the sink is real. -/
structure Good (x : Fin 256 → EReal) (k : EReal) : Prop where
  score : ∀ j, R (x j) ∨ x j = ⊥
  some : ∃ j, R (x j)
  sink : R k

variable (G : Good x k)
include G

theorem Good.mx : R (mx x) := by
  obtain ⟨j0, h0⟩ := G.some
  obtain ⟨j, hj⟩ := mx_eq j0 h0.ne_bot
  rcases G.score j with h | h
  · rw [hj]; exact h
  · exact absurd (le_bot_iff.mp ((le_mx j0).trans_eq (hj.trans h))) h0.ne_bot
theorem Good.shf : R (shf x k) := G.mx.max G.sink
theorem Good.top (j : Fin 256) : R (top x j) := R.ite R.one R.zero
theorem Good.cnt : R (cnt x) := R.sum _ G.top
theorem Good.cnt_ne : Att.cnt x ≠ 0 := by
  obtain ⟨j0, h0⟩ := G.some
  obtain ⟨j, hj⟩ := mx_eq j0 h0.ne_bot
  have h1 : Att.top x j = 1 := if_pos hj.symm
  have h2 : Att.top x j ≤ Att.cnt x :=
    Finset.single_le_sum (f := Att.top x) (fun i _ => by unfold Att.top; split <;> simp) (Finset.mem_univ j)
  intro h
  rw [h1, h] at h2
  exact absurd h2 (by simp)
theorem Good.wRow : R (wRow x k) := R.ite R.one (R.ite R.half R.zero)
theorem Good.ex (j : Fin 256) : R (ex x k j) := by
  rcases G.score j with h | h
  · exact (h.sub G.shf).exp
  · rw [Att.ex, h, EReal.bot_sub]; exact R.zero
theorem Good.ex_nonneg (j : Fin 256) : 0 ≤ Att.ex x k j := by
  rcases G.score j with h | h
  · obtain ⟨r, hr⟩ := h.sub G.shf
    rw [Att.ex, hr]; exact EReal.coe_nonneg.mpr (Real.exp_pos r).le
  · rw [Att.ex, h, EReal.bot_sub]; exact le_rfl
theorem Good.exS : R (exS x k) := (G.sink.sub G.shf).exp
theorem Good.exS_pos : 0 < Att.exS x k := by
  obtain ⟨r, hr⟩ := G.sink.sub G.shf
  rw [Att.exS, hr]; exact EReal.coe_pos.mpr (Real.exp_pos r)
theorem Good.den : R (den x k) := (R.sum _ G.ex).add G.exS
theorem Good.den_ne : Att.den x k ≠ 0 :=
  (lt_of_lt_of_le G.exS_pos (le_add_of_nonneg_left (Finset.sum_nonneg fun j _ => G.ex_nonneg j))).ne'
theorem Good.den_sq_ne : Att.den x k * Att.den x k ≠ 0 := mul_ne_zero G.den_ne G.den_ne

variable (hdp : ∀ j, R (dp j))
include hdp

theorem Good.dDen : R (dDen x k dp) :=
  (R.sum _ fun j => ((hdp j).mul (R.one.div (G.den.mul G.den) G.den_sq_ne)).mul (G.ex j)).neg
theorem Good.dSinkE : R (dSinkE x k dp) := (G.dDen hdp).mul G.exS
theorem Good.dExp (j : Fin 256) : R (dExp x k dp j) := (((hdp j).div G.den G.den_ne).add (G.dDen hdp)).mul (G.ex j)
theorem Good.dShf : R (dShf x k dp) := (G.dSinkE hdp).neg.add (R.sum _ fun j => (G.dExp hdp j).neg)
/-- The cotangent of the scores is real. -/
theorem Good.dS (b : Fin 256 → BitVec 1) (j : Fin 256) : R (dS b x k dp j) := by
  unfold Att.dS Scalar.select
  exact R.ite ((((G.dExp hdp j).add ((((G.dShf hdp).mul G.wRow).div G.cnt G.cnt_ne).mul (G.top j))).mul R.scale)) R.zero

omit G hdp

/-! ## What the mask hides -/

theorem ex_hidden (k : EReal) {j : Fin 256} (h : x j = ⊥) : ex x k j = 0 := by rw [ex, h, EReal.bot_sub]; rfl

variable {dp' : Fin 256 → EReal}
/-- Cotangents of hidden weights do not enter. -/
theorem dDen_congr (h : ∀ j, x j = ⊥ ∨ dp j = dp' j) : dDen x k dp = dDen x k dp' := by
  unfold dDen; congr 1
  refine Finset.sum_congr rfl fun j _ => ?_
  rcases h j with h | h
  · rw [ex_hidden k h, mul_zero, mul_zero]
  · rw [h]
theorem dExp_congr (h : ∀ j, x j = ⊥ ∨ dp j = dp' j) (j : Fin 256) : dExp x k dp j = dExp x k dp' j := by
  unfold dExp; rw [dDen_congr h]
  rcases h j with h | h
  · rw [ex_hidden k h, mul_zero, mul_zero]
  · rw [h]
theorem dSinkE_congr (h : ∀ j, x j = ⊥ ∨ dp j = dp' j) : dSinkE x k dp = dSinkE x k dp' := by
  unfold dSinkE; rw [dDen_congr h]
theorem dShf_congr (h : ∀ j, x j = ⊥ ∨ dp j = dp' j) : dShf x k dp = dShf x k dp' := by
  unfold dShf; rw [dSinkE_congr h]; simp only [dExp_congr h]
theorem dS_congr (h : ∀ j, x j = ⊥ ∨ dp j = dp' j) : dS b x k dp = dS b x k dp' := by
  funext j; unfold dS; rw [dExp_congr h, dShf_congr h]
theorem dS_hidden {j : Fin 256} (h : b j = 0#1) : dS b x k dp j = 0 := by
  unfold dS; rw [h]; rfl

end Att
-- ==== Proof.Same.lean ====
module
public import proofs.«01_k».proof.Proof.SinkPoint
public import proofs.«01_k».proof.Proof.RefBand
public import proofs.«01_k».proof.Proof.RowReal
@[expose] public section
set_option maxRecDepth 16384
noncomputable section

/-! The blocks of the kernel and the bands of the reference hold the same rows. -/
namespace Att
open Idealize.ShloMosaic Idealize.ShloMosaic.TcCoe Idealize.SL.Sem
open Cert
open Cert.KernelIdeal.Att (In inAt qr kk vv mb xr sk dpr ds dqT dqU dsk)
open Cert.ReferenceIdeal.Att (row rq rk rv band rb rx rs rd rdp)

/-- The kernel's arrays hold what the reference's do. -/
structure Agree (X : FVec Ideal KernelIdeal.S4096x6144 .f32) (C S : FVec Ideal KernelIdeal.S4096x64 .f32)
    (K : FVec Ideal KernelIdeal.S8x4x1x1 .f32) (D : FVec Ideal KernelIdeal.S4096x4096 .bf16)
    (V : Valuation ReferenceIdeal.τ ReferenceIdeal.sig (Elt Ideal)) : Prop where
  x : ∀ (r : Fin 4096) (u : Fin 6144), X (ix2 r u) = ReferenceIdeal.Att.X V (ix2 r u)
  c : ∀ (r : Fin 4096) (d : Fin 64), C (ix2 r d) = ReferenceIdeal.Att.C V (ix2 r d)
  s : ∀ (r : Fin 4096) (d : Fin 64), S (ix2 r d) = ReferenceIdeal.Att.S V (ix2 r d)
  k : ∀ (h : Fin 8) (g : Fin 4), K (ix4 h g 0 0) = ReferenceIdeal.Att.K V (ix2 0 ⟨h.val * 4 + g.val, by omega⟩)
  d : ∀ (r u : Fin 4096), D (ix2 r u) = ReferenceIdeal.Att.D V (ix2 r u)

/-- The cotangent of the scores of a row. -/
def rds (V : Valuation ReferenceIdeal.τ ReferenceIdeal.sig (Elt Ideal)) (n : Fin 32) (h : Fin 8) (g : Fin 4) (q : Fin 128) (j : Fin 256) : EReal :=
  dS (rb n q) (rx V n h g q) (rs V h g) (rdp V n h g q) j
/-- The cotangent of the turned keys of a block's band. -/
def rT (V : Valuation ReferenceIdeal.τ ReferenceIdeal.sig (Elt Ideal)) (n : Fin 32) (j : Fin 256) (h : Fin 8) (d : Fin 128) : EReal :=
  ∑ g : Fin 4, ∑ q : Fin 128, rds V n h g q j * rq V n q h g d
/-- The cotangent of the values of a block's band. -/
def rP (V : Valuation ReferenceIdeal.τ ReferenceIdeal.sig (Elt Ideal)) (n : Fin 32) (j : Fin 256) (h : Fin 8) (d : Fin 128) : EReal :=
  ∑ g : Fin 4, ∑ q : Fin 128, rd V n q h g d * prob (rx V n h g q) (rs V h g) j
/-- The cotangent of the turned query of a row. -/
def rQ (V : Valuation ReferenceIdeal.τ ReferenceIdeal.sig (Elt Ideal)) (n : Fin 32) (q : Fin 128) (h : Fin 8) (g : Fin 4) (d : Fin 128) : EReal :=
  ∑ j : Fin 256, rds V n h g q j * band (rk V) n j h d

/-! ## The mask -/
theorem rb_third : ∀ (n : Fin 32) (j : Fin 256), IntOp.cmpi CmpIPredicate.sge
    (IntOp.subi (IntOp.addi (IntOp.muli (BitVec.ofNat 32 n.val) 128#32) (BitVec.ofNat 32 j.val)) 128#32) 0#32
    = if n.val = 0 ∧ j.val < 128 then 0#1 else 1#1 := by decide +kernel
theorem and_zero (a : BitVec 1) : IntOp.andi a 0#1 = 0#1 := by revert a; decide
theorem rb_first (n : Fin 32) (q : Fin 128) (j : Fin 256) (hn : n.val = 0) (hj : j.val < 128) : rb n q j = 0#1 := by
  rw [rb, rb_third, if_pos ⟨hn, hj⟩, and_zero]
theorem rb_self (n : Fin 32) (q : Fin 128) : rb n q ⟨128 + q.val, by omega⟩ = 1#1 := by
  rw [rb, rb_third, if_neg (by dsimp; omega)]
  revert q; decide +kernel
theorem sel_zero (a b : EReal) : Scalar.select 0#1 a b = b := rfl
theorem mb_third : ∀ (f : Bool) (j : Fin 256), IntOp.ori (IntOp.cmpi CmpIPredicate.sge (BitVec.ofNat 32 j.val) 128#32)
    (Scalar.xori (if f then 1#1 else 0#1) 1#1) = if f ∧ j.val < 128 then 0#1 else 1#1 := by decide +kernel

section
variable {X : FVec Ideal KernelIdeal.S4096x6144 .f32} {C S : FVec Ideal KernelIdeal.S4096x64 .f32}
  {K : FVec Ideal KernelIdeal.S8x4x1x1 .f32} {D : FVec Ideal KernelIdeal.S4096x4096 .bf16}
  {V : Valuation ReferenceIdeal.τ ReferenceIdeal.sig (Elt Ideal)}

theorem mb_eq (h : Fin 8) (n : Fin 32) (q : Fin 128) (j : Fin 256) : mb (inAt X C S K D h n) q j = rb n q j := by
  unfold mb
  rw [KernelIdeal.Att.v59]
  pointwise [KernelIdeal.Gen.k0_pay15]
  have hm := mb_third (decide (n.val = 0)) j
  simp only [decide_eq_true_eq] at hm
  rw [rb, rb_third, show (inAt X C S K D h n).first = if n.val = 0 then 1#1 else 0#1 from rfl, hm]

variable (A : Agree X C S K D V) (h : Fin 8) (n : Fin 32)
include A

theorem cc_eq (q : Fin 128) (d : Fin 64) : (inAt X C S K D h n).cc (ix2 q d) = ReferenceIdeal.Att.C V (ix2 (row n q) d) :=
  (A.c _ d).trans (congrArg (fun r => ReferenceIdeal.Att.C V (ix2 r d)) (Fin.ext (by show 128 * n.val + q.val = n.val * 128 + q.val; omega)))
theorem sc_eq (q : Fin 128) (d : Fin 64) : (inAt X C S K D h n).sc (ix2 q d) = ReferenceIdeal.Att.S V (ix2 (row n q) d) :=
  (A.s _ d).trans (congrArg (fun r => ReferenceIdeal.Att.S V (ix2 r d)) (Fin.ext (by show 128 * n.val + q.val = n.val * 128 + q.val; omega)))
theorem cp_eq (q : Fin 128) (d : Fin 64) : (inAt X C S K D h n).cp (ix2 q d) = ReferenceIdeal.Att.C V (ix2 (row ⟨n.val - 1, by omega⟩ q) d) :=
  (A.c _ d).trans (congrArg (fun r => ReferenceIdeal.Att.C V (ix2 r d)) (Fin.ext (by show 128 * (n.val - 1) + q.val = (n.val - 1) * 128 + q.val; omega)))
theorem sp_eq (q : Fin 128) (d : Fin 64) : (inAt X C S K D h n).sp (ix2 q d) = ReferenceIdeal.Att.S V (ix2 (row ⟨n.val - 1, by omega⟩ q) d) :=
  (A.s _ d).trans (congrArg (fun r => ReferenceIdeal.Att.S V (ix2 r d)) (Fin.ext (by show 128 * (n.val - 1) + q.val = (n.val - 1) * 128 + q.val; omega)))
theorem q_eq (g : Fin 4) (q d : Fin 128) : (inAt X C S K D h n).q (ix2 q ⟨128 * g.val + d.val, by omega⟩) =
    ReferenceIdeal.Att.X V (ix2 (row n q) ⟨(h.val * 4 + g.val) * 128 + d.val, by omega⟩) :=
  (A.x _ _).trans (congrArg₂ (fun r u => ReferenceIdeal.Att.X V (ix2 r u)) (Fin.ext (by show 128 * n.val + q.val = n.val * 128 + q.val; omega))
    (Fin.ext (by show 512 * h.val + (128 * g.val + d.val) = (h.val * 4 + g.val) * 128 + d.val; omega)))
theorem kc_eq (q d : Fin 128) : (inAt X C S K D h n).kc (ix2 q d) =
    ReferenceIdeal.Att.X V (ix2 (row n q) ⟨4096 + (h.val * 128 + d.val), by omega⟩) :=
  (A.x _ _).trans (congrArg₂ (fun r u => ReferenceIdeal.Att.X V (ix2 r u)) (Fin.ext (by show 128 * n.val + q.val = n.val * 128 + q.val; omega))
    (Fin.ext (by show 4096 + 128 * h.val + d.val = 4096 + (h.val * 128 + d.val); omega)))
theorem kp_eq (q d : Fin 128) : (inAt X C S K D h n).kp (ix2 q d) =
    ReferenceIdeal.Att.X V (ix2 (row ⟨n.val - 1, by omega⟩ q) ⟨4096 + (h.val * 128 + d.val), by omega⟩) :=
  (A.x _ _).trans (congrArg₂ (fun r u => ReferenceIdeal.Att.X V (ix2 r u)) (Fin.ext (by show 128 * (n.val - 1) + q.val = (n.val - 1) * 128 + q.val; omega))
    (Fin.ext (by show 4096 + 128 * h.val + d.val = 4096 + (h.val * 128 + d.val); omega)))
theorem vc_eq (q d : Fin 128) : (inAt X C S K D h n).vc (ix2 q d) = rv V n q h d :=
  (A.x _ _).trans (congrArg₂ (fun r u => ReferenceIdeal.Att.X V (ix2 r u)) (Fin.ext (by show 128 * n.val + q.val = n.val * 128 + q.val; omega))
    (Fin.ext (by show 5120 + 128 * h.val + d.val = 5120 + (h.val * 128 + d.val); omega)))
theorem vp_eq (q d : Fin 128) : (inAt X C S K D h n).vp (ix2 q d) = rv V ⟨n.val - 1, by omega⟩ q h d :=
  (A.x _ _).trans (congrArg₂ (fun r u => ReferenceIdeal.Att.X V (ix2 r u)) (Fin.ext (by show 128 * (n.val - 1) + q.val = (n.val - 1) * 128 + q.val; omega))
    (Fin.ext (by show 5120 + 128 * h.val + d.val = 5120 + (h.val * 128 + d.val); omega)))
theorem d_eq (g : Fin 4) (q d : Fin 128) : (inAt X C S K D h n).d (ix2 q ⟨128 * g.val + d.val, by omega⟩) = rd V n q h g d :=
  (A.d _ _).trans (congrArg₂ (fun r u => ReferenceIdeal.Att.D V (ix2 r u)) (Fin.ext (by show 128 * n.val + q.val = n.val * 128 + q.val; omega))
    (Fin.ext (by show 512 * h.val + (128 * g.val + d.val) = h.val * 512 + g.val * 128 + d.val; omega)))
theorem sk_eq (g : Fin 4) : sk (inAt X C S K D h n) g = rs V h g := A.k h g

theorem qr_eq (g : Fin 4) (q : Fin 128) : qr (inAt X C S K D h n) g q = rq V n q h g := by
  unfold qr rq
  simp only [cc_eq A, sc_eq A, q_eq A]
/-- The band's turned keys agree where there is a block before. -/
theorem kk_eq (j : Fin 256) (hj : ¬(n.val = 0 ∧ j.val < 128)) : kk (inAt X C S K D h n) j = band (rk V) n j h := by
  funext d
  unfold kk band
  by_cases h1 : j.val < 128
  · rw [dif_pos h1, dif_pos h1, dif_neg (by omega)]; unfold rk
    simp only [cp_eq A, sp_eq A, kp_eq A]
  · rw [dif_neg h1, dif_neg h1]; unfold rk
    simp only [cc_eq A, sc_eq A, kc_eq A]
theorem vv_eq (j : Fin 256) (hj : ¬(n.val = 0 ∧ j.val < 128)) : vv (inAt X C S K D h n) j = band (rv V) n j h := by
  funext d
  unfold vv band
  by_cases h1 : j.val < 128
  · rw [dif_pos h1, dif_pos h1, dif_neg (by omega)]; exact vp_eq A h n _ d
  · rw [dif_neg h1, dif_neg h1]; exact vc_eq A h n _ d
theorem mb_row (q : Fin 128) : mb (inAt X C S K D h n) q = rb n q := funext fun j => mb_eq h n q j
theorem xr_eq (g : Fin 4) (q : Fin 128) : xr (inAt X C S K D h n) g q = rx V n h g q := by
  funext j
  unfold xr rx
  rw [mb_eq]
  by_cases hj : n.val = 0 ∧ j.val < 128
  · rw [rb_first n q j hj.1 hj.2, sel_zero, sel_zero]
  · rw [kk_eq A h n j hj, qr_eq A]; simp only [mul_comm]
theorem dp_eq (g : Fin 4) (q : Fin 128) (j : Fin 256) : rx V n h g q j = ⊥ ∨ dpr (inAt X C S K D h n) g q j = rdp V n h g q j := by
  by_cases hj : n.val = 0 ∧ j.val < 128
  · left; unfold rx; rw [rb_first n q j hj.1 hj.2, sel_zero]
  · right; unfold dpr rdp; rw [vv_eq A h n j hj]; simp only [d_eq A]
theorem ds_eq (g : Fin 4) (q : Fin 128) (j : Fin 256) : ds (inAt X C S K D h n) g q j = rds V n h g q j := by
  unfold ds rds
  rw [mb_row A, xr_eq A, sk_eq A, dS_congr (dp_eq A h n g q)]
theorem dqT_eq (g : Fin 4) (q : Fin 128) : dqT (inAt X C S K D h n) g q = rQ V n q h g := by
  funext d
  unfold dqT rQ
  refine Finset.sum_congr rfl fun j _ => ?_
  rw [ds_eq A]
  by_cases hj : n.val = 0 ∧ j.val < 128
  · rw [rds, dS_hidden (rb_first n q j hj.1 hj.2), zero_mul, zero_mul]
  · rw [kk_eq A h n j hj]
theorem dqU_eq (g : Fin 4) (q : Fin 128) : dqU (inAt X C S K D h n) g q =
    unrope (fun d => ReferenceIdeal.Att.C V (ix2 (row n q) d)) (fun d => ReferenceIdeal.Att.S V (ix2 (row n q) d)) (rQ V n q h g) := by
  unfold dqU
  rw [dqT_eq A]; simp only [cc_eq A, sc_eq A]
theorem v516_eq (j : Fin 256) (d : Fin 128) : KernelIdeal.Att.v516 (inAt X C S K D h n) (ix2 j d) = rP V n j h d := by
  rw [KernelIdeal.Att.v516_at]
  unfold rP
  rw [Fin.sum_univ_four]
  simp only [← d_eq A, ← xr_eq A, ← sk_eq A h n]
  simp only [Fin.val_zero, Fin.val_one, Fin.val_two, show ((3 : Fin 4) : ℕ) = 3 from rfl]
  ac_rfl
theorem v586_eq (j : Fin 256) (d : Fin 128) : KernelIdeal.Att.v586 (inAt X C S K D h n) (ix2 j d) = rT V n j h d := by
  rw [KernelIdeal.Att.v586_at]
  unfold rT
  rw [Fin.sum_univ_four]
  simp only [ds_eq A, qr_eq A]
  ac_rfl
theorem v603_eq (q d : Fin 128) : KernelIdeal.Att.v603 (inAt X C S K D h n) (ix2 q d) =
    unrope (fun d => ReferenceIdeal.Att.C V (ix2 (row n q) d)) (fun d => ReferenceIdeal.Att.S V (ix2 (row n q) d)) (rT V n ⟨128 + q.val, by omega⟩ h) d := by
  rw [KernelIdeal.Att.v603_at]
  simp only [v586_eq A, cc_eq A, sc_eq A]
theorem v618_eq (q d : Fin 128) : KernelIdeal.Att.v618 (inAt X C S K D h n) (ix2 q d) =
    unrope (fun d => ReferenceIdeal.Att.C V (ix2 (row ⟨n.val - 1, by omega⟩ q) d)) (fun d => ReferenceIdeal.Att.S V (ix2 (row ⟨n.val - 1, by omega⟩ q) d))
      (rT V n ⟨q.val, by omega⟩ h) d := by
  rw [KernelIdeal.Att.v618_at]
  simp only [v586_eq A, cp_eq A, sp_eq A]
theorem dsk_row (g : Fin 4) : dsk (inAt X C S K D h n) g =
    (∑ q, dSinkE (rx V n h g q) (rs V h g) (rdp V n h g q)) + ∑ q, dShf (rx V n h g q) (rs V h g) (rdp V n h g q) * wSink (rx V n h g q) (rs V h g) := by
  unfold dsk
  simp only [xr_eq A, sk_eq A, dSinkE_congr (dp_eq A h n g _), dShf_congr (dp_eq A h n g _)]
end
end Att
-- ==== Proof.Real.lean ====
module
public import proofs.«01_k».proof.Proof.Same
@[expose] public section
set_option maxRecDepth 16384
noncomputable section

/-! On real arguments the cotangent of the turned keys is real. -/
namespace Att
open Idealize.ShloMosaic Idealize.ShloMosaic.TcCoe Idealize.SL.Sem
open Cert
open Cert.ReferenceIdeal.Att (row rq rk rv band rb rx rs rd rdp)

/-- The arguments and the tables are real. -/
structure RealArgs (V : Valuation ReferenceIdeal.τ ReferenceIdeal.sig (Elt Ideal)) : Prop where
  x : ∀ (r : Fin 4096) (u : Fin 6144), R (ReferenceIdeal.Att.X V (ix2 r u))
  k : ∀ (u : Fin 32), R (ReferenceIdeal.Att.K V (ix2 0 u))
  d : ∀ (r u : Fin 4096), R (ReferenceIdeal.Att.D V (ix2 r u))
  c : ∀ (r : Fin 4096) (d : Fin 64), R (ReferenceIdeal.Att.C V (ix2 r d))
  s : ∀ (r : Fin 4096) (d : Fin 64), R (ReferenceIdeal.Att.S V (ix2 r d))

variable {V : Valuation ReferenceIdeal.τ ReferenceIdeal.sig (Elt Ideal)} (A : RealArgs V)
include A

theorem R.rq (n : Fin 32) (q : Fin 128) (h : Fin 8) (g : Fin 4) (d : Fin 128) : R (rq V n q h g d) :=
  R.rope (fun _ => A.c _ _) (fun _ => A.s _ _) (fun _ => A.x _ _) d
theorem R.rk (n : Fin 32) (q : Fin 128) (h : Fin 8) (d : Fin 128) : R (rk V n q h d) :=
  R.rope (fun _ => A.c _ _) (fun _ => A.s _ _) (fun _ => A.x _ _) d
omit A in
theorem R.band {f : Fin 32 → Fin 128 → Fin 8 → Fin 128 → EReal} (hf : ∀ n q h d, R (f n q h d)) (n : Fin 32) (j : Fin 256) (h : Fin 8) (d : Fin 128) :
    R (band f n j h d) := by
  unfold Cert.ReferenceIdeal.Att.band
  split
  · split
    · exact R.zero
    · exact hf _ _ _ _
  · exact hf _ _ _ _
omit A in
theorem R.sel {b : BitVec 1} {x y : EReal} (hx : R x) (hy : R y) : R (Scalar.select b x y) := by
  unfold Scalar.select; split <;> assumption
theorem R.raw (n : Fin 32) (h : Fin 8) (g : Fin 4) (q : Fin 128) (j : Fin 256) :
    R ((∑ d, Cert.ReferenceIdeal.Att.band (Cert.ReferenceIdeal.Att.rk V) n j h d * Cert.ReferenceIdeal.Att.rq V n q h g d) * Att.scale) :=
  (R.sum _ fun d => (R.band (R.rk A) n j h d).mul (R.rq A n q h g d)).mul R.scale
omit A in
theorem sel_one (a b : EReal) : Scalar.select 1#1 a b = a := rfl
theorem good (n : Fin 32) (h : Fin 8) (g : Fin 4) (q : Fin 128) : Good (rx V n h g q) (rs V h g) where
  score j := by
    rcases (by revert j; intro j; generalize Cert.ReferenceIdeal.Att.rb n q j = b; revert b; decide :
      Cert.ReferenceIdeal.Att.rb n q j = 0#1 ∨ Cert.ReferenceIdeal.Att.rb n q j = 1#1) with hb | hb
    · right; unfold rx; rw [hb, sel_zero]
    · left; unfold rx; rw [hb, sel_one]; exact R.raw A n h g q j
  some := ⟨⟨128 + q.val, by omega⟩, by unfold rx; rw [rb_self, sel_one]; exact R.raw A n h g q _⟩
  sink := A.k _
theorem R.rdp (n : Fin 32) (h : Fin 8) (g : Fin 4) (q : Fin 128) (j : Fin 256) : R (rdp V n h g q j) :=
  R.sum _ fun d => (A.d _ _).mul (R.band (fun _ _ _ _ => A.x _ _) n j h d)
theorem R.rT (n : Fin 32) (j : Fin 256) (h : Fin 8) (d : Fin 128) : R (rT V n j h d) :=
  R.sum _ fun g => R.sum _ fun q => ((good A n h g q).dS (R.rdp A n h g q) _ j).mul (R.rq A n q h g d)
end Att
-- ==== Proof.BlkIn.lean ====
module
public import proofs.«01_k».proof.Proof.SinkPoint
@[expose] public section
set_option maxRecDepth 16384
noncomputable section

/-! The blocks of a grid point of the first region are blocks of the whole arrays. -/
namespace Cert.KernelIdeal.Att
open Idealize.ShloMosaic Idealize.ShloMosaic.TcCoe Idealize.SL.Sem
open Cert.KernelIdeal Cert.KernelIdeal.Gen _root_.Att

/-- The key head and the block of a grid point. -/
def hd (t : Fin cfg0.N) : Fin 8 := ⟨t.val / 32, by have h := t.isLt; have : cfg0.N = 256 := N_0; omega⟩
def bl (t : Fin cfg0.N) : Fin 32 := ⟨t.val % 32, Nat.mod_lt _ (by decide)⟩

/-- The block of every window at every grid point. -/
theorem idx : ∀ t : Fin cfg0.N, win0_0.index t = ![t.val % 32, t.val / 32] ∧ win0_1.index t = ![t.val % 32, 32 + t.val / 32] ∧
    win0_2.index t = ![t.val % 32 - 1, 32 + t.val / 32] ∧ win0_3.index t = ![t.val % 32, 40 + t.val / 32] ∧
    win0_4.index t = ![t.val % 32 - 1, 40 + t.val / 32] ∧ win0_5.index t = ![t.val / 32, 0, 0, 0] ∧
    win0_6.index t = ![t.val % 32, 0] ∧ win0_7.index t = ![t.val % 32, 0] ∧ win0_8.index t = ![t.val % 32 - 1, 0] ∧
    win0_9.index t = ![t.val % 32 - 1, 0] ∧ win0_10.index t = ![t.val % 32, t.val / 32] :=
  (by decide +kernel : ∀ t : Fin grid0.N, _)
/-- The block of every output window at every grid point. -/
theorem odx : ∀ t : Fin cfg0.N, win0_11.index t = ![t.val % 32, t.val / 32] ∧ win0_12.index t = ![t.val % 32, t.val / 32] ∧
    win0_13.index t = ![t.val % 32, t.val / 32] ∧ win0_14.index t = ![t.val % 32, t.val / 32] ∧
    win0_15.index t = ![t.val % 32, t.val / 32] ∧ win0_16.index t = ![t.val / 32, 0, 0, 0] :=
  (by decide +kernel : ∀ t : Fin grid0.N, _)
theorem first_eq : ∀ t : Fin grid0.N, Scalar.cmpi CmpIPredicate.eq (BitVec.ofNat 32 ↑(grid0.coords t 1)) 0#32 =
    (if t.val % 32 = 0 then 1#1 else 0#1) := by decide +kernel

@[simp] theorem hd_val (t : Fin cfg0.N) : (hd t).val = t.val / 32 := rfl
@[simp] theorem bl_val (t : Fin cfg0.N) : (bl t).val = t.val % 32 := rfl

variable (V : (c : Dev nD) → (b : Ref sig .tc) → Buf (Elt Ideal) ((c : Thread nD τ).loc b)) (c : Dev nD)

/-- The whole arrays' blocks at a grid point. -/
abbrev ptIn (t : Fin cfg0.N) : In := inAt (V c main_arg0) (V c main_v16) (V c main_v17) (V c main_v18) (V c main_arg2) (hd t) (bl t)
theorem in_q (t : Fin cfg0.N) : (blkIn V c t).q = (ptIn V c t).q := by
  funext i
  show iblk0 V c 0 t i = _
  dsimp only [inAt]
  blk_ext [iblk0, idx t, hd_val, bl_val]
  all_goals (try simp only [hd_val, bl_val]; omega)
theorem in_kc (t : Fin cfg0.N) : (blkIn V c t).kc = (ptIn V c t).kc := by
  funext i
  show iblk0 V c 1 t i = _
  dsimp only [inAt]
  blk_ext [iblk0, idx t, hd_val, bl_val]
  all_goals (try simp only [hd_val, bl_val]; omega)
theorem in_kp (t : Fin cfg0.N) : (blkIn V c t).kp = (ptIn V c t).kp := by
  funext i
  show iblk0 V c 2 t i = _
  dsimp only [inAt]
  blk_ext [iblk0, idx t, hd_val, bl_val]
  all_goals (try simp only [hd_val, bl_val]; omega)
theorem in_vc (t : Fin cfg0.N) : (blkIn V c t).vc = (ptIn V c t).vc := by
  funext i
  show iblk0 V c 3 t i = _
  dsimp only [inAt]
  blk_ext [iblk0, idx t, hd_val, bl_val]
  all_goals (try simp only [hd_val, bl_val]; omega)
theorem in_vp (t : Fin cfg0.N) : (blkIn V c t).vp = (ptIn V c t).vp := by
  funext i
  show iblk0 V c 4 t i = _
  dsimp only [inAt]
  blk_ext [iblk0, idx t, hd_val, bl_val]
  all_goals (try simp only [hd_val, bl_val]; omega)
theorem in_cc (t : Fin cfg0.N) : (blkIn V c t).cc = (ptIn V c t).cc := by
  funext i
  show iblk0 V c 6 t i = _
  dsimp only [inAt]
  blk_ext [iblk0, idx t, hd_val, bl_val]
  all_goals (try simp only [hd_val, bl_val]; omega)
theorem in_sc (t : Fin cfg0.N) : (blkIn V c t).sc = (ptIn V c t).sc := by
  funext i
  show iblk0 V c 7 t i = _
  dsimp only [inAt]
  blk_ext [iblk0, idx t, hd_val, bl_val]
  all_goals (try simp only [hd_val, bl_val]; omega)
theorem in_cp (t : Fin cfg0.N) : (blkIn V c t).cp = (ptIn V c t).cp := by
  funext i
  show iblk0 V c 8 t i = _
  dsimp only [inAt]
  blk_ext [iblk0, idx t, hd_val, bl_val]
  all_goals (try simp only [hd_val, bl_val]; omega)
theorem in_sp (t : Fin cfg0.N) : (blkIn V c t).sp = (ptIn V c t).sp := by
  funext i
  show iblk0 V c 9 t i = _
  dsimp only [inAt]
  blk_ext [iblk0, idx t, hd_val, bl_val]
  all_goals (try simp only [hd_val, bl_val]; omega)
theorem in_d (t : Fin cfg0.N) : (blkIn V c t).d = (ptIn V c t).d := by
  funext i
  show iblk0 V c 10 t i = _
  dsimp only [inAt]
  blk_ext [iblk0, idx t, hd_val, bl_val]
  all_goals (try simp only [hd_val, bl_val]; omega)

theorem in_sk (t : Fin cfg0.N) (g : Fin 4) : (blkIn V c t).sk g = (ptIn V c t).sk g := by
  funext i
  obtain rfl : i = ix4 0 0 0 0 := by
    obtain ⟨a, b, c, d, rfl⟩ : ∃ (a : Fin 1) (b : Fin 1) (c : Fin 1) (d : Fin 1), i = ix4 a b c d := ⟨i 0, i 1, i 2, i 3, by idx_vars i⟩
    rw [Subsingleton.elim a 0, Subsingleton.elim b 0, Subsingleton.elim c 0, Subsingleton.elim d 0]
  match g with
  | 0 =>
    show iblk0 V c 5 t (c0.emb (ix4 0 0 0 0)) = V c main_v18 (ix4 (hd t) 0 0 0)
    rw [← emb0]; blk_ext [iblk0, idx t, hd_val, bl_val]
  | 1 =>
    show iblk0 V c 5 t (c1.emb (ix4 0 0 0 0)) = V c main_v18 (ix4 (hd t) 1 0 0)
    rw [← emb1]; blk_ext [iblk0, idx t, hd_val, bl_val]
  | 2 =>
    show iblk0 V c 5 t (c2.emb (ix4 0 0 0 0)) = V c main_v18 (ix4 (hd t) 2 0 0)
    rw [← emb2]; blk_ext [iblk0, idx t, hd_val, bl_val]
  | 3 =>
    show iblk0 V c 5 t (c3.emb (ix4 0 0 0 0)) = V c main_v18 (ix4 (hd t) 3 0 0)
    rw [← emb3]; blk_ext [iblk0, idx t, hd_val, bl_val]
theorem in_first (t : Fin cfg0.N) : (blkIn V c t).first = (ptIn V c t).first := first_eq t

/-- The blocks of a grid point are those of the whole arrays. -/
theorem blkIn_eq (t : Fin cfg0.N) : blkIn V c t = ptIn V c t := by
  show In.mk (blkIn V c t).q (blkIn V c t).kc (blkIn V c t).kp (blkIn V c t).vc (blkIn V c t).vp (blkIn V c t).sk (blkIn V c t).cc (blkIn V c t).sc
    (blkIn V c t).cp (blkIn V c t).sp (blkIn V c t).d (blkIn V c t).first = _
  rw [in_q, in_kc, in_kp, in_vc, in_vp, in_cc, in_sc, in_cp, in_sp, in_d, in_first, show (blkIn V c t).sk = (ptIn V c t).sk from funext (in_sk V c t)]

end Cert.KernelIdeal.Att
-- ==== Proof.Arr0.lean ====
module
public import proofs.«01_k».proof.Proof.BlkIn
public import proofs.«01_k».proof.Proof.SinkPoint
@[expose] public section
set_option maxRecDepth 16384
noncomputable section

/-! The arrays the first region leaves. -/
namespace Cert.KernelIdeal.Att
open Idealize.ShloMosaic Idealize.ShloMosaic.TcCoe Idealize.SL.Sem
open Cert.KernelIdeal Cert.KernelIdeal.Gen _root_.Att

/-- An array of 128 × 512 tiles, one for each key head and block. -/
def tileQ (f : Fin 8 → Fin 32 → FVec Ideal S128x512 .f32) : FVec Ideal S4096x4096 .f32 := fun y =>
  f ⟨(y 1).val / 512, by idx_vars y; dsimp; omega⟩ ⟨(y 0).val / 128, by idx_vars y; dsimp; omega⟩
    (ix2 ⟨(y 0).val % 128, by omega⟩ ⟨(y 1).val % 512, by omega⟩)
/-- An array of 128 × 128 tiles, one for each key head and block. -/
def tileK (f : Fin 8 → Fin 32 → FVec Ideal S128x128 .f32) : FVec Ideal S4096x1024 .f32 := fun y =>
  f ⟨(y 1).val / 128, by idx_vars y; dsimp; omega⟩ ⟨(y 0).val / 128, by idx_vars y; dsimp; omega⟩
    (ix2 ⟨(y 0).val % 128, by omega⟩ ⟨(y 1).val % 128, by omega⟩)

theorem tileQ_at (f : Fin 8 → Fin 32 → FVec Ideal S128x512 .f32) (h : Fin 8) (n : Fin 32) (i : S128x512.Idx) (y : S4096x4096.Idx)
    (h0 : (y 0).val = n.val * 128 + (i 0).val) (h1 : (y 1).val = h.val * 512 + (i 1).val) : tileQ f y = f h n i := by
  obtain ⟨q, g, rfl⟩ : ∃ (q : Fin 128) (g : Fin 512), i = ix2 q g := ⟨i 0, i 1, by idx_vars i⟩
  dsimp at h0 h1
  unfold tileQ
  have hn := n.isLt; have hq := q.isLt; have hg := g.isLt
  rw [show (⟨(y 1).val / 512, _⟩ : Fin 8) = h from Fin.ext (by dsimp; omega), show (⟨(y 0).val / 128, _⟩ : Fin 32) = n from Fin.ext (by dsimp; omega),
    show (⟨(y 0).val % 128, _⟩ : Fin 128) = q from Fin.ext (by dsimp; omega), show (⟨(y 1).val % 512, _⟩ : Fin 512) = g from Fin.ext (by dsimp; omega)]
theorem tileK_at (f : Fin 8 → Fin 32 → FVec Ideal S128x128 .f32) (h : Fin 8) (n : Fin 32) (i : S128x128.Idx) (y : S4096x1024.Idx)
    (h0 : (y 0).val = n.val * 128 + (i 0).val) (h1 : (y 1).val = h.val * 128 + (i 1).val) : tileK f y = f h n i := by
  obtain ⟨q, g, rfl⟩ : ∃ (q : Fin 128) (g : Fin 128), i = ix2 q g := ⟨i 0, i 1, by idx_vars i⟩
  dsimp at h0 h1
  unfold tileK
  have hn := n.isLt; have hq := q.isLt; have hg := g.isLt
  rw [show (⟨(y 1).val / 128, _⟩ : Fin 8) = h from Fin.ext (by dsimp; omega), show (⟨(y 0).val / 128, _⟩ : Fin 32) = n from Fin.ext (by dsimp; omega),
    show (⟨(y 0).val % 128, _⟩ : Fin 128) = q from Fin.ext (by dsimp; omega), show (⟨(y 1).val % 128, _⟩ : Fin 128) = g from Fin.ext (by dsimp; omega)]

variable (V : (c : Dev nD) → (b : Ref sig .tc) → Buf (Elt Ideal) ((c : Thread nD τ).loc b)) (c : Dev nD)

/-- The blocks of key head `h` and block `n`. -/
abbrev vIn (h : Fin 8) (n : Fin 32) : In := inAt (V c main_arg0) (V c main_v16) (V c main_v17) (V c main_v18) (V c main_arg2) h n

theorem arr0_11 : (dat0 V c).arrAt 11 cfg0.N = tileQ fun h n => v582 (vIn V c h n) := by
  refine (dat0 V c).arrAt_eq_of_covers 11 _ (by decide +kernel) fun t hf y => ?_
  blk_simp
  rw [after0_11, out11, blkIn_eq]
  refine (tileQ_at (fun h n => v582 (vIn V c h n)) (hd t) (bl t) y _ ?_ ?_).symm <;> blk_simp [odx t, bl_val, hd_val]
theorem arr0_12 : (dat0 V c).arrAt 12 cfg0.N = tileK fun h n => v603 (vIn V c h n) := by
  refine (dat0 V c).arrAt_eq_of_covers 12 _ (by decide +kernel) fun t hf y => ?_
  blk_simp
  rw [after0_12, out12, blkIn_eq]
  refine (tileK_at (fun h n => v603 (vIn V c h n)) (hd t) (bl t) y _ ?_ ?_).symm <;> blk_simp [odx t, bl_val, hd_val]
theorem arr0_13 : (dat0 V c).arrAt 13 cfg0.N = tileK fun h n => v618 (vIn V c h n) := by
  refine (dat0 V c).arrAt_eq_of_covers 13 _ (by decide +kernel) fun t hf y => ?_
  blk_simp
  rw [after0_13, out13, blkIn_eq]
  refine (tileK_at (fun h n => v618 (vIn V c h n)) (hd t) (bl t) y _ ?_ ?_).symm <;> blk_simp [odx t, bl_val, hd_val]
theorem arr0_14 : (dat0 V c).arrAt 14 cfg0.N = tileK fun h n => v585 (vIn V c h n) := by
  refine (dat0 V c).arrAt_eq_of_covers 14 _ (by decide +kernel) fun t hf y => ?_
  blk_simp
  rw [after0_14, out14, blkIn_eq]
  refine (tileK_at (fun h n => v585 (vIn V c h n)) (hd t) (bl t) y _ ?_ ?_).symm <;> blk_simp [odx t, bl_val, hd_val]
theorem arr0_15 : (dat0 V c).arrAt 15 cfg0.N = tileK fun h n => v584 (vIn V c h n) := by
  refine (dat0 V c).arrAt_eq_of_covers 15 _ (by decide +kernel) fun t hf y => ?_
  blk_simp
  rw [after0_15, out15, blkIn_eq]
  refine (tileK_at (fun h n => v584 (vIn V c h n)) (hd t) (bl t) y _ ?_ ?_).symm <;> blk_simp [odx t, bl_val, hd_val]

/-- The cotangent of the sinks: of key head `h` and group head `g`, the blocks' parts added up. -/
def sinkSum (F : Fin 8 → Fin 32 → In) : FVec Ideal S8x4x1x1 .f32 := fun y => ∑ n : Fin 32, dsk (F (y 0) n) (y 1)

theorem arr0_16 : (dat0 V c).arrAt 16 cfg0.N = sinkSum (vIn V c) := by
  refine (dat0 V c).arrAt_eq_of_covers 16 _ (by decide +kernel) fun t hf y => ?_
  have hr := (flush0_16 t).mp hf
  obtain ⟨g, rfl⟩ : ∃ g : Fin 4, y = ix4 0 g 0 0 := by
    obtain ⟨a, b, c, d, rfl⟩ : ∃ (a : Fin 1) (b : Fin 4) (c : Fin 1) (d : Fin 1), y = ix4 a b c d := ⟨y 0, y 1, y 2, y 3, by idx_vars y⟩
    exact ⟨b, by rw [Subsingleton.elim a 0, Subsingleton.elim c 0, Subsingleton.elim d 0]⟩
  blk_simp
  rw [after0_16, Pipeline.eq_sum_fin_of_reset_step_apply_of_flush
    (fun n h (g : Fin 4) => ((outsAt0 V c n h).2.2.2.2.2 (ix4 0 g 0 0) : EReal)) 32 (fun _ => (0 : EReal)) (fun t g => dsk (blkIn V c t) g)
    (fun t h g => sink_first V c t h g) (fun t h g => sink_step V c t h g) t hr g, zero_add]
  unfold sinkSum
  refine Fin.sum_fin_congr fun s => ?_
  rw [blkIn_eq]
  have e0 : (win0_16.blk t).view.emb (ix4 0 g 0 0) 0 = hd t := Fin.ext (by blk_simp [odx t, hd_val]; exact Nat.add_zero _)
  have e1 : (win0_16.blk t).view.emb (ix4 0 g 0 0) 1 = g := Fin.ext (by blk_simp [odx t])
  have e2 : ∀ h, hd ⟨32 * (t.val / 32) + s.val, h⟩ = hd t := fun h => Fin.ext (by have := s.isLt; simp only [hd_val]; omega)
  have e3 : ∀ h, bl ⟨32 * (t.val / 32) + s.val, h⟩ = s := fun h => Fin.ext (by have := s.isLt; simp only [bl_val]; omega)
  refine Eq.trans ?_ (congrArg₂ (fun a b => dsk (vIn V c a s) b) e0 e1).symm
  unfold ptIn vIn
  rw [e2, e3]

end Cert.KernelIdeal.Att
-- ==== Proof.Arr1.lean ====
module
public import proofs.«01_k».proof.Proof.Gen.KernelIdeal.Frame
public import Idealize.ShloMosaic.Lib.Pipeline.ValueKit
@[expose] public section
set_option maxRecDepth 16384
noncomputable section

/-! The arrays the second region leaves: the cotangent of queries, keys and values side by side, and its sums over the rows. -/
namespace Cert.KernelIdeal.Att
open Idealize.ShloMosaic Idealize.ShloMosaic.TcCoe Idealize.SL.Sem
open Cert.KernelIdeal Cert.KernelIdeal.Gen

/-- The part of the current block plus the part found by the next block, when there is one. -/
def carry (a b : FVec Ideal S4096x1024 .f32) (r : Fin 4096) (j : Fin 1024) : EReal :=
  a (ix2 r j) + (if h : r.val < 3968 then b (ix2 ⟨r.val + 128, by omega⟩ j) else 0)

/-- The three cotangents side by side. -/
def joined (dq : FVec Ideal S4096x4096 .f32) (dkc dkp dvc dvp : FVec Ideal S4096x1024 .f32) (r : Fin 4096) (j : Fin 6144) : EReal :=
  if h : j.val < 4096 then dq (ix2 r ⟨j.val, h⟩)
  else if h' : j.val < 5120 then carry dkc dkp r ⟨j.val - 4096, by omega⟩
  else carry dvc dvp r ⟨j.val - 5120, by omega⟩

theorem idx1 : ∀ t : Fin cfg1.N, win1_0.index t = ![t.val, 0] ∧ win1_1.index t = ![t.val, 0] ∧ win1_2.index t = ![min (t.val + 1) 31, 0] ∧
    win1_3.index t = ![t.val, 0] ∧ win1_4.index t = ![min (t.val + 1) 31, 0] ∧ win1_5.index t = ![t.val, 0] ∧ win1_6.index t = ![0, 0] :=
  (by decide +kernel : ∀ t : Fin grid1.N, _)
theorem keep_eq : ∀ t : Fin cfg1.N, Scalar.cmpi CmpIPredicate.slt (BitVec.ofNat 32 ↑(grid1.coords t 0)) 31#32 = (if t.val < 31 then 1#1 else 0#1) :=
  (by decide +kernel : ∀ t : Fin grid1.N, _)

variable (V : (c : Dev nD) → (b : Ref sig .tc) → Buf (Elt Ideal) ((c : Thread nD τ).loc b)) (c : Dev nD)

/-- What a point of the second region puts side by side. -/
abbrev pt1 (t : Fin cfg1.N) : FVec Ideal S128x6144 .f32 :=
  k1_pay1 (F := Ideal) (grid1.coords t) (iblk1 V c 1 t) (iblk1 V c 2 t) (iblk1 V c 3 t) (iblk1 V c 4 t) (iblk1 V c 0 t)

/-- The array of the cotangents side by side. -/
abbrev allq : Fin 4096 → Fin 6144 → EReal := joined (V c main_v19_0) (V c main_v19_1) (V c main_v19_2) (V c main_v19_3) (V c main_v19_4)

theorem pt1_at (t : Fin cfg1.N) (q : Fin 128) (j : Fin 6144) (r : Fin 4096) (hr : r.val = t.val * 128 + q.val) : pt1 V c t (ix2 q j) = allq V c r j := by
  have hb : t.val * 128 + q.val < 4096 := by have h := t.isLt; have : cfg1.N = 32 := N_1; omega
  obtain rfl : r = ⟨t.val * 128 + q.val, hb⟩ := Fin.ext hr
  unfold pt1 allq joined carry
  pointwise [k1_pay1]
  rw [keep_eq]
  have hk (a b : EReal) : Scalar.select (if t.val < 31 then 1#1 else 0#1) a b = if t.val < 31 then a else b := by split <;> rfl
  by_cases h1 : j.val < 4096
  · simp only [dif_pos h1]; blk_ext [iblk1, idx1 t]
  · by_cases h2 : j.val < 5120
    · have h3 : j.val - 4096 < 1024 := by omega
      simp only [dif_neg h1, dif_pos h2, dif_pos h3]
      congr 1
      · blk_ext [iblk1, idx1 t]
      · by_cases ht : t.val < 31
        · rw [hk, if_pos ht, dif_pos (by omega)]; blk_ext [iblk1, idx1 t]
        · rw [hk, if_neg ht, dif_neg (by omega)]
    · have h3 : ¬j.val - 4096 < 1024 := by omega
      simp only [dif_neg h1, dif_neg h2, dif_neg h3]
      congr 1
      · blk_ext [iblk1, idx1 t]
      · by_cases ht : t.val < 31
        · rw [hk, if_pos ht, dif_pos (by omega)]; blk_ext [iblk1, idx1 t]
        · rw [hk, if_neg ht, dif_neg (by omega)]
theorem o5 (t : Fin cfg1.N) : (outsAt1 V c t.val t.isLt).1 = pt1 V c t := by
  by_cases h0 : t.val % 32 = 0
  · rw [outsAt1_A V c t h0]; frame_out; chain_rfl
  · rw [outsAt1_B V c t h0]; frame_out; chain_rfl
theorem o6A (t : Fin cfg1.N) (h0 : t.val % 32 = 0) (j : Fin 6144) : (outsAt1 V c t.val t.isLt).2 (ix2 0 j) = 0 + ∑ q : Fin 128, pt1 V c t (ix2 q j) := by
  rw [outsAt1_A V c t h0]; frame_out
  pointwise [k1_pay4, k1_pay3]
theorem o6B (t : Fin cfg1.N) (h0 : ¬t.val % 32 = 0) (j : Fin 6144) : (outsAt1 V c t.val t.isLt).2 (ix2 0 j) =
   (outsAt1 V c (t.val - 1) (Nat.lt_of_le_of_lt (Nat.sub_le _ _) t.isLt)).2 (ix2 0 j) + ∑ q : Fin 128, pt1 V c t (ix2 q j) := by
  rw [outsAt1_B V c t h0]; frame_out
  pointwise [k1_pay4, k1_pay3]
theorem arr1_5 : (dat1 V c).arrAt 5 cfg1.N = fun y : S4096x6144.Idx => allq V c (y 0) (y 1) := by
  refine (dat1 V c).arrAt_eq_of_covers 5 _ (by decide +kernel) fun t hf y => ?_
  obtain ⟨q, j, rfl⟩ : ∃ (q : Fin 128) (j : Fin 6144), y = ix2 q j := ⟨y 0, y 1, by idx_vars y⟩
  blk_simp
  rw [after1_5, o5]
  exact (pt1_at V c t q j _ (by blk_simp [idx1 t])).trans (congrArg (allq V c _) (Fin.ext (by blk_simp [idx1 t])))
theorem arr1_6 : (dat1 V c).arrAt 6 cfg1.N = fun y : S1x6144.Idx => ∑ r, allq V c r (y 1) := by
  refine (dat1 V c).arrAt_eq_of_covers 6 _ (by decide +kernel) fun t hf y => ?_
  have hr := (flush1_6 t).mp hf
  obtain ⟨j, rfl⟩ : ∃ j : Fin 6144, y = ix2 0 j := by
    obtain ⟨a, b, rfl⟩ : ∃ (a : Fin 1) (b : Fin 6144), y = ix2 a b := ⟨y 0, y 1, by idx_vars y⟩
    exact ⟨b, by rw [Subsingleton.elim a 0]⟩
  blk_simp
  rw [after1_6, Pipeline.eq_sum_fin_of_reset_step_apply_of_flush
    (fun n h (j : Fin 6144) => ((outsAt1 V c n h).2 (ix2 0 j) : EReal)) 32 (fun _ => (0 : EReal)) (fun t j => ∑ q : Fin 128, pt1 V c t (ix2 q j))
    (fun t h j => o6A V c t h j) (fun t h j => o6B V c t h j) t hr j, zero_add]
  refine Fin.sum_mul_add_congr fun s k hl => ?_
  have hN : cfg1.N = 32 := N_1
  exact (pt1_at V c _ k j ⟨s.val * 128 + k.val, hl⟩ (by have h := t.isLt; have hs := s.isLt; dsimp; omega)).trans (congrArg (allq V c _) (Fin.ext (by blk_simp [idx1 t])))
end Cert.KernelIdeal.Att
-- ==== Proof.Angle.lean ====
module
public import proofs.«01_k».proof.Proof.RowReal
@[expose] public section
noncomputable section

/-! The angle of a position at a frequency. -/
namespace Att
open Idealize.ShloMosaic Idealize.ShloMosaic.TcCoe Idealize.SL.Sem

/-- Position `r` times `10000^(-2 d / 128)`. -/
def ang (r : Fin 4096) (d : Fin 64) : EReal :=
  (FloatOps.sitofp FTy.f32 (BitVec.ofNat 32 r.val) : Ideal .f32) *
    Ideal.pow (Ideal.ofBits FTy.f32 1176256512#32)
      (Ideal.div (-(Ideal.ofBits FTy.f32 1073741824#32 * (FloatOps.sitofp FTy.f32 (BitVec.ofNat 32 d.val) : Ideal .f32)))
        (Ideal.ofBits FTy.f32 1124073472#32))
theorem R.pow {x y : EReal} (hx : R x) (hy : R y) : R (Ideal.pow x y) := by
  obtain ⟨a, rfl⟩ := hx; obtain ⟨b, rfl⟩ := hy; exact ⟨_, rfl⟩
theorem R.word (w : BitVec 32) : R (FloatOps.sitofp FTy.f32 w : Ideal .f32) := ⟨_, rfl⟩
theorem R.cos {x : EReal} (hx : R x) : R (Ideal.cos x) := by obtain ⟨a, rfl⟩ := hx; exact ⟨_, rfl⟩
theorem R.sin {x : EReal} (hx : R x) : R (Ideal.sin x) := by obtain ⟨a, rfl⟩ := hx; exact ⟨_, rfl⟩
theorem c10000 : R (Ideal.ofBits FTy.f32 1176256512#32) := by simp [Ideal.ofBits, Ideal.ieee]; exact ⟨_, rfl⟩
theorem c2 : R (Ideal.ofBits FTy.f32 1073741824#32) := by simp [Ideal.ofBits, Ideal.ieee]; exact ⟨_, rfl⟩
theorem c128 : Ideal.ofBits FTy.f32 1124073472#32 = ((128 : ℝ) : EReal) := by
  simp [Ideal.ofBits, Ideal.ieee]; rw [← EReal.coe_mul]; norm_num
theorem R.ang (r : Fin 4096) (d : Fin 64) : R (ang r d) := by
  refine (R.word _).mul (c10000.pow ((c2.mul (R.word _)).neg.div ⟨128, c128⟩ ?_))
  rw [c128]; exact_mod_cast (by norm_num : (128 : ℝ) ≠ 0)
end Att
-- ==== Proof.RunKernel.lean ====
module
public import proofs.«01_k».proof.Proof.Arr0
public import proofs.«01_k».proof.Proof.Arr1
public import proofs.«01_k».proof.Proof.Angle
public import Idealize.ShloMosaic.Lib.Claim
@[expose] public section
set_option maxRecDepth 16384
noncomputable section

/-! What a run of the kernel leaves in its three results. -/
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen _root_.Att

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run ends with every buffer of the program at the contents of the last boundary. -/
theorem run_W3 : θ_run defs (onTc (τ := τ) (main (F := Ideal))) ⟨m, fun _ => 0, ρ⟩ (fun r => ∀ c : Dev nD,
      r.2.mem ((c.tc : Thread nD τ).loc main_v20_0) = W3 m ρ c (Proc.devRef .tc main_v20_0)
      ∧ r.2.mem ((c.tc : Thread nD τ).loc main_v20_1) = W3 m ρ c (Proc.devRef .tc main_v20_1)
      ∧ r.2.mem ((c.tc : Thread nD τ).loc main_v19_5) = W3 m ρ c (Proc.devRef .tc main_v19_5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v20_0 (by decide)), h c _ (mem_uc main_v20_1 (by decide)), h c _ (mem_uc main_v19_5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

variable (c : Dev nD)
/-- The blocks of key head `h` and block `n` of a run. -/
abbrev mIn (h : Fin 8) (n : Fin 32) : In := vIn (V1 m ρ) c h n

/-- The cotangent of queries, keys and values side by side. -/
def kq (F : Fin 8 → Fin 32 → In) : Fin 4096 → Fin 6144 → EReal :=
  joined (tileQ fun h n => v582 (F h n)) (tileK fun h n => v603 (F h n)) (tileK fun h n => v618 (F h n))
    (tileK fun h n => v585 (F h n)) (tileK fun h n => v584 (F h n))

theorem allq_eq : allq (V2 m ρ) c = kq (mIn m ρ c) := by
  unfold allq kq
  rw [show V2 m ρ c main_v19_0 = tileQ fun h n => v582 (mIn m ρ c h n) from (W2_arr m ρ c 11).trans (arr0_11 _ c),
    show V2 m ρ c main_v19_1 = tileK fun h n => v603 (mIn m ρ c h n) from (W2_arr m ρ c 12).trans (arr0_12 _ c),
    show V2 m ρ c main_v19_2 = tileK fun h n => v618 (mIn m ρ c h n) from (W2_arr m ρ c 13).trans (arr0_13 _ c),
    show V2 m ρ c main_v19_3 = tileK fun h n => v585 (mIn m ρ c h n) from (W2_arr m ρ c 14).trans (arr0_14 _ c),
    show V2 m ρ c main_v19_4 = tileK fun h n => v584 (mIn m ρ c h n) from (W2_arr m ρ c 15).trans (arr0_15 _ c)]
theorem W3_v20_0 : W3 m ρ c (Proc.devRef .tc main_v20_0) = fun y : S4096x6144.Idx => kq (mIn m ρ c) (y 0) (y 1) := by
  refine ((W3_arr m ρ c 5).trans (arr1_5 _ c)).trans ?_
  rw [allq_eq]
theorem W3_v20_1 : W3 m ρ c (Proc.devRef .tc main_v20_1) = fun y : S1x6144.Idx => ∑ r, kq (mIn m ρ c) r (y 1) := by
  refine ((W3_arr m ρ c 6).trans (arr1_6 _ c)).trans ?_
  rw [allq_eq]
theorem W3_v19_5 : W3 m ρ c (Proc.devRef .tc main_v19_5) = sinkSum (mIn m ρ c) :=
  (W3_of m ρ c main_v19_5 (by decide +kernel)).trans ((W2_arr m ρ c 16).trans (arr0_16 _ c))

/-- The arrays the first region finds. -/
theorem V1_arg0 : V1 m ρ c main_arg0 = m ((c : Thread nD τ).loc main_arg0) := W1_args m ρ c main_arg0 (by decide)
theorem V1_arg2 : V1 m ρ c main_arg2 = m ((c : Thread nD τ).loc main_arg2) := W1_args m ρ c main_arg2 (by decide)
theorem V1_sink (h : Fin 8) (g : Fin 4) : V1 m ρ c main_v18 (ix4 h g 0 0) = m ((c : Thread nD τ).loc main_arg1) (ix2 0 ⟨h.val * 4 + g.val, by omega⟩) := by
  show StableHlo.after hostOps0 (W0 m ρ c) (Proc.devRef .tc main_v18) _ = _
  entry_read
  pointwise
theorem V1_cos (r : Fin 4096) (d : Fin 64) : V1 m ρ c main_v16 (ix2 r d) = Ideal.cos (ang r d) := by
  show StableHlo.after hostOps0 (W0 m ρ c) (Proc.devRef .tc main_v16) _ = _
  entry_read
  pointwise
  rfl
theorem V1_sin (r : Fin 4096) (d : Fin 64) : V1 m ρ c main_v17 (ix2 r d) = Ideal.sin (ang r d) := by
  show StableHlo.after hostOps0 (W0 m ρ c) (Proc.devRef .tc main_v17) _ = _
  entry_read
  pointwise
  rfl
end Cert.KernelIdeal.Att
-- ==== Proof.RefRow.lean ====
module
public import proofs.«01_k».proof.Proof.RefBand
public import Idealize.ShloMosaic.Lib.Tactic.CleanTypes
@[expose] public section
set_option maxRecDepth 16384
noncomputable section

/-! The reference's rows: the weights and the cotangents of the scores. -/
namespace Cert.ReferenceIdeal.Att
open Idealize.ShloMosaic Idealize.ShloMosaic.TcCoe Idealize.SL.Sem
open Cert.ReferenceIdeal Cert.ReferenceIdeal.Value _root_.Att

variable (V : Valuation τ sig (Elt Ideal)) (n : Fin 32) (h : Fin 8) (g : Fin 4) (q : Fin 128)

theorem v112_at : res_main_v112 V (ix4 n h g q) = mx (rx V n h g q) := by
  have h0 := fun j => v109_0_at V n h g q j
  rw [res_main_v112]
  generalize res_main_v109_0 V = a0 at h0 ⊢
  generalize rx V n h g q = x at h0 ⊢
  clean_types
  pointwise
  simp only [h0, bot_bits]
  rfl
theorem v116_at (j : Fin 256) : res_main_v116 V (ix5 n h g q j) = top (rx V n h g q) j := by
  have h0 := fun j => v109_0_at V n h g q j
  have h1 := v112_at V n h g q
  rw [res_main_v116]
  generalize res_main_v109_0 V = a0 at h0 ⊢
  generalize res_main_v112 V = a1 at h1 ⊢
  generalize rx V n h g q = x at h0 h1 ⊢
  pointwise
  rw [h0, h1, indU]; rfl
theorem v118_at : res_main_v118 V (ix5 n h g q 0) = mx (rx V n h g q) := by
  have h0 := v112_at V n h g q
  rw [res_main_v118]
  generalize res_main_v112 V = a0 at h0 ⊢
  generalize rx V n h g q = x at h0 ⊢
  pointwise
  exact h0
/-- The larger of a row's maximum and the sink. -/
theorem max_at (a : FVec Ideal S32x8x4x128x1 .f32) (b : FVec Ideal S1x8x4x1x1 .f32) :
    maximumf a (broadcastInDim S32x8x4x128x1 ![0, 1, 2, 3, 4] Gen.bcast_S1x8x4x1x1_S32x8x4x128x1_0_1_2_3_4 b) (ix5 n h g q 0)
    = max (a (ix5 n h g q 0)) (b (ix5 0 h g 0 0)) := by
  pointwise
theorem v120_at : res_main_v120 V (ix5 n h g q 0) = shf (rx V n h g q) (rs V h g) := by
  have h0 := v118_at V n h g q
  have h1 := v111_at V h g
  have h2 := max_at n h g q (res_main_v118 V) (res_main_v111 V)
  unfold shf
  rw [← h0, ← h1]
  exact h2
theorem v141_at (j : Fin 256) : res_main_v141 V (ix5 n h g q j) = ex (rx V n h g q) (rs V h g) j := by
  have h0 := fun j => v109_0_at V n h g q j
  have h1 := v120_at V n h g q
  rw [res_main_v141]
  generalize res_main_v109_0 V = a0 at h0 ⊢
  generalize res_main_v120 V = a1 at h1 ⊢
  generalize rx V n h g q = x at h0 h1 ⊢
  generalize rs V h g = k at h0 h1 ⊢
  pointwise
  rw [h0, h1]; rfl
theorem v146_at : res_main_v146 V (ix5 n h g q 0) = exS (rx V n h g q) (rs V h g) := by
  have h0 := v111_at V h g
  have h1 := v120_at V n h g q
  rw [res_main_v146]
  generalize res_main_v111 V = a0 at h0 ⊢
  generalize res_main_v120 V = a1 at h1 ⊢
  generalize rx V n h g q = x at h0 h1 ⊢
  generalize rs V h g = k at h0 h1 ⊢
  pointwise
  rw [h0, h1]; rfl
theorem v147_at : res_main_v147 V (ix5 n h g q 0) = den (rx V n h g q) (rs V h g) := by
  have h0 := fun j => v141_at V n h g q j
  have h1 := v146_at V n h g q
  rw [res_main_v147]
  generalize res_main_v141 V = a0 at h0 ⊢
  generalize res_main_v146 V = a1 at h1 ⊢
  generalize rx V n h g q = x at h0 h1 ⊢
  generalize rs V h g = k at h0 h1 ⊢
  pointwise
  simp only [h0, h1]; rfl
theorem v149_at (j : Fin 256) : res_main_v149 V (ix5 n h g q j) = prob (rx V n h g q) (rs V h g) j := by
  have h0 := fun j => v141_at V n h g q j
  have h1 := v147_at V n h g q
  rw [res_main_v149]
  generalize res_main_v141 V = a0 at h0 ⊢
  generalize res_main_v147 V = a1 at h1 ⊢
  generalize rx V n h g q = x at h0 h1 ⊢
  generalize rs V h g = k at h0 h1 ⊢
  pointwise
  rw [h0, h1]; rfl
theorem v167_at : res_main_v167 V (ix5 n h g q 0) = dDen (rx V n h g q) (rs V h g) (rdp V n h g q) := by
  have h0 := fun j => v159_at V n h g q j
  have h1 := v147_at V n h g q
  have h2 := fun j => v141_at V n h g q j
  rw [res_main_v167]
  generalize res_main_v159 V = a0 at h0 ⊢
  generalize res_main_v147 V = a1 at h1 ⊢
  generalize res_main_v141 V = a2 at h2 ⊢
  generalize rx V n h g q = x at h0 h1 h2 ⊢
  generalize rs V h g = k at h0 h1 h2 ⊢
  generalize rdp V n h g q = dp at h0 h1 h2 ⊢
  pointwise
  simp only [h0, h1, h2]; rfl
theorem v170_at : res_main_v170 V (ix5 n h g q 0) = dSinkE (rx V n h g q) (rs V h g) (rdp V n h g q) := by
  have h0 := v167_at V n h g q
  have h1 := v146_at V n h g q
  rw [res_main_v170]
  generalize res_main_v167 V = a0 at h0 ⊢
  generalize res_main_v146 V = a1 at h1 ⊢
  generalize rx V n h g q = x at h0 h1 ⊢
  generalize rs V h g = k at h0 h1 ⊢
  generalize rdp V n h g q = dp at h0 h1 ⊢
  pointwise
  rw [h0, h1]; rfl
theorem v177_at (j : Fin 256) : res_main_v177 V (ix5 n h g q j) = dExp (rx V n h g q) (rs V h g) (rdp V n h g q) j := by
  have h0 := fun j => v159_at V n h g q j
  have h1 := v147_at V n h g q
  have h2 := v167_at V n h g q
  have h3 := fun j => v141_at V n h g q j
  rw [res_main_v177]
  generalize res_main_v159 V = a0 at h0 ⊢
  generalize res_main_v147 V = a1 at h1 ⊢
  generalize res_main_v167 V = a2 at h2 ⊢
  generalize res_main_v141 V = a3 at h3 ⊢
  generalize rx V n h g q = x at h0 h1 h2 h3 ⊢
  generalize rs V h g = k at h0 h1 h2 h3 ⊢
  generalize rdp V n h g q = dp at h0 h1 h2 h3 ⊢
  pointwise
  simp only [h0, h1, h2, h3, Fin.sum_univ_one]; rfl
theorem v181_at : res_main_v181 V (ix5 n h g q 0) = dShf (rx V n h g q) (rs V h g) (rdp V n h g q) := by
  have h0 := v170_at V n h g q
  have h1 := fun j => v177_at V n h g q j
  rw [res_main_v181]
  generalize res_main_v170 V = a0 at h0 ⊢
  generalize res_main_v177 V = a1 at h1 ⊢
  generalize rx V n h g q = x at h0 h1 ⊢
  generalize rs V h g = k at h0 h1 ⊢
  generalize rdp V n h g q = dp at h0 h1 ⊢
  pointwise
  simp only [h0, h1]; rfl
section
open Cert.ReferenceIdeal.Gen
/-- The cotangent that each place of a row's maximum takes, over the number of such places. -/
theorem tie_at (a2 a4 : FVec Ideal S32x8x4x128x1 .f32) (a3 : FVec Ideal S1x8x4x1x1 .f32) (a5 : FVec Ideal S32x8x4x128x256 .f32) :
    ((Host.divf (Host.reduceAdd (mulf a2 (select (cmpf .ogt a4 (broadcastInDim S32x8x4x128x1 ![0, 1, 2, 3, 4] bcast_S1x8x4x1x1_S32x8x4x128x1_0_1_2_3_4 a3)) (broadcastInDim S32x8x4x128x1 ![] bcast_S_S32x8x4x128x1 (constant S_ .f32 0x3F800000#32)) (select (cmpf .oeq a4 (broadcastInDim S32x8x4x128x1 ![0, 1, 2, 3, 4] bcast_S1x8x4x1x1_S32x8x4x128x1_0_1_2_3_4 a3)) (broadcastInDim S32x8x4x128x1 ![] bcast_S_S32x8x4x128x1 (constant S_ .f32 0x3F000000#32)) (broadcastInDim S32x8x4x128x1 ![] bcast_S_S32x8x4x128x1 (constant S_ .f32 0x00000000#32))))) (constant S_ .f32 0x00000000#32) reducesTo_S32x8x4x128x1_S32x8x4x128_d4 h_S_) (Host.reduceAdd a5 (constant S_ .f32 0x00000000#32) reducesTo_S32x8x4x128x256_S32x8x4x128_d4 h_S_)) : FVec Ideal S32x8x4x128 .f32) (ix4 n h g q) =
    Ideal.div (a2 (ix5 n h g q 0) * if a3 (ix5 0 h g 0 0) < a4 (ix5 n h g q 0) then 1 else if a4 (ix5 n h g q 0) = a3 (ix5 0 h g 0 0) then half else 0)
      (∑ j, a5 (ix5 n h g q j)) := by
  pointwise
  rw [Fin.sum_univ_one]
  rfl
/-- The cotangent of the scores in the reference's order of axes. -/
theorem score_at (a0 : IVec S32x8x4x128x256 1) (a1 a5 : FVec Ideal S32x8x4x128x256 .f32) (b : FVec Ideal S32x8x4x128 .f32) (j : Fin 256) :
    (transpose S32x8x256x128x4 [0, 1, 4, 3, 2] (mulf (select a0 (addf a1 (mulf (broadcastInDim S32x8x4x128x256 ![0, 1, 2, 3] bcast_S32x8x4x128_S32x8x4x128x256_0_1_2_3 b) a5)) (broadcastInDim S32x8x4x128x256 ![] bcast_S_S32x8x4x128x256 (constant S_ .f32 0x00000000#32))) (broadcastInDim S32x8x4x128x256 ![] bcast_S_S32x8x4x128x256 (constant S_ .f32 0x3DB504F3#32))) transposes_S32x8x4x128x256_S32x8x256x128x4_0_1_4_3_2 : FVec Ideal S32x8x256x128x4 .f32) (ix5 n h j q g) =
    Scalar.select (a0 (ix5 n h g q j)) ((a1 (ix5 n h g q j) + b (ix4 n h g q) * a5 (ix5 n h g q j)) * scale) 0 := by
  pointwise
  rfl
end
theorem v197_at (j : Fin 256) : res_main_v197 V (ix5 n h j q g) = dS (rb n q) (rx V n h g q) (rs V h g) (rdp V n h g q) j := by
  refine (score_at n h g q (res_main_v109_1 V) (res_main_v177 V) (res_main_v116 V) _ j).trans ?_
  rw [tie_at, v109_1_at, v181_at, v111_at, v118_at]
  simp only [v177_at, v116_at]
  unfold dS wRow cnt
  rfl
theorem v161_at (j : Fin 256) (d : Fin 128) : res_main_v161 V (ix4 n j h d) = ∑ g, ∑ q, rd V n q h g d * prob (rx V n h g q) (rs V h g) j := by
  have h0 := fun g q => v158_at V n h d g q
  have h1 := fun g q => v149_at V n h g q j
  rw [res_main_v161]
  generalize res_main_v158 V = a0 at h0 ⊢
  generalize res_main_v149 V = a1 at h1 ⊢
  pointwise
  simp only [h0, h1]
theorem v201_at (j : Fin 256) (d : Fin 128) : res_main_v201 V (ix4 n j h d) = ∑ g, ∑ q, dS (rb n q) (rx V n h g q) (rs V h g) (rdp V n h g q) j * rq V n q h g d := by
  have h0 := fun g q => v197_at V n h g q j
  have h1 := fun g q => v59_at V n q h g d
  rw [res_main_v201]
  generalize res_main_v197 V = a0 at h0 ⊢
  generalize res_main_v59 V = a1 at h1 ⊢
  clean_types
  pointwise
  simp only [h0, h1]
  exact Finset.sum_comm

end Cert.ReferenceIdeal.Att
-- ==== Proof.RefOut.lean ====
module
public import proofs.«01_k».proof.Proof.RefBand
public import proofs.«01_k».proof.Proof.Angle
@[expose] public section
set_option maxRecDepth 16384
noncomputable section

/-! The reference's results, from the cotangents of the turned queries and of the band. -/
namespace Cert.ReferenceIdeal.Att
open Idealize.ShloMosaic Idealize.ShloMosaic.TcCoe Idealize.SL.Sem
open Cert.ReferenceIdeal Cert.ReferenceIdeal.Value _root_.Att

variable (V : Valuation τ sig (Elt Ideal))

theorem C_at (r : Fin 4096) (d : Fin 64) : C V (ix2 r d) = Ideal.cos (ang r d) := by
  pointwise [C, res_main_v27, res_main_v26]
  try rfl
theorem S_at (r : Fin 4096) (d : Fin 64) : S V (ix2 r d) = Ideal.sin (ang r d) := by
  pointwise [S, res_main_v28, res_main_v26]
  try rfl
/-- A block's own part and what the next block gives to it. -/
def gather (f : Fin 32 → Fin 256 → Fin 8 → Fin 128 → EReal) (n : Fin 32) (q : Fin 128) (h : Fin 8) (d : Fin 128) : EReal :=
  f n ⟨128 + q.val, by omega⟩ h d + if hn : n.val < 31 then f ⟨n.val + 1, by omega⟩ ⟨q.val, by omega⟩ h d else 0

/-- The cotangent of the turned keys' band, by index. -/
def tA (n : Fin 32) (j : Fin 256) (h : Fin 8) (d : Fin 128) : EReal := res_main_v201 V (ix4 n j h d)
theorem v201_tA (n : Fin 32) (j : Fin 256) (h : Fin 8) (d : Fin 128) : res_main_v201 V (ix4 n j h d) = tA V n j h d := rfl
/-- The cotangent of the values' band, by index. -/
def pA (n : Fin 32) (j : Fin 256) (h : Fin 8) (d : Fin 128) : EReal := res_main_v161 V (ix4 n j h d)
theorem v161_pA (n : Fin 32) (j : Fin 256) (h : Fin 8) (d : Fin 128) : res_main_v161 V (ix4 n j h d) = pA V n j h d := rfl
/-- A block's own part plus what the next block gives to it, as an array. -/
theorem fold_at (a : FVec Ideal S32x256x8x128 .f32) (n : Fin 32) (q : Fin 128) (h : Fin 8) (d : Fin 128) :
    (addf (extractStridedSlice S32x128x8x128 ![0, 128, 0, 0] a Gen.slices_S32x256x8x128_S32x128x8x128_0_128_0_0) (pad S32x128x8x128 ![0, 0, 0, 0] ![1, 0, 0, 0] ![0, 0, 0, 0] (extractStridedSlice S31x128x8x128 ![1, 0, 0, 0] (extractStridedSlice S32x128x8x128 ![0, 0, 0, 0] a Gen.slices_S32x256x8x128_S32x128x8x128_0_0_0_0) Gen.slices_S32x128x8x128_S31x128x8x128_1_0_0_0) (constant S_ .f32 0x00000000#32) Gen.pads_S31x128x8x128_S32x128x8x128_010_000_000_000 Gen.h_S_) : FVec Ideal S32x128x8x128 .f32) (ix4 n q h d) =
    gather (fun n j h d => a (ix4 n j h d)) n q h d := by
  pointwise
  unfold gather
  by_cases hn : n.val < 31
  · rw [dif_pos hn, dif_pos hn]
    simp only [Nat.add_comm 1]
  · rw [dif_neg hn, dif_neg hn]
/-- Blocks side by side. -/
theorem rows_at (x : FVec Ideal S32x128x8x128 .f32) (r : Fin 4096) (h : Fin 8) (d : Fin 128) :
    (shapeCast _ x Gen.shapeCasts_S32x128x8x128_S4096x8x128 : FVec Ideal S4096x8x128 .f32) (ix3 r h d) = x (ix4 ⟨r.val / 128, by omega⟩ ⟨r.val % 128, by omega⟩ h d) := by
  pointwise
theorem v215_at (r : Fin 4096) (h : Fin 8) (d : Fin 128) : res_main_v215 V (ix3 r h d) =
    gather (tA V) ⟨r.val / 128, by omega⟩ ⟨r.val % 128, by omega⟩ h d :=
  (rows_at _ r h d).trans (fold_at (res_main_v201 V) _ _ h d)
/-- The cotangent of the scores, by index. -/
abbrev sA (n : Fin 32) (h : Fin 8) (j : Fin 256) (q : Fin 128) (g : Fin 4) : EReal := res_main_v197 V (ix5 n h j q g)
/-- The band of turned keys, by index. -/
abbrev kA (n : Fin 32) (j : Fin 256) (h : Fin 8) (d : Fin 128) : EReal := res_main_v66 V (ix4 n j h d)
theorem v216_at (r : Fin 4096) (u : Fin 32) (d : Fin 128) : res_main_v216 V (ix3 r u d) =
    ∑ j : Fin 256, sA V ⟨r.val / 128, by omega⟩ ⟨u.val / 4, by omega⟩ j ⟨r.val % 128, by omega⟩ ⟨u.val % 4, by omega⟩ *
      kA V ⟨r.val / 128, by omega⟩ j ⟨u.val / 4, by omega⟩ d := by
  pointwise [res_main_v216]
theorem v231_at (r : Fin 4096) (u : Fin 32) (d : Fin 64) : res_main_v231 V (ix3 r u d) = res_main_v216 V (ix3 r u ⟨d.val, by omega⟩) := by
  pointwise [res_main_v231]
theorem v232_at (r : Fin 4096) (u : Fin 32) (d : Fin 64) : res_main_v232 V (ix3 r u d) = res_main_v216 V (ix3 r u ⟨64 + d.val, by omega⟩) := by
  pointwise [res_main_v232]
theorem v217_at (r : Fin 4096) (u : Fin 8) (d : Fin 64) : res_main_v217 V (ix3 r u d) = res_main_v215 V (ix3 r u ⟨d.val, by omega⟩) := by
  pointwise [res_main_v217]
theorem v218_at (r : Fin 4096) (u : Fin 8) (d : Fin 64) : res_main_v218 V (ix3 r u d) = res_main_v215 V (ix3 r u ⟨64 + d.val, by omega⟩) := by
  pointwise [res_main_v218]
theorem v31_at (r : Fin 4096) (d : Fin 64) : res_main_v31 V (ix3 r 0 d) = C V (ix2 r d) := by pointwise [res_main_v31]
theorem v32_at (r : Fin 4096) (d : Fin 64) : res_main_v32 V (ix3 r 0 d) = S V (ix2 r d) := by pointwise [res_main_v32]
theorem v46_at (r : Fin 4096) (d : Fin 64) : res_main_v46 V (ix3 r 0 d) = C V (ix2 r d) := by pointwise [res_main_v46]
theorem v47_at (r : Fin 4096) (d : Fin 64) : res_main_v47 V (ix3 r 0 d) = S V (ix2 r d) := by pointwise [res_main_v47]
/-- The three parts side by side. -/
theorem parts_at (a : FVec Ideal S4096x4096 .f32) (b c : FVec Ideal S4096x1024 .f32) (r : Fin 4096) (u : Fin 6144) :
    (concatenate S4096x6144 1 [⟨S4096x4096, a⟩, ⟨S4096x1024, b⟩, ⟨S4096x1024, c⟩] Gen.concatenates_S4096x4096_S4096x1024_S4096x1024_S4096x6144_d1 : FVec Ideal S4096x6144 .f32) (ix2 r u) =
    if h : u.val < 4096 then a (ix2 r ⟨u.val, h⟩) else if h : u.val < 5120 then b (ix2 r ⟨u.val - 4096, by omega⟩) else c (ix2 r ⟨u.val - 5120, by omega⟩) := by
  pointwise
  by_cases c1 : u.val < 4096
  · rw [dif_pos c1, dif_pos c1]
  · rw [dif_neg c1, dif_neg c1]
    by_cases c2 : u.val < 5120
    · rw [dif_pos (by omega), dif_pos c2]
    · rw [dif_neg (by omega), dif_neg c2]
      simp only [Nat.sub_sub]
/-- The query heads side by side. -/
theorem heads_at (x : FVec Ideal S4096x32x128 .f32) (r u : Fin 4096) :
    (shapeCast _ x Gen.shapeCasts_S4096x32x128_S4096x4096 : FVec Ideal S4096x4096 .f32) (ix2 r u) = x (ix3 r ⟨u.val / 128, by omega⟩ ⟨u.val % 128, by omega⟩) := by
  pointwise
/-- The key heads side by side. -/
theorem keys_at (x : FVec Ideal S4096x8x128 .f32) (r : Fin 4096) (u : Fin 1024) :
    (shapeCast _ x Gen.shapeCasts_S4096x8x128_S4096x1024 : FVec Ideal S4096x1024 .f32) (ix2 r u) = x (ix3 r ⟨u.val / 128, by omega⟩ ⟨u.val % 128, by omega⟩) := by
  pointwise
/-- The query heads turned back. -/
theorem turnQ_at (lo hi : FVec Ideal S4096x32x64 .f32) (c s : FVec Ideal S4096x1x64 .f32) (r : Fin 4096) (u : Fin 32) (d : Fin 128)
    (cc ss : Fin 64 → EReal) (x : Fin 128 → EReal) (hl : ∀ d : Fin 64, lo (ix3 r u d) = x ⟨d.val, by omega⟩)
    (hh : ∀ d : Fin 64, hi (ix3 r u d) = x ⟨64 + d.val, by omega⟩) (hc : ∀ d, c (ix3 r 0 d) = cc d) (hs : ∀ d, s (ix3 r 0 d) = ss d) :
    (concatenate S4096x32x128 2 [⟨S4096x32x64, (addf (mulf hi (broadcastInDim S4096x32x64 ![0, 1, 2] Gen.bcast_S4096x1x64_S4096x32x64_0_1_2 s)) (mulf lo (broadcastInDim S4096x32x64 ![0, 1, 2] Gen.bcast_S4096x1x64_S4096x32x64_0_1_2 c)))⟩, ⟨S4096x32x64, (addf (mulf hi (broadcastInDim S4096x32x64 ![0, 1, 2] Gen.bcast_S4096x1x64_S4096x32x64_0_1_2 c)) (mulf (Host.negf lo) (broadcastInDim S4096x32x64 ![0, 1, 2] Gen.bcast_S4096x1x64_S4096x32x64_0_1_2 s)))⟩] Gen.concatenates_S4096x32x64_S4096x32x64_S4096x32x128_d2 : FVec Ideal S4096x32x128 .f32) (ix3 r u d) =
    unrope cc ss x d := by
  pointwise
  simp only [hl, hh, hc, hs, unrope]
/-- The key heads turned back. -/
theorem turnK_at (lo hi : FVec Ideal S4096x8x64 .f32) (c s : FVec Ideal S4096x1x64 .f32) (r : Fin 4096) (u : Fin 8) (d : Fin 128)
    (cc ss : Fin 64 → EReal) (x : Fin 128 → EReal) (hl : ∀ d : Fin 64, lo (ix3 r u d) = x ⟨d.val, by omega⟩)
    (hh : ∀ d : Fin 64, hi (ix3 r u d) = x ⟨64 + d.val, by omega⟩) (hc : ∀ d, c (ix3 r 0 d) = cc d) (hs : ∀ d, s (ix3 r 0 d) = ss d) :
    (concatenate S4096x8x128 2 [⟨S4096x8x64, (addf (mulf hi (broadcastInDim S4096x8x64 ![0, 1, 2] Gen.bcast_S4096x1x64_S4096x8x64_0_1_2 s)) (mulf lo (broadcastInDim S4096x8x64 ![0, 1, 2] Gen.bcast_S4096x1x64_S4096x8x64_0_1_2 c)))⟩, ⟨S4096x8x64, (addf (mulf hi (broadcastInDim S4096x8x64 ![0, 1, 2] Gen.bcast_S4096x1x64_S4096x8x64_0_1_2 c)) (mulf (Host.negf lo) (broadcastInDim S4096x8x64 ![0, 1, 2] Gen.bcast_S4096x1x64_S4096x8x64_0_1_2 s)))⟩] Gen.concatenates_S4096x8x64_S4096x8x64_S4096x8x128_d2 : FVec Ideal S4096x8x128 .f32) (ix3 r u d) =
    unrope cc ss x d := by
  pointwise
  simp only [hl, hh, hc, hs, unrope]
theorem v248_at (r : Fin 4096) (u : Fin 6144) : res_main_v248 V (ix2 r u) =
    if h : u.val < 4096 then
      unrope (fun d => C V (ix2 r d)) (fun d => S V (ix2 r d)) (fun d => res_main_v216 V (ix3 r ⟨u.val / 128, by omega⟩ d)) ⟨u.val % 128, by omega⟩
    else if h : u.val < 5120 then
      unrope (fun d => C V (ix2 r d)) (fun d => S V (ix2 r d)) (fun d => res_main_v215 V (ix3 r ⟨(u.val - 4096) / 128, by omega⟩ d)) ⟨(u.val - 4096) % 128, by omega⟩
    else gather (pA V) ⟨r.val / 128, by omega⟩ ⟨r.val % 128, by omega⟩ ⟨(u.val - 5120) / 128, by omega⟩ ⟨(u.val - 5120) % 128, by omega⟩ := by
  refine (parts_at _ _ _ r u).trans ?_
  by_cases c1 : u.val < 4096
  · rw [dif_pos c1, dif_pos c1]
    exact (heads_at _ r _).trans (turnQ_at (res_main_v231 V) (res_main_v232 V) (res_main_v31 V) (res_main_v32 V) r _ _ _ _ _
      (v231_at V r _) (v232_at V r _) (v31_at V r) (v32_at V r))
  · rw [dif_neg c1, dif_neg c1]
    by_cases c2 : u.val < 5120
    · rw [dif_pos c2, dif_pos c2]
      exact (keys_at _ r _).trans (turnK_at (res_main_v217 V) (res_main_v218 V) (res_main_v46 V) (res_main_v47 V) r _ _ _ _ _
        (v217_at V r _) (v218_at V r _) (v46_at V r) (v47_at V r))
    · rw [dif_neg c2, dif_neg c2]
      exact (keys_at _ r _).trans ((rows_at _ r _ _).trans (fold_at (res_main_v161 V) _ _ _ _))
end Cert.ReferenceIdeal.Att
-- ==== Proof.Equation.lean ====
module
public import proofs.«01_k».proof.Proof.Real
public import proofs.«01_k».proof.Proof.RunKernel
public import proofs.«01_k».proof.Proof.RefRow
public import proofs.«01_k».proof.Proof.RefOut
@[expose] public section
set_option maxRecDepth 16384
noncomputable section

/-! The kernel's cotangents are the reference's. -/
namespace Att
open Idealize.ShloMosaic Idealize.ShloMosaic.TcCoe Idealize.SL.Sem
open Cert
open Cert.KernelIdeal.Att (In inAt kq joined carry tileQ tileK tileQ_at tileK_at sinkSum dsk)
open Cert.ReferenceIdeal.Att (row rq rk rv band rb rx rs rd rdp gather)

variable {X : FVec Ideal KernelIdeal.S4096x6144 .f32} {C S : FVec Ideal KernelIdeal.S4096x64 .f32}
  {K : FVec Ideal KernelIdeal.S8x4x1x1 .f32} {D : FVec Ideal KernelIdeal.S4096x4096 .bf16}
  {V : Valuation ReferenceIdeal.τ ReferenceIdeal.sig (Elt Ideal)}

/-- The cotangent of queries, keys and values, from the rows. -/
def rAll (V : Valuation ReferenceIdeal.τ ReferenceIdeal.sig (Elt Ideal)) (n : Fin 32) (q : Fin 128) (u : Fin 6144) : EReal :=
  if h : u.val < 4096 then
    unrope (fun d => ReferenceIdeal.Att.C V (ix2 (row n q) d)) (fun d => ReferenceIdeal.Att.S V (ix2 (row n q) d))
      (rQ V n q ⟨u.val / 512, by omega⟩ ⟨u.val / 128 % 4, by omega⟩) ⟨u.val % 128, by omega⟩
  else if h : u.val < 5120 then
    unrope (fun d => ReferenceIdeal.Att.C V (ix2 (row n q) d)) (fun d => ReferenceIdeal.Att.S V (ix2 (row n q) d))
      (gather (rT V) n q ⟨(u.val - 4096) / 128, by omega⟩) ⟨(u.val - 4096) % 128, by omega⟩
  else gather (rP V) n q ⟨(u.val - 5120) / 128, by omega⟩ ⟨(u.val - 5120) % 128, by omega⟩

/-! ## The reference -/
theorem tA_eq : ReferenceIdeal.Att.tA V = rT V := by
  funext n j h d; exact ReferenceIdeal.Att.v201_at V n h j d
theorem pA_eq : ReferenceIdeal.Att.pA V = rP V := by
  funext n j h d; exact ReferenceIdeal.Att.v161_at V n h j d
theorem row_div (n : Fin 32) (q : Fin 128) : (⟨(row n q).val / 128, by omega⟩ : Fin 32) = n :=
  Fin.ext (by show (n.val * 128 + q.val) / 128 = n.val; omega)
theorem row_mod (n : Fin 32) (q : Fin 128) : (⟨(row n q).val % 128, by omega⟩ : Fin 128) = q :=
  Fin.ext (by show (n.val * 128 + q.val) % 128 = q.val; omega)
theorem v216_row (n : Fin 32) (q : Fin 128) (u : Fin 32) (d : Fin 128) : ReferenceIdeal.Value.res_main_v216 V (ix3 (row n q) u d) =
    rQ V n q ⟨u.val / 4, by omega⟩ ⟨u.val % 4, by omega⟩ d := by
  refine (ReferenceIdeal.Att.v216_at V _ u d).trans ?_
  change @Eq EReal _ _
  rw [row_div, row_mod]
  unfold rQ
  refine Finset.sum_congr rfl fun j _ => ?_
  exact congrArg₂ (fun a b : EReal => a * b) (ReferenceIdeal.Att.v197_at V _ _ _ q j) (ReferenceIdeal.Att.v66_at V n j _ d)
theorem ref_all (n : Fin 32) (q : Fin 128) (u : Fin 6144) : ReferenceIdeal.Value.res_main_v248 V (ix2 (row n q) u) = rAll V n q u := by
  rw [ReferenceIdeal.Att.v248_at]
  unfold rAll
  simp only [v216_row, ReferenceIdeal.Att.v215_at, row_div, row_mod, tA_eq, pA_eq, Nat.div_div_eq_div_mul]

/-! ## The kernel -/
variable (A : Agree X C S K D V)
include A
theorem v584_eq (h : Fin 8) (n : Fin 32) (j d : Fin 128) : KernelIdeal.Att.v584 (inAt X C S K D h n) (ix2 j d) = rP V n ⟨j.val, by omega⟩ h d :=
  (KernelIdeal.Att.v584_at _ j d).trans (v516_eq A h n _ d)
theorem v585_eq (h : Fin 8) (n : Fin 32) (j d : Fin 128) : KernelIdeal.Att.v585 (inAt X C S K D h n) (ix2 j d) = rP V n ⟨128 + j.val, by omega⟩ h d :=
  (KernelIdeal.Att.v585_at _ j d).trans (v516_eq A h n _ d)
theorem dq_row (h : Fin 8) (n : Fin 32) (g : Fin 4) (q d : Fin 128) :
    KernelIdeal.Att.v582 (inAt X C S K D h n) (ix2 q ⟨128 * g.val + d.val, by omega⟩) =
    unrope (fun d => ReferenceIdeal.Att.C V (ix2 (row n q) d)) (fun d => ReferenceIdeal.Att.S V (ix2 (row n q) d)) (rQ V n q h g) d :=
  (KernelIdeal.Att.dq_at _ g q d).trans (congrFun (dqU_eq A h n g q) d)
theorem ker_all (B : RealArgs V) (n : Fin 32) (q : Fin 128) (u : Fin 6144) : kq (inAt X C S K D) (row n q) u = rAll V n q u := by
  have hn := n.isLt; have hq := q.isLt; have hu := u.isLt
  have hr : (row n q).val = n.val * 128 + q.val := rfl
  unfold kq joined rAll
  by_cases h1 : u.val < 4096
  · rw [dif_pos h1, dif_pos h1]
    refine (tileQ_at _ ⟨u.val / 512, by omega⟩ n (ix2 q ⟨128 * (u.val / 128 % 4) + u.val % 128, by omega⟩) _ hr
      (by show u.val = u.val / 512 * 512 + (128 * (u.val / 128 % 4) + u.val % 128); omega)).trans ?_
    exact dq_row A ⟨u.val / 512, by omega⟩ n ⟨u.val / 128 % 4, by omega⟩ q ⟨u.val % 128, by omega⟩
  · rw [dif_neg h1, dif_neg h1]
    by_cases h2 : u.val < 5120
    · rw [dif_pos h2, dif_pos h2]
      unfold carry
      rw [tileK_at _ ⟨(u.val - 4096) / 128, by omega⟩ n (ix2 q ⟨(u.val - 4096) % 128, by omega⟩) _ hr
        (by show u.val - 4096 = (u.val - 4096) / 128 * 128 + (u.val - 4096) % 128; omega), v603_eq A]
      by_cases h3 : n.val < 31
      · rw [dif_pos (by rw [hr]; omega), tileK_at _ ⟨(u.val - 4096) / 128, by omega⟩ ⟨n.val + 1, by omega⟩ (ix2 q ⟨(u.val - 4096) % 128, by omega⟩) _
          (by show n.val * 128 + q.val + 128 = (n.val + 1) * 128 + q.val; omega)
          (by show u.val - 4096 = (u.val - 4096) / 128 * 128 + (u.val - 4096) % 128; omega), v618_eq A]
        refine Eq.trans ?_ ((unrope_add (fun d => B.c (row n q) d) (fun d => B.s (row n q) d)
          (fun d => R.rT B n ⟨128 + q.val, by omega⟩ ⟨(u.val - 4096) / 128, by omega⟩ d)
          (fun d => R.rT B ⟨n.val + 1, by omega⟩ ⟨q.val, by omega⟩ ⟨(u.val - 4096) / 128, by omega⟩ d) ⟨(u.val - 4096) % 128, by omega⟩).symm.trans ?_)
        · rfl
        · congr 1; funext d; unfold gather; rw [dif_pos h3]
      · rw [dif_neg (by rw [hr]; omega), add_zero]
        congr 1; funext d; unfold gather; rw [dif_neg h3, add_zero]
    · rw [dif_neg h2, dif_neg h2]
      unfold carry gather
      rw [tileK_at _ ⟨(u.val - 5120) / 128, by omega⟩ n (ix2 q ⟨(u.val - 5120) % 128, by omega⟩) _ hr
        (by show u.val - 5120 = (u.val - 5120) / 128 * 128 + (u.val - 5120) % 128; omega), v585_eq A]
      congr 1
      by_cases h3 : n.val < 31
      · rw [dif_pos (by rw [hr]; omega), dif_pos h3, tileK_at _ ⟨(u.val - 5120) / 128, by omega⟩ ⟨n.val + 1, by omega⟩ (ix2 q ⟨(u.val - 5120) % 128, by omega⟩) _
          (by show n.val * 128 + q.val + 128 = (n.val + 1) * 128 + q.val; omega)
          (by show u.val - 5120 = (u.val - 5120) / 128 * 128 + (u.val - 5120) % 128; omega), v584_eq A]
      · rw [dif_neg (by rw [hr]; omega), dif_neg h3]
theorem all_eq (B : RealArgs V) (r : Fin 4096) (u : Fin 6144) : kq (inAt X C S K D) r u = ReferenceIdeal.Value.res_main_v248 V (ix2 r u) := by
  have e : r = row ⟨r.val / 128, by omega⟩ ⟨r.val % 128, by omega⟩ := Fin.ext (by show r.val = r.val / 128 * 128 + r.val % 128; omega)
  rw [e, ker_all A B, ref_all]
end Att
-- ==== Proof.RefSum.lean ====
module
public import proofs.«01_k».proof.Proof.RefBand
@[expose] public section
set_option maxRecDepth 16384
noncomputable section

/-! The sums the reference ends with: over the rows for the bias, over blocks and rows for the sinks. -/
namespace Cert.ReferenceIdeal.Att
open Idealize.ShloMosaic Idealize.ShloMosaic.TcCoe Idealize.SL.Sem
open Cert.ReferenceIdeal Cert.ReferenceIdeal.Gen _root_.Att

/-- The host's sum over blocks and rows. -/
theorem red03 (h : S32x8x4x128x1.ReducesTo [0, 3] S8x4x1) (v : S32x8x4x128x1.Idx → EReal) (z : EReal) (a : Fin 8) (b : Fin 4) (c : Fin 1) :
    Ideal.hostReduceAdd h v z (ix3 a b c) = z + ∑ n : Fin 32, ∑ q : Fin 128, v (ix5 n a b q c) := by
  unfold Ideal.hostReduceAdd
  congr 1
  refine (Finset.sum_filter_eq_sum_of_fiber _ (fun k : Fin 32 × Fin 128 => (ix5 k.1 a b k.2 c : S32x8x4x128x1.Idx))
    (fun _ _ e => Prod.ext (congrFun e 0) (congrFun e 3)) (fun i => ?_) v).trans (Fintype.sum_prod_type _)
  constructor
  · intro e
    refine ⟨(i 0, i 3), ?_⟩
    funext u; apply Fin.ext
    match u with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext u; apply Fin.ext
    match u with
    | ⟨0, _⟩ => rfl
    | ⟨1, _⟩ => rfl
    | ⟨2, _⟩ => rfl
/-- The host's sum over axes of length one. -/
theorem red034 (h : S1x8x4x1x1.ReducesTo [0, 3, 4] S8x4) (v : S1x8x4x1x1.Idx → EReal) (z : EReal) (a : Fin 8) (b : Fin 4) :
    Ideal.hostReduceAdd h v z (ix2 a b) = z + v (ix5 0 a b 0 0) := by
  unfold Ideal.hostReduceAdd
  congr 1
  refine (Finset.sum_filter_eq_sum_of_fiber _ (fun _ : Unit => (ix5 0 a b 0 0 : S1x8x4x1x1.Idx)) (fun _ _ _ => rfl) (fun i => ?_) v).trans
    (Fintype.sum_unique _)
  constructor
  · intro e
    refine ⟨(), ?_⟩
    funext u
    match u with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Subsingleton.elim (α := Fin 1) _ _
    | ⟨4, _⟩ => exact Subsingleton.elim (α := Fin 1) _ _
  · rintro ⟨k, rfl⟩
    funext u; apply Fin.ext
    match u with
    | ⟨0, _⟩ => rfl
    | ⟨1, _⟩ => rfl
theorem bias_at (a : FVec Ideal S4096x6144 .f32) (u : Fin 6144) :
    (broadcastInDim S1x6144 ![1] bcast_S6144_S1x6144_1 (Host.reduceAdd (shapeCast _ (Host.reduceAdd a (constant S_ .f32 0x00000000#32) reducesTo_S4096x6144_S6144_d0 h_S_) shapeCasts_S6144_S1x6144) (constant S_ .f32 0x00000000#32) reducesTo_S1x6144_S6144_d0 h_S_) : FVec Ideal S1x6144 .f32) (ix2 0 u)
    = ∑ r, a (ix2 r u) := by
  pointwise
  rw [Fin.sum_univ_one]
theorem sink_at (a0 a1 a3 : FVec Ideal S32x8x4x128x1 .f32) (a2 : FVec Ideal S1x8x4x1x1 .f32) (h : Fin 8) (g : Fin 4) :
    (shapeCast _ (shapeCast _ (Host.reduceAdd (addf (shapeCast _ (Host.reduceAdd a0 (constant S_ .f32 0x00000000#32) reducesTo_S32x8x4x128x1_S8x4x1_d0_3 h_S_) shapeCasts_S8x4x1_S1x8x4x1x1) (shapeCast _ (Host.reduceAdd (mulf a1 (select (cmpf .ogt (broadcastInDim S32x8x4x128x1 ![0, 1, 2, 3, 4] bcast_S1x8x4x1x1_S32x8x4x128x1_0_1_2_3_4 a2) a3) (broadcastInDim S32x8x4x128x1 ![] bcast_S_S32x8x4x128x1 (constant S_ .f32 0x3F800000#32)) (select (cmpf .oeq (broadcastInDim S32x8x4x128x1 ![0, 1, 2, 3, 4] bcast_S1x8x4x1x1_S32x8x4x128x1_0_1_2_3_4 a2) a3) (broadcastInDim S32x8x4x128x1 ![] bcast_S_S32x8x4x128x1 (constant S_ .f32 0x3F000000#32)) (broadcastInDim S32x8x4x128x1 ![] bcast_S_S32x8x4x128x1 (constant S_ .f32 0x00000000#32))))) (constant S_ .f32 0x00000000#32) reducesTo_S32x8x4x128x1_S8x4x1_d0_3 h_S_) shapeCasts_S8x4x1_S1x8x4x1x1)) (constant S_ .f32 0x00000000#32) reducesTo_S1x8x4x1x1_S8x4_d0_3_4 h_S_) shapeCasts_S8x4_S32) shapeCasts_S32_S8x4x1x1 : FVec Ideal S8x4x1x1 .f32) (ix4 h g 0 0)
    = (∑ n, ∑ q, a0 (ix5 n h g q 0)) + ∑ n, ∑ q, a1 (ix5 n h g q 0) *
      (if a3 (ix5 n h g q 0) < a2 (ix5 0 h g 0 0) then 1 else if a2 (ix5 0 h g 0 0) = a3 (ix5 n h g q 0) then half else 0) := by
  pointwise
  rw [red034]
  pointwise
  rw [red03, red03]
  pointwise
  rfl
end Cert.ReferenceIdeal.Att
-- ==== Proof.Final.lean ====
module
public import proofs.«01_k».proof.Proof.Equation
public import proofs.«01_k».proof.Proof.RefSum
public import proofs.«01_k».proof.Defs
public import Idealize.ShloMosaic.Lib.ReduceAll
public import Idealize.ShloMosaic.Lib.Pointwise
@[expose] public section
set_option maxRecDepth 16384
noncomputable section

/-! What the precondition says, and the equation of the two programs' results. -/
namespace Att
open Idealize.ShloMosaic Idealize.ShloMosaic.TcCoe Idealize.ShloMosaic.Tactic Idealize.SL.Sem
open Cert
open Cert.KernelIdeal.Att (In inAt kq sinkSum dsk mIn)
open Cert.ReferenceIdeal.Att (row rx rs rdp bias_at sink_at)

/-! ## The precondition -/
/-- The facts the precondition's function states of its shapes. -/
theorem preFacts : Cert.Pre_finite_args.Facts where
  bcast_S_S4096x6144 := by decide
  reducesTo_S4096x6144_S_d0_1 := by decide
  h_S_ := by decide
  bcast_S_S1x32 := by decide
  reducesTo_S1x32_S_d0_1 := by decide
  bcast_S_S4096x4096 := by decide
  reducesTo_S4096x4096_S_d0_1 := by decide

instance : Subsingleton Cert.Pre_finite_args.S_.Idx := ⟨fun _ _ => funext fun u => u.elim0⟩
theorem both_one {a b : BitVec 1} : IntOp.andi a b = 1#1 → a = 1#1 ∧ b = 1#1 := by revert a b; decide
theorem inf32 : Ideal.ofBits .f32 0x7F800000#32 = ⊤ := by simp [Ideal.ofBits, Ideal.ieee]
theorem inf16 : Ideal.ofBits .bf16 0x7F80#16 = ⊤ := by simp [Ideal.ofBits, Ideal.ieee]
/-- An extended real of absolute value below the infinity is real. -/
theorem real_of_abs {x : EReal} (h : Ideal.cmp .olt (max x (-x)) ⊤ = 1#1) : R x := by
  have h1 : max x (-x) < ⊤ := by
    by_contra hc
    simp [Ideal.cmp, hc] at h
  obtain ⟨a, b⟩ := max_lt_iff.mp h1
  exact R.of_ne (fun e => by simp [e] at b) a.ne

section
variable [Cert.Pre_finite_args.Facts]
variable {x : FVec Ideal Cert.Pre_finite_args.S4096x6144 .f32} {k : FVec Ideal Cert.Pre_finite_args.S1x32 .f32}
  {d : FVec Ideal Cert.Pre_finite_args.S4096x4096 .bf16}
theorem pre_parts (h : Cert.Pre_finite_args.fn x k d = fun _ => 1#1) : (∀ i, R (x i)) ∧ (∀ i, R (k i)) ∧ ∀ i, R (d i) := by
  have e := congrFun h (fun u => u.elim0)
  unfold Cert.Pre_finite_args.fn at e
  obtain ⟨e1, e3⟩ := both_one e
  obtain ⟨e1, e2⟩ := both_one e1
  refine ⟨fun i => ?_, fun i => ?_, fun i => ?_⟩
  · exact real_of_abs (inf32 ▸ Host.reduce_andi_all _ _ _ _ _ e1 i)
  · exact real_of_abs (inf32 ▸ Host.reduce_andi_all _ _ _ _ _ e2 i)
  · exact real_of_abs (inf16 ▸ Host.reduce_andi_all _ _ _ _ _ e3 i)
end

/-! ## The sinks -/
section
variable {X : FVec Ideal KernelIdeal.S4096x6144 .f32} {C S : FVec Ideal KernelIdeal.S4096x64 .f32}
  {K : FVec Ideal KernelIdeal.S8x4x1x1 .f32} {D : FVec Ideal KernelIdeal.S4096x4096 .bf16}
  {V : Valuation ReferenceIdeal.τ ReferenceIdeal.sig (Elt Ideal)} (A : Agree X C S K D V)
include A
theorem sinks_eq (h : Fin 8) (g : Fin 4) : sinkSum (inAt X C S K D) (ix4 h g 0 0) =
    (∑ n, ∑ q, dSinkE (rx V n h g q) (rs V h g) (rdp V n h g q)) +
      ∑ n, ∑ q, dShf (rx V n h g q) (rs V h g) (rdp V n h g q) * wSink (rx V n h g q) (rs V h g) := by
  rw [← Finset.sum_add_distrib]
  exact Finset.sum_congr rfl fun n _ => dsk_row A h n g
omit A in
theorem ref_sinks (a0 a1 a3 : FVec Ideal ReferenceIdeal.S32x8x4x128x1 .f32) (a2 : FVec Ideal ReferenceIdeal.S1x8x4x1x1 .f32) (h : Fin 8) (g : Fin 4)
    (h0 : ∀ n q, a0 (ix5 n h g q 0) = dSinkE (rx V n h g q) (rs V h g) (rdp V n h g q))
    (h1 : ∀ n q, a1 (ix5 n h g q 0) = dShf (rx V n h g q) (rs V h g) (rdp V n h g q))
    (h3 : ∀ n q, a3 (ix5 n h g q 0) = mx (rx V n h g q)) (h2 : a2 (ix5 0 h g 0 0) = rs V h g) :
    (∑ n, ∑ q, a0 (ix5 n h g q 0)) + ∑ n, ∑ q, a1 (ix5 n h g q 0) *
      (if a3 (ix5 n h g q 0) < a2 (ix5 0 h g 0 0) then 1 else if a2 (ix5 0 h g 0 0) = a3 (ix5 n h g q 0) then half else 0) =
    (∑ n, ∑ q, dSinkE (rx V n h g q) (rs V h g) (rdp V n h g q)) +
      ∑ n, ∑ q, dShf (rx V n h g q) (rs V h g) (rdp V n h g q) * wSink (rx V n h g q) (rs V h g) := by
  simp only [h0, h1, h2, h3, wSink]
end

/-! ## The two programs -/
section
variable [hP : Cert.Pre_finite_args.Facts]
  (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ)
  (c : Dev KernelIdeal.nD)
/-- The reference's arguments. -/
abbrev refV : Valuation ReferenceIdeal.τ ReferenceIdeal.sig (Elt Ideal) := StableHlo.launchContents m' c

variable
  (e0 : m' ((c.tc : Thread ReferenceIdeal.nD ReferenceIdeal.τ).loc ReferenceIdeal.main_arg0) = m ((c.tc : Thread KernelIdeal.nD KernelIdeal.τ).loc KernelIdeal.main_arg0))
  (e1 : m' ((c.tc : Thread ReferenceIdeal.nD ReferenceIdeal.τ).loc ReferenceIdeal.main_arg1) = m ((c.tc : Thread KernelIdeal.nD KernelIdeal.τ).loc KernelIdeal.main_arg1))
  (e2 : m' ((c.tc : Thread ReferenceIdeal.nD ReferenceIdeal.τ).loc ReferenceIdeal.main_arg2) = m ((c.tc : Thread KernelIdeal.nD KernelIdeal.τ).loc KernelIdeal.main_arg2))
include e0 e1 e2
theorem agree : Agree (KernelIdeal.Gen.V1 m ρ c KernelIdeal.main_arg0) (KernelIdeal.Gen.V1 m ρ c KernelIdeal.main_v16)
    (KernelIdeal.Gen.V1 m ρ c KernelIdeal.main_v17) (KernelIdeal.Gen.V1 m ρ c KernelIdeal.main_v18)
    (KernelIdeal.Gen.V1 m ρ c KernelIdeal.main_arg2) (refV m' c) where
  x r u := (congrFun (KernelIdeal.Att.V1_arg0 m ρ c) _).trans (congrFun e0.symm _)
  c r d := (KernelIdeal.Att.V1_cos m ρ c r d).trans (ReferenceIdeal.Att.C_at _ r d).symm
  s r d := (KernelIdeal.Att.V1_sin m ρ c r d).trans (ReferenceIdeal.Att.S_at _ r d).symm
  k h g := (KernelIdeal.Att.V1_sink m ρ c h g).trans (congrFun e1.symm _)
  d r u := (congrFun (KernelIdeal.Att.V1_arg2 m ρ c) _).trans (congrFun e2.symm _)
theorem realArgs (hp : Cert.Pre_KernelIdeal_finite_args m) : RealArgs (refV m' c) where
  x r u := (congrArg R (congrFun e0 _)).mpr ((pre_parts (hp c)).1 _)
  k u := (congrArg R (congrFun e1 _)).mpr ((pre_parts (hp c)).2.1 _)
  d r u := (congrArg R (congrFun e2 _)).mpr ((pre_parts (hp c)).2.2 _)
  c r d := by rw [ReferenceIdeal.Att.C_at]; exact (R.ang r d).cos
  s r d := by rw [ReferenceIdeal.Att.S_at]; exact (R.ang r d).sin

theorem all_same (hp : Cert.Pre_KernelIdeal_finite_args m) (r : Fin 4096) (u : Fin 6144) :
    kq (mIn m ρ c) r u = ReferenceIdeal.Value.res_main_v248 (refV m' c) (ix2 r u) :=
  all_eq (agree m ρ m' c e0 e1 e2) (realArgs m m' c e0 e1 e2 hp) r u
theorem sinks_same (h : Fin 8) (g : Fin 4) (v : FVec Ideal ReferenceIdeal.S8x4x1x1 .f32)
    (hv : v (ix4 h g 0 0) = (∑ n, ∑ q, dSinkE (rx (refV m' c) n h g q) (rs (refV m' c) h g) (rdp (refV m' c) n h g q)) +
      ∑ n, ∑ q, dShf (rx (refV m' c) n h g q) (rs (refV m' c) h g) (rdp (refV m' c) n h g q) * wSink (rx (refV m' c) n h g q) (rs (refV m' c) h g)) :
    sinkSum (mIn m ρ c) (ix4 h g 0 0) = v (ix4 h g 0 0) :=
  (sinks_eq (agree m ρ m' c e0 e1 e2) h g).trans hv.symm
end

/-- From memories that agree on real arguments the two programs end with the same results. -/
theorem algebraic [Cert.Pre_finite_args.Facts] : Cert.algebraic_KernelIdeal_ReferenceIdeal_pre_finite_args := by
  intro m ρ m' ρ' hp he
  refine ⟨fun c => KernelIdeal.Gen.W3 m ρ c (Proc.devRef .tc KernelIdeal.main_v20_0), fun c => KernelIdeal.Gen.W3 m ρ c (Proc.devRef .tc KernelIdeal.main_v20_1),
    fun c => KernelIdeal.Gen.W3 m ρ c (Proc.devRef .tc KernelIdeal.main_v19_5), KernelIdeal.Att.run_W3 m ρ, ?_⟩
  refine (θ_run _ _ _).mono (fun r h c => ?_) (ReferenceIdeal.Value.run m' ρ')
  obtain ⟨h0, h1, h2, h3⟩ := h c
  obtain ⟨e0, e1, e2⟩ := he c
  refine ⟨h0.trans ?_, h1.trans ?_, h2.trans ?_, h3⟩
  · refine Eq.trans ?_ (KernelIdeal.Att.W3_v20_0 m ρ c).symm
    funext y
    obtain ⟨r, u, rfl⟩ : ∃ (r : Fin 4096) (u : Fin 6144), y = ix2 r u := ⟨y 0, y 1, by idx_vars y⟩
    exact (all_same m ρ m' c e0 e1 e2 hp r u).symm
  · refine Eq.trans ?_ (KernelIdeal.Att.W3_v20_1 m ρ c).symm
    funext y
    obtain ⟨z, u, rfl⟩ : ∃ (z : Fin 1) (u : Fin 6144), y = ix2 z u := ⟨y 0, y 1, by idx_vars y⟩
    obtain rfl : z = 0 := Subsingleton.elim _ _
    refine (bias_at _ u).trans ?_
    exact Finset.sum_congr rfl fun r _ => (all_same m ρ m' c e0 e1 e2 hp r u).symm
  · refine Eq.trans ?_ (KernelIdeal.Att.W3_v19_5 m ρ c).symm
    funext y
    obtain ⟨a, b, z, w, rfl⟩ : ∃ (a : Fin 8) (b : Fin 4) (z w : Fin 1), y = ix4 a b z w := ⟨y 0, y 1, y 2, y 3, by idx_vars y⟩
    obtain rfl : z = 0 := Subsingleton.elim _ _
    obtain rfl : w = 0 := Subsingleton.elim _ _
    refine (sinks_same m ρ m' c e0 e1 e2 a b _ ?_).symm
    refine (sink_at _ _ _ _ a b).trans ?_
    exact ref_sinks _ _ _ _ a b (fun n q => ReferenceIdeal.Att.v170_at _ n a b q) (fun n q => ReferenceIdeal.Att.v181_at _ n a b q)
      (fun n q => ReferenceIdeal.Att.v118_at _ n a b q) (ReferenceIdeal.Att.v111_at _ a b)
end Att
-- ==== Proof.FfnRow.lean ====
module
public import proofs.«01_k».proof.Proof.RowReal
@[expose] public section
noncomputable section

/-! The gate's function and its derivative: the kernel's form, by `1 + exp (-x)`, and the logistic form agree. -/
namespace Ffn
open Idealize.ShloMosaic

/-- `1 + exp (-x)`, as the kernel writes it. -/
def den (x : EReal) : EReal := 1 + Ideal.exp (0 - x)
/-- The activation of a pre-activation `x` and its factor `u`. -/
def act (x u : EReal) : EReal := x * Ideal.div 1 (den x) * u
/-- The cotangent of the pre-activation, the activation's being `a`. -/
def dGate (x u a : EReal) : EReal :=
  a * u * Ideal.div 1 (den x) + (0 - (0 - x * (a * u) * Ideal.div 1 (den x * den x)) * Ideal.exp (0 - x))
/-- The cotangent of the factor. -/
def dUp (x a : EReal) : EReal := x * Ideal.div 1 (den x) * a

/-- Column `f` of block `j` among the 11008 hidden columns. -/
abbrev col (j : Fin 8) (f : Fin 1376) : Fin 11008 := ⟨j.val * 1376 + f.val, by omega⟩
/-- Row `s` of block `j` where the blocks stand one after the other. -/
abbrev blkRow (j : Fin 8) (s : Fin 4096) : Fin 32768 := ⟨j.val * 4096 + s.val, by omega⟩

section
variable (H D : Fin 4096 → Fin 4096 → EReal) (A B : Fin 4096 → Fin 11008 → EReal) (C : Fin 11008 → Fin 4096 → EReal)
/-- A product of the rows `H` with the columns of `A`. -/
def pre (s : Fin 4096) (u : Fin 11008) : EReal := ∑ k, H s k * A k u
/-- The cotangent of the activation: the rows `D` against the rows of `C`. -/
def cot (s : Fin 4096) (u : Fin 11008) : EReal := ∑ k, D s k * C u k
/-- The gradients of the three weights, as the kernel sums them. -/
def kGate (i : Fin 4096) (u : Fin 11008) : EReal := ∑ s, H s i * dGate (pre H A s u) (pre H B s u) (cot D C s u)
def kUp (i : Fin 4096) (u : Fin 11008) : EReal := ∑ s, H s i * dUp (pre H A s u) (cot D C s u)
def kDown (u : Fin 11008) (i : Fin 4096) : EReal := ∑ s, act (pre H A s u) (pre H B s u) * D s i
end

/-- The logistic function. -/
def lgs (x : EReal) : EReal := Ideal.div 1 (1 + Ideal.exp (-x))

theorem act_eq (x u : EReal) : act x u = x * lgs x * u := by
  unfold act lgs den; rw [zero_sub]
theorem dUp_eq (x a : EReal) : dUp x a = a * (x * lgs x) := by
  unfold dUp lgs den; rw [zero_sub, mul_comm]
/-- One over `1 + exp (-x)`, in the two forms. -/
theorem div_den (x : EReal) : Ideal.div 1 (den x) = lgs x := by
  unfold lgs den; rw [zero_sub]
/-- The derivative of the logistic function, in the two forms, at every extended real. -/
theorem slope_eq (x : EReal) : Ideal.div 1 (den x * den x) * Ideal.exp (0 - x) = lgs x * (1 - lgs x) := by
  induction x with
  | bot =>
    have h : Ideal.exp ⊤ = ⊤ := rfl
    have hd : (1 : EReal) + ⊤ = ⊤ := rfl
    unfold den lgs
    simp [h, hd, Ideal.div]
  | top =>
    have h : Ideal.exp ⊥ = 0 := rfl
    have h1 : (1 : EReal) - 1 = 0 := by
      rw [show (1 : EReal) = ((1 : ℝ) : EReal) from rfl, ← EReal.coe_sub, sub_self]; rfl
    unfold den lgs
    simp [h, h1, Ideal.div]
  | coe x =>
    have he : (0 : ℝ) < 1 + Real.exp (-x) := by positivity
    have hd : den (x : EReal) = ((1 + Real.exp (-x) : ℝ) : EReal) := by
      unfold den; rw [zero_sub, ← EReal.coe_neg]; rfl
    have hdiv {y : ℝ} (h : y ≠ 0) : Ideal.div 1 (y : EReal) = ((y⁻¹ : ℝ) : EReal) := by
      rw [Ideal.div, if_neg (by exact_mod_cast h), one_mul, EReal.coe_inv]
    rw [← div_den, hd, ← EReal.coe_mul, hdiv he.ne', hdiv (mul_pos he he).ne', zero_sub, ← EReal.coe_neg,
      show Ideal.exp ((-x : ℝ) : EReal) = ((Real.exp (-x) : ℝ) : EReal) from rfl, show (1 : EReal) = ((1 : ℝ) : EReal) from rfl]
    simp only [← EReal.coe_mul, ← EReal.coe_sub]
    congr 1
    field_simp
    ring
/-- The kernel's derivative of the logistic function times a factor. -/
theorem slope_mul (y x : EReal) : 0 - (0 - y * Ideal.div 1 (den x * den x)) * Ideal.exp (0 - x) = y * (lgs x * (1 - lgs x)) := by
  rw [← slope_eq, zero_sub, zero_sub (y * _), neg_mul, neg_neg, mul_assoc]
/-- The derivative of `x * lgs x`, in the two forms. -/
theorem dGate_eq (x u a : EReal) : dGate x u a = a * u * lgs x + x * (a * u) * (lgs x * (1 - lgs x)) := by
  unfold dGate
  rw [slope_mul, div_den]
/-- The gradient of the first weight, in the logistic form. -/
theorem kGate_eq (H D : Fin 4096 → Fin 4096 → EReal) (A B : Fin 4096 → Fin 11008 → EReal) (C : Fin 11008 → Fin 4096 → EReal) (i : Fin 4096) (u : Fin 11008) :
    kGate H D A B C i u = ∑ s, (cot D C s u * pre H B s u * lgs (pre H A s u) +
      pre H A s u * (cot D C s u * pre H B s u) * (lgs (pre H A s u) * (1 - lgs (pre H A s u)))) * H s i :=
  Finset.sum_congr rfl fun s _ => by rw [dGate_eq, mul_comm]
theorem kUp_eq (H D : Fin 4096 → Fin 4096 → EReal) (A : Fin 4096 → Fin 11008 → EReal) (C : Fin 11008 → Fin 4096 → EReal) (i : Fin 4096) (u : Fin 11008) :
    kUp H D A C i u = ∑ s, pre H A s u * lgs (pre H A s u) * cot D C s u * H s i :=
  Finset.sum_congr rfl fun s _ => by rw [dUp_eq, mul_comm, mul_comm (cot D C s u)]
theorem kDown_eq (H D : Fin 4096 → Fin 4096 → EReal) (A B : Fin 4096 → Fin 11008 → EReal) (u : Fin 11008) (i : Fin 4096) :
    kDown H D A B u i = ∑ s, D s i * (pre H A s u * lgs (pre H A s u) * pre H B s u) :=
  Finset.sum_congr rfl fun s _ => by rw [act_eq, mul_comm]
end Ffn
-- ==== Proof.FfnArr.lean ====
module
public import proofs.«01_k».proof.Proof.Gen.Kernel2Ideal.Frame
public import Idealize.ShloMosaic.Lib.Pipeline.ValueKit
public import proofs.«01_k».proof.Proof.FfnRow
@[expose] public section
set_option maxRecDepth 16384
noncomputable section

/-! The arrays the six regions of the channel mixer's backward pass leave: the activation, its cotangent, the
gradient of the third weight, the cotangents of the two pre-activations, and the gradients of the first two weights. -/
namespace Cert.Kernel2Ideal.Ffn
open Idealize.ShloMosaic Idealize.ShloMosaic.TcCoe Idealize.SL.Sem
open Cert.Kernel2Ideal Cert.Kernel2Ideal.Gen _root_.Ffn

theorem idx0 : ∀ t : Fin cfg0.N, win0_0.index t = ![t.val, 0] ∧ win0_1.index t = ![t.val, 0] ∧ win0_2.index t = ![t.val, 0] :=
  (by decide +kernel : ∀ t : Fin grid0.N, _)
theorem idx1 : ∀ t : Fin cfg1.N, win1_0.index t = ![0, t.val % 8, 0] ∧ win1_1.index t = ![t.val / 8, 0, 0] ∧ win1_2.index t = ![t.val / 8, t.val % 8, 0] :=
  (by decide +kernel : ∀ t : Fin grid1.N, _)
theorem idx2 : ∀ t : Fin cfg2.N, win2_0.index t = ![t.val / 8, 0, 0] ∧ win2_1.index t = ![0, 0, t.val % 8] ∧ win2_2.index t = ![t.val / 8, 0, t.val % 8] :=
  (by decide +kernel : ∀ t : Fin grid2.N, _)
theorem idx3 : ∀ t : Fin cfg3.N, win3_0.index t = ![t.val, 0] ∧ win3_1.index t = ![t.val, 0] ∧ win3_2.index t = ![t.val, 0] ∧
    win3_3.index t = ![t.val, 0] ∧ win3_4.index t = ![t.val, 0] :=
  (by decide +kernel : ∀ t : Fin grid3.N, _)
theorem idx4 : ∀ t : Fin cfg4.N, win4_0.index t = ![0, 0, t.val % 8] ∧ win4_1.index t = ![t.val / 8, 0, 0] ∧ win4_2.index t = ![t.val / 8, t.val % 8, 0] :=
  (by decide +kernel : ∀ t : Fin grid4.N, _)
theorem idx5 : ∀ t : Fin cfg5.N, win5_0.index t = ![0, 0, t.val % 8] ∧ win5_1.index t = ![t.val / 8, 0, 0] ∧ win5_2.index t = ![t.val / 8, t.val % 8, 0] :=
  (by decide +kernel : ∀ t : Fin grid5.N, _)

/-! ## What a point leaves, element by element -/
theorem pay0 (x u : FVec Ideal S512x1376 .f32) (i : Fin 512) (j : Fin 1376) :
    k0_pay1 (F := Ideal) x u (ix2 i j) = act (x (ix2 i j)) (u (ix2 i j)) := by
  pointwise [k0_pay1]
  rfl
theorem pay1 (a : FVec Ideal S1x512x4096 .bf16) (b : FVec Ideal S1x1376x4096 .bf16) (i : Fin 512) (j : Fin 1376) :
    k1_pay1 (F := Ideal) a b (ix3 0 i j) = ∑ k : Fin 4096, a (ix3 0 i k) * b (ix3 0 j k) := by
  pointwise [k1_pay1]
theorem pay2 (a : FVec Ideal S1x4096x1376 .bf16) (b : FVec Ideal S1x4096x512 .bf16) (i : Fin 1376) (j : Fin 512) :
    k2_pay1 (F := Ideal) a b (ix3 0 i j) = ∑ k : Fin 4096, a (ix3 0 k i) * b (ix3 0 k j) := by
  pointwise [k2_pay1]
theorem pay3 (x u : FVec Ideal S512x1376 .f32) (a : FVec Ideal S512x1376 .bf16) (i : Fin 512) (j : Fin 1376) :
    k3_pay6 (F := Ideal) x u a (ix2 i j) = dGate (x (ix2 i j)) (u (ix2 i j)) (a (ix2 i j)) := by
  pointwise [k3_pay6, k3_pay5, k3_pay4, k3_pay3, k3_pay2, k3_pay1]
  rfl
theorem pay3' (x : FVec Ideal S512x1376 .f32) (a : FVec Ideal S512x1376 .bf16) (i : Fin 512) (j : Fin 1376) :
    k3_pay7 (F := Ideal) x a (ix2 i j) = dUp (x (ix2 i j)) (a (ix2 i j)) := by
  pointwise [k3_pay7, k3_pay5, k3_pay4, k3_pay3, k3_pay2, k3_pay1]
  rfl
theorem pay4 (a : FVec Ideal S1x4096x512 .bf16) (b : FVec Ideal S1x4096x1376 .bf16) (i : Fin 512) (j : Fin 1376) :
    k4_pay1 (F := Ideal) a b (ix3 0 i j) = ∑ k : Fin 4096, a (ix3 0 k i) * b (ix3 0 k j) := by
  pointwise [k4_pay1]
theorem pay5 (a : FVec Ideal S1x4096x512 .bf16) (b : FVec Ideal S1x4096x1376 .bf16) (i : Fin 512) (j : Fin 1376) :
    k5_pay1 (F := Ideal) a b (ix3 0 i j) = ∑ k : Fin 4096, a (ix3 0 k i) * b (ix3 0 k j) := by
  pointwise [k5_pay1]

/-! ## The arrays -/
/-- Two sums of products with equal factors. -/
theorem sum_mul_eq {p q p' q' : Fin 4096 → EReal} (h1 : ∀ k, p k = p' k) (h2 : ∀ k, q k = q' k) : ∑ k, p k * q k = ∑ k, p' k * q' k :=
  Finset.sum_congr rfl fun k _ => by rw [h1, h2]
/-- Rows against the rows of each block of a weight. -/
def byRows (a : FVec Ideal S1x4096x4096 .bf16) (b : FVec Ideal S8x1376x4096 .bf16) : FVec Ideal S8x4096x1376 .bf16 :=
  fun y => (∑ k : Fin 4096, (a (ix3 0 (y 1) k) : EReal) * b (ix3 (y 0) (y 2) k) : EReal)
/-- Columns of each block against columns. -/
def byColsL (a : FVec Ideal S8x4096x1376 .bf16) (b : FVec Ideal S1x4096x4096 .bf16) : FVec Ideal S8x1376x4096 .bf16 :=
  fun y => (∑ k : Fin 4096, (a (ix3 (y 0) k (y 1)) : EReal) * b (ix3 0 k (y 2)) : EReal)
/-- Columns against columns of each block. -/
def byColsR (a : FVec Ideal S1x4096x4096 .bf16) (b : FVec Ideal S8x4096x1376 .bf16) : FVec Ideal S8x4096x1376 .bf16 :=
  fun y => (∑ k : Fin 4096, (a (ix3 0 k (y 1)) : EReal) * b (ix3 (y 0) k (y 2)) : EReal)

variable (V : (c : Dev nD) → (b : Ref sig .tc) → Buf (Elt Ideal) ((c : Thread nD τ).loc b)) (c : Dev nD)

theorem arr0_2 : (dat0 V c).arrAt 2 cfg0.N = fun y : S32768x1376.Idx => act (V c main_v10 y) (V c main_v11 y) := by
  refine (dat0 V c).arrAt_eq_of_covers 2 _ (by decide +kernel) fun t hf y => ?_
  obtain ⟨q, j, rfl⟩ : ∃ (q : Fin 512) (j : Fin 1376), y = ix2 q j := ⟨y 0, y 1, by idx_vars y⟩
  blk_simp
  rw [after0_2]
  unfold out0_2
  frame_out
  refine (pay0 _ _ q j).trans ?_
  congr 1 <;> blk_ext [iblk0, idx0 t]
theorem arr1_2 : (dat1 V c).arrAt 2 cfg1.N = byRows (V c main_v14) (V c main_v9) := by
  refine (dat1 V c).arrAt_eq_of_covers 2 _ (by decide +kernel) fun t hf y => ?_
  obtain ⟨z, q, j, rfl⟩ : ∃ (z : Fin 1) (q : Fin 512) (j : Fin 1376), y = ix3 z q j := ⟨y 0, y 1, y 2, by idx_vars y⟩
  obtain rfl : z = 0 := Subsingleton.elim _ _
  blk_simp
  rw [after1_2]
  unfold out1_2
  frame_out
  unfold byRows
  refine (pay1 _ _ q j).trans (sum_mul_eq (fun k => ?_) fun k => ?_) <;> blk_ext [iblk1, idx1 t]
theorem arr2_2 : (dat2 V c).arrAt 2 cfg2.N = byColsL (V c main_v13) (V c main_v16) := by
  refine (dat2 V c).arrAt_eq_of_covers 2 _ (by decide +kernel) fun t hf y => ?_
  obtain ⟨z, q, j, rfl⟩ : ∃ (z : Fin 1) (q : Fin 1376) (j : Fin 512), y = ix3 z q j := ⟨y 0, y 1, y 2, by idx_vars y⟩
  obtain rfl : z = 0 := Subsingleton.elim _ _
  blk_simp
  rw [after2_2]
  unfold out2_2
  frame_out
  unfold byColsL
  refine (pay2 _ _ q j).trans (sum_mul_eq (fun k => ?_) fun k => ?_) <;> blk_ext [iblk2, idx2 t]
theorem arr3_3 : (dat3 V c).arrAt 3 cfg3.N = fun y : S32768x1376.Idx => dGate (V c main_v18 y) (V c main_v19 y) (V c main_v20 y) := by
  refine (dat3 V c).arrAt_eq_of_covers 3 _ (by decide +kernel) fun t hf y => ?_
  obtain ⟨q, j, rfl⟩ : ∃ (q : Fin 512) (j : Fin 1376), y = ix2 q j := ⟨y 0, y 1, by idx_vars y⟩
  blk_simp
  rw [after3_3]
  unfold out3_3
  frame_out
  refine (pay3 _ _ _ q j).trans ?_
  congr 1 <;> blk_ext [iblk3, idx3 t]
theorem arr3_4 : (dat3 V c).arrAt 4 cfg3.N = fun y : S32768x1376.Idx => dUp (V c main_v18 y) (V c main_v20 y) := by
  refine (dat3 V c).arrAt_eq_of_covers 4 _ (by decide +kernel) fun t hf y => ?_
  obtain ⟨q, j, rfl⟩ : ∃ (q : Fin 512) (j : Fin 1376), y = ix2 q j := ⟨y 0, y 1, by idx_vars y⟩
  blk_simp
  rw [after3_4]
  unfold out3_4
  frame_out
  refine (pay3' _ _ q j).trans ?_
  congr 1 <;> blk_ext [iblk3, idx3 t]
theorem arr4_2 : (dat4 V c).arrAt 2 cfg4.N = byColsR (V c main_v24) (V c main_v22) := by
  refine (dat4 V c).arrAt_eq_of_covers 2 _ (by decide +kernel) fun t hf y => ?_
  obtain ⟨z, q, j, rfl⟩ : ∃ (z : Fin 1) (q : Fin 512) (j : Fin 1376), y = ix3 z q j := ⟨y 0, y 1, y 2, by idx_vars y⟩
  obtain rfl : z = 0 := Subsingleton.elim _ _
  blk_simp
  rw [after4_2]
  unfold out4_2
  frame_out
  unfold byColsR
  refine (pay4 _ _ q j).trans (sum_mul_eq (fun k => ?_) fun k => ?_) <;> blk_ext [iblk4, idx4 t]
theorem arr5_2 : (dat5 V c).arrAt 2 cfg5.N = byColsR (V c main_v26) (V c main_v23) := by
  refine (dat5 V c).arrAt_eq_of_covers 2 _ (by decide +kernel) fun t hf y => ?_
  obtain ⟨z, q, j, rfl⟩ : ∃ (z : Fin 1) (q : Fin 512) (j : Fin 1376), y = ix3 z q j := ⟨y 0, y 1, y 2, by idx_vars y⟩
  obtain rfl : z = 0 := Subsingleton.elim _ _
  blk_simp
  rw [after5_2]
  unfold out5_2
  frame_out
  unfold byColsR
  refine (pay5 _ _ q j).trans (sum_mul_eq (fun k => ?_) fun k => ?_) <;> blk_ext [iblk5, idx5 t]
end Cert.Kernel2Ideal.Ffn
-- ==== Proof.FfnRun.lean ====
module
public import proofs.«01_k».proof.Proof.FfnArr
public import Idealize.ShloMosaic.Lib.Claim
@[expose] public section
set_option maxRecDepth 16384
noncomputable section

/-! What a run of the channel mixer's backward pass leaves in its three results. -/
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen _root_.Ffn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run ends with every buffer of the program at the contents of the last boundary. -/
theorem run_W12 : θ_run defs (onTc (τ := τ) (main (F := Ideal))) ⟨m, fun _ => 0, ρ⟩ (fun r => ∀ c : Dev nD,
      r.2.mem ((c.tc : Thread nD τ).loc main_v25) = W12 m ρ c (Proc.devRef .tc main_v25)
      ∧ r.2.mem ((c.tc : Thread nD τ).loc main_v27) = W12 m ρ c (Proc.devRef .tc main_v27)
      ∧ r.2.mem ((c.tc : Thread nD τ).loc main_v17) = W12 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v25 (by decide)), h c _ (mem_uc main_v27 (by decide)), h c _ (mem_uc main_v17 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c)⟩)

variable (c : Dev nD)

/-! ## The arguments, by rows and columns -/
abbrev mH (s k : Fin 4096) : EReal := m ((c : Thread nD τ).loc main_arg0) (ix2 s k)
abbrev mA (k : Fin 4096) (u : Fin 11008) : EReal := m ((c : Thread nD τ).loc main_arg1) (ix2 k u)
abbrev mB (k : Fin 4096) (u : Fin 11008) : EReal := m ((c : Thread nD τ).loc main_arg2) (ix2 k u)
abbrev mC (u : Fin 11008) (k : Fin 4096) : EReal := m ((c : Thread nD τ).loc main_arg3) (ix2 u k)
abbrev mD (s k : Fin 4096) : EReal := m ((c : Thread nD τ).loc main_arg4) (ix2 s k)

/-! ## The rows of a stack of blocks -/
theorem blk_div (j : Fin 8) (s : Fin 4096) (h : (j.val * 4096 + s.val) / 4096 < 8) : (⟨(j.val * 4096 + s.val) / 4096, h⟩ : Fin 8) = j :=
  Fin.ext (by have := s.isLt; dsimp; omega)
theorem blk_mod (j : Fin 8) (s : Fin 4096) (h : (j.val * 4096 + s.val) % 4096 < 4096) : (⟨(j.val * 4096 + s.val) % 4096, h⟩ : Fin 4096) = s :=
  Fin.ext (by have := s.isLt; dsimp; omega)
theorem blk_col (j : Fin 8) (s : Fin 4096) (f : Fin 1376) (h : (j.val * 4096 + s.val) / 4096 * 1376 + f.val < 11008) :
    (⟨(j.val * 4096 + s.val) / 4096 * 1376 + f.val, h⟩ : Fin 11008) = col j f :=
  Fin.ext (by have := s.isLt; dsimp; omega)
/-- One element of each product of blocks, of what the factors hold. -/
theorem byRows_eq {a : FVec Ideal S1x4096x4096 .bf16} {b : FVec Ideal S8x1376x4096 .bf16} {p q : Fin 4096 → EReal} {j : Fin 8} {s : Fin 4096} {f : Fin 1376}
    (h1 : ∀ k, (a (ix3 0 s k) : EReal) = p k) (h2 : ∀ k, (b (ix3 j f k) : EReal) = q k) : (byRows a b (ix3 j s f) : EReal) = ∑ k, p k * q k :=
  sum_mul_eq h1 h2
theorem byColsL_eq {a : FVec Ideal S8x4096x1376 .bf16} {b : FVec Ideal S1x4096x4096 .bf16} {p q : Fin 4096 → EReal} {j : Fin 8} {i : Fin 4096} {f : Fin 1376}
    (h1 : ∀ k, (a (ix3 j k f) : EReal) = p k) (h2 : ∀ k, (b (ix3 0 k i) : EReal) = q k) : (byColsL a b (ix3 j f i) : EReal) = ∑ k, p k * q k :=
  sum_mul_eq h1 h2
theorem byColsR_eq {a : FVec Ideal S1x4096x4096 .bf16} {b : FVec Ideal S8x4096x1376 .bf16} {p q : Fin 4096 → EReal} {j : Fin 8} {i : Fin 4096} {f : Fin 1376}
    (h1 : ∀ k, (a (ix3 0 k i) : EReal) = p k) (h2 : ∀ k, (b (ix3 j k f) : EReal) = q k) : (byColsR a b (ix3 j i f) : EReal) = ∑ k, p k * q k :=
  sum_mul_eq h1 h2

/-! ## What each stretch of host code leaves, of any contents it finds -/
section
variable (W : Valuation τ sig (Elt Ideal)) (j : Fin 8) (s k : Fin 4096) (f : Fin 1376)
theorem h0_v3 : (StableHlo.after hostOps0 W (Proc.devRef .tc main_v3) (ix3 j s f) : EReal) =
    pre (fun s k => W (Proc.devRef .tc main_arg0) (ix2 s k)) (fun k u => W (Proc.devRef .tc main_arg1) (ix2 k u)) s (col j f) := by
  entry_read
  pointwise
  rfl
theorem h0_v7 : (StableHlo.after hostOps0 W (Proc.devRef .tc main_v7) (ix3 j s f) : EReal) =
    pre (fun s k => W (Proc.devRef .tc main_arg0) (ix2 s k)) (fun k u => W (Proc.devRef .tc main_arg2) (ix2 k u)) s (col j f) := by
  entry_read
  pointwise
  rfl
theorem h0_v9 : (StableHlo.after hostOps0 W (Proc.devRef .tc main_v9) (ix3 j f k) : EReal) = W (Proc.devRef .tc main_arg3) (ix2 (col j f) k) := by
  entry_read
  pointwise
theorem h0_v10 : (StableHlo.after hostOps0 W (Proc.devRef .tc main_v10) (ix2 (blkRow j s) f) : EReal) =
    pre (fun s k => W (Proc.devRef .tc main_arg0) (ix2 s k)) (fun k u => W (Proc.devRef .tc main_arg1) (ix2 k u)) s (col j f) := by
  entry_read
  pointwise
  simp only [blk_mod, blk_col]
  rfl
theorem h0_v11 : (StableHlo.after hostOps0 W (Proc.devRef .tc main_v11) (ix2 (blkRow j s) f) : EReal) =
    pre (fun s k => W (Proc.devRef .tc main_arg0) (ix2 s k)) (fun k u => W (Proc.devRef .tc main_arg2) (ix2 k u)) s (col j f) := by
  entry_read
  pointwise
  simp only [blk_mod, blk_col]
  rfl
theorem h1_v13 : (StableHlo.after hostOps1 W (Proc.devRef .tc main_v13) (ix3 j s f) : EReal) = W (Proc.devRef .tc main_v12) (ix2 (blkRow j s) f) := by
  entry_read
  pointwise
theorem h1_v14 : (StableHlo.after hostOps1 W (Proc.devRef .tc main_v14) (ix3 0 s k) : EReal) = W (Proc.devRef .tc main_arg4) (ix2 s k) := by
  entry_read
  pointwise
theorem h2_v16 : (StableHlo.after hostOps2 W (Proc.devRef .tc main_v16) (ix3 0 s k) : EReal) = W (Proc.devRef .tc main_arg4) (ix2 s k) := by
  entry_read
  pointwise
theorem h3_v18 : (StableHlo.after hostOps3 W (Proc.devRef .tc main_v18) (ix2 (blkRow j s) f) : EReal) = W (Proc.devRef .tc main_v3) (ix3 j s f) := by
  entry_read
  pointwise
  simp only [blk_mod, blk_div]
theorem h3_v19 : (StableHlo.after hostOps3 W (Proc.devRef .tc main_v19) (ix2 (blkRow j s) f) : EReal) = W (Proc.devRef .tc main_v7) (ix3 j s f) := by
  entry_read
  pointwise
  simp only [blk_mod, blk_div]
theorem h3_v20 : (StableHlo.after hostOps3 W (Proc.devRef .tc main_v20) (ix2 (blkRow j s) f) : EReal) = W (Proc.devRef .tc main_v15) (ix3 j s f) := by
  entry_read
  pointwise
  simp only [blk_mod, blk_div]
theorem h4_v22 : (StableHlo.after hostOps4 W (Proc.devRef .tc main_v22) (ix3 j s f) : EReal) = W (Proc.devRef .tc main_v21_0) (ix2 (blkRow j s) f) := by
  entry_read
  pointwise
theorem h4_v23 : (StableHlo.after hostOps4 W (Proc.devRef .tc main_v23) (ix3 j s f) : EReal) = W (Proc.devRef .tc main_v21_1) (ix2 (blkRow j s) f) := by
  entry_read
  pointwise
theorem h4_v24 : (StableHlo.after hostOps4 W (Proc.devRef .tc main_v24) (ix3 0 s k) : EReal) = W (Proc.devRef .tc main_arg0) (ix2 s k) := by
  entry_read
  pointwise
theorem h5_v26 : (StableHlo.after hostOps5 W (Proc.devRef .tc main_v26) (ix3 0 s k) : EReal) = W (Proc.devRef .tc main_arg0) (ix2 s k) := by
  entry_read
  pointwise
end

/-! ## The contents each region finds -/
variable (j : Fin 8) (s k : Fin 4096) (f : Fin 1376)
/-- The activation, laid out by blocks. -/
theorem V5_v13 : (V5 m ρ c main_v13 (ix3 j s f) : EReal) = act (pre (mH m c) (mA m c) s (col j f)) (pre (mH m c) (mB m c) s (col j f)) := by
  refine (congrFun ((W5_of m ρ c main_v13 (by decide)).trans (W4_of m ρ c main_v13 (by decide +kernel))) _).trans ?_
  refine (h1_v13 (W2 m ρ c) j s f).trans ((congrFun ((W2_arr m ρ c 2).trans (arr0_2 _ c)) _).trans ?_)
  exact congrArg₂ act (h0_v10 (W0 m ρ c) j s f) (h0_v11 (W0 m ρ c) j s f)
theorem V3_v14 : (V3 m ρ c main_v14 (ix3 0 s k) : EReal) = mD m c s k :=
  (h1_v14 (W2 m ρ c) s k).trans (congrFun (W2_args m ρ c main_arg4 (by decide)) _)
theorem V3_v9 : (V3 m ρ c main_v9 (ix3 j f k) : EReal) = mC m c (col j f) k :=
  (congrFun ((W3_of m ρ c main_v9 (by decide)).trans (W2_of m ρ c main_v9 (by decide +kernel))) _).trans (h0_v9 (W0 m ρ c) j k f)
theorem V5_v16 : (V5 m ρ c main_v16 (ix3 0 s k) : EReal) = mD m c s k :=
  (h2_v16 (W4 m ρ c) s k).trans (congrFun (W4_args m ρ c main_arg4 (by decide)) _)
theorem W6_v3 : W6 m ρ c (Proc.devRef .tc main_v3) = W1 m ρ c (Proc.devRef .tc main_v3) :=
  (W6_of m ρ c main_v3 (by decide +kernel)).trans ((W5_of m ρ c main_v3 (by decide)).trans ((W4_of m ρ c main_v3 (by decide +kernel)).trans
    ((W3_of m ρ c main_v3 (by decide)).trans (W2_of m ρ c main_v3 (by decide +kernel)))))
theorem W6_v7 : W6 m ρ c (Proc.devRef .tc main_v7) = W1 m ρ c (Proc.devRef .tc main_v7) :=
  (W6_of m ρ c main_v7 (by decide +kernel)).trans ((W5_of m ρ c main_v7 (by decide)).trans ((W4_of m ρ c main_v7 (by decide +kernel)).trans
    ((W3_of m ρ c main_v7 (by decide)).trans (W2_of m ρ c main_v7 (by decide +kernel)))))
theorem V7_v18 : (V7 m ρ c main_v18 (ix2 (blkRow j s) f) : EReal) = pre (mH m c) (mA m c) s (col j f) :=
  (h3_v18 (W6 m ρ c) j s f).trans ((congrFun (W6_v3 m ρ c) _).trans (h0_v3 (W0 m ρ c) j s f))
theorem V7_v19 : (V7 m ρ c main_v19 (ix2 (blkRow j s) f) : EReal) = pre (mH m c) (mB m c) s (col j f) :=
  (h3_v19 (W6 m ρ c) j s f).trans ((congrFun (W6_v7 m ρ c) _).trans (h0_v7 (W0 m ρ c) j s f))
/-- The activation's cotangent. -/
theorem V7_v20 : (V7 m ρ c main_v20 (ix2 (blkRow j s) f) : EReal) = cot (mD m c) (mC m c) s (col j f) := by
  refine (h3_v20 (W6 m ρ c) j s f).trans ?_
  refine (congrFun ((W6_of m ρ c main_v15 (by decide +kernel)).trans ((W5_of m ρ c main_v15 (by decide)).trans
    ((W4_arr m ρ c 2).trans (arr1_2 _ c)))) _).trans ?_
  exact byRows_eq (fun k => V3_v14 m ρ c s k) fun k => V3_v9 m ρ c j k f
theorem V9_v22 : (V9 m ρ c main_v22 (ix3 j s f) : EReal) =
    dGate (pre (mH m c) (mA m c) s (col j f)) (pre (mH m c) (mB m c) s (col j f)) (cot (mD m c) (mC m c) s (col j f)) := by
  refine (h4_v22 (W8 m ρ c) j s f).trans ((congrFun ((W8_arr m ρ c 3).trans (arr3_3 _ c)) _).trans ?_)
  show dGate (V7 m ρ c main_v18 (ix2 (blkRow j s) f)) (V7 m ρ c main_v19 (ix2 (blkRow j s) f)) (V7 m ρ c main_v20 (ix2 (blkRow j s) f)) = _
  rw [V7_v18, V7_v19, V7_v20]
theorem V9_v23 : (V9 m ρ c main_v23 (ix3 j s f) : EReal) = dUp (pre (mH m c) (mA m c) s (col j f)) (cot (mD m c) (mC m c) s (col j f)) := by
  refine (h4_v23 (W8 m ρ c) j s f).trans ((congrFun ((W8_arr m ρ c 4).trans (arr3_4 _ c)) _).trans ?_)
  exact congrArg₂ dUp (V7_v18 m ρ c j s f) (V7_v20 m ρ c j s f)
theorem V11_v23 : (V11 m ρ c main_v23 (ix3 j s f) : EReal) = dUp (pre (mH m c) (mA m c) s (col j f)) (cot (mD m c) (mC m c) s (col j f)) :=
  (congrFun ((W11_of m ρ c main_v23 (by decide)).trans (W10_of m ρ c main_v23 (by decide +kernel))) _).trans (V9_v23 m ρ c j s f)
theorem V9_v24 : (V9 m ρ c main_v24 (ix3 0 s k) : EReal) = mH m c s k :=
  (h4_v24 (W8 m ρ c) s k).trans (congrFun (W8_args m ρ c main_arg0 (by decide)) _)
theorem V11_v26 : (V11 m ρ c main_v26 (ix3 0 s k) : EReal) = mH m c s k :=
  (h5_v26 (W10 m ρ c) s k).trans (congrFun (W10_args m ρ c main_arg0 (by decide)) _)

/-! ## The results -/
theorem W12_v25 (i : Fin 4096) : (W12 m ρ c (Proc.devRef .tc main_v25) (ix3 j i f) : EReal) = kGate (mH m c) (mD m c) (mA m c) (mB m c) (mC m c) i (col j f) := by
  refine (congrFun ((W12_of m ρ c main_v25 (by decide +kernel)).trans ((W11_of m ρ c main_v25 (by decide)).trans ((W10_arr m ρ c 2).trans (arr4_2 _ c)))) _).trans ?_
  exact byColsR_eq (fun s => V9_v24 m ρ c s i) fun s => V9_v22 m ρ c j s f
theorem W12_v27 (i : Fin 4096) : (W12 m ρ c (Proc.devRef .tc main_v27) (ix3 j i f) : EReal) = kUp (mH m c) (mD m c) (mA m c) (mC m c) i (col j f) := by
  refine (congrFun ((W12_arr m ρ c 2).trans (arr5_2 _ c)) _).trans ?_
  exact byColsR_eq (fun s => V11_v26 m ρ c s i) fun s => V11_v23 m ρ c j s f
theorem W12_v17 (i : Fin 4096) : (W12 m ρ c (Proc.devRef .tc main_v17) (ix3 j f i) : EReal) = kDown (mH m c) (mD m c) (mA m c) (mB m c) (col j f) i := by
  refine (congrFun ((W12_of m ρ c main_v17 (by decide +kernel)).trans ((W11_of m ρ c main_v17 (by decide)).trans ((W10_of m ρ c main_v17 (by decide +kernel)).trans
    ((W9_of m ρ c main_v17 (by decide)).trans ((W8_of m ρ c main_v17 (by decide +kernel)).trans ((W7_of m ρ c main_v17 (by decide)).trans
      ((W6_arr m ρ c 2).trans (arr2_2 _ c)))))))) _).trans ?_
  exact byColsL_eq (fun s => V5_v13 m ρ c j s f) fun s => V5_v16 m ρ c s i
end Cert.Kernel2Ideal.Ffn
-- ==== Proof.FfnRef.lean ====
module
public import proofs.«01_k».proof.Proof.FfnRow
public import proofs.«01_k».proof.Proof.Gen.Reference2Ideal.Run
public import Idealize.ShloMosaic.Lib.Pointwise
@[expose] public section
set_option maxRecDepth 16384
noncomputable section

/-! The reference's three gradients, element by element. -/
namespace Cert.Reference2Ideal.Ffn
open Idealize.ShloMosaic Idealize.ShloMosaic.TcCoe Idealize.ShloMosaic.Tactic Idealize.SL.Sem
open Cert.Reference2Ideal Cert.Reference2Ideal.Gen _root_.Ffn

/-- The constant one at every element. -/
abbrev one : FVec Ideal S4096x11008 .f32 := broadcastInDim S4096x11008 ![] bcast_S_S4096x11008 (constant S_ .f32 0x3F800000#32)
/-- The logistic function, as the reference writes it. -/
abbrev sigV (g : FVec Ideal S4096x11008 .f32) : FVec Ideal S4096x11008 .f32 := Host.divf one (addf one (Host.exp (Host.negf g)))

theorem pre_at (h : FVec Ideal S4096x4096 .bf16) (w : FVec Ideal S4096x11008 .f32) (s : Fin 4096) (u : Fin 11008) :
    (Host.dotGeneral dot_S4096x4096_S4096x11008_S4096x11008_1_0_0_1_n_n none (extf .f32 h bitsLt_bf16_f32) w : FVec Ideal S4096x11008 .f32) (ix2 s u) =
      pre (fun s k => h (ix2 s k)) (fun k u => w (ix2 k u)) s u := by
  pointwise
  rfl
theorem cot_at (d : FVec Ideal S4096x4096 .bf16) (w : FVec Ideal S11008x4096 .f32) (s : Fin 4096) (u : Fin 11008) :
    (Host.dotGeneral dot_S4096x4096_S11008x4096_S4096x11008_1_1_0_0_n_n none (extf .f32 d bitsLt_bf16_f32) w : FVec Ideal S4096x11008 .f32) (ix2 s u) =
      cot (fun s k => d (ix2 s k)) (fun u k => w (ix2 u k)) s u := by
  pointwise
  rfl
theorem sig_at (g : FVec Ideal S4096x11008 .f32) (s : Fin 4096) (u : Fin 11008) : sigV g (ix2 s u) = lgs (g (ix2 s u)) := by
  pointwise
  rfl
theorem gate_at (g p d : FVec Ideal S4096x11008 .f32) (s : Fin 4096) (u : Fin 11008) :
    (addf (mulf (mulf d p) (sigV g)) (mulf (mulf g (mulf d p)) (mulf (sigV g) (subf one (sigV g)))) : FVec Ideal S4096x11008 .f32) (ix2 s u) =
      d (ix2 s u) * p (ix2 s u) * lgs (g (ix2 s u)) + g (ix2 s u) * (d (ix2 s u) * p (ix2 s u)) * (lgs (g (ix2 s u)) * (1 - lgs (g (ix2 s u)))) := by
  rw [← sig_at]
  generalize sigV g = q
  pointwise
theorem up_at (g d : FVec Ideal S4096x11008 .f32) (s : Fin 4096) (u : Fin 11008) :
    (mulf (mulf g (sigV g)) d : FVec Ideal S4096x11008 .f32) (ix2 s u) = g (ix2 s u) * lgs (g (ix2 s u)) * d (ix2 s u) := by
  rw [← sig_at]
  generalize sigV g = q
  pointwise
/-- A gradient of a weight of hidden columns, cut in blocks. -/
theorem cols_at (a : FVec Ideal S4096x11008 .f32) (h : FVec Ideal S4096x4096 .bf16) (j : Fin 8) (i : Fin 4096) (f : Fin 1376) :
    (truncf .bf16 (transpose S8x4096x1376 [1, 0, 2] (shapeCast S4096x8x1376 (transpose S4096x11008 [1, 0]
      (Host.dotGeneral dot_S4096x11008_S4096x4096_S11008x4096_0_0_1_1_n_n none a (extf .f32 h bitsLt_bf16_f32) : FVec Ideal S11008x4096 .f32)
      transposes_S11008x4096_S4096x11008_1_0) shapeCasts_S4096x11008_S4096x8x1376) transposes_S4096x8x1376_S8x4096x1376_1_0_2) bitsLt_bf16_f32 : FVec Ideal S8x4096x1376 .bf16) (ix3 j i f) =
      ∑ s : Fin 4096, a (ix2 s (col j f)) * h (ix2 s i) := by
  pointwise
theorem rows_at (a : FVec Ideal S4096x11008 .f32) (d : FVec Ideal S4096x4096 .bf16) (j : Fin 8) (f : Fin 1376) (i : Fin 4096) :
    (truncf .bf16 (shapeCast S8x1376x4096 (transpose S11008x4096 [1, 0]
      (Host.dotGeneral dot_S4096x4096_S4096x11008_S4096x11008_0_0_1_1_n_n none (extf .f32 d bitsLt_bf16_f32) a : FVec Ideal S4096x11008 .f32)
      transposes_S4096x11008_S11008x4096_1_0) shapeCasts_S11008x4096_S8x1376x4096) bitsLt_bf16_f32 : FVec Ideal S8x1376x4096 .bf16) (ix3 j f i) =
      ∑ s : Fin 4096, d (ix2 s i) * a (ix2 s (col j f)) := by
  pointwise
end Cert.Reference2Ideal.Ffn
-- ==== Proof.FfnFinal.lean ====
module
public import proofs.«01_k».proof.Proof.FfnRun
public import proofs.«01_k».proof.Proof.FfnRef
public import proofs.«01_k».proof.Proof.Final
@[expose] public section
set_option maxRecDepth 16384
noncomputable section

/-! The weight gradients of the channel mixer: the equation of the two programs' results. -/
namespace Ffn
open Idealize.ShloMosaic Idealize.ShloMosaic.TcCoe Idealize.ShloMosaic.Tactic Idealize.SL.Sem
open Cert
open Cert.Kernel2Ideal.Ffn (mH mA mB mC mD)

/-! ## The reference's results, as the sums of the row -/
section
open Cert.Reference2Ideal Cert.Reference2Ideal.Gen Cert.Reference2Ideal.Ffn
variable (h d : FVec Ideal Reference2Ideal.S4096x4096 .bf16) (a b : FVec Ideal Reference2Ideal.S4096x11008 .f32)
  (w : FVec Ideal Reference2Ideal.S11008x4096 .f32)
/-- The reference's three arrays of hidden values. -/
abbrev rA : FVec Ideal Reference2Ideal.S4096x11008 .f32 :=
  Host.dotGeneral dot_S4096x4096_S4096x11008_S4096x11008_1_0_0_1_n_n none (extf .f32 h bitsLt_bf16_f32) a
abbrev rD : FVec Ideal Reference2Ideal.S4096x11008 .f32 :=
  Host.dotGeneral dot_S4096x4096_S11008x4096_S4096x11008_1_1_0_0_n_n none (extf .f32 d bitsLt_bf16_f32) w
theorem rA_at (s : Fin 4096) (u : Fin 11008) : rA h a (ix2 s u) = pre (fun s k => h (ix2 s k)) (fun k u => a (ix2 k u)) s u := pre_at h a s u
theorem rD_at (s : Fin 4096) (u : Fin 11008) : rD d w (ix2 s u) = cot (fun s k => d (ix2 s k)) (fun u k => w (ix2 u k)) s u := cot_at d w s u
theorem ref_gate (j : Fin 8) (i : Fin 4096) (f : Fin 1376) :
    (∑ s : Fin 4096, (addf (mulf (mulf (rD d w) (rA h b)) (sigV (rA h a))) (mulf (mulf (rA h a) (mulf (rD d w) (rA h b)))
      (mulf (sigV (rA h a)) (subf one (sigV (rA h a))))) : FVec Ideal Reference2Ideal.S4096x11008 .f32) (ix2 s (col j f)) * h (ix2 s i) : EReal) =
      kGate (fun s k => h (ix2 s k)) (fun s k => d (ix2 s k)) (fun k u => a (ix2 k u)) (fun k u => b (ix2 k u)) (fun u k => w (ix2 u k)) i (col j f) := by
  rw [kGate_eq]
  refine Finset.sum_congr rfl fun s _ => ?_
  rw [gate_at, rA_at, rA_at, rD_at]
theorem ref_up (j : Fin 8) (i : Fin 4096) (f : Fin 1376) :
    (∑ s : Fin 4096, (mulf (mulf (rA h a) (sigV (rA h a))) (rD d w) : FVec Ideal Reference2Ideal.S4096x11008 .f32) (ix2 s (col j f)) * h (ix2 s i) : EReal) =
      kUp (fun s k => h (ix2 s k)) (fun s k => d (ix2 s k)) (fun k u => a (ix2 k u)) (fun u k => w (ix2 u k)) i (col j f) := by
  rw [kUp_eq]
  refine Finset.sum_congr rfl fun s _ => ?_
  rw [up_at, rA_at, rD_at]
theorem ref_down (j : Fin 8) (f : Fin 1376) (i : Fin 4096) :
    (∑ s : Fin 4096, d (ix2 s i) * (mulf (mulf (rA h a) (sigV (rA h a))) (rA h b) : FVec Ideal Reference2Ideal.S4096x11008 .f32) (ix2 s (col j f)) : EReal) =
      kDown (fun s k => h (ix2 s k)) (fun s k => d (ix2 s k)) (fun k u => a (ix2 k u)) (fun k u => b (ix2 k u)) (col j f) i := by
  rw [kDown_eq]
  refine Finset.sum_congr rfl fun s _ => ?_
  rw [up_at, rA_at, rA_at]
end

/-! ## Equal arguments give equal sums -/
section
variable {H H' D D' : Fin 4096 → Fin 4096 → EReal} {A A' B B' : Fin 4096 → Fin 11008 → EReal} {C C' : Fin 11008 → Fin 4096 → EReal}
  (eH : ∀ s k, H s k = H' s k) (eD : ∀ s k, D s k = D' s k) (eA : ∀ k u, A k u = A' k u) (eB : ∀ k u, B k u = B' k u) (eC : ∀ u k, C u k = C' u k)
include eH eD eA
include eB eC in
theorem kGate_congr (i : Fin 4096) (u : Fin 11008) : kGate H D A B C i u = kGate H' D' A' B' C' i u := by
  obtain rfl : H = H' := funext fun s => funext (eH s)
  obtain rfl : D = D' := funext fun s => funext (eD s)
  obtain rfl : A = A' := funext fun s => funext (eA s)
  obtain rfl : B = B' := funext fun s => funext (eB s)
  obtain rfl : C = C' := funext fun s => funext (eC s)
  rfl
include eC in
theorem kUp_congr (i : Fin 4096) (u : Fin 11008) : kUp H D A C i u = kUp H' D' A' C' i u := by
  obtain rfl : H = H' := funext fun s => funext (eH s)
  obtain rfl : D = D' := funext fun s => funext (eD s)
  obtain rfl : A = A' := funext fun s => funext (eA s)
  obtain rfl : C = C' := funext fun s => funext (eC s)
  rfl
include eB in
theorem kDown_congr (u : Fin 11008) (i : Fin 4096) : kDown H D A B u i = kDown H' D' A' B' u i := by
  obtain rfl : H = H' := funext fun s => funext (eH s)
  obtain rfl : D = D' := funext fun s => funext (eD s)
  obtain rfl : A = A' := funext fun s => funext (eA s)
  obtain rfl : B = B' := funext fun s => funext (eB s)
  rfl
end

/-- From memories that agree on the arguments the two programs end with the same gradients. -/
theorem algebraic : Cert.algebraic_Kernel2Ideal_Reference2Ideal := by
  intro m ρ m' ρ' _ he
  refine ⟨fun c => Kernel2Ideal.Gen.W12 m ρ c (Proc.devRef .tc Kernel2Ideal.main_v25), fun c => Kernel2Ideal.Gen.W12 m ρ c (Proc.devRef .tc Kernel2Ideal.main_v27),
    fun c => Kernel2Ideal.Gen.W12 m ρ c (Proc.devRef .tc Kernel2Ideal.main_v17), Kernel2Ideal.Ffn.run_W12 m ρ, ?_⟩
  refine (θ_run _ _ _).mono (fun r h c => ?_) (Reference2Ideal.Value.run m' ρ')
  obtain ⟨h0, h1, h2, h3⟩ := h c
  obtain ⟨e0, e1, e2, e3, e4⟩ := he c
  have a0 : ∀ s k, _ = mH m c s k := fun s k => congrFun e0 (ix2 s k)
  have a1 : ∀ k u, _ = mA m c k u := fun k u => congrFun e1 (ix2 k u)
  have a2 : ∀ k u, _ = mB m c k u := fun k u => congrFun e2 (ix2 k u)
  have a3 : ∀ u k, _ = mC m c u k := fun u k => congrFun e3 (ix2 u k)
  have a4 : ∀ s k, _ = mD m c s k := fun s k => congrFun e4 (ix2 s k)
  refine ⟨h0.trans ?_, h1.trans ?_, h2.trans ?_, h3⟩
  · funext y
    obtain ⟨j, i, f, rfl⟩ : ∃ (j : Fin 8) (i : Fin 4096) (f : Fin 1376), y = ix3 j i f := ⟨y 0, y 1, y 2, by idx_vars y⟩
    refine Eq.trans ?_ (Kernel2Ideal.Ffn.W12_v25 m ρ c j f i).symm
    exact (Reference2Ideal.Ffn.cols_at _ _ j i f).trans ((ref_gate _ _ _ _ _ j i f).trans (kGate_congr a0 a4 a1 a2 a3 i _))
  · funext y
    obtain ⟨j, i, f, rfl⟩ : ∃ (j : Fin 8) (i : Fin 4096) (f : Fin 1376), y = ix3 j i f := ⟨y 0, y 1, y 2, by idx_vars y⟩
    refine Eq.trans ?_ (Kernel2Ideal.Ffn.W12_v27 m ρ c j f i).symm
    exact (Reference2Ideal.Ffn.cols_at _ _ j i f).trans ((ref_up _ _ _ _ j i f).trans (kUp_congr a0 a4 a1 a3 i _))
  · funext y
    obtain ⟨j, f, i, rfl⟩ : ∃ (j : Fin 8) (f : Fin 1376) (i : Fin 4096), y = ix3 j f i := ⟨y 0, y 1, y 2, by idx_vars y⟩
    refine Eq.trans ?_ (Kernel2Ideal.Ffn.W12_v17 m ρ c j f i).symm
    exact (Reference2Ideal.Ffn.rows_at _ _ j f i).trans ((ref_down _ _ _ _ j f i).trans (kDown_congr a0 a4 a1 a2 _ i))
end Ffn
-- ==== Proof.MergeRow.lean ====
module
public import proofs.«01_k».proof.Proof.FfnRow
@[expose] public section
noncomputable section

/-! The gated merge of two branches, and its derivatives, element by element. -/
namespace Mrg
open Idealize.ShloMosaic
open Ffn (den lgs div_den slope_mul)

/-- The two halves of the gate's columns. -/
abbrev lo (j : Fin 4096) : Fin 8192 := ⟨j.val, by omega⟩
abbrev hi (j : Fin 4096) : Fin 8192 := ⟨4096 + j.val, by omega⟩
/-- Two branches `x` and `y`, each by its gate. -/
def mix (g e x y : EReal) : EReal := Ideal.div 1 (den g) * x + Ideal.div 1 (den e) * y
/-- A gate's cotangent, the product of its branch and the cotangent being `a`. -/
def slope (g a : EReal) : EReal := 0 - (0 - a * Ideal.div 1 (den g * den g)) * Ideal.exp (0 - g)

theorem mix_eq (g e x y : EReal) : mix g e x y = lgs g * x + lgs e * y := by
  unfold mix; rw [div_den, div_den]
theorem slope_eq (g a : EReal) : slope g a = a * (lgs g * (1 - lgs g)) := slope_mul a g
/-- Either a column of the first half or one of the second. -/
theorem halves (u : Fin 8192) : (∃ j, u = lo j) ∨ ∃ j, u = hi j := by
  rcases Nat.lt_or_ge u.val 4096 with h | h
  · exact .inl ⟨⟨u.val, h⟩, rfl⟩
  · exact .inr ⟨⟨u.val - 4096, by omega⟩, Fin.ext (by dsimp; omega)⟩

/-- The three products of square arrays. -/
def mul (X Y : Fin 4096 → Fin 4096 → EReal) (s j : Fin 4096) : EReal := ∑ k, X s k * Y k j
def mulT (X Y : Fin 4096 → Fin 4096 → EReal) (s j : Fin 4096) : EReal := ∑ k, X s k * Y j k
def tmul (X Y : Fin 4096 → Fin 4096 → EReal) (i j : Fin 4096) : EReal := ∑ s, X s i * Y s j
/-- The merge of the two branches `X · A` and `Y · B`. -/
def merged (X Y A B : Fin 4096 → Fin 4096 → EReal) (G : Fin 4096 → Fin 8192 → EReal) (s j : Fin 4096) : EReal :=
  mix (G s (lo j)) (G s (hi j)) (mul X A s j) (mul Y B s j)
/-- The branches' cotangents, of the merge's `D · Wᵀ`. -/
def dLo (D W : Fin 4096 → Fin 4096 → EReal) (G : Fin 4096 → Fin 8192 → EReal) (s j : Fin 4096) : EReal :=
  Ideal.div 1 (den (G s (lo j))) * mulT D W s j
def dHi (D W : Fin 4096 → Fin 4096 → EReal) (G : Fin 4096 → Fin 8192 → EReal) (s j : Fin 4096) : EReal :=
  Ideal.div 1 (den (G s (hi j))) * mulT D W s j
end Mrg
-- ==== Proof.MergeArr.lean ====
module
public import proofs.«01_k».proof.Proof.Gen.Kernel3Ideal.Frame
public import Idealize.ShloMosaic.Lib.Pipeline.ValueKit
public import proofs.«01_k».proof.Proof.MergeRow
@[expose] public section
set_option maxRecDepth 16384
noncomputable section

/-! The arrays the six products of the gated merge leave before its backward pass. -/
namespace Cert.Kernel3Ideal.Mrg
open Idealize.ShloMosaic Idealize.ShloMosaic.TcCoe Idealize.SL.Sem
open Cert.Kernel3Ideal Cert.Kernel3Ideal.Gen
theorem idx0 : ∀ t : Fin cfg0.N, win0_0.index t = ![0, t.val / 4, 0] ∧ win0_1.index t = ![0, 0, t.val % 4] ∧ win0_2.index t = ![0, t.val / 4, t.val % 4] :=
  (by decide +kernel : ∀ t : Fin grid0.N, _)
theorem idx1 : ∀ t : Fin cfg1.N, win1_0.index t = ![0, t.val / 4, 0] ∧ win1_1.index t = ![0, 0, t.val % 4] ∧ win1_2.index t = ![0, t.val / 4, t.val % 4] :=
  (by decide +kernel : ∀ t : Fin grid1.N, _)
theorem idx3 : ∀ t : Fin cfg3.N, win3_0.index t = ![0, t.val / 4, 0] ∧ win3_1.index t = ![0, 0, t.val % 4] ∧ win3_2.index t = ![0, t.val / 4, t.val % 4] :=
  (by decide +kernel : ∀ t : Fin grid3.N, _)
theorem idx4 : ∀ t : Fin cfg4.N, win4_0.index t = ![0, t.val / 4, 0] ∧ win4_1.index t = ![0, t.val % 4, 0] ∧ win4_2.index t = ![0, t.val / 4, t.val % 4] :=
  (by decide +kernel : ∀ t : Fin grid4.N, _)
theorem idx5 : ∀ t : Fin cfg5.N, win5_0.index t = ![0, 0, t.val / 4] ∧ win5_1.index t = ![0, 0, t.val % 4] ∧ win5_2.index t = ![0, t.val / 4, t.val % 4] :=
  (by decide +kernel : ∀ t : Fin grid5.N, _)

/-! ## What a point leaves, element by element -/
theorem pay0 (a : FVec Ideal S1x512x4096 .bf16) (b : FVec Ideal S1x4096x1024 .bf16) (i : Fin 512) (j : Fin 1024) :
    k0_pay1 (F := Ideal) a b (ix3 0 i j) = ∑ k : Fin 4096, a (ix3 0 i k) * b (ix3 0 k j) := by
  pointwise [k0_pay1]
theorem pay1 (a : FVec Ideal S1x512x4096 .bf16) (b : FVec Ideal S1x4096x1024 .bf16) (i : Fin 512) (j : Fin 1024) :
    k1_pay1 (F := Ideal) a b (ix3 0 i j) = ∑ k : Fin 4096, a (ix3 0 i k) * b (ix3 0 k j) := by
  pointwise [k1_pay1]
theorem pay3 (a : FVec Ideal S1x512x4096 .bf16) (b : FVec Ideal S1x4096x1024 .bf16) (i : Fin 512) (j : Fin 1024) :
    k3_pay1 (F := Ideal) a b (ix3 0 i j) = ∑ k : Fin 4096, a (ix3 0 i k) * b (ix3 0 k j) := by
  pointwise [k3_pay1]
theorem pay4 (a : FVec Ideal S1x512x4096 .bf16) (b : FVec Ideal S1x1024x4096 .bf16) (i : Fin 512) (j : Fin 1024) :
    k4_pay1 (F := Ideal) a b (ix3 0 i j) = ∑ k : Fin 4096, a (ix3 0 i k) * b (ix3 0 j k) := by
  pointwise [k4_pay1]
theorem pay5 (a : FVec Ideal S1x4096x512 .bf16) (b : FVec Ideal S1x4096x1024 .bf16) (i : Fin 512) (j : Fin 1024) :
    k5_pay1 (F := Ideal) a b (ix3 0 i j) = ∑ k : Fin 4096, a (ix3 0 k i) * b (ix3 0 k j) := by
  pointwise [k5_pay1]

/-! ## The arrays -/
/-- Two sums of products with equal factors. -/
theorem sum_mul_eq {p q p' q' : Fin 4096 → EReal} (h1 : ∀ k, p k = p' k) (h2 : ∀ k, q k = q' k) : ∑ k, p k * q k = ∑ k, p' k * q' k :=
  Finset.sum_congr rfl fun k _ => by rw [h1, h2]
/-- Rows against columns. -/
def rows {t : FTy} (a : FVec Ideal S1x4096x4096 .bf16) (b : FVec Ideal S1x4096x4096 .bf16) : FVec Ideal S1x4096x4096 t :=
  fun y => (∑ k : Fin 4096, (a (ix3 0 (y 1) k) : EReal) * b (ix3 0 k (y 2)) : EReal)
theorem rows_eq {t : FTy} {a : FVec Ideal S1x4096x4096 .bf16} {b : FVec Ideal S1x4096x4096 .bf16} {p q : Fin 4096 → EReal} {s : Fin 4096} {f : Fin 4096}
    (h1 : ∀ k, (a (ix3 0 s k) : EReal) = p k) (h2 : ∀ k, (b (ix3 0 k f) : EReal) = q k) : (rows (t := t) a b (ix3 0 s f) : EReal) = ∑ k, p k * q k :=
  sum_mul_eq h1 h2
/-- Rows against rows. -/
def rowsT {t : FTy} (a : FVec Ideal S1x4096x4096 .bf16) (b : FVec Ideal S1x4096x4096 .bf16) : FVec Ideal S1x4096x4096 t :=
  fun y => (∑ k : Fin 4096, (a (ix3 0 (y 1) k) : EReal) * b (ix3 0 (y 2) k) : EReal)
theorem rowsT_eq {t : FTy} {a : FVec Ideal S1x4096x4096 .bf16} {b : FVec Ideal S1x4096x4096 .bf16} {p q : Fin 4096 → EReal} {s : Fin 4096} {f : Fin 4096}
    (h1 : ∀ k, (a (ix3 0 s k) : EReal) = p k) (h2 : ∀ k, (b (ix3 0 f k) : EReal) = q k) : (rowsT (t := t) a b (ix3 0 s f) : EReal) = ∑ k, p k * q k :=
  sum_mul_eq h1 h2
/-- Columns against columns. -/
def cols {t : FTy} (a : FVec Ideal S1x4096x4096 .bf16) (b : FVec Ideal S1x4096x4096 .bf16) : FVec Ideal S1x4096x4096 t :=
  fun y => (∑ k : Fin 4096, (a (ix3 0 k (y 1)) : EReal) * b (ix3 0 k (y 2)) : EReal)
theorem cols_eq {t : FTy} {a : FVec Ideal S1x4096x4096 .bf16} {b : FVec Ideal S1x4096x4096 .bf16} {p q : Fin 4096 → EReal} {s : Fin 4096} {f : Fin 4096}
    (h1 : ∀ k, (a (ix3 0 k s) : EReal) = p k) (h2 : ∀ k, (b (ix3 0 k f) : EReal) = q k) : (cols (t := t) a b (ix3 0 s f) : EReal) = ∑ k, p k * q k :=
  sum_mul_eq h1 h2

variable (V : (c : Dev nD) → (b : Ref sig .tc) → Buf (Elt Ideal) ((c : Thread nD τ).loc b)) (c : Dev nD)
theorem arr0_2 : (dat0 V c).arrAt 2 cfg0.N = rows (t := .f32) (V c main_v3) (V c main_v4) := by
  refine (dat0 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after0_2]
  unfold out0_2
  frame_out
  unfold rows
  refine (pay0 _ _ q j).trans (sum_mul_eq (fun k => ?_) fun k => ?_) <;> blk_ext [iblk0, idx0 t]
theorem arr1_2 : (dat1 V c).arrAt 2 cfg1.N = rows (t := .f32) (V c main_v7) (V c main_v8) := by
  refine (dat1 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after1_2]
  unfold out1_2
  frame_out
  unfold rows
  refine (pay1 _ _ q j).trans (sum_mul_eq (fun k => ?_) fun k => ?_) <;> blk_ext [iblk1, idx1 t]
theorem arr3_2 : (dat3 V c).arrAt 2 cfg3.N = rows (t := .f32) (V c main_v12) (V c main_v13) := by
  refine (dat3 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after3_2]
  unfold out3_2
  frame_out
  unfold rows
  refine (pay3 _ _ q j).trans (sum_mul_eq (fun k => ?_) fun k => ?_) <;> blk_ext [iblk3, idx3 t]
theorem arr4_2 : (dat4 V c).arrAt 2 cfg4.N = rowsT (t := .f32) (V c main_v16) (V c main_v17) := by
  refine (dat4 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after4_2]
  unfold out4_2
  frame_out
  unfold rowsT
  refine (pay4 _ _ q j).trans (sum_mul_eq (fun k => ?_) fun k => ?_) <;> blk_ext [iblk4, idx4 t]
theorem arr5_2 : (dat5 V c).arrAt 2 cfg5.N = cols (t := .bf16) (V c main_v20) (V c main_v21) := by
  refine (dat5 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after5_2]
  unfold out5_2
  frame_out
  unfold cols
  refine (pay5 _ _ q j).trans (sum_mul_eq (fun k => ?_) fun k => ?_) <;> blk_ext [iblk5, idx5 t]
end Cert.Kernel3Ideal.Mrg
-- ==== Proof.MergeArr2.lean ====
module
public import proofs.«01_k».proof.Proof.MergeArr
@[expose] public section
set_option maxRecDepth 16384
noncomputable section

/-! The arrays the products of the gated merge's backward pass leave. -/
namespace Cert.Kernel3Ideal.Mrg
open Idealize.ShloMosaic Idealize.ShloMosaic.TcCoe Idealize.SL.Sem
open Cert.Kernel3Ideal Cert.Kernel3Ideal.Gen
theorem idx7 : ∀ t : Fin cfg7.N, win7_0.index t = ![0, t.val / 4, 0] ∧ win7_1.index t = ![0, t.val % 4, 0] ∧ win7_2.index t = ![0, t.val / 4, t.val % 4] :=
  (by decide +kernel : ∀ t : Fin grid7.N, _)
theorem idx8 : ∀ t : Fin cfg8.N, win8_0.index t = ![0, 0, t.val / 4] ∧ win8_1.index t = ![0, 0, t.val % 4] ∧ win8_2.index t = ![0, t.val / 4, t.val % 4] :=
  (by decide +kernel : ∀ t : Fin grid8.N, _)
theorem idx9 : ∀ t : Fin cfg9.N, win9_0.index t = ![0, t.val / 4, 0] ∧ win9_1.index t = ![0, t.val % 4, 0] ∧ win9_2.index t = ![0, t.val / 4, t.val % 4] :=
  (by decide +kernel : ∀ t : Fin grid9.N, _)
theorem idx10 : ∀ t : Fin cfg10.N, win10_0.index t = ![0, 0, t.val / 4] ∧ win10_1.index t = ![0, 0, t.val % 4] ∧ win10_2.index t = ![0, t.val / 4, t.val % 4] :=
  (by decide +kernel : ∀ t : Fin grid10.N, _)

/-! ## What a point leaves, element by element -/
theorem pay7 (a : FVec Ideal S1x512x4096 .bf16) (b : FVec Ideal S1x1024x4096 .bf16) (i : Fin 512) (j : Fin 1024) :
    k7_pay1 (F := Ideal) a b (ix3 0 i j) = ∑ k : Fin 4096, a (ix3 0 i k) * b (ix3 0 j k) := by
  pointwise [k7_pay1]
theorem pay8 (a : FVec Ideal S1x4096x512 .bf16) (b : FVec Ideal S1x4096x1024 .bf16) (i : Fin 512) (j : Fin 1024) :
    k8_pay1 (F := Ideal) a b (ix3 0 i j) = ∑ k : Fin 4096, a (ix3 0 k i) * b (ix3 0 k j) := by
  pointwise [k8_pay1]
theorem pay9 (a : FVec Ideal S1x512x4096 .bf16) (b : FVec Ideal S1x1024x4096 .bf16) (i : Fin 512) (j : Fin 1024) :
    k9_pay1 (F := Ideal) a b (ix3 0 i j) = ∑ k : Fin 4096, a (ix3 0 i k) * b (ix3 0 j k) := by
  pointwise [k9_pay1]
theorem pay10 (a : FVec Ideal S1x4096x512 .bf16) (b : FVec Ideal S1x4096x1024 .bf16) (i : Fin 512) (j : Fin 1024) :
    k10_pay1 (F := Ideal) a b (ix3 0 i j) = ∑ k : Fin 4096, a (ix3 0 k i) * b (ix3 0 k j) := by
  pointwise [k10_pay1]

variable (V : (c : Dev nD) → (b : Ref sig .tc) → Buf (Elt Ideal) ((c : Thread nD τ).loc b)) (c : Dev nD)
theorem arr7_2 : (dat7 V c).arrAt 2 cfg7.N = rowsT (t := .bf16) (V c main_v25) (V c main_v26) := by
  refine (dat7 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after7_2]
  unfold out7_2
  frame_out
  unfold rowsT
  refine (pay7 _ _ q j).trans (sum_mul_eq (fun k => ?_) fun k => ?_) <;> blk_ext [iblk7, idx7 t]
theorem arr8_2 : (dat8 V c).arrAt 2 cfg8.N = cols (t := .bf16) (V c main_v29) (V c main_v30) := by
  refine (dat8 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after8_2]
  unfold out8_2
  frame_out
  unfold cols
  refine (pay8 _ _ q j).trans (sum_mul_eq (fun k => ?_) fun k => ?_) <;> blk_ext [iblk8, idx8 t]
theorem arr9_2 : (dat9 V c).arrAt 2 cfg9.N = rowsT (t := .bf16) (V c main_v33) (V c main_v34) := by
  refine (dat9 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after9_2]
  unfold out9_2
  frame_out
  unfold rowsT
  refine (pay9 _ _ q j).trans (sum_mul_eq (fun k => ?_) fun k => ?_) <;> blk_ext [iblk9, idx9 t]
theorem arr10_2 : (dat10 V c).arrAt 2 cfg10.N = cols (t := .bf16) (V c main_v37) (V c main_v38) := by
  refine (dat10 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after10_2]
  unfold out10_2
  frame_out
  unfold cols
  refine (pay10 _ _ q j).trans (sum_mul_eq (fun k => ?_) fun k => ?_) <;> blk_ext [iblk10, idx10 t]
end Cert.Kernel3Ideal.Mrg
-- ==== Proof.MergeElt.lean ====
module
public import proofs.«01_k».proof.Proof.Gen.Kernel3Ideal.Frame
public import Idealize.ShloMosaic.Lib.Pipeline.ValueKit
public import proofs.«01_k».proof.Proof.MergeRow
@[expose] public section
set_option maxRecDepth 16384
noncomputable section

/-! The arrays the merge and its derivative leave. -/
namespace Cert.Kernel3Ideal.Mrg
open Idealize.ShloMosaic Idealize.ShloMosaic.TcCoe Idealize.SL.Sem
open Cert.Kernel3Ideal Cert.Kernel3Ideal.Gen _root_.Mrg
open _root_.Ffn (den)
theorem idx2 : ∀ t : Fin cfg2.N, win2_0.index t = ![t.val, 0] ∧ win2_1.index t = ![t.val, 0] ∧ win2_2.index t = ![t.val, 0] ∧ win2_3.index t = ![t.val, 0] :=
  (by decide +kernel : ∀ t : Fin grid2.N, _)
theorem idx6 : ∀ t : Fin cfg6.N, win6_0.index t = ![t.val, 0] ∧ win6_1.index t = ![t.val, 0] ∧ win6_2.index t = ![t.val, 0] ∧ win6_3.index t = ![t.val, 0] ∧
    win6_4.index t = ![t.val, 0] ∧ win6_5.index t = ![t.val, 0] ∧ win6_6.index t = ![t.val, 0] :=
  (by decide +kernel : ∀ t : Fin grid6.N, _)
theorem pay2 (x y : FVec Ideal S128x4096 .f32) (g : FVec Ideal S128x8192 .f32) (i : Fin 128) (j : Fin 4096) :
    k2_pay1 (F := Ideal) x y g (ix2 i j) = mix (g (ix2 i (lo j))) (g (ix2 i (hi j))) (x (ix2 i j)) (y (ix2 i j)) := by
  pointwise [k2_pay1]
  rfl
theorem pay6_4 (d : FVec Ideal S128x4096 .f32) (g : FVec Ideal S128x8192 .f32) (i : Fin 128) (j : Fin 4096) :
    k6_pay1 (F := Ideal) (k6_pay5 d) (k6_pay8 g) (ix2 i j) = Ideal.div 1 (den (g (ix2 i (lo j)))) * d (ix2 i j) := by
  pointwise [k6_pay1, k6_pay5, k6_pay8, k6_pay7, k6_pay6]
  rfl
theorem pay6_5 (d : FVec Ideal S128x4096 .f32) (g : FVec Ideal S128x8192 .f32) (i : Fin 128) (j : Fin 4096) :
    k6_pay2 (F := Ideal) (k6_pay12 g d) (ix2 i j) = Ideal.div 1 (den (g (ix2 i (hi j)))) * d (ix2 i j) := by
  pointwise [k6_pay2, k6_pay12, k6_pay11, k6_pay10, k6_pay5]
  rfl
theorem pay6_lo (x y d : FVec Ideal S128x4096 .f32) (g : FVec Ideal S128x8192 .f32) (i : Fin 128) (j : Fin 4096) :
    k6_pay3 (F := Ideal) (k6_pay4 x) (k6_pay5 d) (k6_pay6 g) (k6_pay9 g) (k6_pay13 y g d) (Scalar.ofBits .f32 0x00000000#32) (ix2 i (lo j)) =
      slope (g (ix2 i (lo j))) (d (ix2 i j) * x (ix2 i j)) := by
  pointwise [k6_pay3, k6_pay4, k6_pay5, k6_pay6, k6_pay9, k6_pay7, k6_pay13]
  rfl
theorem pay6_hi (x y d : FVec Ideal S128x4096 .f32) (g : FVec Ideal S128x8192 .f32) (i : Fin 128) (j : Fin 4096) :
    k6_pay3 (F := Ideal) (k6_pay4 x) (k6_pay5 d) (k6_pay6 g) (k6_pay9 g) (k6_pay13 y g d) (Scalar.ofBits .f32 0x00000000#32) (ix2 i (hi j)) =
      slope (g (ix2 i (hi j))) (d (ix2 i j) * y (ix2 i j)) := by
  pointwise [k6_pay3, k6_pay4, k6_pay5, k6_pay6, k6_pay9, k6_pay7, k6_pay13, k6_pay11, k6_pay10]
  rfl

/-- Two branches laid together by their gates. -/
def mixed {t : FTy} (x y : FVec Ideal S4096x4096 .f32) (g : FVec Ideal S4096x8192 .f32) : FVec Ideal S4096x4096 t :=
  fun u => (mix (g (ix2 (u 0) (lo (u 1)))) (g (ix2 (u 0) (hi (u 1)))) (x u) (y u) : EReal)
/-- A cotangent by the gates of the lower half, and of the upper. -/
def gateLo {t : FTy} (d : FVec Ideal S4096x4096 .f32) (g : FVec Ideal S4096x8192 .f32) : FVec Ideal S4096x4096 t :=
  fun u => (Ideal.div 1 (den (g (ix2 (u 0) (lo (u 1))))) * (d u : EReal) : EReal)
def gateHi {t : FTy} (d : FVec Ideal S4096x4096 .f32) (g : FVec Ideal S4096x8192 .f32) : FVec Ideal S4096x4096 t :=
  fun u => (Ideal.div 1 (den (g (ix2 (u 0) (hi (u 1))))) * (d u : EReal) : EReal)
theorem mixed_at {t : FTy} (x y : FVec Ideal S4096x4096 .f32) (g : FVec Ideal S4096x8192 .f32) (s j : Fin 4096) :
    (mixed (t := t) x y g (ix2 s j) : EReal) = mix (g (ix2 s (lo j))) (g (ix2 s (hi j))) (x (ix2 s j)) (y (ix2 s j)) := rfl
theorem gateLo_at {t : FTy} (d : FVec Ideal S4096x4096 .f32) (g : FVec Ideal S4096x8192 .f32) (s j : Fin 4096) :
    (gateLo (t := t) d g (ix2 s j) : EReal) = Ideal.div 1 (den (g (ix2 s (lo j)))) * (d (ix2 s j) : EReal) := rfl
theorem gateHi_at {t : FTy} (d : FVec Ideal S4096x4096 .f32) (g : FVec Ideal S4096x8192 .f32) (s j : Fin 4096) :
    (gateHi (t := t) d g (ix2 s j) : EReal) = Ideal.div 1 (den (g (ix2 s (hi j)))) * (d (ix2 s j) : EReal) := rfl
/-- Equal arguments give equal values. -/
theorem mix_congr {a a' b b' x x' y y' : EReal} (h1 : a = a') (h2 : b = b') (h3 : x = x') (h4 : y = y') : mix a b x y = mix a' b' x' y' := by
  rw [h1, h2, h3, h4]
theorem gate_congr {a a' x x' : EReal} (h1 : a = a') (h2 : x = x') : Ideal.div 1 (den a) * x = Ideal.div 1 (den a') * x' := by
  rw [h1, h2]
theorem slope_congr {a a' x x' y y' : EReal} (h1 : a = a') (h2 : x = x') (h3 : y = y') : slope a (x * y) = slope a' (x' * y') := by
  rw [h1, h2, h3]
/-- The gates' cotangents: the array's two halves. -/
def gates (x y d : FVec Ideal S4096x4096 .f32) (g : FVec Ideal S4096x8192 .f32) : FVec Ideal S4096x8192 .bf16 := fun u =>
  if h : (u 1).val < 4096 then slope (g u) (d (ix2 (u 0) ⟨(u 1).val, h⟩) * x (ix2 (u 0) ⟨(u 1).val, h⟩))
  else slope (g u) (d (ix2 (u 0) ⟨(u 1).val - 4096, by have : (u 1).val < 8192 := (u 1).isLt; omega⟩) * y (ix2 (u 0) ⟨(u 1).val - 4096, by have : (u 1).val < 8192 := (u 1).isLt; omega⟩))
theorem gates_lo (x y d : FVec Ideal S4096x4096 .f32) (g : FVec Ideal S4096x8192 .f32) (s j : Fin 4096) :
    (gates x y d g (ix2 s (lo j)) : EReal) = slope (g (ix2 s (lo j))) (d (ix2 s j) * x (ix2 s j)) :=
  dif_pos (show (lo j).val < 4096 from j.isLt)
theorem gates_hi (x y d : FVec Ideal S4096x4096 .f32) (g : FVec Ideal S4096x8192 .f32) (s j : Fin 4096) :
    (gates x y d g (ix2 s (hi j)) : EReal) = slope (g (ix2 s (hi j))) (d (ix2 s j) * y (ix2 s j)) := by
  refine (dif_neg (show ¬ (hi j).val < 4096 by dsimp; omega)).trans (slope_congr rfl (congrArg (fun z => d (ix2 s z)) (Fin.ext ?_)) (congrArg (fun z => y (ix2 s z)) (Fin.ext ?_)))
  · show 4096 + j.val - 4096 = j.val
    omega
  · show 4096 + j.val - 4096 = j.val
    omega
variable (V : (c : Dev nD) → (b : Ref sig .tc) → Buf (Elt Ideal) ((c : Thread nD τ).loc b)) (c : Dev nD)
theorem arr2_3 : (dat2 V c).arrAt 3 cfg2.N = mixed (t := .bf16) (V c main_v6) (V c main_v10) (V c main_arg2) := by
  refine (dat2 V c).arrAt_eq_of_covers 3 _ (by decide +kernel) fun t hf y => ?_
  obtain ⟨q, j, rfl⟩ : ∃ (q : Fin 128) (j : Fin 4096), y = ix2 q j := ⟨y 0, y 1, by idx_vars y⟩
  have ht : t.val < 32 := t.isLt
  have he : ((View.whole main_v11).slice (win2_3.rect t)).emb (ix2 q j) = ix2 (⟨t.val * 128 + q.val, by omega⟩ : Fin 4096) j := by
    blk_ext [idx2 t]
  blk_simp
  rw [after2_3]
  unfold out2_3
  frame_out
  rw [he]
  refine (pay2 _ _ _ q j).trans (Eq.trans (mix_congr ?_ ?_ ?_ ?_) (mixed_at _ _ _ _ j).symm) <;> blk_ext [iblk2, idx2 t]
theorem arr6_4 : (dat6 V c).arrAt 4 cfg6.N = gateLo (t := .bf16) (V c main_v19) (V c main_arg2) := by
  refine (dat6 V c).arrAt_eq_of_covers 4 _ (by decide +kernel) fun t hf y => ?_
  obtain ⟨q, j, rfl⟩ : ∃ (q : Fin 128) (j : Fin 4096), y = ix2 q j := ⟨y 0, y 1, by idx_vars y⟩
  have ht : t.val < 32 := t.isLt
  have he : ((View.whole main_v24_0).slice (win6_4.rect t)).emb (ix2 q j) = ix2 (⟨t.val * 128 + q.val, by omega⟩ : Fin 4096) j := by
    blk_ext [idx6 t]
  blk_simp
  rw [after6_4]
  unfold_out out6_4
  frame_out
  rw [he]
  refine (pay6_4 _ _ q j).trans (Eq.trans (gate_congr ?_ ?_) (gateLo_at _ _ _ j).symm) <;> blk_ext [iblk6, idx6 t]
theorem arr6_5 : (dat6 V c).arrAt 5 cfg6.N = gateHi (t := .bf16) (V c main_v19) (V c main_arg2) := by
  refine (dat6 V c).arrAt_eq_of_covers 5 _ (by decide +kernel) fun t hf y => ?_
  obtain ⟨q, j, rfl⟩ : ∃ (q : Fin 128) (j : Fin 4096), y = ix2 q j := ⟨y 0, y 1, by idx_vars y⟩
  have ht : t.val < 32 := t.isLt
  have he : ((View.whole main_v24_1).slice (win6_5.rect t)).emb (ix2 q j) = ix2 (⟨t.val * 128 + q.val, by omega⟩ : Fin 4096) j := by
    blk_ext [idx6 t]
  blk_simp
  rw [after6_5]
  unfold_out out6_5
  frame_out
  rw [he]
  refine (pay6_5 _ _ q j).trans (Eq.trans (gate_congr ?_ ?_) (gateHi_at _ _ _ j).symm) <;> blk_ext [iblk6, idx6 t]
set_option maxHeartbeats 1000000 in
theorem arr6_6 : (dat6 V c).arrAt 6 cfg6.N = gates (V c main_v6) (V c main_v10) (V c main_v19) (V c main_arg2) := by
  refine (dat6 V c).arrAt_eq_of_covers 6 _ (by decide +kernel) fun t hf y => ?_
  obtain ⟨q, j, rfl⟩ : ∃ (q : Fin 128) (j : Fin 8192), y = ix2 q j := ⟨y 0, y 1, by idx_vars y⟩
  have ht : t.val < 32 := t.isLt
  have he : ((View.whole main_v24_2).slice (win6_6.rect t)).emb (ix2 q j) = ix2 (⟨t.val * 128 + q.val, by omega⟩ : Fin 4096) j := by
    blk_ext [idx6 t]
  blk_simp
  rw [after6_6]
  unfold_out out6_6
  frame_out
  rw [he]
  rcases halves j with ⟨j, rfl⟩ | ⟨j, rfl⟩
  · refine (pay6_lo _ _ _ _ q j).trans (Eq.trans (slope_congr ?_ ?_ ?_) (gates_lo _ _ _ _ _ j).symm) <;> blk_ext [iblk6, idx6 t]
  · refine (pay6_hi _ _ _ _ q j).trans (Eq.trans (slope_congr ?_ ?_ ?_) (gates_hi _ _ _ _ _ j).symm) <;> blk_ext [iblk6, idx6 t]
end Cert.Kernel3Ideal.Mrg
-- ==== Proof.MergeRun.lean ====
module
public import proofs.«01_k».proof.Proof.MergeArr2
public import proofs.«01_k».proof.Proof.MergeElt
public import Idealize.ShloMosaic.Lib.Claim
@[expose] public section
set_option maxRecDepth 16384
noncomputable section

/-! What a run of the gated merge and its backward pass leaves in its results. -/
namespace Cert.Kernel3Ideal.Mrg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen _root_.Mrg

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run ends with every buffer of the program at the contents of the last boundary. -/
theorem run_W23 : θ_run defs (onTc (τ := τ) (main (F := Ideal))) ⟨m, fun _ => 0, ρ⟩ (fun r => ∀ c : Dev nD,
      r.2.mem ((c.tc : Thread nD τ).loc main_v15) = W23 m ρ c (Proc.devRef .tc main_v15)
      ∧ r.2.mem ((c.tc : Thread nD τ).loc main_v28) = W23 m ρ c (Proc.devRef .tc main_v28)
      ∧ r.2.mem ((c.tc : Thread nD τ).loc main_v36) = W23 m ρ c (Proc.devRef .tc main_v36)
      ∧ r.2.mem ((c.tc : Thread nD τ).loc main_v24_2) = W23 m ρ c (Proc.devRef .tc main_v24_2)
      ∧ r.2.mem ((c.tc : Thread nD τ).loc main_v32) = W23 m ρ c (Proc.devRef .tc main_v32)
      ∧ r.2.mem ((c.tc : Thread nD τ).loc main_v40) = W23 m ρ c (Proc.devRef .tc main_v40)
      ∧ r.2.mem ((c.tc : Thread nD τ).loc main_v23) = W23 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h _ c =>
      ⟨h c _ (mem_uc main_v15 (by decide)), h c _ (mem_uc main_v28 (by decide)), h c _ (mem_uc main_v36 (by decide)), h c _ (mem_uc main_v24_2 (by decide)), h c _ (mem_uc main_v32 (by decide)), h c _ (mem_uc main_v40 (by decide)), h c _ (mem_uc main_v23 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c)⟩)

variable (c : Dev nD)

/-! ## The arguments, by rows and columns -/
abbrev mX (s : Fin 4096) (k : Fin 4096) : EReal := m ((c : Thread nD τ).loc main_arg0) (ix2 s k)
abbrev mY (s : Fin 4096) (k : Fin 4096) : EReal := m ((c : Thread nD τ).loc main_arg1) (ix2 s k)
abbrev mG (s : Fin 4096) (k : Fin 8192) : EReal := m ((c : Thread nD τ).loc main_arg2) (ix2 s k)
abbrev mA (s : Fin 4096) (k : Fin 4096) : EReal := m ((c : Thread nD τ).loc main_arg3) (ix2 s k)
abbrev mB (s : Fin 4096) (k : Fin 4096) : EReal := m ((c : Thread nD τ).loc main_arg4) (ix2 s k)
abbrev mW (s : Fin 4096) (k : Fin 4096) : EReal := m ((c : Thread nD τ).loc main_arg5) (ix2 s k)
abbrev mD (s : Fin 4096) (k : Fin 4096) : EReal := m ((c : Thread nD τ).loc main_arg6) (ix2 s k)

/-! ## What each stretch of host code leaves, of any contents it finds -/
section
variable (W : Valuation τ sig (Elt Ideal)) (s k : Fin 4096)
theorem h0_v0 : (StableHlo.after hostOps0 W (Proc.devRef .tc main_v0) (ix2 s k) : EReal) = W (Proc.devRef .tc main_arg3) (ix2 s k) := by
  entry_read
  pointwise
theorem h0_v1 : (StableHlo.after hostOps0 W (Proc.devRef .tc main_v1) (ix2 s k) : EReal) = W (Proc.devRef .tc main_arg4) (ix2 s k) := by
  entry_read
  pointwise
theorem h0_v2 : (StableHlo.after hostOps0 W (Proc.devRef .tc main_v2) (ix2 s k) : EReal) = W (Proc.devRef .tc main_arg5) (ix2 s k) := by
  entry_read
  pointwise
theorem h0_v3 : (StableHlo.after hostOps0 W (Proc.devRef .tc main_v3) (ix3 0 s k) : EReal) = W (Proc.devRef .tc main_arg0) (ix2 s k) := by
  entry_read
  pointwise
theorem h0_v4 : (StableHlo.after hostOps0 W (Proc.devRef .tc main_v4) (ix3 0 s k) : EReal) = W (Proc.devRef .tc main_arg3) (ix2 s k) := by
  entry_read
  pointwise
theorem h1_v6 : (StableHlo.after hostOps1 W (Proc.devRef .tc main_v6) (ix2 s k) : EReal) = W (Proc.devRef .tc main_v5) (ix3 0 s k) := by
  entry_read
  pointwise
theorem h1_v7 : (StableHlo.after hostOps1 W (Proc.devRef .tc main_v7) (ix3 0 s k) : EReal) = W (Proc.devRef .tc main_arg1) (ix2 s k) := by
  entry_read
  pointwise
theorem h1_v8 : (StableHlo.after hostOps1 W (Proc.devRef .tc main_v8) (ix3 0 s k) : EReal) = W (Proc.devRef .tc main_v1) (ix2 s k) := by
  entry_read
  pointwise
theorem h2_v10 : (StableHlo.after hostOps2 W (Proc.devRef .tc main_v10) (ix2 s k) : EReal) = W (Proc.devRef .tc main_v9) (ix3 0 s k) := by
  entry_read
  pointwise
theorem h3_v12 : (StableHlo.after hostOps3 W (Proc.devRef .tc main_v12) (ix3 0 s k) : EReal) = W (Proc.devRef .tc main_v11) (ix2 s k) := by
  entry_read
  pointwise
theorem h3_v13 : (StableHlo.after hostOps3 W (Proc.devRef .tc main_v13) (ix3 0 s k) : EReal) = W (Proc.devRef .tc main_v2) (ix2 s k) := by
  entry_read
  pointwise
theorem h4_v15 : (StableHlo.after hostOps4 W (Proc.devRef .tc main_v15) (ix2 s k) : EReal) = W (Proc.devRef .tc main_v14) (ix3 0 s k) := by
  entry_read
  pointwise
theorem h4_v16 : (StableHlo.after hostOps4 W (Proc.devRef .tc main_v16) (ix3 0 s k) : EReal) = W (Proc.devRef .tc main_arg6) (ix2 s k) := by
  entry_read
  pointwise
theorem h4_v17 : (StableHlo.after hostOps4 W (Proc.devRef .tc main_v17) (ix3 0 s k) : EReal) = W (Proc.devRef .tc main_v2) (ix2 s k) := by
  entry_read
  pointwise
theorem h5_v19 : (StableHlo.after hostOps5 W (Proc.devRef .tc main_v19) (ix2 s k) : EReal) = W (Proc.devRef .tc main_v18) (ix3 0 s k) := by
  entry_read
  pointwise
theorem h5_v20 : (StableHlo.after hostOps5 W (Proc.devRef .tc main_v20) (ix3 0 s k) : EReal) = W (Proc.devRef .tc main_v11) (ix2 s k) := by
  entry_read
  pointwise
theorem h5_v21 : (StableHlo.after hostOps5 W (Proc.devRef .tc main_v21) (ix3 0 s k) : EReal) = W (Proc.devRef .tc main_arg6) (ix2 s k) := by
  entry_read
  pointwise
theorem h6_v23 : (StableHlo.after hostOps6 W (Proc.devRef .tc main_v23) (ix2 s k) : EReal) = W (Proc.devRef .tc main_v22) (ix3 0 s k) := by
  entry_read
  pointwise
theorem h7_v25 : (StableHlo.after hostOps7 W (Proc.devRef .tc main_v25) (ix3 0 s k) : EReal) = W (Proc.devRef .tc main_v24_0) (ix2 s k) := by
  entry_read
  pointwise
theorem h7_v26 : (StableHlo.after hostOps7 W (Proc.devRef .tc main_v26) (ix3 0 s k) : EReal) = W (Proc.devRef .tc main_v0) (ix2 s k) := by
  entry_read
  pointwise
theorem h8_v28 : (StableHlo.after hostOps8 W (Proc.devRef .tc main_v28) (ix2 s k) : EReal) = W (Proc.devRef .tc main_v27) (ix3 0 s k) := by
  entry_read
  pointwise
theorem h8_v29 : (StableHlo.after hostOps8 W (Proc.devRef .tc main_v29) (ix3 0 s k) : EReal) = W (Proc.devRef .tc main_arg0) (ix2 s k) := by
  entry_read
  pointwise
theorem h8_v30 : (StableHlo.after hostOps8 W (Proc.devRef .tc main_v30) (ix3 0 s k) : EReal) = W (Proc.devRef .tc main_v24_0) (ix2 s k) := by
  entry_read
  pointwise
theorem h9_v32 : (StableHlo.after hostOps9 W (Proc.devRef .tc main_v32) (ix2 s k) : EReal) = W (Proc.devRef .tc main_v31) (ix3 0 s k) := by
  entry_read
  pointwise
theorem h9_v33 : (StableHlo.after hostOps9 W (Proc.devRef .tc main_v33) (ix3 0 s k) : EReal) = W (Proc.devRef .tc main_v24_1) (ix2 s k) := by
  entry_read
  pointwise
theorem h9_v34 : (StableHlo.after hostOps9 W (Proc.devRef .tc main_v34) (ix3 0 s k) : EReal) = W (Proc.devRef .tc main_v1) (ix2 s k) := by
  entry_read
  pointwise
theorem h10_v36 : (StableHlo.after hostOps10 W (Proc.devRef .tc main_v36) (ix2 s k) : EReal) = W (Proc.devRef .tc main_v35) (ix3 0 s k) := by
  entry_read
  pointwise
theorem h10_v37 : (StableHlo.after hostOps10 W (Proc.devRef .tc main_v37) (ix3 0 s k) : EReal) = W (Proc.devRef .tc main_arg1) (ix2 s k) := by
  entry_read
  pointwise
theorem h10_v38 : (StableHlo.after hostOps10 W (Proc.devRef .tc main_v38) (ix3 0 s k) : EReal) = W (Proc.devRef .tc main_v24_1) (ix2 s k) := by
  entry_read
  pointwise
theorem h11_v40 : (StableHlo.after hostOps11 W (Proc.devRef .tc main_v40) (ix2 s k) : EReal) = W (Proc.devRef .tc main_v39) (ix3 0 s k) := by
  entry_read
  pointwise
end

/-! ## The arrays, one after another -/
variable (s j : Fin 4096)
/-- The two branches and their merge. -/
theorem W3_v6 : (W3 m ρ c (Proc.devRef .tc main_v6) (ix2 s j) : EReal) = (mul (mX m c) (mA m c)) s j :=
  (h1_v6 (W2 m ρ c) s j).trans ((congrFun ((W2_arr m ρ c 2).trans (arr0_2 _ c)) _).trans
    (rows_eq (fun k => h0_v3 (W0 m ρ c) s k) fun k => h0_v4 (W0 m ρ c) k j))
theorem W5_v10 : (W5 m ρ c (Proc.devRef .tc main_v10) (ix2 s j) : EReal) = (mul (mY m c) (mB m c)) s j :=
  (h2_v10 (W4 m ρ c) s j).trans ((congrFun ((W4_arr m ρ c 2).trans (arr1_2 _ c)) _).trans
    (rows_eq (fun k => (h1_v7 (W2 m ρ c) s k).trans (congrFun (W2_args m ρ c main_arg1 (by decide)) _)) fun k => (h1_v8 (W2 m ρ c) k j).trans ((congrFun (W2_of m ρ c main_v1 (by decide +kernel)) _).trans (h0_v1 (W0 m ρ c) k j))))
theorem W6_v11 : (W6 m ρ c (Proc.devRef .tc main_v11) (ix2 s j) : EReal) = (merged (mX m c) (mY m c) (mA m c) (mB m c) (mG m c)) s j :=
  by
  refine (congrFun ((W6_arr m ρ c 3).trans (arr2_3 _ c)) _).trans ?_
  have e1 : (W5 m ρ c (Proc.devRef .tc main_v6) (ix2 s j) : EReal) = _ := ((congrFun ((W5_of m ρ c main_v6 (by decide)).trans (W4_of m ρ c main_v6 (by decide +kernel))) _).trans (W3_v6 m ρ c s j))
  have e2 := W5_v10 m ρ c s j
  have e3 (u : Fin 8192) : (W5 m ρ c (Proc.devRef .tc main_arg2) (ix2 s u) : EReal) = mG m c s u := (congrFun (W5_args m ρ c main_arg2 (by decide)) _)
  show mix (W5 m ρ c (Proc.devRef .tc main_arg2) (ix2 s (lo j))) (W5 m ρ c (Proc.devRef .tc main_arg2) (ix2 s (hi j)))
    (W5 m ρ c (Proc.devRef .tc main_v6) (ix2 s j)) (W5 m ρ c (Proc.devRef .tc main_v10) (ix2 s j)) = _
  rw [e1, e2, e3, e3]
  rfl
/-- The output projection. -/
theorem W9_v15 : (W9 m ρ c (Proc.devRef .tc main_v15) (ix2 s j) : EReal) = mul (merged (mX m c) (mY m c) (mA m c) (mB m c) (mG m c)) (mW m c) s j :=
  (h4_v15 (W8 m ρ c) s j).trans ((congrFun ((W8_arr m ρ c 2).trans (arr3_2 _ c)) _).trans
    (rows_eq (fun k => (h3_v12 (W6 m ρ c) s k).trans (W6_v11 m ρ c s k)) fun k => (h3_v13 (W6 m ρ c) k j).trans ((congrFun ((W6_of m ρ c main_v2 (by decide +kernel)).trans ((W5_of m ρ c main_v2 (by decide)).trans ((W4_of m ρ c main_v2 (by decide +kernel)).trans ((W3_of m ρ c main_v2 (by decide)).trans (W2_of m ρ c main_v2 (by decide +kernel)))))) _).trans (h0_v2 (W0 m ρ c) k j))))
/-- The cotangent of the merge. -/
theorem W11_v19 : (W11 m ρ c (Proc.devRef .tc main_v19) (ix2 s j) : EReal) = (mulT (mD m c) (mW m c)) s j :=
  (h5_v19 (W10 m ρ c) s j).trans ((congrFun ((W10_arr m ρ c 2).trans (arr4_2 _ c)) _).trans
    (rowsT_eq (fun k => (h4_v16 (W8 m ρ c) s k).trans (congrFun (W8_args m ρ c main_arg6 (by decide)) _)) fun k => (h4_v17 (W8 m ρ c) j k).trans ((congrFun ((W8_of m ρ c main_v2 (by decide +kernel)).trans ((W7_of m ρ c main_v2 (by decide)).trans ((W6_of m ρ c main_v2 (by decide +kernel)).trans ((W5_of m ρ c main_v2 (by decide)).trans ((W4_of m ρ c main_v2 (by decide +kernel)).trans ((W3_of m ρ c main_v2 (by decide)).trans (W2_of m ρ c main_v2 (by decide +kernel)))))))) _).trans (h0_v2 (W0 m ρ c) j k))))
theorem W13_v23 : (W13 m ρ c (Proc.devRef .tc main_v23) (ix2 s j) : EReal) = tmul (merged (mX m c) (mY m c) (mA m c) (mB m c) (mG m c)) (mD m c) s j :=
  (h6_v23 (W12 m ρ c) s j).trans ((congrFun ((W12_arr m ρ c 2).trans (arr5_2 _ c)) _).trans
    (cols_eq (fun k => (h5_v20 (W10 m ρ c) k s).trans ((congrFun ((W10_of m ρ c main_v11 (by decide +kernel)).trans ((W9_of m ρ c main_v11 (by decide)).trans ((W8_of m ρ c main_v11 (by decide +kernel)).trans (W7_of m ρ c main_v11 (by decide))))) _).trans (W6_v11 m ρ c k s))) fun k => (h5_v21 (W10 m ρ c) k j).trans (congrFun (W10_args m ρ c main_arg6 (by decide)) _)))
/-- The cotangents of the two branches and of the gates. -/
theorem W14_v24_0 : (W14 m ρ c (Proc.devRef .tc main_v24_0) (ix2 s j) : EReal) = (dLo (mD m c) (mW m c) (mG m c)) s j :=
  by
  refine (congrFun ((W14_arr m ρ c 4).trans (arr6_4 _ c)) _).trans ?_
  have e1 : (W13 m ρ c (Proc.devRef .tc main_v19) (ix2 s j) : EReal) = _ := ((congrFun ((W13_of m ρ c main_v19 (by decide)).trans (W12_of m ρ c main_v19 (by decide +kernel))) _).trans (W11_v19 m ρ c s j))
  have e3 (u : Fin 8192) : (W13 m ρ c (Proc.devRef .tc main_arg2) (ix2 s u) : EReal) = mG m c s u := (congrFun (W13_args m ρ c main_arg2 (by decide)) _)
  show Ideal.div 1 (Ffn.den (W13 m ρ c (Proc.devRef .tc main_arg2) (ix2 s (lo j)))) * W13 m ρ c (Proc.devRef .tc main_v19) (ix2 s j) = _
  rw [e1, e3]
  rfl
theorem W14_v24_1 : (W14 m ρ c (Proc.devRef .tc main_v24_1) (ix2 s j) : EReal) = (dHi (mD m c) (mW m c) (mG m c)) s j :=
  by
  refine (congrFun ((W14_arr m ρ c 5).trans (arr6_5 _ c)) _).trans ?_
  have e1 : (W13 m ρ c (Proc.devRef .tc main_v19) (ix2 s j) : EReal) = _ := ((congrFun ((W13_of m ρ c main_v19 (by decide)).trans (W12_of m ρ c main_v19 (by decide +kernel))) _).trans (W11_v19 m ρ c s j))
  have e3 (u : Fin 8192) : (W13 m ρ c (Proc.devRef .tc main_arg2) (ix2 s u) : EReal) = mG m c s u := (congrFun (W13_args m ρ c main_arg2 (by decide)) _)
  show Ideal.div 1 (Ffn.den (W13 m ρ c (Proc.devRef .tc main_arg2) (ix2 s (hi j)))) * W13 m ρ c (Proc.devRef .tc main_v19) (ix2 s j) = _
  rw [e1, e3]
  rfl
theorem W14_lo : (W14 m ρ c (Proc.devRef .tc main_v24_2) (ix2 s (lo j)) : EReal) = slope (mG m c s (lo j)) ((mulT (mD m c) (mW m c)) s j * (mul (mX m c) (mA m c)) s j) :=
  by
  refine (congrFun ((W14_arr m ρ c 6).trans (arr6_6 _ c)) _).trans ((gates_lo _ _ _ _ s j).trans ?_)
  have e1 : (W13 m ρ c (Proc.devRef .tc main_v19) (ix2 s j) : EReal) = _ := ((congrFun ((W13_of m ρ c main_v19 (by decide)).trans (W12_of m ρ c main_v19 (by decide +kernel))) _).trans (W11_v19 m ρ c s j))
  have e2 : (W13 m ρ c (Proc.devRef .tc main_v6) (ix2 s j) : EReal) = _ := ((congrFun ((W13_of m ρ c main_v6 (by decide)).trans ((W12_of m ρ c main_v6 (by decide +kernel)).trans ((W11_of m ρ c main_v6 (by decide)).trans ((W10_of m ρ c main_v6 (by decide +kernel)).trans ((W9_of m ρ c main_v6 (by decide)).trans ((W8_of m ρ c main_v6 (by decide +kernel)).trans ((W7_of m ρ c main_v6 (by decide)).trans ((W6_of m ρ c main_v6 (by decide +kernel)).trans ((W5_of m ρ c main_v6 (by decide)).trans (W4_of m ρ c main_v6 (by decide +kernel))))))))))) _).trans (W3_v6 m ρ c s j))
  have e3 (u : Fin 8192) : (W13 m ρ c (Proc.devRef .tc main_arg2) (ix2 s u) : EReal) = mG m c s u := (congrFun (W13_args m ρ c main_arg2 (by decide)) _)
  exact slope_congr (e3 _) e1 e2
theorem W14_hi : (W14 m ρ c (Proc.devRef .tc main_v24_2) (ix2 s (hi j)) : EReal) = slope (mG m c s (hi j)) ((mulT (mD m c) (mW m c)) s j * (mul (mY m c) (mB m c)) s j) :=
  by
  refine (congrFun ((W14_arr m ρ c 6).trans (arr6_6 _ c)) _).trans ((gates_hi _ _ _ _ s j).trans ?_)
  have e1 : (W13 m ρ c (Proc.devRef .tc main_v19) (ix2 s j) : EReal) = _ := ((congrFun ((W13_of m ρ c main_v19 (by decide)).trans (W12_of m ρ c main_v19 (by decide +kernel))) _).trans (W11_v19 m ρ c s j))
  have e2 : (W13 m ρ c (Proc.devRef .tc main_v10) (ix2 s j) : EReal) = _ := ((congrFun ((W13_of m ρ c main_v10 (by decide)).trans ((W12_of m ρ c main_v10 (by decide +kernel)).trans ((W11_of m ρ c main_v10 (by decide)).trans ((W10_of m ρ c main_v10 (by decide +kernel)).trans ((W9_of m ρ c main_v10 (by decide)).trans ((W8_of m ρ c main_v10 (by decide +kernel)).trans ((W7_of m ρ c main_v10 (by decide)).trans (W6_of m ρ c main_v10 (by decide +kernel))))))))) _).trans (W5_v10 m ρ c s j))
  have e3 (u : Fin 8192) : (W13 m ρ c (Proc.devRef .tc main_arg2) (ix2 s u) : EReal) = mG m c s u := (congrFun (W13_args m ρ c main_arg2 (by decide)) _)
  exact slope_congr (e3 _) e1 e2
/-- The backward products. -/
theorem W17_v28 : (W17 m ρ c (Proc.devRef .tc main_v28) (ix2 s j) : EReal) = mulT (dLo (mD m c) (mW m c) (mG m c)) (mA m c) s j :=
  (h8_v28 (W16 m ρ c) s j).trans ((congrFun ((W16_arr m ρ c 2).trans (arr7_2 _ c)) _).trans
    (rowsT_eq (fun k => (h7_v25 (W14 m ρ c) s k).trans (W14_v24_0 m ρ c s k)) fun k => (h7_v26 (W14 m ρ c) j k).trans ((congrFun ((W14_of m ρ c main_v0 (by decide +kernel)).trans ((W13_of m ρ c main_v0 (by decide)).trans ((W12_of m ρ c main_v0 (by decide +kernel)).trans ((W11_of m ρ c main_v0 (by decide)).trans ((W10_of m ρ c main_v0 (by decide +kernel)).trans ((W9_of m ρ c main_v0 (by decide)).trans ((W8_of m ρ c main_v0 (by decide +kernel)).trans ((W7_of m ρ c main_v0 (by decide)).trans ((W6_of m ρ c main_v0 (by decide +kernel)).trans ((W5_of m ρ c main_v0 (by decide)).trans ((W4_of m ρ c main_v0 (by decide +kernel)).trans ((W3_of m ρ c main_v0 (by decide)).trans (W2_of m ρ c main_v0 (by decide +kernel)))))))))))))) _).trans (h0_v0 (W0 m ρ c) j k))))
theorem W19_v32 : (W19 m ρ c (Proc.devRef .tc main_v32) (ix2 s j) : EReal) = tmul (mX m c) (dLo (mD m c) (mW m c) (mG m c)) s j :=
  (h9_v32 (W18 m ρ c) s j).trans ((congrFun ((W18_arr m ρ c 2).trans (arr8_2 _ c)) _).trans
    (cols_eq (fun k => (h8_v29 (W16 m ρ c) k s).trans (congrFun (W16_args m ρ c main_arg0 (by decide)) _)) fun k => (h8_v30 (W16 m ρ c) k j).trans ((congrFun ((W16_of m ρ c main_v24_0 (by decide +kernel)).trans (W15_of m ρ c main_v24_0 (by decide))) _).trans (W14_v24_0 m ρ c k j))))
theorem W21_v36 : (W21 m ρ c (Proc.devRef .tc main_v36) (ix2 s j) : EReal) = mulT (dHi (mD m c) (mW m c) (mG m c)) (mB m c) s j :=
  (h10_v36 (W20 m ρ c) s j).trans ((congrFun ((W20_arr m ρ c 2).trans (arr9_2 _ c)) _).trans
    (rowsT_eq (fun k => (h9_v33 (W18 m ρ c) s k).trans ((congrFun ((W18_of m ρ c main_v24_1 (by decide +kernel)).trans ((W17_of m ρ c main_v24_1 (by decide)).trans ((W16_of m ρ c main_v24_1 (by decide +kernel)).trans (W15_of m ρ c main_v24_1 (by decide))))) _).trans (W14_v24_1 m ρ c s k))) fun k => (h9_v34 (W18 m ρ c) j k).trans ((congrFun ((W18_of m ρ c main_v1 (by decide +kernel)).trans ((W17_of m ρ c main_v1 (by decide)).trans ((W16_of m ρ c main_v1 (by decide +kernel)).trans ((W15_of m ρ c main_v1 (by decide)).trans ((W14_of m ρ c main_v1 (by decide +kernel)).trans ((W13_of m ρ c main_v1 (by decide)).trans ((W12_of m ρ c main_v1 (by decide +kernel)).trans ((W11_of m ρ c main_v1 (by decide)).trans ((W10_of m ρ c main_v1 (by decide +kernel)).trans ((W9_of m ρ c main_v1 (by decide)).trans ((W8_of m ρ c main_v1 (by decide +kernel)).trans ((W7_of m ρ c main_v1 (by decide)).trans ((W6_of m ρ c main_v1 (by decide +kernel)).trans ((W5_of m ρ c main_v1 (by decide)).trans ((W4_of m ρ c main_v1 (by decide +kernel)).trans ((W3_of m ρ c main_v1 (by decide)).trans (W2_of m ρ c main_v1 (by decide +kernel)))))))))))))))))) _).trans (h0_v1 (W0 m ρ c) j k))))
theorem W23_v40 : (W23 m ρ c (Proc.devRef .tc main_v40) (ix2 s j) : EReal) = tmul (mY m c) (dHi (mD m c) (mW m c) (mG m c)) s j :=
  (h11_v40 (W22 m ρ c) s j).trans ((congrFun ((W22_arr m ρ c 2).trans (arr10_2 _ c)) _).trans
    (cols_eq (fun k => (h10_v37 (W20 m ρ c) k s).trans (congrFun (W20_args m ρ c main_arg1 (by decide)) _)) fun k => (h10_v38 (W20 m ρ c) k j).trans ((congrFun ((W20_of m ρ c main_v24_1 (by decide +kernel)).trans ((W19_of m ρ c main_v24_1 (by decide)).trans ((W18_of m ρ c main_v24_1 (by decide +kernel)).trans ((W17_of m ρ c main_v24_1 (by decide)).trans ((W16_of m ρ c main_v24_1 (by decide +kernel)).trans (W15_of m ρ c main_v24_1 (by decide))))))) _).trans (W14_v24_1 m ρ c k j))))

/-! ## The results, at the end -/
theorem W23_v15 : (W23 m ρ c (Proc.devRef .tc main_v15) (ix2 s j) : EReal) = mul (merged (mX m c) (mY m c) (mA m c) (mB m c) (mG m c)) (mW m c) s j :=
  ((congrFun ((W23_of m ρ c main_v15 (by decide)).trans ((W22_of m ρ c main_v15 (by decide +kernel)).trans ((W21_of m ρ c main_v15 (by decide)).trans ((W20_of m ρ c main_v15 (by decide +kernel)).trans ((W19_of m ρ c main_v15 (by decide)).trans ((W18_of m ρ c main_v15 (by decide +kernel)).trans ((W17_of m ρ c main_v15 (by decide)).trans ((W16_of m ρ c main_v15 (by decide +kernel)).trans ((W15_of m ρ c main_v15 (by decide)).trans ((W14_of m ρ c main_v15 (by decide +kernel)).trans ((W13_of m ρ c main_v15 (by decide)).trans ((W12_of m ρ c main_v15 (by decide +kernel)).trans ((W11_of m ρ c main_v15 (by decide)).trans (W10_of m ρ c main_v15 (by decide +kernel))))))))))))))) _).trans (W9_v15 m ρ c s j))
theorem W23_v28 : (W23 m ρ c (Proc.devRef .tc main_v28) (ix2 s j) : EReal) = mulT (dLo (mD m c) (mW m c) (mG m c)) (mA m c) s j :=
  ((congrFun ((W23_of m ρ c main_v28 (by decide)).trans ((W22_of m ρ c main_v28 (by decide +kernel)).trans ((W21_of m ρ c main_v28 (by decide)).trans ((W20_of m ρ c main_v28 (by decide +kernel)).trans ((W19_of m ρ c main_v28 (by decide)).trans (W18_of m ρ c main_v28 (by decide +kernel))))))) _).trans (W17_v28 m ρ c s j))
theorem W23_v36 : (W23 m ρ c (Proc.devRef .tc main_v36) (ix2 s j) : EReal) = mulT (dHi (mD m c) (mW m c) (mG m c)) (mB m c) s j :=
  ((congrFun ((W23_of m ρ c main_v36 (by decide)).trans (W22_of m ρ c main_v36 (by decide +kernel))) _).trans (W21_v36 m ρ c s j))
theorem W23_v32 : (W23 m ρ c (Proc.devRef .tc main_v32) (ix2 s j) : EReal) = tmul (mX m c) (dLo (mD m c) (mW m c) (mG m c)) s j :=
  ((congrFun ((W23_of m ρ c main_v32 (by decide)).trans ((W22_of m ρ c main_v32 (by decide +kernel)).trans ((W21_of m ρ c main_v32 (by decide)).trans (W20_of m ρ c main_v32 (by decide +kernel))))) _).trans (W19_v32 m ρ c s j))
theorem W23_v23 : (W23 m ρ c (Proc.devRef .tc main_v23) (ix2 s j) : EReal) = tmul (merged (mX m c) (mY m c) (mA m c) (mB m c) (mG m c)) (mD m c) s j :=
  ((congrFun ((W23_of m ρ c main_v23 (by decide)).trans ((W22_of m ρ c main_v23 (by decide +kernel)).trans ((W21_of m ρ c main_v23 (by decide)).trans ((W20_of m ρ c main_v23 (by decide +kernel)).trans ((W19_of m ρ c main_v23 (by decide)).trans ((W18_of m ρ c main_v23 (by decide +kernel)).trans ((W17_of m ρ c main_v23 (by decide)).trans ((W16_of m ρ c main_v23 (by decide +kernel)).trans ((W15_of m ρ c main_v23 (by decide)).trans (W14_of m ρ c main_v23 (by decide +kernel))))))))))) _).trans (W13_v23 m ρ c s j))
theorem W23_lo : (W23 m ρ c (Proc.devRef .tc main_v24_2) (ix2 s (lo j)) : EReal) = slope (mG m c s (lo j)) ((mulT (mD m c) (mW m c)) s j * (mul (mX m c) (mA m c)) s j) :=
  ((congrFun ((W23_of m ρ c main_v24_2 (by decide)).trans ((W22_of m ρ c main_v24_2 (by decide +kernel)).trans ((W21_of m ρ c main_v24_2 (by decide)).trans ((W20_of m ρ c main_v24_2 (by decide +kernel)).trans ((W19_of m ρ c main_v24_2 (by decide)).trans ((W18_of m ρ c main_v24_2 (by decide +kernel)).trans ((W17_of m ρ c main_v24_2 (by decide)).trans ((W16_of m ρ c main_v24_2 (by decide +kernel)).trans (W15_of m ρ c main_v24_2 (by decide)))))))))) _).trans (W14_lo m ρ c s j))
theorem W23_hi : (W23 m ρ c (Proc.devRef .tc main_v24_2) (ix2 s (hi j)) : EReal) = slope (mG m c s (hi j)) ((mulT (mD m c) (mW m c)) s j * (mul (mY m c) (mB m c)) s j) :=
  ((congrFun ((W23_of m ρ c main_v24_2 (by decide)).trans ((W22_of m ρ c main_v24_2 (by decide +kernel)).trans ((W21_of m ρ c main_v24_2 (by decide)).trans ((W20_of m ρ c main_v24_2 (by decide +kernel)).trans ((W19_of m ρ c main_v24_2 (by decide)).trans ((W18_of m ρ c main_v24_2 (by decide +kernel)).trans ((W17_of m ρ c main_v24_2 (by decide)).trans ((W16_of m ρ c main_v24_2 (by decide +kernel)).trans (W15_of m ρ c main_v24_2 (by decide)))))))))) _).trans (W14_hi m ρ c s j))
end Cert.Kernel3Ideal.Mrg
-- ==== Proof.MergeRef.lean ====
module
public import proofs.«01_k».proof.Proof.MergeRow
public import proofs.«01_k».proof.Proof.Gen.Reference3Ideal.Run
public import Idealize.ShloMosaic.Lib.Pointwise
@[expose] public section
set_option maxRecDepth 16384
noncomputable section

/-! The reference's gated merge and its gradients, element by element. -/
namespace Cert.Reference3Ideal.Mrg
open Idealize.ShloMosaic Idealize.ShloMosaic.TcCoe Idealize.ShloMosaic.Tactic Idealize.SL.Sem
open Cert.Reference3Ideal Cert.Reference3Ideal.Gen _root_.Mrg
open _root_.Ffn (den lgs div_den)

abbrev one : FVec Ideal S4096x4096 .f32 := broadcastInDim S4096x4096 ![] bcast_S_S4096x4096 (constant S_ .f32 0x3F800000#32)
/-- The logistic function, as the reference writes it. -/
abbrev sigV (g : FVec Ideal S4096x4096 .f32) : FVec Ideal S4096x4096 .f32 := Host.divf one (addf one (Host.exp (Host.negf g)))
/-- The two halves of the gates. -/
abbrev gLo (g : FVec Ideal S4096x8192 .f32) : FVec Ideal S4096x4096 .f32 := extractStridedSlice S4096x4096 ![0, 0] g slices_S4096x8192_S4096x4096_0_0
abbrev gHi (g : FVec Ideal S4096x8192 .f32) : FVec Ideal S4096x4096 .f32 := extractStridedSlice S4096x4096 ![0, 4096] g slices_S4096x8192_S4096x4096_0_4096
abbrev dotN (p q : FVec Ideal S4096x4096 .f32) : FVec Ideal S4096x4096 .f32 := Host.dotGeneral dot_S4096x4096_S4096x4096_S4096x4096_1_0_0_1_n_n none p q
abbrev dotT (p q : FVec Ideal S4096x4096 .f32) : FVec Ideal S4096x4096 .f32 := Host.dotGeneral dot_S4096x4096_S4096x4096_S4096x4096_1_1_0_0_n_n none p q
abbrev tdot (p q : FVec Ideal S4096x4096 .f32) : FVec Ideal S4096x4096 .f32 := Host.dotGeneral dot_S4096x4096_S4096x4096_S4096x4096_0_0_1_1_n_n none p q
abbrev up (x : FVec Ideal S4096x4096 .bf16) : FVec Ideal S4096x4096 .f32 := extf .f32 x bitsLt_bf16_f32
abbrev flip (x : FVec Ideal S4096x4096 .f32) : FVec Ideal S4096x4096 .bf16 :=
  truncf .bf16 (transpose S4096x4096 [1, 0] x transposes_S4096x4096_S4096x4096_1_0) bitsLt_bf16_f32

section
variable (x : FVec Ideal S4096x4096 .bf16) (p q u v : FVec Ideal S4096x4096 .f32) (g : FVec Ideal S4096x8192 .f32) (s j : Fin 4096)
theorem lo_at : sigV (gLo g) (ix2 s j) = lgs (g (ix2 s (lo j))) := by
  pointwise
  rfl
theorem hi_at : sigV (gHi g) (ix2 s j) = lgs (g (ix2 s (hi j))) := by
  pointwise
  rfl
theorem add_at : (addf (mulf p u) (mulf q v) : FVec Ideal S4096x4096 .f32) (ix2 s j) = p (ix2 s j) * u (ix2 s j) + q (ix2 s j) * v (ix2 s j) := by
  pointwise
theorem mul_at : (mulf p u : FVec Ideal S4096x4096 .f32) (ix2 s j) = p (ix2 s j) * u (ix2 s j) := by
  pointwise
theorem slope_at : (mulf (mulf u v) (mulf q (subf one q)) : FVec Ideal S4096x4096 .f32) (ix2 s j) =
    u (ix2 s j) * v (ix2 s j) * (q (ix2 s j) * (1 - q (ix2 s j))) := by
  pointwise
theorem upN_at : dotN (up x) q (ix2 s j) = mul (fun s k => x (ix2 s k)) (fun s k => q (ix2 s k)) s j := by
  pointwise
  rfl
theorem upT_at : dotT (up x) q (ix2 s j) = mulT (fun s k => x (ix2 s k)) (fun s k => q (ix2 s k)) s j := by
  pointwise
  rfl
theorem dotN_at : dotN p q (ix2 s j) = mul (fun s k => p (ix2 s k)) (fun s k => q (ix2 s k)) s j := by
  pointwise
  rfl
theorem dotT_at : (truncf .bf16 (dotT p q) bitsLt_bf16_f32 : FVec Ideal S4096x4096 .bf16) (ix2 s j) = mulT (fun s k => p (ix2 s k)) (fun s k => q (ix2 s k)) s j := by
  pointwise
  rfl
theorem flipR_at : flip (tdot p (up x)) (ix2 s j) = ∑ k : Fin 4096, p (ix2 k j) * x (ix2 k s) := by
  pointwise
theorem flipL_at : flip (tdot (up x) p) (ix2 s j) = ∑ k : Fin 4096, x (ix2 k j) * p (ix2 k s) := by
  pointwise
theorem cat_lo : (truncf .bf16 (concatenate S4096x8192 1 [⟨S4096x4096, p⟩, ⟨S4096x4096, q⟩] concatenates_S4096x4096_S4096x4096_S4096x8192_d1) bitsLt_bf16_f32 : FVec Ideal S4096x8192 .bf16) (ix2 s (lo j)) =
    p (ix2 s j) := by
  pointwise
theorem cat_hi : (truncf .bf16 (concatenate S4096x8192 1 [⟨S4096x4096, p⟩, ⟨S4096x4096, q⟩] concatenates_S4096x4096_S4096x4096_S4096x8192_d1) bitsLt_bf16_f32 : FVec Ideal S4096x8192 .bf16) (ix2 s (hi j)) =
    q (ix2 s j) := by
  pointwise
end

/-! ## The results -/
section
variable (x y d : FVec Ideal S4096x4096 .bf16) (g : FVec Ideal S4096x8192 .f32) (a b w : FVec Ideal S4096x4096 .f32) (s j : Fin 4096)
abbrev mg : FVec Ideal S4096x4096 .f32 := addf (mulf (sigV (gLo g)) (dotN (up x) a)) (mulf (sigV (gHi g)) (dotN (up y) b))
abbrev rLo : FVec Ideal S4096x4096 .f32 := mulf (sigV (gLo g)) (dotT (up d) w)
abbrev rHi : FVec Ideal S4096x4096 .f32 := mulf (sigV (gHi g)) (dotT (up d) w)
theorem mg_at : mg x y g a b (ix2 s j) = merged (fun s k => x (ix2 s k)) (fun s k => y (ix2 s k)) (fun s k => a (ix2 s k)) (fun s k => b (ix2 s k)) (fun s k => g (ix2 s k)) s j := by
  refine (add_at _ _ _ _ s j).trans ?_
  rw [lo_at, hi_at, upN_at, upN_at]
  exact (mix_eq _ _ _ _).symm
theorem rLo_at : rLo d g w (ix2 s j) = dLo (fun s k => d (ix2 s k)) (fun s k => w (ix2 s k)) (fun s k => g (ix2 s k)) s j := by
  refine (mul_at _ _ s j).trans ?_
  rw [lo_at, upT_at, ← div_den]
  rfl
theorem rHi_at : rHi d g w (ix2 s j) = dHi (fun s k => d (ix2 s k)) (fun s k => w (ix2 s k)) (fun s k => g (ix2 s k)) s j := by
  refine (mul_at _ _ s j).trans ?_
  rw [hi_at, upT_at, ← div_den]
  rfl
theorem mo_at : dotN (mg x y g a b) w (ix2 s j) = mul (merged (fun s k => x (ix2 s k)) (fun s k => y (ix2 s k)) (fun s k => a (ix2 s k)) (fun s k => b (ix2 s k)) (fun s k => g (ix2 s k))) (fun s k => w (ix2 s k)) s j :=
  (dotN_at _ _ s j).trans (Finset.sum_congr rfl fun k _ => congrArg (· * _) (mg_at x y g a b s k))
theorem att_at : (truncf .bf16 (dotT (rLo d g w) a) bitsLt_bf16_f32 : FVec Ideal S4096x4096 .bf16) (ix2 s j) = mulT (dLo (fun s k => d (ix2 s k)) (fun s k => w (ix2 s k)) (fun s k => g (ix2 s k))) (fun s k => a (ix2 s k)) s j :=
  (dotT_at _ _ s j).trans (Finset.sum_congr rfl fun k _ => congrArg (· * _) (rLo_at d g w s k))
theorem rwkv_at : (truncf .bf16 (dotT (rHi d g w) b) bitsLt_bf16_f32 : FVec Ideal S4096x4096 .bf16) (ix2 s j) = mulT (dHi (fun s k => d (ix2 s k)) (fun s k => w (ix2 s k)) (fun s k => g (ix2 s k))) (fun s k => b (ix2 s k)) s j :=
  (dotT_at _ _ s j).trans (Finset.sum_congr rfl fun k _ => congrArg (· * _) (rHi_at d g w s k))
theorem wa_at : flip (tdot (rLo d g w) (up x)) (ix2 s j) = tmul (fun s k => x (ix2 s k)) (dLo (fun s k => d (ix2 s k)) (fun s k => w (ix2 s k)) (fun s k => g (ix2 s k))) s j :=
  (flipR_at _ _ s j).trans (Finset.sum_congr rfl fun k _ => by rw [rLo_at, mul_comm])
theorem wb_at : flip (tdot (rHi d g w) (up y)) (ix2 s j) = tmul (fun s k => y (ix2 s k)) (dHi (fun s k => d (ix2 s k)) (fun s k => w (ix2 s k)) (fun s k => g (ix2 s k))) s j :=
  (flipR_at _ _ s j).trans (Finset.sum_congr rfl fun k _ => by rw [rHi_at, mul_comm])
theorem wo_at : flip (tdot (up d) (mg x y g a b)) (ix2 s j) = tmul (merged (fun s k => x (ix2 s k)) (fun s k => y (ix2 s k)) (fun s k => a (ix2 s k)) (fun s k => b (ix2 s k)) (fun s k => g (ix2 s k))) (fun s k => d (ix2 s k)) s j :=
  (flipL_at _ _ s j).trans (Finset.sum_congr rfl fun k _ => by rw [mg_at, mul_comm])
abbrev rG (o : FVec Ideal S4096x4096 .f32) (q : FVec Ideal S4096x4096 .f32) : FVec Ideal S4096x4096 .f32 :=
  mulf (mulf (dotT (up d) w) o) (mulf (sigV q) (subf one (sigV q)))
theorem glo_at : rG d w (dotN (up x) a) (gLo g) (ix2 s j) = slope (g (ix2 s (lo j))) (mulT (fun s k => d (ix2 s k)) (fun s k => w (ix2 s k)) s j * mul (fun s k => x (ix2 s k)) (fun s k => a (ix2 s k)) s j) := by
  refine (slope_at (sigV (gLo g)) _ _ s j).trans ?_
  rw [lo_at, upT_at, upN_at, slope_eq]
theorem ghi_at : rG d w (dotN (up y) b) (gHi g) (ix2 s j) = slope (g (ix2 s (hi j))) (mulT (fun s k => d (ix2 s k)) (fun s k => w (ix2 s k)) s j * mul (fun s k => y (ix2 s k)) (fun s k => b (ix2 s k)) s j) := by
  refine (slope_at (sigV (gHi g)) _ _ s j).trans ?_
  rw [hi_at, upT_at, upN_at, slope_eq]
/-- The gates' gradient, on the two halves. -/
abbrev rGates : FVec Ideal S4096x8192 .bf16 := truncf .bf16 (concatenate S4096x8192 1 [⟨S4096x4096, rG d w (dotN (up x) a) (gLo g)⟩,
  ⟨S4096x4096, rG d w (dotN (up y) b) (gHi g)⟩] concatenates_S4096x4096_S4096x4096_S4096x8192_d1) bitsLt_bf16_f32
theorem gates_lo_at : rGates x y d g a b w (ix2 s (lo j)) = slope (g (ix2 s (lo j))) (mulT (fun s k => d (ix2 s k)) (fun s k => w (ix2 s k)) s j * mul (fun s k => x (ix2 s k)) (fun s k => a (ix2 s k)) s j) :=
  (cat_lo _ _ s j).trans (glo_at x d g a w s j)
theorem gates_hi_at : rGates x y d g a b w (ix2 s (hi j)) = slope (g (ix2 s (hi j))) (mulT (fun s k => d (ix2 s k)) (fun s k => w (ix2 s k)) s j * mul (fun s k => y (ix2 s k)) (fun s k => b (ix2 s k)) s j) :=
  (cat_hi _ _ s j).trans (ghi_at y d g b w s j)
end
end Cert.Reference3Ideal.Mrg
-- ==== Proof.MergeFinal.lean ====
module
public import proofs.«01_k».proof.Proof.MergeRun
public import proofs.«01_k».proof.Proof.MergeRef
public import proofs.«01_k».proof.Defs
@[expose] public section
set_option maxRecDepth 16384
noncomputable section

/-! The gated merge: the equation of the two programs' results. -/
namespace Mrg
open Idealize.ShloMosaic Idealize.ShloMosaic.TcCoe Idealize.ShloMosaic.Tactic Idealize.SL.Sem
open Cert
open Cert.Kernel3Ideal.Mrg (mX mY mG mA mB mW mD)

/-- Equal arguments give equal values. -/
theorem congr7 {α : Type} {X X' Y Y' A A' B B' W W' D D' : Fin 4096 → Fin 4096 → EReal} {G G' : Fin 4096 → Fin 8192 → EReal}
    (f : (Fin 4096 → Fin 4096 → EReal) → (Fin 4096 → Fin 4096 → EReal) → (Fin 4096 → Fin 8192 → EReal) → (Fin 4096 → Fin 4096 → EReal) →
      (Fin 4096 → Fin 4096 → EReal) → (Fin 4096 → Fin 4096 → EReal) → (Fin 4096 → Fin 4096 → EReal) → α)
    (eX : X = X') (eY : Y = Y') (eG : G = G') (eA : A = A') (eB : B = B') (eW : W = W') (eD : D = D') :
    f X Y G A B W D = f X' Y' G' A' B' W' D' := by
  subst eX eY eG eA eB eW eD
  rfl

set_option maxHeartbeats 4000000 in
/-- From memories that agree on the arguments the two programs end with the same results. -/
theorem algebraic : Cert.algebraic_Kernel3Ideal_Reference3Ideal := by
  intro m ρ m' ρ' _ he
  refine ⟨fun c => Kernel3Ideal.Gen.W23 m ρ c (Proc.devRef .tc Kernel3Ideal.main_v15),
    fun c => Kernel3Ideal.Gen.W23 m ρ c (Proc.devRef .tc Kernel3Ideal.main_v28),
    fun c => Kernel3Ideal.Gen.W23 m ρ c (Proc.devRef .tc Kernel3Ideal.main_v36),
    fun c => Kernel3Ideal.Gen.W23 m ρ c (Proc.devRef .tc Kernel3Ideal.main_v24_2),
    fun c => Kernel3Ideal.Gen.W23 m ρ c (Proc.devRef .tc Kernel3Ideal.main_v32),
    fun c => Kernel3Ideal.Gen.W23 m ρ c (Proc.devRef .tc Kernel3Ideal.main_v40),
    fun c => Kernel3Ideal.Gen.W23 m ρ c (Proc.devRef .tc Kernel3Ideal.main_v23), Kernel3Ideal.Mrg.run_W23 m ρ, ?_⟩
  refine (θ_run _ _ _).mono (fun r h c => ?_) (Reference3Ideal.Value.run m' ρ')
  obtain ⟨h0, h1, h2, h3, h4, h5, h6, h7⟩ := h c
  obtain ⟨e0, e1, e2, e3, e4, e5, e6⟩ := he c
  have a0 : _ = mX m c := funext fun s => funext fun k => congrFun e0 (ix2 s k)
  have a1 : _ = mY m c := funext fun s => funext fun k => congrFun e1 (ix2 s k)
  have a2 : _ = mG m c := funext fun s => funext fun k => congrFun e2 (ix2 s k)
  have a3 : _ = mA m c := funext fun s => funext fun k => congrFun e3 (ix2 s k)
  have a4 : _ = mB m c := funext fun s => funext fun k => congrFun e4 (ix2 s k)
  have a5 : _ = mW m c := funext fun s => funext fun k => congrFun e5 (ix2 s k)
  have a6 : _ = mD m c := funext fun s => funext fun k => congrFun e6 (ix2 s k)
  refine ⟨h0.trans ?_, h1.trans ?_, h2.trans ?_, h3.trans ?_, h4.trans ?_, h5.trans ?_, h6.trans ?_, h7⟩
  · funext y
    obtain ⟨s, j, rfl⟩ : ∃ (s j : Fin 4096), y = ix2 s j := ⟨y 0, y 1, by idx_vars y⟩
    refine Eq.trans ?_ (Kernel3Ideal.Mrg.W23_v15 m ρ c s j).symm
    exact (Reference3Ideal.Mrg.mo_at _ _ _ _ _ _ s j).trans (congr7 (fun X Y G A B W D => mul (merged X Y A B G) W s j) a0 a1 a2 a3 a4 a5 a6)
  · funext y
    obtain ⟨s, j, rfl⟩ : ∃ (s j : Fin 4096), y = ix2 s j := ⟨y 0, y 1, by idx_vars y⟩
    refine Eq.trans ?_ (Kernel3Ideal.Mrg.W23_v28 m ρ c s j).symm
    exact (Reference3Ideal.Mrg.att_at _ _ _ _ s j).trans (congr7 (fun X Y G A B W D => mulT (dLo D W G) A s j) a0 a1 a2 a3 a4 a5 a6)
  · funext y
    obtain ⟨s, j, rfl⟩ : ∃ (s j : Fin 4096), y = ix2 s j := ⟨y 0, y 1, by idx_vars y⟩
    refine Eq.trans ?_ (Kernel3Ideal.Mrg.W23_v36 m ρ c s j).symm
    exact (Reference3Ideal.Mrg.rwkv_at _ _ _ _ s j).trans (congr7 (fun X Y G A B W D => mulT (dHi D W G) B s j) a0 a1 a2 a3 a4 a5 a6)
  · funext y
    obtain ⟨s, u, rfl⟩ : ∃ (s : Fin 4096) (u : Fin 8192), y = ix2 s u := ⟨y 0, y 1, by idx_vars y⟩
    rcases halves u with ⟨j, rfl⟩ | ⟨j, rfl⟩
    · refine Eq.trans ?_ (Kernel3Ideal.Mrg.W23_lo m ρ c s j).symm
      refine (Reference3Ideal.Mrg.gates_lo_at _ _ _ _ _ _ _ s j).trans ?_
      have key := congr7 (fun X _ G A _ W D => slope (G s (lo j)) (mulT D W s j * mul X A s j)) a0 a1 a2 a3 a4 a5 a6
      exact key
    · refine Eq.trans ?_ (Kernel3Ideal.Mrg.W23_hi m ρ c s j).symm
      refine (Reference3Ideal.Mrg.gates_hi_at _ _ _ _ _ _ _ s j).trans ?_
      have key := congr7 (fun _ Y G _ B W D => slope (G s (hi j)) (mulT D W s j * mul Y B s j)) a0 a1 a2 a3 a4 a5 a6
      exact key
  · funext y
    obtain ⟨s, j, rfl⟩ : ∃ (s j : Fin 4096), y = ix2 s j := ⟨y 0, y 1, by idx_vars y⟩
    refine Eq.trans ?_ (Kernel3Ideal.Mrg.W23_v32 m ρ c s j).symm
    exact (Reference3Ideal.Mrg.wa_at _ _ _ _ s j).trans (congr7 (fun X Y G A B W D => tmul X (dLo D W G) s j) a0 a1 a2 a3 a4 a5 a6)
  · funext y
    obtain ⟨s, j, rfl⟩ : ∃ (s j : Fin 4096), y = ix2 s j := ⟨y 0, y 1, by idx_vars y⟩
    refine Eq.trans ?_ (Kernel3Ideal.Mrg.W23_v40 m ρ c s j).symm
    exact (Reference3Ideal.Mrg.wb_at _ _ _ _ s j).trans (congr7 (fun X Y G A B W D => tmul Y (dHi D W G) s j) a0 a1 a2 a3 a4 a5 a6)
  · funext y
    obtain ⟨s, j, rfl⟩ : ∃ (s j : Fin 4096), y = ix2 s j := ⟨y 0, y 1, by idx_vars y⟩
    refine Eq.trans ?_ (Kernel3Ideal.Mrg.W23_v23 m ρ c s j).symm
    exact (Reference3Ideal.Mrg.wo_at _ _ _ _ _ _ s j).trans (congr7 (fun X Y G A B W D => tmul (merged X Y A B G) D s j) a0 a1 a2 a3 a4 a5 a6)
end Mrg
-- ==== Proof.ProjRow.lean ====
module
public import Idealize.ShloMosaic.Lib.Pointwise
@[expose] public section
noncomputable section

/-! The input projection: its columns, and the products over them. -/
namespace Prj
open Idealize.ShloMosaic

/-! ## The columns of the projection, segment by segment, and those of the low ranks laid together -/
abbrev cQ (j : Fin 6144) : Fin 27360 := ⟨j.val, by omega⟩
abbrev cR (j : Fin 4096) : Fin 27360 := ⟨6144 + j.val, by omega⟩
abbrev cK (j : Fin 4096) : Fin 27360 := ⟨10240 + j.val, by omega⟩
abbrev cV (j : Fin 4096) : Fin 27360 := ⟨14336 + j.val, by omega⟩
abbrev cW (j : Fin 128) : Fin 27360 := ⟨18432 + j.val, by omega⟩
abbrev cA (j : Fin 128) : Fin 27360 := ⟨18560 + j.val, by omega⟩
abbrev cG (j : Fin 480) : Fin 27360 := ⟨18688 + j.val, by omega⟩
abbrev cT (j : Fin 8192) : Fin 27360 := ⟨19168 + j.val, by omega⟩
abbrev cRkv (j : Fin 12288) : Fin 27360 := ⟨6144 + j.val, by omega⟩
abbrev lG (j : Fin 480) : Fin 512 := ⟨j.val, by omega⟩
abbrev gG (j : Fin 480) : Fin 768 := ⟨j.val, by omega⟩
abbrev gW (j : Fin 128) : Fin 768 := ⟨512 + j.val, by omega⟩
abbrev gA (j : Fin 128) : Fin 768 := ⟨640 + j.val, by omega⟩
/-- Every column lies in one of the eight segments. -/
theorem segments (u : Fin 27360) : (∃ j, u = cQ j) ∨ (∃ j, u = cR j) ∨ (∃ j, u = cK j) ∨ (∃ j, u = cV j) ∨ (∃ j, u = cW j) ∨ (∃ j, u = cA j) ∨ (∃ j, u = cG j) ∨ (∃ j, u = cT j) := by
  rcases Nat.lt_or_ge u.val 6144 with h0 | h0
  · exact .inl ⟨⟨u.val, h0⟩, rfl⟩
  rcases Nat.lt_or_ge u.val 10240 with h1 | h1
  · exact .inr (.inl ⟨⟨u.val - 6144, by omega⟩, Fin.ext (by dsimp; omega)⟩)
  rcases Nat.lt_or_ge u.val 14336 with h2 | h2
  · exact .inr (.inr (.inl ⟨⟨u.val - 10240, by omega⟩, Fin.ext (by dsimp; omega)⟩))
  rcases Nat.lt_or_ge u.val 18432 with h3 | h3
  · exact .inr (.inr (.inr (.inl ⟨⟨u.val - 14336, by omega⟩, Fin.ext (by dsimp; omega)⟩)))
  rcases Nat.lt_or_ge u.val 18560 with h4 | h4
  · exact .inr (.inr (.inr (.inr (.inl ⟨⟨u.val - 18432, by omega⟩, Fin.ext (by dsimp; omega)⟩))))
  rcases Nat.lt_or_ge u.val 18688 with h5 | h5
  · exact .inr (.inr (.inr (.inr (.inr (.inl ⟨⟨u.val - 18560, by omega⟩, Fin.ext (by dsimp; omega)⟩)))))
  rcases Nat.lt_or_ge u.val 19168 with h6 | h6
  · exact .inr (.inr (.inr (.inr (.inr (.inr (.inl ⟨⟨u.val - 18688, by omega⟩, Fin.ext (by dsimp; omega)⟩))))))
  exact .inr (.inr (.inr (.inr (.inr (.inr (.inr ⟨⟨u.val - 19168, by omega⟩, Fin.ext (by dsimp; omega)⟩))))))

/-- A column of the projection: a row times the weight's column. -/
def proj (H : Fin 4096 → Fin 4096 → EReal) (Wi : Fin 4096 → Fin 27360 → EReal) (s : Fin 4096) (u : Fin 27360) : EReal := ∑ k : Fin 4096, H s k * Wi k u
/-- A column of the weight's gradient. -/
def grad {n : ℕ} (H : Fin 4096 → Fin 4096 → EReal) (D : Fin 4096 → Fin n → EReal) (i : Fin 4096) (j : Fin n) : EReal := ∑ s : Fin 4096, H s i * D s j
end Prj
-- ==== Proof.ProjHost.lean ====
module
public import proofs.«01_k».proof.Proof.ProjRow
public import proofs.«01_k».proof.Proof.Gen.Kernel4Ideal.Launch
public import Idealize.ShloMosaic.Lib.Pointwise
public import Idealize.ShloMosaic.Lib.Claim
public import Idealize.ShloMosaic.Lib.KernelVsHost
@[expose] public section
set_option maxRecDepth 16384
noncomputable section

/-! What each stretch of host code of the input projection leaves, of any contents it finds. -/
namespace Cert.Kernel4Ideal.Prj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen _root_.Prj

variable (W : Valuation τ sig (Elt Ideal)) (s k : Fin 4096)
theorem pad_at (x : FVec Ideal S4096x480 .bf16) (v : FVec Ideal S_ .bf16) (k : Fin 4096) (j : Fin 480) :
    (pad S4096x512 ![0, 0] ![0, 32] ![0, 0] x v pads_S4096x480_S4096x512_000_0320 h_S_ : FVec Ideal S4096x512 .bf16) (ix2 k (lG j)) = x (ix2 k j) :=
  pad_apply_of_inside _ _ _ _ _ _ _ _ (ix2 k j) (fun a => by match a with | 0 => simp [ix2] | 1 => simp [ix2])
theorem h0_v0 (u : Fin 27360) : (StableHlo.after hostOps0 W (Proc.devRef .tc main_v0) (ix2 k u) : EReal) = W (Proc.devRef .tc main_arg1) (ix2 k u) := by
  entry_read
  pointwise
theorem h0_v1 (j : Fin 6144) : (StableHlo.after hostOps0 W (Proc.devRef .tc main_v1) (ix2 k j) : EReal) = W (Proc.devRef .tc main_arg1) (ix2 k (cQ j)) := by
  entry_read
  pointwise
theorem h0_v2 (j : Fin 12288) : (StableHlo.after hostOps0 W (Proc.devRef .tc main_v2) (ix2 k j) : EReal) = W (Proc.devRef .tc main_arg1) (ix2 k (cRkv j)) := by
  entry_read
  pointwise
theorem h0_v3 (j : Fin 480) : (StableHlo.after hostOps0 W (Proc.devRef .tc main_v3) (ix2 k j) : EReal) = W (Proc.devRef .tc main_arg1) (ix2 k (cG j)) := by
  entry_read
  pointwise
theorem h01_v4 (j : Fin 480) : (StableHlo.after hostOps0_1 W (Proc.devRef .tc main_v4) (ix2 k (lG j)) : EReal) = W (Proc.devRef .tc main_v3) (ix2 k j) := by
  entry_read
  exact pad_at (W (Proc.devRef .tc main_v3)) _ k j
/-- The stretch in two parts: what a concatenation takes is laid out in the first. -/
theorem split0_2 : StableHlo.after (hostOps0_2 (F := Ideal)) W = StableHlo.after (hostOps0_2.drop 2) (StableHlo.after (hostOps0_2.take 2) W) := rfl
theorem h02_g_tail (j : Fin 480) : (StableHlo.after (hostOps0_2.drop 2) W (Proc.devRef .tc main_v7) (ix2 k (gG j)) : EReal) = W (Proc.devRef .tc main_v4) (ix2 k (lG j)) := by
  show (StableHlo.after [_, _, _] W (Proc.devRef .tc main_v7) (ix2 k (gG j)) : EReal) = _
  entry_read
  pointwise
  have := j.isLt
  rw [dif_pos (by omega)]
theorem h02_g_head (j : Fin 480) : (StableHlo.after (hostOps0_2.take 2) W (Proc.devRef .tc main_v4) (ix2 k (lG j)) : EReal) = W (Proc.devRef .tc main_v4) (ix2 k (lG j)) := by
  show (StableHlo.after [_, _] W (Proc.devRef .tc main_v4) (ix2 k (lG j)) : EReal) = _
  entry_read
  pointwise
theorem h02_g (j : Fin 480) : (StableHlo.after hostOps0_2 W (Proc.devRef .tc main_v7) (ix2 k (gG j)) : EReal) = W (Proc.devRef .tc main_v4) (ix2 k (lG j)) :=
  (congrFun (congrFun (split0_2 W) _) _).trans ((h02_g_tail _ k j).trans (h02_g_head W k j))
theorem h02_w_tail (j : Fin 128) : (StableHlo.after (hostOps0_2.drop 2) W (Proc.devRef .tc main_v7) (ix2 k (gW j)) : EReal) = W (Proc.devRef .tc main_v5) (ix2 k j) := by
  show (StableHlo.after [_, _, _] W (Proc.devRef .tc main_v7) (ix2 k (gW j)) : EReal) = _
  entry_read
  pointwise
theorem h02_w_head (j : Fin 128) : (StableHlo.after (hostOps0_2.take 2) W (Proc.devRef .tc main_v5) (ix2 k j) : EReal) = W (Proc.devRef .tc main_v0) (ix2 k (cW j)) := by
  show (StableHlo.after [_, _] W (Proc.devRef .tc main_v5) (ix2 k j) : EReal) = _
  entry_read
  pointwise
theorem h02_w (j : Fin 128) : (StableHlo.after hostOps0_2 W (Proc.devRef .tc main_v7) (ix2 k (gW j)) : EReal) = W (Proc.devRef .tc main_v0) (ix2 k (cW j)) :=
  (congrFun (congrFun (split0_2 W) _) _).trans ((h02_w_tail _ k j).trans (h02_w_head W k j))
theorem h02_a_tail (j : Fin 128) : (StableHlo.after (hostOps0_2.drop 2) W (Proc.devRef .tc main_v7) (ix2 k (gA j)) : EReal) = W (Proc.devRef .tc main_v6) (ix2 k j) := by
  show (StableHlo.after [_, _, _] W (Proc.devRef .tc main_v7) (ix2 k (gA j)) : EReal) = _
  entry_read
  pointwise
  have := j.isLt
  rw [dif_neg (by omega), dif_neg (by omega)]
  exact congrArg (fun z => W (Proc.devRef .tc main_v6) (ix2 k z)) (Fin.ext (by dsimp; omega))
theorem h02_a_head (j : Fin 128) : (StableHlo.after (hostOps0_2.take 2) W (Proc.devRef .tc main_v6) (ix2 k j) : EReal) = W (Proc.devRef .tc main_v0) (ix2 k (cA j)) := by
  show (StableHlo.after [_, _] W (Proc.devRef .tc main_v6) (ix2 k j) : EReal) = _
  entry_read
  pointwise
theorem h02_a (j : Fin 128) : (StableHlo.after hostOps0_2 W (Proc.devRef .tc main_v7) (ix2 k (gA j)) : EReal) = W (Proc.devRef .tc main_v0) (ix2 k (cA j)) :=
  (congrFun (congrFun (split0_2 W) _) _).trans ((h02_a_tail _ k j).trans (h02_a_head W k j))
theorem h02_v8 (j : Fin 8192) : (StableHlo.after hostOps0_2 W (Proc.devRef .tc main_v8) (ix2 k j) : EReal) = W (Proc.devRef .tc main_v0) (ix2 k (cT j)) := by
  entry_read
  pointwise
theorem h03_v9 (j : Fin 480) : (StableHlo.after hostOps0_3 W (Proc.devRef .tc main_v9) (ix2 k (lG j)) : EReal) = W (Proc.devRef .tc main_arg9) (ix2 k j) := by
  entry_read
  exact pad_at (W (Proc.devRef .tc main_arg9)) _ k j
theorem h04_g (j : Fin 480) : (StableHlo.after hostOps0_4 W (Proc.devRef .tc main_v10) (ix2 k (gG j)) : EReal) = W (Proc.devRef .tc main_v9) (ix2 k (lG j)) := by
  entry_read
  pointwise
  have := j.isLt
  rw [dif_pos (by omega)]
theorem h04_w (j : Fin 128) : (StableHlo.after hostOps0_4 W (Proc.devRef .tc main_v10) (ix2 k (gW j)) : EReal) = W (Proc.devRef .tc main_arg7) (ix2 k j) := by
  entry_read
  pointwise
theorem h04_a (j : Fin 128) : (StableHlo.after hostOps0_4 W (Proc.devRef .tc main_v10) (ix2 k (gA j)) : EReal) = W (Proc.devRef .tc main_arg8) (ix2 k j) := by
  entry_read
  pointwise
  have := j.isLt
  rw [dif_neg (by omega), dif_neg (by omega)]
  exact congrArg (fun z => W (Proc.devRef .tc main_arg8) (ix2 k z)) (Fin.ext (by dsimp; omega))
theorem h04_v11 : (StableHlo.after hostOps0_4 W (Proc.devRef .tc main_v11) (ix3 0 s k) : EReal) = W (Proc.devRef .tc main_arg0) (ix2 s k) := by
  entry_read
  pointwise
theorem h04_v12 (j : Fin 6144) : (StableHlo.after hostOps0_4 W (Proc.devRef .tc main_v12) (ix3 0 k j) : EReal) = W (Proc.devRef .tc main_v1) (ix2 k j) := by
  entry_read
  pointwise
theorem h1_v14 (j : Fin 6144) : (StableHlo.after hostOps1 W (Proc.devRef .tc main_v14) (ix2 s j) : EReal) = W (Proc.devRef .tc main_v13) (ix3 0 s j) := by
  entry_read
  pointwise
theorem h1_v15 : (StableHlo.after hostOps1 W (Proc.devRef .tc main_v15) (ix3 0 s k) : EReal) = W (Proc.devRef .tc main_arg0) (ix2 s k) := by
  entry_read
  pointwise
theorem h1_v16 (j : Fin 12288) : (StableHlo.after hostOps1 W (Proc.devRef .tc main_v16) (ix3 0 k j) : EReal) = W (Proc.devRef .tc main_v2) (ix2 k j) := by
  entry_read
  pointwise
theorem h2_v18 (j : Fin 12288) : (StableHlo.after hostOps2 W (Proc.devRef .tc main_v18) (ix2 s j) : EReal) = W (Proc.devRef .tc main_v17) (ix3 0 s j) := by
  entry_read
  pointwise
theorem h2_v19 : (StableHlo.after hostOps2 W (Proc.devRef .tc main_v19) (ix3 0 s k) : EReal) = W (Proc.devRef .tc main_arg0) (ix2 s k) := by
  entry_read
  pointwise
theorem h2_v20 (j : Fin 768) : (StableHlo.after hostOps2 W (Proc.devRef .tc main_v20) (ix3 0 k j) : EReal) = W (Proc.devRef .tc main_v7) (ix2 k j) := by
  entry_read
  pointwise
theorem h3_v22 (j : Fin 768) : (StableHlo.after hostOps3 W (Proc.devRef .tc main_v22) (ix2 s j) : EReal) = W (Proc.devRef .tc main_v21) (ix3 0 s j) := by
  entry_read
  pointwise
theorem h3_v23 : (StableHlo.after hostOps3 W (Proc.devRef .tc main_v23) (ix3 0 s k) : EReal) = W (Proc.devRef .tc main_arg0) (ix2 s k) := by
  entry_read
  pointwise
theorem h3_v24 (j : Fin 8192) : (StableHlo.after hostOps3 W (Proc.devRef .tc main_v24) (ix3 0 k j) : EReal) = W (Proc.devRef .tc main_v8) (ix2 k j) := by
  entry_read
  pointwise
theorem h4_v26 (j : Fin 8192) : (StableHlo.after hostOps4 W (Proc.devRef .tc main_v26) (ix2 s j) : EReal) = W (Proc.devRef .tc main_v25) (ix3 0 s j) := by
  entry_read
  pointwise
theorem h4_v27 : (StableHlo.after hostOps4 W (Proc.devRef .tc main_v27) (ix3 0 s k) : EReal) = W (Proc.devRef .tc main_arg0) (ix2 s k) := by
  entry_read
  pointwise
theorem h4_v28 (j : Fin 6144) : (StableHlo.after hostOps4 W (Proc.devRef .tc main_v28) (ix3 0 k j) : EReal) = W (Proc.devRef .tc main_arg3) (ix2 k j) := by
  entry_read
  pointwise
theorem h5_v30 (j : Fin 6144) : (StableHlo.after hostOps5 W (Proc.devRef .tc main_v30) (ix2 s j) : EReal) = W (Proc.devRef .tc main_v29) (ix3 0 s j) := by
  entry_read
  pointwise
theorem h5_v31 : (StableHlo.after hostOps5 W (Proc.devRef .tc main_v31) (ix3 0 s k) : EReal) = W (Proc.devRef .tc main_arg0) (ix2 s k) := by
  entry_read
  pointwise
theorem h5_v32 (j : Fin 4096) : (StableHlo.after hostOps5 W (Proc.devRef .tc main_v32) (ix3 0 k j) : EReal) = W (Proc.devRef .tc main_arg4) (ix2 k j) := by
  entry_read
  pointwise
theorem h6_v34 (j : Fin 4096) : (StableHlo.after hostOps6 W (Proc.devRef .tc main_v34) (ix2 s j) : EReal) = W (Proc.devRef .tc main_v33) (ix3 0 s j) := by
  entry_read
  pointwise
theorem h6_v35 : (StableHlo.after hostOps6 W (Proc.devRef .tc main_v35) (ix3 0 s k) : EReal) = W (Proc.devRef .tc main_arg0) (ix2 s k) := by
  entry_read
  pointwise
theorem h6_v36 (j : Fin 4096) : (StableHlo.after hostOps6 W (Proc.devRef .tc main_v36) (ix3 0 k j) : EReal) = W (Proc.devRef .tc main_arg5) (ix2 k j) := by
  entry_read
  pointwise
theorem h7_v38 (j : Fin 4096) : (StableHlo.after hostOps7 W (Proc.devRef .tc main_v38) (ix2 s j) : EReal) = W (Proc.devRef .tc main_v37) (ix3 0 s j) := by
  entry_read
  pointwise
theorem h7_v39 : (StableHlo.after hostOps7 W (Proc.devRef .tc main_v39) (ix3 0 s k) : EReal) = W (Proc.devRef .tc main_arg0) (ix2 s k) := by
  entry_read
  pointwise
theorem h7_v40 (j : Fin 4096) : (StableHlo.after hostOps7 W (Proc.devRef .tc main_v40) (ix3 0 k j) : EReal) = W (Proc.devRef .tc main_arg6) (ix2 k j) := by
  entry_read
  pointwise
theorem h8_v42 (j : Fin 4096) : (StableHlo.after hostOps8 W (Proc.devRef .tc main_v42) (ix2 s j) : EReal) = W (Proc.devRef .tc main_v41) (ix3 0 s j) := by
  entry_read
  pointwise
theorem h8_v43 : (StableHlo.after hostOps8 W (Proc.devRef .tc main_v43) (ix3 0 s k) : EReal) = W (Proc.devRef .tc main_arg0) (ix2 s k) := by
  entry_read
  pointwise
theorem h8_v44 (j : Fin 768) : (StableHlo.after hostOps8 W (Proc.devRef .tc main_v44) (ix3 0 k j) : EReal) = W (Proc.devRef .tc main_v10) (ix2 k j) := by
  entry_read
  pointwise
theorem h9_v46 (j : Fin 768) : (StableHlo.after hostOps9 W (Proc.devRef .tc main_v46) (ix2 s j) : EReal) = W (Proc.devRef .tc main_v45) (ix3 0 s j) := by
  entry_read
  pointwise
theorem h9_v47 : (StableHlo.after hostOps9 W (Proc.devRef .tc main_v47) (ix3 0 s k) : EReal) = W (Proc.devRef .tc main_arg0) (ix2 s k) := by
  entry_read
  pointwise
theorem h9_v48 (j : Fin 8192) : (StableHlo.after hostOps9 W (Proc.devRef .tc main_v48) (ix3 0 k j) : EReal) = W (Proc.devRef .tc main_arg10) (ix2 k j) := by
  entry_read
  pointwise
theorem h10_v55 (j : Fin 128) : (StableHlo.after hostOps10 W (Proc.devRef .tc main_v55) (ix2 s j) : EReal) = W (Proc.devRef .tc main_v22) (ix2 s (gW j)) := by
  entry_read
  pointwise
theorem h10_v56 (j : Fin 128) : (StableHlo.after hostOps10 W (Proc.devRef .tc main_v56) (ix2 s j) : EReal) = W (Proc.devRef .tc main_v22) (ix2 s (gA j)) := by
  entry_read
  pointwise
theorem h10_v57 (j : Fin 480) : (StableHlo.after hostOps10 W (Proc.devRef .tc main_v57) (ix2 s j) : EReal) = W (Proc.devRef .tc main_v22) (ix2 s (gG j)) := by
  entry_read
  pointwise
/-- The stretch in two parts: what a concatenation takes is laid out in the first. -/
theorem split10 : StableHlo.after (hostOps10 (F := Ideal)) W = StableHlo.after (hostOps10.drop 4) (StableHlo.after (hostOps10.take 4) W) := rfl
theorem h10_sQ_tail (j : Fin 6144) : (StableHlo.after (hostOps10.drop 4) W (Proc.devRef .tc main_v54) (ix2 s (cQ j)) : EReal) = W (Proc.devRef .tc main_v30) (ix2 s j) := by
  show (StableHlo.after [_, _, _, _] W (Proc.devRef .tc main_v54) (ix2 s (cQ j)) : EReal) = _
  entry_read
  pointwise
theorem h10_sQ_head (j : Fin 6144) : (StableHlo.after (hostOps10.take 4) W (Proc.devRef .tc main_v30) (ix2 s j) : EReal) = W (Proc.devRef .tc main_v30) (ix2 s j) := by
  show (StableHlo.after [_, _, _, _] W (Proc.devRef .tc main_v30) (ix2 s j) : EReal) = _
  entry_read
  pointwise
theorem h10_sQ (j : Fin 6144) : (StableHlo.after hostOps10 W (Proc.devRef .tc main_v54) (ix2 s (cQ j)) : EReal) = W (Proc.devRef .tc main_v30) (ix2 s j) :=
  (congrFun (congrFun (split10 W) _) _).trans ((h10_sQ_tail _ s j).trans (h10_sQ_head W s j))
theorem h10_sR_tail (j : Fin 4096) : (StableHlo.after (hostOps10.drop 4) W (Proc.devRef .tc main_v54) (ix2 s (cR j)) : EReal) = W (Proc.devRef .tc main_v34) (ix2 s j) := by
  show (StableHlo.after [_, _, _, _] W (Proc.devRef .tc main_v54) (ix2 s (cR j)) : EReal) = _
  entry_read
  pointwise
theorem h10_sR_head (j : Fin 4096) : (StableHlo.after (hostOps10.take 4) W (Proc.devRef .tc main_v34) (ix2 s j) : EReal) = W (Proc.devRef .tc main_v34) (ix2 s j) := by
  show (StableHlo.after [_, _, _, _] W (Proc.devRef .tc main_v34) (ix2 s j) : EReal) = _
  entry_read
  pointwise
theorem h10_sR (j : Fin 4096) : (StableHlo.after hostOps10 W (Proc.devRef .tc main_v54) (ix2 s (cR j)) : EReal) = W (Proc.devRef .tc main_v34) (ix2 s j) :=
  (congrFun (congrFun (split10 W) _) _).trans ((h10_sR_tail _ s j).trans (h10_sR_head W s j))
theorem h10_sK_tail (j : Fin 4096) : (StableHlo.after (hostOps10.drop 4) W (Proc.devRef .tc main_v54) (ix2 s (cK j)) : EReal) = W (Proc.devRef .tc main_v38) (ix2 s j) := by
  show (StableHlo.after [_, _, _, _] W (Proc.devRef .tc main_v54) (ix2 s (cK j)) : EReal) = _
  entry_read
  pointwise
  have := j.isLt
  rw [dif_neg (by omega), dif_neg (by omega), dif_pos (by omega)]
  exact congrArg (fun z => W (Proc.devRef .tc main_v38) (ix2 s z)) (Fin.ext (by dsimp; omega))
theorem h10_sK_head (j : Fin 4096) : (StableHlo.after (hostOps10.take 4) W (Proc.devRef .tc main_v38) (ix2 s j) : EReal) = W (Proc.devRef .tc main_v38) (ix2 s j) := by
  show (StableHlo.after [_, _, _, _] W (Proc.devRef .tc main_v38) (ix2 s j) : EReal) = _
  entry_read
  pointwise
theorem h10_sK (j : Fin 4096) : (StableHlo.after hostOps10 W (Proc.devRef .tc main_v54) (ix2 s (cK j)) : EReal) = W (Proc.devRef .tc main_v38) (ix2 s j) :=
  (congrFun (congrFun (split10 W) _) _).trans ((h10_sK_tail _ s j).trans (h10_sK_head W s j))
theorem h10_sV_tail (j : Fin 4096) : (StableHlo.after (hostOps10.drop 4) W (Proc.devRef .tc main_v54) (ix2 s (cV j)) : EReal) = W (Proc.devRef .tc main_v42) (ix2 s j) := by
  show (StableHlo.after [_, _, _, _] W (Proc.devRef .tc main_v54) (ix2 s (cV j)) : EReal) = _
  entry_read
  pointwise
  have := j.isLt
  rw [dif_neg (by omega), dif_neg (by omega), dif_neg (by omega), dif_pos (by omega)]
  exact congrArg (fun z => W (Proc.devRef .tc main_v42) (ix2 s z)) (Fin.ext (by dsimp; omega))
theorem h10_sV_head (j : Fin 4096) : (StableHlo.after (hostOps10.take 4) W (Proc.devRef .tc main_v42) (ix2 s j) : EReal) = W (Proc.devRef .tc main_v42) (ix2 s j) := by
  show (StableHlo.after [_, _, _, _] W (Proc.devRef .tc main_v42) (ix2 s j) : EReal) = _
  entry_read
  pointwise
theorem h10_sV (j : Fin 4096) : (StableHlo.after hostOps10 W (Proc.devRef .tc main_v54) (ix2 s (cV j)) : EReal) = W (Proc.devRef .tc main_v42) (ix2 s j) :=
  (congrFun (congrFun (split10 W) _) _).trans ((h10_sV_tail _ s j).trans (h10_sV_head W s j))
theorem h10_sW_tail (j : Fin 128) : (StableHlo.after (hostOps10.drop 4) W (Proc.devRef .tc main_v54) (ix2 s (cW j)) : EReal) = W (Proc.devRef .tc main_v51) (ix2 s j) := by
  show (StableHlo.after [_, _, _, _] W (Proc.devRef .tc main_v54) (ix2 s (cW j)) : EReal) = _
  entry_read
  pointwise
  have := j.isLt
  rw [dif_neg (by omega), dif_neg (by omega), dif_neg (by omega), dif_neg (by omega), dif_pos (by omega)]
  exact congrArg (fun z => W (Proc.devRef .tc main_v51) (ix2 s z)) (Fin.ext (by dsimp; omega))
theorem h10_sW_head (j : Fin 128) : (StableHlo.after (hostOps10.take 4) W (Proc.devRef .tc main_v51) (ix2 s j) : EReal) = W (Proc.devRef .tc main_v46) (ix2 s (gW j)) := by
  show (StableHlo.after [_, _, _, _] W (Proc.devRef .tc main_v51) (ix2 s j) : EReal) = _
  entry_read
  pointwise
theorem h10_sW (j : Fin 128) : (StableHlo.after hostOps10 W (Proc.devRef .tc main_v54) (ix2 s (cW j)) : EReal) = W (Proc.devRef .tc main_v46) (ix2 s (gW j)) :=
  (congrFun (congrFun (split10 W) _) _).trans ((h10_sW_tail _ s j).trans (h10_sW_head W s j))
theorem h10_sA_tail (j : Fin 128) : (StableHlo.after (hostOps10.drop 4) W (Proc.devRef .tc main_v54) (ix2 s (cA j)) : EReal) = W (Proc.devRef .tc main_v52) (ix2 s j) := by
  show (StableHlo.after [_, _, _, _] W (Proc.devRef .tc main_v54) (ix2 s (cA j)) : EReal) = _
  entry_read
  pointwise
  have := j.isLt
  rw [dif_neg (by omega), dif_neg (by omega), dif_neg (by omega), dif_neg (by omega), dif_neg (by omega), dif_pos (by omega)]
  exact congrArg (fun z => W (Proc.devRef .tc main_v52) (ix2 s z)) (Fin.ext (by dsimp; omega))
theorem h10_sA_head (j : Fin 128) : (StableHlo.after (hostOps10.take 4) W (Proc.devRef .tc main_v52) (ix2 s j) : EReal) = W (Proc.devRef .tc main_v46) (ix2 s (gA j)) := by
  show (StableHlo.after [_, _, _, _] W (Proc.devRef .tc main_v52) (ix2 s j) : EReal) = _
  entry_read
  pointwise
theorem h10_sA (j : Fin 128) : (StableHlo.after hostOps10 W (Proc.devRef .tc main_v54) (ix2 s (cA j)) : EReal) = W (Proc.devRef .tc main_v46) (ix2 s (gA j)) :=
  (congrFun (congrFun (split10 W) _) _).trans ((h10_sA_tail _ s j).trans (h10_sA_head W s j))
theorem h10_sG_tail (j : Fin 480) : (StableHlo.after (hostOps10.drop 4) W (Proc.devRef .tc main_v54) (ix2 s (cG j)) : EReal) = W (Proc.devRef .tc main_v53) (ix2 s j) := by
  show (StableHlo.after [_, _, _, _] W (Proc.devRef .tc main_v54) (ix2 s (cG j)) : EReal) = _
  entry_read
  pointwise
  have := j.isLt
  rw [dif_neg (by omega), dif_neg (by omega), dif_neg (by omega), dif_neg (by omega), dif_neg (by omega), dif_neg (by omega), dif_pos (by omega)]
  exact congrArg (fun z => W (Proc.devRef .tc main_v53) (ix2 s z)) (Fin.ext (by dsimp; omega))
theorem h10_sG_head (j : Fin 480) : (StableHlo.after (hostOps10.take 4) W (Proc.devRef .tc main_v53) (ix2 s j) : EReal) = W (Proc.devRef .tc main_v46) (ix2 s (gG j)) := by
  show (StableHlo.after [_, _, _, _] W (Proc.devRef .tc main_v53) (ix2 s j) : EReal) = _
  entry_read
  pointwise
theorem h10_sG (j : Fin 480) : (StableHlo.after hostOps10 W (Proc.devRef .tc main_v54) (ix2 s (cG j)) : EReal) = W (Proc.devRef .tc main_v46) (ix2 s (gG j)) :=
  (congrFun (congrFun (split10 W) _) _).trans ((h10_sG_tail _ s j).trans (h10_sG_head W s j))
theorem h10_sT_tail (j : Fin 8192) : (StableHlo.after (hostOps10.drop 4) W (Proc.devRef .tc main_v54) (ix2 s (cT j)) : EReal) = W (Proc.devRef .tc main_v50) (ix2 s j) := by
  show (StableHlo.after [_, _, _, _] W (Proc.devRef .tc main_v54) (ix2 s (cT j)) : EReal) = _
  entry_read
  pointwise
  have := j.isLt
  rw [dif_neg (by omega), dif_neg (by omega), dif_neg (by omega), dif_neg (by omega), dif_neg (by omega), dif_neg (by omega), dif_neg (by omega)]
  exact congrArg (fun z => W (Proc.devRef .tc main_v50) (ix2 s z)) (Fin.ext (by dsimp; omega))
theorem h10_sT_head (j : Fin 8192) : (StableHlo.after (hostOps10.take 4) W (Proc.devRef .tc main_v50) (ix2 s j) : EReal) = W (Proc.devRef .tc main_v49) (ix3 0 s j) := by
  show (StableHlo.after [_, _, _, _] W (Proc.devRef .tc main_v50) (ix2 s j) : EReal) = _
  entry_read
  pointwise
theorem h10_sT (j : Fin 8192) : (StableHlo.after hostOps10 W (Proc.devRef .tc main_v54) (ix2 s (cT j)) : EReal) = W (Proc.devRef .tc main_v49) (ix3 0 s j) :=
  (congrFun (congrFun (split10 W) _) _).trans ((h10_sT_tail _ s j).trans (h10_sT_head W s j))
end Cert.Kernel4Ideal.Prj
-- ==== Proof.ProjArr.lean ====
module
public import proofs.«01_k».proof.Proof.Gen.Kernel4Ideal.Frame
public import Idealize.ShloMosaic.Lib.Pipeline.ValueKit
@[expose] public section
set_option maxRecDepth 16384
noncomputable section

/-! The arrays the four products of the input projection leave, and the first of its weight gradient. -/
namespace Cert.Kernel4Ideal.Prj
open Idealize.ShloMosaic Idealize.ShloMosaic.TcCoe Idealize.SL.Sem
open Cert.Kernel4Ideal Cert.Kernel4Ideal.Gen
theorem idx0 : ∀ t : Fin cfg0.N, win0_0.index t = ![0, t.val / 6, 0] ∧ win0_1.index t = ![0, 0, t.val % 6] ∧ win0_2.index t = ![0, t.val % 6] ∧ win0_3.index t = ![0, t.val / 6, t.val % 6] :=
  (by decide +kernel : ∀ t : Fin grid0.N, _)
theorem idx1 : ∀ t : Fin cfg1.N, win1_0.index t = ![0, t.val / 12, 0] ∧ win1_1.index t = ![0, 0, t.val % 12] ∧ win1_2.index t = ![0, t.val / 12, t.val % 12] :=
  (by decide +kernel : ∀ t : Fin grid1.N, _)
theorem idx2 : ∀ t : Fin cfg2.N, win2_0.index t = ![0, t.val / 3, 0] ∧ win2_1.index t = ![0, 0, t.val % 3] ∧ win2_2.index t = ![0, t.val / 3, t.val % 3] :=
  (by decide +kernel : ∀ t : Fin grid2.N, _)
theorem idx3 : ∀ t : Fin cfg3.N, win3_0.index t = ![0, t.val / 8, 0] ∧ win3_1.index t = ![0, 0, t.val % 8] ∧ win3_2.index t = ![0, t.val / 8, t.val % 8] :=
  (by decide +kernel : ∀ t : Fin grid3.N, _)
theorem idx4 : ∀ t : Fin cfg4.N, win4_0.index t = ![0, 0, t.val / 6] ∧ win4_1.index t = ![0, 0, t.val % 6] ∧ win4_2.index t = ![0, t.val / 6, t.val % 6] :=
  (by decide +kernel : ∀ t : Fin grid4.N, _)

/-! ## What a point leaves, element by element -/
theorem pay0 (a : FVec Ideal S1x512x4096 .bf16) (b : FVec Ideal S1x4096x1024 .bf16) (e : FVec Ideal S1x1024 .f32) (i : Fin 512) (j : Fin 1024) :
    k0_pay1 (F := Ideal) a b e (ix3 0 i j) = (∑ k : Fin 4096, a (ix3 0 i k) * b (ix3 0 k j)) + e (ix2 0 j) := by
  pointwise [k0_pay1]
theorem pay1 (a : FVec Ideal S1x512x4096 .bf16) (b : FVec Ideal S1x4096x1024 .bf16) (i : Fin 512) (j : Fin 1024) :
    k1_pay1 (F := Ideal) a b (ix3 0 i j) = ∑ k : Fin 4096, a (ix3 0 i k) * b (ix3 0 k j) := by
  pointwise [k1_pay1]
theorem pay2 (a : FVec Ideal S1x512x4096 .bf16) (b : FVec Ideal S1x4096x256 .bf16) (i : Fin 512) (j : Fin 256) :
    k2_pay1 (F := Ideal) a b (ix3 0 i j) = ∑ k : Fin 4096, a (ix3 0 i k) * b (ix3 0 k j) := by
  pointwise [k2_pay1]
theorem pay3 (a : FVec Ideal S1x512x4096 .bf16) (b : FVec Ideal S1x4096x1024 .bf16) (i : Fin 512) (j : Fin 1024) :
    k3_pay1 (F := Ideal) a b (ix3 0 i j) = ∑ k : Fin 4096, a (ix3 0 i k) * b (ix3 0 k j) := by
  pointwise [k3_pay1]
theorem pay4 (a : FVec Ideal S1x4096x512 .bf16) (b : FVec Ideal S1x4096x1024 .bf16) (i : Fin 512) (j : Fin 1024) :
    k4_pay1 (F := Ideal) a b (ix3 0 i j) = ∑ k : Fin 4096, a (ix3 0 k i) * b (ix3 0 k j) := by
  pointwise [k4_pay1]

/-! ## The arrays -/
/-- Two sums of products with equal factors. -/
theorem sum_mul_eq {p q p' q' : Fin 4096 → EReal} (h1 : ∀ k, p k = p' k) (h2 : ∀ k, q k = q' k) : ∑ k, p k * q k = ∑ k, p' k * q' k :=
  Finset.sum_congr rfl fun k _ => by rw [h1, h2]
/-- Rows against columns, plus a row. -/
def rowsB6144 (a : FVec Ideal S1x4096x4096 .bf16) (b : FVec Ideal S1x4096x6144 .bf16) (e : FVec Ideal S1x6144 .f32) : FVec Ideal S1x4096x6144 .f32 :=
  fun y => ((∑ k : Fin 4096, (a (ix3 0 (y 1) k) : EReal) * b (ix3 0 k (y 2))) + e (ix2 0 (y 2)) : EReal)
theorem rowsB6144_eq {a : FVec Ideal S1x4096x4096 .bf16} {b : FVec Ideal S1x4096x6144 .bf16} {e : FVec Ideal S1x6144 .f32} {p q : Fin 4096 → EReal} {z : EReal} {s : Fin 4096} {f : Fin 6144}
    (h1 : ∀ k, (a (ix3 0 s k) : EReal) = p k) (h2 : ∀ k, (b (ix3 0 k f) : EReal) = q k) (h3 : (e (ix2 0 f) : EReal) = z) : (rowsB6144 a b e (ix3 0 s f) : EReal) = (∑ k, p k * q k) + z :=
  congrArg₂ (· + ·) (sum_mul_eq h1 h2) h3
/-- Rows against columns. -/
def rows12288 {t : FTy} (a : FVec Ideal S1x4096x4096 .bf16) (b : FVec Ideal S1x4096x12288 .bf16) : FVec Ideal S1x4096x12288 t :=
  fun y => (∑ k : Fin 4096, (a (ix3 0 (y 1) k) : EReal) * b (ix3 0 k (y 2)) : EReal)
theorem rows12288_eq {t : FTy} {a : FVec Ideal S1x4096x4096 .bf16} {b : FVec Ideal S1x4096x12288 .bf16} {p q : Fin 4096 → EReal} {s : Fin 4096} {f : Fin 12288}
    (h1 : ∀ k, (a (ix3 0 s k) : EReal) = p k) (h2 : ∀ k, (b (ix3 0 k f) : EReal) = q k) : (rows12288 (t := t) a b (ix3 0 s f) : EReal) = ∑ k, p k * q k :=
  sum_mul_eq h1 h2
/-- Rows against columns. -/
def rows768 {t : FTy} (a : FVec Ideal S1x4096x4096 .bf16) (b : FVec Ideal S1x4096x768 .bf16) : FVec Ideal S1x4096x768 t :=
  fun y => (∑ k : Fin 4096, (a (ix3 0 (y 1) k) : EReal) * b (ix3 0 k (y 2)) : EReal)
theorem rows768_eq {t : FTy} {a : FVec Ideal S1x4096x4096 .bf16} {b : FVec Ideal S1x4096x768 .bf16} {p q : Fin 4096 → EReal} {s : Fin 4096} {f : Fin 768}
    (h1 : ∀ k, (a (ix3 0 s k) : EReal) = p k) (h2 : ∀ k, (b (ix3 0 k f) : EReal) = q k) : (rows768 (t := t) a b (ix3 0 s f) : EReal) = ∑ k, p k * q k :=
  sum_mul_eq h1 h2
/-- Rows against columns. -/
def rows8192 {t : FTy} (a : FVec Ideal S1x4096x4096 .bf16) (b : FVec Ideal S1x4096x8192 .bf16) : FVec Ideal S1x4096x8192 t :=
  fun y => (∑ k : Fin 4096, (a (ix3 0 (y 1) k) : EReal) * b (ix3 0 k (y 2)) : EReal)
theorem rows8192_eq {t : FTy} {a : FVec Ideal S1x4096x4096 .bf16} {b : FVec Ideal S1x4096x8192 .bf16} {p q : Fin 4096 → EReal} {s : Fin 4096} {f : Fin 8192}
    (h1 : ∀ k, (a (ix3 0 s k) : EReal) = p k) (h2 : ∀ k, (b (ix3 0 k f) : EReal) = q k) : (rows8192 (t := t) a b (ix3 0 s f) : EReal) = ∑ k, p k * q k :=
  sum_mul_eq h1 h2
/-- Columns against columns. -/
def cols6144 {t : FTy} (a : FVec Ideal S1x4096x4096 .bf16) (b : FVec Ideal S1x4096x6144 .bf16) : FVec Ideal S1x4096x6144 t :=
  fun y => (∑ k : Fin 4096, (a (ix3 0 k (y 1)) : EReal) * b (ix3 0 k (y 2)) : EReal)
theorem cols6144_eq {t : FTy} {a : FVec Ideal S1x4096x4096 .bf16} {b : FVec Ideal S1x4096x6144 .bf16} {p q : Fin 4096 → EReal} {s : Fin 4096} {f : Fin 6144}
    (h1 : ∀ k, (a (ix3 0 k s) : EReal) = p k) (h2 : ∀ k, (b (ix3 0 k f) : EReal) = q k) : (cols6144 (t := t) a b (ix3 0 s f) : EReal) = ∑ k, p k * q k :=
  sum_mul_eq h1 h2
/-- Columns against columns. -/
def cols4096 {t : FTy} (a : FVec Ideal S1x4096x4096 .bf16) (b : FVec Ideal S1x4096x4096 .bf16) : FVec Ideal S1x4096x4096 t :=
  fun y => (∑ k : Fin 4096, (a (ix3 0 k (y 1)) : EReal) * b (ix3 0 k (y 2)) : EReal)
theorem cols4096_eq {t : FTy} {a : FVec Ideal S1x4096x4096 .bf16} {b : FVec Ideal S1x4096x4096 .bf16} {p q : Fin 4096 → EReal} {s : Fin 4096} {f : Fin 4096}
    (h1 : ∀ k, (a (ix3 0 k s) : EReal) = p k) (h2 : ∀ k, (b (ix3 0 k f) : EReal) = q k) : (cols4096 (t := t) a b (ix3 0 s f) : EReal) = ∑ k, p k * q k :=
  sum_mul_eq h1 h2
/-- Columns against columns. -/
def cols768 {t : FTy} (a : FVec Ideal S1x4096x4096 .bf16) (b : FVec Ideal S1x4096x768 .bf16) : FVec Ideal S1x4096x768 t :=
  fun y => (∑ k : Fin 4096, (a (ix3 0 k (y 1)) : EReal) * b (ix3 0 k (y 2)) : EReal)
theorem cols768_eq {t : FTy} {a : FVec Ideal S1x4096x4096 .bf16} {b : FVec Ideal S1x4096x768 .bf16} {p q : Fin 4096 → EReal} {s : Fin 4096} {f : Fin 768}
    (h1 : ∀ k, (a (ix3 0 k s) : EReal) = p k) (h2 : ∀ k, (b (ix3 0 k f) : EReal) = q k) : (cols768 (t := t) a b (ix3 0 s f) : EReal) = ∑ k, p k * q k :=
  sum_mul_eq h1 h2
/-- Columns against columns. -/
def cols8192 {t : FTy} (a : FVec Ideal S1x4096x4096 .bf16) (b : FVec Ideal S1x4096x8192 .bf16) : FVec Ideal S1x4096x8192 t :=
  fun y => (∑ k : Fin 4096, (a (ix3 0 k (y 1)) : EReal) * b (ix3 0 k (y 2)) : EReal)
theorem cols8192_eq {t : FTy} {a : FVec Ideal S1x4096x4096 .bf16} {b : FVec Ideal S1x4096x8192 .bf16} {p q : Fin 4096 → EReal} {s : Fin 4096} {f : Fin 8192}
    (h1 : ∀ k, (a (ix3 0 k s) : EReal) = p k) (h2 : ∀ k, (b (ix3 0 k f) : EReal) = q k) : (cols8192 (t := t) a b (ix3 0 s f) : EReal) = ∑ k, p k * q k :=
  sum_mul_eq h1 h2

variable (V : (c : Dev nD) → (b : Ref sig .tc) → Buf (Elt Ideal) ((c : Thread nD τ).loc b)) (c : Dev nD)
theorem arr0_3 : (dat0 V c).arrAt 3 cfg0.N = rowsB6144 (V c main_v11) (V c main_v12) (V c main_arg2) := by
  refine (dat0 V c).arrAt_eq_of_covers 3 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after0_3]
  unfold out0_3
  frame_out
  unfold rowsB6144
  refine (pay0 _ _ _ q j).trans (congrArg₂ (· + ·) (sum_mul_eq (fun k => ?_) fun k => ?_) ?_) <;> blk_ext [iblk0, idx0 t]
theorem arr1_2 : (dat1 V c).arrAt 2 cfg1.N = rows12288 (t := .f32) (V c main_v15) (V c main_v16) := by
  refine (dat1 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after1_2]
  unfold out1_2
  frame_out
  unfold rows12288
  refine (pay1 _ _ q j).trans (sum_mul_eq (fun k => ?_) fun k => ?_) <;> blk_ext [iblk1, idx1 t]
theorem arr2_2 : (dat2 V c).arrAt 2 cfg2.N = rows768 (t := .f32) (V c main_v19) (V c main_v20) := by
  refine (dat2 V c).arrAt_eq_of_covers 2 _ (by decide +kernel) fun t hf y => ?_
  obtain ⟨z, q, j, rfl⟩ : ∃ (z : Fin 1) (q : Fin 512) (j : Fin 256), y = ix3 z q j := ⟨y 0, y 1, y 2, by idx_vars y⟩
  obtain rfl : z = 0 := Subsingleton.elim _ _
  blk_simp
  rw [after2_2]
  unfold out2_2
  frame_out
  unfold rows768
  refine (pay2 _ _ q j).trans (sum_mul_eq (fun k => ?_) fun k => ?_) <;> blk_ext [iblk2, idx2 t]
theorem arr3_2 : (dat3 V c).arrAt 2 cfg3.N = rows8192 (t := .f32) (V c main_v23) (V c main_v24) := by
  refine (dat3 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after3_2]
  unfold out3_2
  frame_out
  unfold rows8192
  refine (pay3 _ _ q j).trans (sum_mul_eq (fun k => ?_) fun k => ?_) <;> blk_ext [iblk3, idx3 t]
theorem arr4_2 : (dat4 V c).arrAt 2 cfg4.N = cols6144 (t := .bf16) (V c main_v27) (V c main_v28) := by
  refine (dat4 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after4_2]
  unfold out4_2
  frame_out
  unfold cols6144
  refine (pay4 _ _ q j).trans (sum_mul_eq (fun k => ?_) fun k => ?_) <;> blk_ext [iblk4, idx4 t]
end Cert.Kernel4Ideal.Prj
-- ==== Proof.ProjArr2.lean ====
module
public import proofs.«01_k».proof.Proof.ProjArr
@[expose] public section
set_option maxRecDepth 16384
noncomputable section

/-! The arrays the other products of the input projection's weight gradient leave. -/
namespace Cert.Kernel4Ideal.Prj
open Idealize.ShloMosaic Idealize.ShloMosaic.TcCoe Idealize.SL.Sem
open Cert.Kernel4Ideal Cert.Kernel4Ideal.Gen
theorem idx5 : ∀ t : Fin cfg5.N, win5_0.index t = ![0, 0, t.val / 4] ∧ win5_1.index t = ![0, 0, t.val % 4] ∧ win5_2.index t = ![0, t.val / 4, t.val % 4] :=
  (by decide +kernel : ∀ t : Fin grid5.N, _)
theorem idx6 : ∀ t : Fin cfg6.N, win6_0.index t = ![0, 0, t.val / 4] ∧ win6_1.index t = ![0, 0, t.val % 4] ∧ win6_2.index t = ![0, t.val / 4, t.val % 4] :=
  (by decide +kernel : ∀ t : Fin grid6.N, _)
theorem idx7 : ∀ t : Fin cfg7.N, win7_0.index t = ![0, 0, t.val / 4] ∧ win7_1.index t = ![0, 0, t.val % 4] ∧ win7_2.index t = ![0, t.val / 4, t.val % 4] :=
  (by decide +kernel : ∀ t : Fin grid7.N, _)
theorem idx8 : ∀ t : Fin cfg8.N, win8_0.index t = ![0, 0, t.val / 3] ∧ win8_1.index t = ![0, 0, t.val % 3] ∧ win8_2.index t = ![0, t.val / 3, t.val % 3] :=
  (by decide +kernel : ∀ t : Fin grid8.N, _)
theorem idx9 : ∀ t : Fin cfg9.N, win9_0.index t = ![0, 0, t.val / 8] ∧ win9_1.index t = ![0, 0, t.val % 8] ∧ win9_2.index t = ![0, t.val / 8, t.val % 8] :=
  (by decide +kernel : ∀ t : Fin grid9.N, _)

/-! ## What a point leaves, element by element -/
theorem pay5 (a : FVec Ideal S1x4096x512 .bf16) (b : FVec Ideal S1x4096x1024 .bf16) (i : Fin 512) (j : Fin 1024) :
    k5_pay1 (F := Ideal) a b (ix3 0 i j) = ∑ k : Fin 4096, a (ix3 0 k i) * b (ix3 0 k j) := by
  pointwise [k5_pay1]
theorem pay6 (a : FVec Ideal S1x4096x512 .bf16) (b : FVec Ideal S1x4096x1024 .bf16) (i : Fin 512) (j : Fin 1024) :
    k6_pay1 (F := Ideal) a b (ix3 0 i j) = ∑ k : Fin 4096, a (ix3 0 k i) * b (ix3 0 k j) := by
  pointwise [k6_pay1]
theorem pay7 (a : FVec Ideal S1x4096x512 .bf16) (b : FVec Ideal S1x4096x1024 .bf16) (i : Fin 512) (j : Fin 1024) :
    k7_pay1 (F := Ideal) a b (ix3 0 i j) = ∑ k : Fin 4096, a (ix3 0 k i) * b (ix3 0 k j) := by
  pointwise [k7_pay1]
theorem pay8 (a : FVec Ideal S1x4096x512 .bf16) (b : FVec Ideal S1x4096x256 .bf16) (i : Fin 512) (j : Fin 256) :
    k8_pay1 (F := Ideal) a b (ix3 0 i j) = ∑ k : Fin 4096, a (ix3 0 k i) * b (ix3 0 k j) := by
  pointwise [k8_pay1]
theorem pay9 (a : FVec Ideal S1x4096x512 .bf16) (b : FVec Ideal S1x4096x1024 .bf16) (i : Fin 512) (j : Fin 1024) :
    k9_pay1 (F := Ideal) a b (ix3 0 i j) = ∑ k : Fin 4096, a (ix3 0 k i) * b (ix3 0 k j) := by
  pointwise [k9_pay1]

variable (V : (c : Dev nD) → (b : Ref sig .tc) → Buf (Elt Ideal) ((c : Thread nD τ).loc b)) (c : Dev nD)
set_option maxHeartbeats 1000000 in
theorem arr5_2 : (dat5 V c).arrAt 2 cfg5.N = cols4096 (t := .bf16) (V c main_v31) (V c main_v32) := by
  refine (dat5 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after5_2]
  unfold out5_2
  frame_out
  unfold cols4096
  refine (pay5 _ _ q j).trans (sum_mul_eq (fun k => ?_) fun k => ?_) <;> blk_ext [iblk5, idx5 t]
set_option maxHeartbeats 1000000 in
theorem arr6_2 : (dat6 V c).arrAt 2 cfg6.N = cols4096 (t := .bf16) (V c main_v35) (V c main_v36) := by
  refine (dat6 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after6_2]
  unfold out6_2
  frame_out
  unfold cols4096
  refine (pay6 _ _ q j).trans (sum_mul_eq (fun k => ?_) fun k => ?_) <;> blk_ext [iblk6, idx6 t]
set_option maxHeartbeats 1000000 in
theorem arr7_2 : (dat7 V c).arrAt 2 cfg7.N = cols4096 (t := .bf16) (V c main_v39) (V c main_v40) := by
  refine (dat7 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after7_2]
  unfold out7_2
  frame_out
  unfold cols4096
  refine (pay7 _ _ q j).trans (sum_mul_eq (fun k => ?_) fun k => ?_) <;> blk_ext [iblk7, idx7 t]
set_option maxHeartbeats 1000000 in
theorem arr8_2 : (dat8 V c).arrAt 2 cfg8.N = cols768 (t := .bf16) (V c main_v43) (V c main_v44) := by
  refine (dat8 V c).arrAt_eq_of_covers 2 _ (by decide +kernel) fun t hf y => ?_
  obtain ⟨z, q, j, rfl⟩ : ∃ (z : Fin 1) (q : Fin 512) (j : Fin 256), y = ix3 z q j := ⟨y 0, y 1, y 2, by idx_vars y⟩
  obtain rfl : z = 0 := Subsingleton.elim _ _
  blk_simp
  rw [after8_2]
  unfold out8_2
  frame_out
  unfold cols768
  refine (pay8 _ _ q j).trans (sum_mul_eq (fun k => ?_) fun k => ?_) <;> blk_ext [iblk8, idx8 t]
set_option maxHeartbeats 1000000 in
theorem arr9_2 : (dat9 V c).arrAt 2 cfg9.N = cols8192 (t := .bf16) (V c main_v47) (V c main_v48) := by
  refine (dat9 V c).arrAt_eq_of_covers 2 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after9_2]
  unfold out9_2
  frame_out
  unfold cols8192
  refine (pay9 _ _ q j).trans (sum_mul_eq (fun k => ?_) fun k => ?_) <;> blk_ext [iblk9, idx9 t]
end Cert.Kernel4Ideal.Prj
-- ==== Proof.ProjRun.lean ====
module
public import proofs.«01_k».proof.Proof.ProjHost
public import proofs.«01_k».proof.Proof.ProjArr2
@[expose] public section
set_option maxRecDepth 16384
noncomputable section

/-! What a run of the input projection and its weight gradient leaves in its results. -/
namespace Cert.Kernel4Ideal.Prj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen _root_.Prj

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run ends with every buffer of the program at the contents of the last boundary. -/
theorem run_W25 : θ_run defs (onTc (τ := τ) (main (F := Ideal))) ⟨m, fun _ => 0, ρ⟩ (fun r => ∀ c : Dev nD,
      r.2.mem ((c.tc : Thread nD τ).loc main_v14) = W25 m ρ c (Proc.devRef .tc main_v14)
      ∧ r.2.mem ((c.tc : Thread nD τ).loc main_v18) = W25 m ρ c (Proc.devRef .tc main_v18)
      ∧ r.2.mem ((c.tc : Thread nD τ).loc main_v55) = W25 m ρ c (Proc.devRef .tc main_v55)
      ∧ r.2.mem ((c.tc : Thread nD τ).loc main_v56) = W25 m ρ c (Proc.devRef .tc main_v56)
      ∧ r.2.mem ((c.tc : Thread nD τ).loc main_v57) = W25 m ρ c (Proc.devRef .tc main_v57)
      ∧ r.2.mem ((c.tc : Thread nD τ).loc main_v26) = W25 m ρ c (Proc.devRef .tc main_v26)
      ∧ r.2.mem ((c.tc : Thread nD τ).loc main_v54) = W25 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ c =>
      ⟨h c _ (mem_uc main_v14 (by decide)), h c _ (mem_uc main_v18 (by decide)), h c _ (mem_uc main_v55 (by decide)), h c _ (mem_uc main_v56 (by decide)), h c _ (mem_uc main_v57 (by decide)), h c _ (mem_uc main_v26 (by decide)), h c _ (mem_uc main_v54 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c)⟩)

variable (c : Dev nD)

/-! ## The arguments, by rows and columns -/
abbrev mH (s : Fin 4096) (k : Fin 4096) : EReal := m ((c : Thread nD τ).loc main_arg0) (ix2 s k)
abbrev mQ (s : Fin 4096) (k : Fin 6144) : EReal := m ((c : Thread nD τ).loc main_arg3) (ix2 s k)
abbrev mR (s : Fin 4096) (k : Fin 4096) : EReal := m ((c : Thread nD τ).loc main_arg4) (ix2 s k)
abbrev mK (s : Fin 4096) (k : Fin 4096) : EReal := m ((c : Thread nD τ).loc main_arg5) (ix2 s k)
abbrev mV (s : Fin 4096) (k : Fin 4096) : EReal := m ((c : Thread nD τ).loc main_arg6) (ix2 s k)
abbrev mLw (s : Fin 4096) (k : Fin 128) : EReal := m ((c : Thread nD τ).loc main_arg7) (ix2 s k)
abbrev mLa (s : Fin 4096) (k : Fin 128) : EReal := m ((c : Thread nD τ).loc main_arg8) (ix2 s k)
abbrev mLg (s : Fin 4096) (k : Fin 480) : EReal := m ((c : Thread nD τ).loc main_arg9) (ix2 s k)
abbrev mT (s : Fin 4096) (k : Fin 8192) : EReal := m ((c : Thread nD τ).loc main_arg10) (ix2 s k)
abbrev mW (s : Fin 4096) (k : Fin 27360) : EReal := m ((c : Thread nD τ).loc main_arg1) (ix2 s k)
abbrev mB (j : Fin 6144) : EReal := m ((c : Thread nD τ).loc main_arg2) (ix2 0 j)

/-! ## The weight's columns, and the low ranks laid together -/
theorem W1_v0 (k : Fin 4096) (u : Fin 27360) : (W1 m ρ c (Proc.devRef .tc main_v0) (ix2 k u) : EReal) = mW m c k u :=
  h0_v0 (W0 m ρ c) k u
theorem W3_g (k : Fin 4096) (j : Fin 480) : (W3 m ρ c (Proc.devRef .tc main_v7) (ix2 k (gG j)) : EReal) = mW m c k (cG j) :=
  (h02_g (W2 m ρ c) k j).trans ((h01_v4 (W1 m ρ c) k j).trans (h0_v3 (W0 m ρ c) k j))
theorem W3_w (k : Fin 4096) (j : Fin 128) : (W3 m ρ c (Proc.devRef .tc main_v7) (ix2 k (gW j)) : EReal) = mW m c k (cW j) :=
  (h02_w (W2 m ρ c) k j).trans ((congrFun (W2_of m ρ c main_v0 (by decide)) _).trans (W1_v0 m ρ c k (cW j)))
theorem W3_a (k : Fin 4096) (j : Fin 128) : (W3 m ρ c (Proc.devRef .tc main_v7) (ix2 k (gA j)) : EReal) = mW m c k (cA j) :=
  (h02_a (W2 m ρ c) k j).trans ((congrFun (W2_of m ρ c main_v0 (by decide)) _).trans (W1_v0 m ρ c k (cA j)))
theorem W3_v8 (k : Fin 4096) (j : Fin 8192) : (W3 m ρ c (Proc.devRef .tc main_v8) (ix2 k j) : EReal) = mW m c k (cT j) :=
  (h02_v8 (W2 m ρ c) k j).trans ((congrFun (W2_of m ρ c main_v0 (by decide)) _).trans (W1_v0 m ρ c k (cT j)))
theorem W5_g (k : Fin 4096) (j : Fin 480) : (W5 m ρ c (Proc.devRef .tc main_v10) (ix2 k (gG j)) : EReal) = mLg m c k j :=
  (h04_g (W4 m ρ c) k j).trans ((h03_v9 (W3 m ρ c) k j).trans (congrFun (W3_args m ρ c main_arg9 (by decide)) _))
theorem W5_w (k : Fin 4096) (j : Fin 128) : (W5 m ρ c (Proc.devRef .tc main_v10) (ix2 k (gW j)) : EReal) = mLw m c k j :=
  (h04_w (W4 m ρ c) k j).trans (congrFun (W4_args m ρ c main_arg7 (by decide)) _)
theorem W5_a (k : Fin 4096) (j : Fin 128) : (W5 m ρ c (Proc.devRef .tc main_v10) (ix2 k (gA j)) : EReal) = mLa m c k j :=
  (h04_a (W4 m ρ c) k j).trans (congrFun (W4_args m ρ c main_arg8 (by decide)) _)

/-! ## The four products -/
theorem W7_v14 (s : Fin 4096) (j : Fin 6144) : (W7 m ρ c (Proc.devRef .tc main_v14) (ix2 s j) : EReal) = proj (mH m c) (mW m c) s (cQ j) + mB m c j :=
  (h1_v14 (W6 m ρ c) s j).trans ((congrFun ((W6_arr m ρ c 3).trans (arr0_3 _ c)) _).trans
    (rowsB6144_eq (fun k => (h04_v11 (W4 m ρ c) s k).trans (congrFun (W4_args m ρ c main_arg0 (by decide)) _)) (fun k => (h04_v12 (W4 m ρ c) k j).trans ((congrFun ((W4_of m ρ c main_v1 (by decide)).trans ((W3_of m ρ c main_v1 (by decide)).trans (W2_of m ρ c main_v1 (by decide)))) _).trans (h0_v1 (W0 m ρ c) k j))) (congrFun (W5_args m ρ c main_arg2 (by decide)) _)))
theorem W9_v18 (s : Fin 4096) (j : Fin 12288) : (W9 m ρ c (Proc.devRef .tc main_v18) (ix2 s j) : EReal) = proj (mH m c) (mW m c) s (cRkv j) :=
  (h2_v18 (W8 m ρ c) s j).trans ((congrFun ((W8_arr m ρ c 2).trans (arr1_2 _ c)) _).trans
    (rows12288_eq (fun k => (h1_v15 (W6 m ρ c) s k).trans (congrFun (W6_args m ρ c main_arg0 (by decide)) _)) fun k => (h1_v16 (W6 m ρ c) k j).trans ((congrFun ((W6_of m ρ c main_v2 (by decide +kernel)).trans ((W5_of m ρ c main_v2 (by decide)).trans ((W4_of m ρ c main_v2 (by decide)).trans ((W3_of m ρ c main_v2 (by decide)).trans (W2_of m ρ c main_v2 (by decide)))))) _).trans (h0_v2 (W0 m ρ c) k j))))
theorem W11_g (s : Fin 4096) (j : Fin 480) : (W11 m ρ c (Proc.devRef .tc main_v22) (ix2 s (gG j)) : EReal) = proj (mH m c) (mW m c) s (cG j) :=
  (h3_v22 (W10 m ρ c) s (gG j)).trans ((congrFun ((W10_arr m ρ c 2).trans (arr2_2 _ c)) _).trans
    (rows768_eq (fun k => (h2_v19 (W8 m ρ c) s k).trans (congrFun (W8_args m ρ c main_arg0 (by decide)) _)) fun k => (h2_v20 (W8 m ρ c) k (gG j)).trans ((congrFun ((W8_of m ρ c main_v7 (by decide +kernel)).trans ((W7_of m ρ c main_v7 (by decide)).trans ((W6_of m ρ c main_v7 (by decide +kernel)).trans ((W5_of m ρ c main_v7 (by decide)).trans (W4_of m ρ c main_v7 (by decide)))))) _).trans (W3_g m ρ c k j))))
theorem W11_w (s : Fin 4096) (j : Fin 128) : (W11 m ρ c (Proc.devRef .tc main_v22) (ix2 s (gW j)) : EReal) = proj (mH m c) (mW m c) s (cW j) :=
  (h3_v22 (W10 m ρ c) s (gW j)).trans ((congrFun ((W10_arr m ρ c 2).trans (arr2_2 _ c)) _).trans
    (rows768_eq (fun k => (h2_v19 (W8 m ρ c) s k).trans (congrFun (W8_args m ρ c main_arg0 (by decide)) _)) fun k => (h2_v20 (W8 m ρ c) k (gW j)).trans ((congrFun ((W8_of m ρ c main_v7 (by decide +kernel)).trans ((W7_of m ρ c main_v7 (by decide)).trans ((W6_of m ρ c main_v7 (by decide +kernel)).trans ((W5_of m ρ c main_v7 (by decide)).trans (W4_of m ρ c main_v7 (by decide)))))) _).trans (W3_w m ρ c k j))))
theorem W11_a (s : Fin 4096) (j : Fin 128) : (W11 m ρ c (Proc.devRef .tc main_v22) (ix2 s (gA j)) : EReal) = proj (mH m c) (mW m c) s (cA j) :=
  (h3_v22 (W10 m ρ c) s (gA j)).trans ((congrFun ((W10_arr m ρ c 2).trans (arr2_2 _ c)) _).trans
    (rows768_eq (fun k => (h2_v19 (W8 m ρ c) s k).trans (congrFun (W8_args m ρ c main_arg0 (by decide)) _)) fun k => (h2_v20 (W8 m ρ c) k (gA j)).trans ((congrFun ((W8_of m ρ c main_v7 (by decide +kernel)).trans ((W7_of m ρ c main_v7 (by decide)).trans ((W6_of m ρ c main_v7 (by decide +kernel)).trans ((W5_of m ρ c main_v7 (by decide)).trans (W4_of m ρ c main_v7 (by decide)))))) _).trans (W3_a m ρ c k j))))
theorem W13_v26 (s : Fin 4096) (j : Fin 8192) : (W13 m ρ c (Proc.devRef .tc main_v26) (ix2 s j) : EReal) = proj (mH m c) (mW m c) s (cT j) :=
  (h4_v26 (W12 m ρ c) s j).trans ((congrFun ((W12_arr m ρ c 2).trans (arr3_2 _ c)) _).trans
    (rows8192_eq (fun k => (h3_v23 (W10 m ρ c) s k).trans (congrFun (W10_args m ρ c main_arg0 (by decide)) _)) fun k => (h3_v24 (W10 m ρ c) k j).trans ((congrFun ((W10_of m ρ c main_v8 (by decide +kernel)).trans ((W9_of m ρ c main_v8 (by decide)).trans ((W8_of m ρ c main_v8 (by decide +kernel)).trans ((W7_of m ρ c main_v8 (by decide)).trans ((W6_of m ρ c main_v8 (by decide +kernel)).trans ((W5_of m ρ c main_v8 (by decide)).trans (W4_of m ρ c main_v8 (by decide)))))))) _).trans (W3_v8 m ρ c k j))))

/-! ## The weight gradient, segment by segment -/
theorem W15_v30 (s : Fin 4096) (j : Fin 6144) : (W15 m ρ c (Proc.devRef .tc main_v30) (ix2 s j) : EReal) = grad (mH m c) (mQ m c) s j :=
  (h5_v30 (W14 m ρ c) s j).trans ((congrFun ((W14_arr m ρ c 2).trans (arr4_2 _ c)) _).trans
    (cols6144_eq (fun k => (h4_v27 (W12 m ρ c) k s).trans (congrFun (W12_args m ρ c main_arg0 (by decide)) _)) fun k => (h4_v28 (W12 m ρ c) k j).trans (congrFun (W12_args m ρ c main_arg3 (by decide)) _)))
theorem W17_v34 (s : Fin 4096) (j : Fin 4096) : (W17 m ρ c (Proc.devRef .tc main_v34) (ix2 s j) : EReal) = grad (mH m c) (mR m c) s j :=
  (h6_v34 (W16 m ρ c) s j).trans ((congrFun ((W16_arr m ρ c 2).trans (arr5_2 _ c)) _).trans
    (cols4096_eq (fun k => (h5_v31 (W14 m ρ c) k s).trans (congrFun (W14_args m ρ c main_arg0 (by decide)) _)) fun k => (h5_v32 (W14 m ρ c) k j).trans (congrFun (W14_args m ρ c main_arg4 (by decide)) _)))
theorem W19_v38 (s : Fin 4096) (j : Fin 4096) : (W19 m ρ c (Proc.devRef .tc main_v38) (ix2 s j) : EReal) = grad (mH m c) (mK m c) s j :=
  (h7_v38 (W18 m ρ c) s j).trans ((congrFun ((W18_arr m ρ c 2).trans (arr6_2 _ c)) _).trans
    (cols4096_eq (fun k => (h6_v35 (W16 m ρ c) k s).trans (congrFun (W16_args m ρ c main_arg0 (by decide)) _)) fun k => (h6_v36 (W16 m ρ c) k j).trans (congrFun (W16_args m ρ c main_arg5 (by decide)) _)))
theorem W21_v42 (s : Fin 4096) (j : Fin 4096) : (W21 m ρ c (Proc.devRef .tc main_v42) (ix2 s j) : EReal) = grad (mH m c) (mV m c) s j :=
  (h8_v42 (W20 m ρ c) s j).trans ((congrFun ((W20_arr m ρ c 2).trans (arr7_2 _ c)) _).trans
    (cols4096_eq (fun k => (h7_v39 (W18 m ρ c) k s).trans (congrFun (W18_args m ρ c main_arg0 (by decide)) _)) fun k => (h7_v40 (W18 m ρ c) k j).trans (congrFun (W18_args m ρ c main_arg6 (by decide)) _)))
theorem W23_g (s : Fin 4096) (j : Fin 480) : (W23 m ρ c (Proc.devRef .tc main_v46) (ix2 s (gG j)) : EReal) = grad (mH m c) (mLg m c) s j :=
  (h9_v46 (W22 m ρ c) s (gG j)).trans ((congrFun ((W22_arr m ρ c 2).trans (arr8_2 _ c)) _).trans
    (cols768_eq (fun k => (h8_v43 (W20 m ρ c) k s).trans (congrFun (W20_args m ρ c main_arg0 (by decide)) _)) fun k => (h8_v44 (W20 m ρ c) k (gG j)).trans ((congrFun ((W20_of m ρ c main_v10 (by decide +kernel)).trans ((W19_of m ρ c main_v10 (by decide)).trans ((W18_of m ρ c main_v10 (by decide +kernel)).trans ((W17_of m ρ c main_v10 (by decide)).trans ((W16_of m ρ c main_v10 (by decide +kernel)).trans ((W15_of m ρ c main_v10 (by decide)).trans ((W14_of m ρ c main_v10 (by decide +kernel)).trans ((W13_of m ρ c main_v10 (by decide)).trans ((W12_of m ρ c main_v10 (by decide +kernel)).trans ((W11_of m ρ c main_v10 (by decide)).trans ((W10_of m ρ c main_v10 (by decide +kernel)).trans ((W9_of m ρ c main_v10 (by decide)).trans ((W8_of m ρ c main_v10 (by decide +kernel)).trans ((W7_of m ρ c main_v10 (by decide)).trans (W6_of m ρ c main_v10 (by decide +kernel)))))))))))))))) _).trans (W5_g m ρ c k j))))
theorem W23_w (s : Fin 4096) (j : Fin 128) : (W23 m ρ c (Proc.devRef .tc main_v46) (ix2 s (gW j)) : EReal) = grad (mH m c) (mLw m c) s j :=
  (h9_v46 (W22 m ρ c) s (gW j)).trans ((congrFun ((W22_arr m ρ c 2).trans (arr8_2 _ c)) _).trans
    (cols768_eq (fun k => (h8_v43 (W20 m ρ c) k s).trans (congrFun (W20_args m ρ c main_arg0 (by decide)) _)) fun k => (h8_v44 (W20 m ρ c) k (gW j)).trans ((congrFun ((W20_of m ρ c main_v10 (by decide +kernel)).trans ((W19_of m ρ c main_v10 (by decide)).trans ((W18_of m ρ c main_v10 (by decide +kernel)).trans ((W17_of m ρ c main_v10 (by decide)).trans ((W16_of m ρ c main_v10 (by decide +kernel)).trans ((W15_of m ρ c main_v10 (by decide)).trans ((W14_of m ρ c main_v10 (by decide +kernel)).trans ((W13_of m ρ c main_v10 (by decide)).trans ((W12_of m ρ c main_v10 (by decide +kernel)).trans ((W11_of m ρ c main_v10 (by decide)).trans ((W10_of m ρ c main_v10 (by decide +kernel)).trans ((W9_of m ρ c main_v10 (by decide)).trans ((W8_of m ρ c main_v10 (by decide +kernel)).trans ((W7_of m ρ c main_v10 (by decide)).trans (W6_of m ρ c main_v10 (by decide +kernel)))))))))))))))) _).trans (W5_w m ρ c k j))))
theorem W23_a (s : Fin 4096) (j : Fin 128) : (W23 m ρ c (Proc.devRef .tc main_v46) (ix2 s (gA j)) : EReal) = grad (mH m c) (mLa m c) s j :=
  (h9_v46 (W22 m ρ c) s (gA j)).trans ((congrFun ((W22_arr m ρ c 2).trans (arr8_2 _ c)) _).trans
    (cols768_eq (fun k => (h8_v43 (W20 m ρ c) k s).trans (congrFun (W20_args m ρ c main_arg0 (by decide)) _)) fun k => (h8_v44 (W20 m ρ c) k (gA j)).trans ((congrFun ((W20_of m ρ c main_v10 (by decide +kernel)).trans ((W19_of m ρ c main_v10 (by decide)).trans ((W18_of m ρ c main_v10 (by decide +kernel)).trans ((W17_of m ρ c main_v10 (by decide)).trans ((W16_of m ρ c main_v10 (by decide +kernel)).trans ((W15_of m ρ c main_v10 (by decide)).trans ((W14_of m ρ c main_v10 (by decide +kernel)).trans ((W13_of m ρ c main_v10 (by decide)).trans ((W12_of m ρ c main_v10 (by decide +kernel)).trans ((W11_of m ρ c main_v10 (by decide)).trans ((W10_of m ρ c main_v10 (by decide +kernel)).trans ((W9_of m ρ c main_v10 (by decide)).trans ((W8_of m ρ c main_v10 (by decide +kernel)).trans ((W7_of m ρ c main_v10 (by decide)).trans (W6_of m ρ c main_v10 (by decide +kernel)))))))))))))))) _).trans (W5_a m ρ c k j))))
theorem W24_v49 (s : Fin 4096) (j : Fin 8192) : (W24 m ρ c (Proc.devRef .tc main_v49) (ix3 0 s j) : EReal) = grad (mH m c) (mT m c) s j :=
  (congrFun ((W24_arr m ρ c 2).trans (arr9_2 _ c)) _).trans
    (cols8192_eq (fun k => (h9_v47 (W22 m ρ c) k s).trans (congrFun (W22_args m ρ c main_arg0 (by decide)) _)) fun k => (h9_v48 (W22 m ρ c) k j).trans (congrFun (W22_args m ρ c main_arg10 (by decide)) _))

/-! ## The results, at the end -/
theorem W25_v14 (s : Fin 4096) (j : Fin 6144) : (W25 m ρ c (Proc.devRef .tc main_v14) (ix2 s j) : EReal) = proj (mH m c) (mW m c) s (cQ j) + mB m c j :=
  ((congrFun ((W25_of m ρ c main_v14 (by decide)).trans ((W24_of m ρ c main_v14 (by decide +kernel)).trans ((W23_of m ρ c main_v14 (by decide)).trans ((W22_of m ρ c main_v14 (by decide +kernel)).trans ((W21_of m ρ c main_v14 (by decide)).trans ((W20_of m ρ c main_v14 (by decide +kernel)).trans ((W19_of m ρ c main_v14 (by decide)).trans ((W18_of m ρ c main_v14 (by decide +kernel)).trans ((W17_of m ρ c main_v14 (by decide)).trans ((W16_of m ρ c main_v14 (by decide +kernel)).trans ((W15_of m ρ c main_v14 (by decide)).trans ((W14_of m ρ c main_v14 (by decide +kernel)).trans ((W13_of m ρ c main_v14 (by decide)).trans ((W12_of m ρ c main_v14 (by decide +kernel)).trans ((W11_of m ρ c main_v14 (by decide)).trans ((W10_of m ρ c main_v14 (by decide +kernel)).trans ((W9_of m ρ c main_v14 (by decide)).trans (W8_of m ρ c main_v14 (by decide +kernel))))))))))))))))))) _).trans (W7_v14 m ρ c s j))
theorem W25_v18 (s : Fin 4096) (j : Fin 12288) : (W25 m ρ c (Proc.devRef .tc main_v18) (ix2 s j) : EReal) = proj (mH m c) (mW m c) s (cRkv j) :=
  ((congrFun ((W25_of m ρ c main_v18 (by decide)).trans ((W24_of m ρ c main_v18 (by decide +kernel)).trans ((W23_of m ρ c main_v18 (by decide)).trans ((W22_of m ρ c main_v18 (by decide +kernel)).trans ((W21_of m ρ c main_v18 (by decide)).trans ((W20_of m ρ c main_v18 (by decide +kernel)).trans ((W19_of m ρ c main_v18 (by decide)).trans ((W18_of m ρ c main_v18 (by decide +kernel)).trans ((W17_of m ρ c main_v18 (by decide)).trans ((W16_of m ρ c main_v18 (by decide +kernel)).trans ((W15_of m ρ c main_v18 (by decide)).trans ((W14_of m ρ c main_v18 (by decide +kernel)).trans ((W13_of m ρ c main_v18 (by decide)).trans ((W12_of m ρ c main_v18 (by decide +kernel)).trans ((W11_of m ρ c main_v18 (by decide)).trans (W10_of m ρ c main_v18 (by decide +kernel))))))))))))))))) _).trans (W9_v18 m ρ c s j))
theorem W25_v26 (s : Fin 4096) (j : Fin 8192) : (W25 m ρ c (Proc.devRef .tc main_v26) (ix2 s j) : EReal) = proj (mH m c) (mW m c) s (cT j) :=
  ((congrFun ((W25_of m ρ c main_v26 (by decide)).trans ((W24_of m ρ c main_v26 (by decide +kernel)).trans ((W23_of m ρ c main_v26 (by decide)).trans ((W22_of m ρ c main_v26 (by decide +kernel)).trans ((W21_of m ρ c main_v26 (by decide)).trans ((W20_of m ρ c main_v26 (by decide +kernel)).trans ((W19_of m ρ c main_v26 (by decide)).trans ((W18_of m ρ c main_v26 (by decide +kernel)).trans ((W17_of m ρ c main_v26 (by decide)).trans ((W16_of m ρ c main_v26 (by decide +kernel)).trans ((W15_of m ρ c main_v26 (by decide)).trans (W14_of m ρ c main_v26 (by decide +kernel))))))))))))) _).trans (W13_v26 m ρ c s j))
theorem W25_v55 (s : Fin 4096) (j : Fin 128) : (W25 m ρ c (Proc.devRef .tc main_v55) (ix2 s j) : EReal) = proj (mH m c) (mW m c) s (cW j) :=
  (h10_v55 (W24 m ρ c) s j).trans ((congrFun ((W24_of m ρ c main_v22 (by decide +kernel)).trans ((W23_of m ρ c main_v22 (by decide)).trans ((W22_of m ρ c main_v22 (by decide +kernel)).trans ((W21_of m ρ c main_v22 (by decide)).trans ((W20_of m ρ c main_v22 (by decide +kernel)).trans ((W19_of m ρ c main_v22 (by decide)).trans ((W18_of m ρ c main_v22 (by decide +kernel)).trans ((W17_of m ρ c main_v22 (by decide)).trans ((W16_of m ρ c main_v22 (by decide +kernel)).trans ((W15_of m ρ c main_v22 (by decide)).trans ((W14_of m ρ c main_v22 (by decide +kernel)).trans ((W13_of m ρ c main_v22 (by decide)).trans (W12_of m ρ c main_v22 (by decide +kernel)))))))))))))) _).trans (W11_w m ρ c s j))
theorem W25_v56 (s : Fin 4096) (j : Fin 128) : (W25 m ρ c (Proc.devRef .tc main_v56) (ix2 s j) : EReal) = proj (mH m c) (mW m c) s (cA j) :=
  (h10_v56 (W24 m ρ c) s j).trans ((congrFun ((W24_of m ρ c main_v22 (by decide +kernel)).trans ((W23_of m ρ c main_v22 (by decide)).trans ((W22_of m ρ c main_v22 (by decide +kernel)).trans ((W21_of m ρ c main_v22 (by decide)).trans ((W20_of m ρ c main_v22 (by decide +kernel)).trans ((W19_of m ρ c main_v22 (by decide)).trans ((W18_of m ρ c main_v22 (by decide +kernel)).trans ((W17_of m ρ c main_v22 (by decide)).trans ((W16_of m ρ c main_v22 (by decide +kernel)).trans ((W15_of m ρ c main_v22 (by decide)).trans ((W14_of m ρ c main_v22 (by decide +kernel)).trans ((W13_of m ρ c main_v22 (by decide)).trans (W12_of m ρ c main_v22 (by decide +kernel)))))))))))))) _).trans (W11_a m ρ c s j))
theorem W25_v57 (s : Fin 4096) (j : Fin 480) : (W25 m ρ c (Proc.devRef .tc main_v57) (ix2 s j) : EReal) = proj (mH m c) (mW m c) s (cG j) :=
  (h10_v57 (W24 m ρ c) s j).trans ((congrFun ((W24_of m ρ c main_v22 (by decide +kernel)).trans ((W23_of m ρ c main_v22 (by decide)).trans ((W22_of m ρ c main_v22 (by decide +kernel)).trans ((W21_of m ρ c main_v22 (by decide)).trans ((W20_of m ρ c main_v22 (by decide +kernel)).trans ((W19_of m ρ c main_v22 (by decide)).trans ((W18_of m ρ c main_v22 (by decide +kernel)).trans ((W17_of m ρ c main_v22 (by decide)).trans ((W16_of m ρ c main_v22 (by decide +kernel)).trans ((W15_of m ρ c main_v22 (by decide)).trans ((W14_of m ρ c main_v22 (by decide +kernel)).trans ((W13_of m ρ c main_v22 (by decide)).trans (W12_of m ρ c main_v22 (by decide +kernel)))))))))))))) _).trans (W11_g m ρ c s j))
theorem W25_sQ (s : Fin 4096) (j : Fin 6144) : (W25 m ρ c (Proc.devRef .tc main_v54) (ix2 s (cQ j)) : EReal) = grad (mH m c) (mQ m c) s j :=
  (h10_sQ (W24 m ρ c) s j).trans ((congrFun ((W24_of m ρ c main_v30 (by decide +kernel)).trans ((W23_of m ρ c main_v30 (by decide)).trans ((W22_of m ρ c main_v30 (by decide +kernel)).trans ((W21_of m ρ c main_v30 (by decide)).trans ((W20_of m ρ c main_v30 (by decide +kernel)).trans ((W19_of m ρ c main_v30 (by decide)).trans ((W18_of m ρ c main_v30 (by decide +kernel)).trans ((W17_of m ρ c main_v30 (by decide)).trans (W16_of m ρ c main_v30 (by decide +kernel)))))))))) _).trans (W15_v30 m ρ c s j))
theorem W25_sR (s : Fin 4096) (j : Fin 4096) : (W25 m ρ c (Proc.devRef .tc main_v54) (ix2 s (cR j)) : EReal) = grad (mH m c) (mR m c) s j :=
  (h10_sR (W24 m ρ c) s j).trans ((congrFun ((W24_of m ρ c main_v34 (by decide +kernel)).trans ((W23_of m ρ c main_v34 (by decide)).trans ((W22_of m ρ c main_v34 (by decide +kernel)).trans ((W21_of m ρ c main_v34 (by decide)).trans ((W20_of m ρ c main_v34 (by decide +kernel)).trans ((W19_of m ρ c main_v34 (by decide)).trans (W18_of m ρ c main_v34 (by decide +kernel)))))))) _).trans (W17_v34 m ρ c s j))
theorem W25_sK (s : Fin 4096) (j : Fin 4096) : (W25 m ρ c (Proc.devRef .tc main_v54) (ix2 s (cK j)) : EReal) = grad (mH m c) (mK m c) s j :=
  (h10_sK (W24 m ρ c) s j).trans ((congrFun ((W24_of m ρ c main_v38 (by decide +kernel)).trans ((W23_of m ρ c main_v38 (by decide)).trans ((W22_of m ρ c main_v38 (by decide +kernel)).trans ((W21_of m ρ c main_v38 (by decide)).trans (W20_of m ρ c main_v38 (by decide +kernel)))))) _).trans (W19_v38 m ρ c s j))
theorem W25_sV (s : Fin 4096) (j : Fin 4096) : (W25 m ρ c (Proc.devRef .tc main_v54) (ix2 s (cV j)) : EReal) = grad (mH m c) (mV m c) s j :=
  (h10_sV (W24 m ρ c) s j).trans ((congrFun ((W24_of m ρ c main_v42 (by decide +kernel)).trans ((W23_of m ρ c main_v42 (by decide)).trans (W22_of m ρ c main_v42 (by decide +kernel)))) _).trans (W21_v42 m ρ c s j))
theorem W25_sW (s : Fin 4096) (j : Fin 128) : (W25 m ρ c (Proc.devRef .tc main_v54) (ix2 s (cW j)) : EReal) = grad (mH m c) (mLw m c) s j :=
  (h10_sW (W24 m ρ c) s j).trans ((congrFun (W24_of m ρ c main_v46 (by decide +kernel)) _).trans (W23_w m ρ c s j))
theorem W25_sA (s : Fin 4096) (j : Fin 128) : (W25 m ρ c (Proc.devRef .tc main_v54) (ix2 s (cA j)) : EReal) = grad (mH m c) (mLa m c) s j :=
  (h10_sA (W24 m ρ c) s j).trans ((congrFun (W24_of m ρ c main_v46 (by decide +kernel)) _).trans (W23_a m ρ c s j))
theorem W25_sG (s : Fin 4096) (j : Fin 480) : (W25 m ρ c (Proc.devRef .tc main_v54) (ix2 s (cG j)) : EReal) = grad (mH m c) (mLg m c) s j :=
  (h10_sG (W24 m ρ c) s j).trans ((congrFun (W24_of m ρ c main_v46 (by decide +kernel)) _).trans (W23_g m ρ c s j))
theorem W25_sT (s : Fin 4096) (j : Fin 8192) : (W25 m ρ c (Proc.devRef .tc main_v54) (ix2 s (cT j)) : EReal) = grad (mH m c) (mT m c) s j :=
  (h10_sT (W24 m ρ c) s j).trans (W24_v49 m ρ c s j)
end Cert.Kernel4Ideal.Prj
-- ==== Proof.ProjRef.lean ====
module
public import proofs.«01_k».proof.Proof.ProjRow
public import proofs.«01_k».proof.Proof.Gen.Reference4Ideal.Run
public import Idealize.ShloMosaic.Lib.Pointwise
@[expose] public section
set_option maxRecDepth 16384
noncomputable section

/-! The reference's input projection and its weight gradient, element by element. -/
namespace Cert.Reference4Ideal.Prj
open Idealize.ShloMosaic Idealize.ShloMosaic.TcCoe Idealize.ShloMosaic.Tactic Idealize.SL.Sem
open Cert.Reference4Ideal Cert.Reference4Ideal.Gen _root_.Prj
abbrev pr (x : FVec Ideal S4096x4096 .bf16) (w : FVec Ideal S4096x27360 .f32) : FVec Ideal S4096x27360 .f32 :=
  Host.dotGeneral dot_S4096x4096_S4096x27360_S4096x27360_1_0_0_1_n_n none (extf .f32 x bitsLt_bf16_f32) w

section
variable (x : FVec Ideal S4096x4096 .bf16) (w : FVec Ideal S4096x27360 .f32) (b : FVec Ideal S1x6144 .f32) (s : Fin 4096)
theorem qkv_at (j : Fin 6144) : (addf (extractStridedSlice S4096x6144 ![0, 0] (pr x w) slices_S4096x27360_S4096x6144_0_0)
    (broadcastInDim S4096x6144 ![0, 1] bcast_S1x6144_S4096x6144_0_1 b) : FVec Ideal S4096x6144 .f32) (ix2 s j) =
      proj (fun s k => x (ix2 s k)) (fun k u => w (ix2 k u)) s (cQ j) + b (ix2 0 j) := by
  pointwise
  rfl
theorem rkv_at (j : Fin 12288) : (extractStridedSlice S4096x12288 ![0, 6144] (pr x w) slices_S4096x27360_S4096x12288_0_6144 : FVec Ideal S4096x12288 .f32) (ix2 s j) =
    proj (fun s k => x (ix2 s k)) (fun k u => w (ix2 k u)) s (cRkv j) := by
  pointwise
  rfl
theorem w_at (j : Fin 128) : (extractStridedSlice S4096x128 ![0, 18432] (pr x w) slices_S4096x27360_S4096x128_0_18432 : FVec Ideal S4096x128 .f32) (ix2 s j) =
    proj (fun s k => x (ix2 s k)) (fun k u => w (ix2 k u)) s (cW j) := by
  pointwise
  rfl
theorem a_at (j : Fin 128) : (extractStridedSlice S4096x128 ![0, 18560] (pr x w) slices_S4096x27360_S4096x128_0_18560 : FVec Ideal S4096x128 .f32) (ix2 s j) =
    proj (fun s k => x (ix2 s k)) (fun k u => w (ix2 k u)) s (cA j) := by
  pointwise
  rfl
theorem g_at (j : Fin 480) : (extractStridedSlice S4096x480 ![0, 18688] (pr x w) slices_S4096x27360_S4096x480_0_18688 : FVec Ideal S4096x480 .f32) (ix2 s j) =
    proj (fun s k => x (ix2 s k)) (fun k u => w (ix2 k u)) s (cG j) := by
  pointwise
  rfl
theorem gate_at (j : Fin 8192) : (extractStridedSlice S4096x8192 ![0, 19168] (pr x w) slices_S4096x27360_S4096x8192_0_19168 : FVec Ideal S4096x8192 .f32) (ix2 s j) =
    proj (fun s k => x (ix2 s k)) (fun k u => w (ix2 k u)) s (cT j) := by
  pointwise
  rfl
end
/-! ## The weight's gradient -/
theorem flip_at (x : FVec Ideal S4096x4096 .bf16) (d : FVec Ideal S4096x27360 .bf16) (i : Fin 4096) (u : Fin 27360) :
    (truncf .bf16 (transpose S4096x27360 [1, 0] (Host.dotGeneral dot_S4096x27360_S4096x4096_S27360x4096_0_0_1_1_n_n none (extf .f32 d bitsLt_bf16_f32)
      (extf .f32 x bitsLt_bf16_f32) : FVec Ideal S27360x4096 .f32) transposes_S27360x4096_S4096x27360_1_0) bitsLt_bf16_f32 : FVec Ideal S4096x27360 .bf16) (ix2 i u) =
      ∑ s : Fin 4096, (d (ix2 s u) : EReal) * x (ix2 s i) := by
  pointwise
section
variable (x : FVec Ideal S4096x4096 .bf16) (d0 : FVec Ideal S4096x6144 .bf16) (d1 : FVec Ideal S4096x4096 .bf16) (d2 : FVec Ideal S4096x4096 .bf16) (d3 : FVec Ideal S4096x4096 .bf16) (d4 : FVec Ideal S4096x128 .bf16) (d5 : FVec Ideal S4096x128 .bf16) (d6 : FVec Ideal S4096x480 .bf16) (d7 : FVec Ideal S4096x8192 .bf16) (s : Fin 4096)
/-- The cotangents side by side. -/
abbrev cat : FVec Ideal S4096x27360 .bf16 := concatenate S4096x27360 1 [⟨S4096x6144, d0⟩, ⟨S4096x4096, d1⟩, ⟨S4096x4096, d2⟩, ⟨S4096x4096, d3⟩, ⟨S4096x128, d4⟩, ⟨S4096x128, d5⟩, ⟨S4096x480, d6⟩, ⟨S4096x8192, d7⟩] concatenates_S4096x6144_S4096x4096_S4096x4096_S4096x4096_S4096x128_S4096x128_S4096x480_S4096x8192_S4096x27360_d1
theorem cat_sQ (j : Fin 6144) : cat d0 d1 d2 d3 d4 d5 d6 d7 (ix2 s (cQ j)) = d0 (ix2 s j) := by
  pointwise
theorem cat_sR (j : Fin 4096) : cat d0 d1 d2 d3 d4 d5 d6 d7 (ix2 s (cR j)) = d1 (ix2 s j) := by
  pointwise
theorem cat_sK (j : Fin 4096) : cat d0 d1 d2 d3 d4 d5 d6 d7 (ix2 s (cK j)) = d2 (ix2 s j) := by
  pointwise
  have := j.isLt
  rw [dif_neg (by omega), dif_neg (by omega), dif_pos (by omega)]
  exact congrArg (fun z => d2 (ix2 s z)) (Fin.ext (by dsimp; omega))
theorem cat_sV (j : Fin 4096) : cat d0 d1 d2 d3 d4 d5 d6 d7 (ix2 s (cV j)) = d3 (ix2 s j) := by
  pointwise
  have := j.isLt
  rw [dif_neg (by omega), dif_neg (by omega), dif_neg (by omega), dif_pos (by omega)]
  exact congrArg (fun z => d3 (ix2 s z)) (Fin.ext (by dsimp; omega))
theorem cat_sW (j : Fin 128) : cat d0 d1 d2 d3 d4 d5 d6 d7 (ix2 s (cW j)) = d4 (ix2 s j) := by
  pointwise
  have := j.isLt
  rw [dif_neg (by omega), dif_neg (by omega), dif_neg (by omega), dif_neg (by omega), dif_pos (by omega)]
  exact congrArg (fun z => d4 (ix2 s z)) (Fin.ext (by dsimp; omega))
theorem cat_sA (j : Fin 128) : cat d0 d1 d2 d3 d4 d5 d6 d7 (ix2 s (cA j)) = d5 (ix2 s j) := by
  pointwise
  have := j.isLt
  rw [dif_neg (by omega), dif_neg (by omega), dif_neg (by omega), dif_neg (by omega), dif_neg (by omega), dif_pos (by omega)]
  exact congrArg (fun z => d5 (ix2 s z)) (Fin.ext (by dsimp; omega))
theorem cat_sG (j : Fin 480) : cat d0 d1 d2 d3 d4 d5 d6 d7 (ix2 s (cG j)) = d6 (ix2 s j) := by
  pointwise
  have := j.isLt
  rw [dif_neg (by omega), dif_neg (by omega), dif_neg (by omega), dif_neg (by omega), dif_neg (by omega), dif_neg (by omega), dif_pos (by omega)]
  exact congrArg (fun z => d6 (ix2 s z)) (Fin.ext (by dsimp; omega))
theorem cat_sT (j : Fin 8192) : cat d0 d1 d2 d3 d4 d5 d6 d7 (ix2 s (cT j)) = d7 (ix2 s j) := by
  pointwise
  have := j.isLt
  rw [dif_neg (by omega), dif_neg (by omega), dif_neg (by omega), dif_neg (by omega), dif_neg (by omega), dif_neg (by omega), dif_neg (by omega)]
  exact congrArg (fun z => d7 (ix2 s z)) (Fin.ext (by dsimp; omega))
theorem grad_sQ (i : Fin 4096) (j : Fin 6144) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cQ j)) =
      grad (fun s k => x (ix2 s k)) (fun s k => d0 (ix2 s k)) i j :=
  (flip_at x _ i _).trans (Finset.sum_congr rfl fun k _ => (congrArg (· * _) (cat_sQ d0 d1 d2 d3 d4 d5 d6 d7 k j)).trans (mul_comm _ _))
theorem grad_sR (i : Fin 4096) (j : Fin 4096) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cR j)) =
      grad (fun s k => x (ix2 s k)) (fun s k => d1 (ix2 s k)) i j :=
  (flip_at x _ i _).trans (Finset.sum_congr rfl fun k _ => (congrArg (· * _) (cat_sR d0 d1 d2 d3 d4 d5 d6 d7 k j)).trans (mul_comm _ _))
theorem grad_sK (i : Fin 4096) (j : Fin 4096) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cK j)) =
      grad (fun s k => x (ix2 s k)) (fun s k => d2 (ix2 s k)) i j :=
  (flip_at x _ i _).trans (Finset.sum_congr rfl fun k _ => (congrArg (· * _) (cat_sK d0 d1 d2 d3 d4 d5 d6 d7 k j)).trans (mul_comm _ _))
theorem grad_sV (i : Fin 4096) (j : Fin 4096) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cV j)) =
      grad (fun s k => x (ix2 s k)) (fun s k => d3 (ix2 s k)) i j :=
  (flip_at x _ i _).trans (Finset.sum_congr rfl fun k _ => (congrArg (· * _) (cat_sV d0 d1 d2 d3 d4 d5 d6 d7 k j)).trans (mul_comm _ _))
theorem grad_sW (i : Fin 4096) (j : Fin 128) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cW j)) =
      grad (fun s k => x (ix2 s k)) (fun s k => d4 (ix2 s k)) i j :=
  (flip_at x _ i _).trans (Finset.sum_congr rfl fun k _ => (congrArg (· * _) (cat_sW d0 d1 d2 d3 d4 d5 d6 d7 k j)).trans (mul_comm _ _))
theorem grad_sA (i : Fin 4096) (j : Fin 128) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cA j)) =
      grad (fun s k => x (ix2 s k)) (fun s k => d5 (ix2 s k)) i j :=
  (flip_at x _ i _).trans (Finset.sum_congr rfl fun k _ => (congrArg (· * _) (cat_sA d0 d1 d2 d3 d4 d5 d6 d7 k j)).trans (mul_comm _ _))
theorem grad_sG (i : Fin 4096) (j : Fin 480) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cG j)) =
      grad (fun s k => x (ix2 s k)) (fun s k => d6 (ix2 s k)) i j :=
  (flip_at x _ i _).trans (Finset.sum_congr rfl fun k _ => (congrArg (· * _) (cat_sG d0 d1 d2 d3 d4 d5 d6 d7 k j)).trans (mul_comm _ _))
theorem grad_sT (i : Fin 4096) (j : Fin 8192) :
    (truncf .bf16 (transpose S4096x27360 [1, 0] (Host.dotGeneral dot_S4096x27360_S4096x4096_S27360x4096_0_0_1_1_n_n none (extf .f32 (cat d0 d1 d2 d3 d4 d5 d6 d7) bitsLt_bf16_f32)
      (extf .f32 x bitsLt_bf16_f32) : FVec Ideal S27360x4096 .f32) transposes_S27360x4096_S4096x27360_1_0) bitsLt_bf16_f32 : FVec Ideal S4096x27360 .bf16) (ix2 i (cT j)) =
      grad (fun s k => x (ix2 s k)) (fun s k => d7 (ix2 s k)) i j :=
  (flip_at x _ i _).trans (Finset.sum_congr rfl fun k _ => (congrArg (· * _) (cat_sT d0 d1 d2 d3 d4 d5 d6 d7 k j)).trans (mul_comm _ _))
end
end Cert.Reference4Ideal.Prj
-- ==== Proof.ProjFinal.lean ====
module
public import proofs.«01_k».proof.Proof.ProjRun
public import proofs.«01_k».proof.Proof.ProjRef
public import proofs.«01_k».proof.Defs
@[expose] public section
set_option maxRecDepth 16384
noncomputable section

/-! The input projection: the equation of the two programs' results. -/
namespace Prj
open Idealize.ShloMosaic Idealize.ShloMosaic.TcCoe Idealize.ShloMosaic.Tactic Idealize.SL.Sem
open Cert
open Cert.Kernel4Ideal.Prj (mH mW mB mQ mR mK mV mLw mLa mLg mT)

theorem proj_congr {H H' : Fin 4096 → Fin 4096 → EReal} {Wi Wi' : Fin 4096 → Fin 27360 → EReal} (eH : H = H') (eW : Wi = Wi') (s : Fin 4096) (u : Fin 27360) :
    proj H Wi s u = proj H' Wi' s u := by
  subst eH eW
  rfl
theorem grad_congr {n : ℕ} {H H' : Fin 4096 → Fin 4096 → EReal} {D D' : Fin 4096 → Fin n → EReal} (eH : H = H') (eD : D = D') (i : Fin 4096) (j : Fin n) :
    grad H D i j = grad H' D' i j := by
  subst eH eD
  rfl

set_option maxHeartbeats 4000000 in
/-- From memories that agree on the arguments the two programs end with the same results. -/
theorem algebraic : Cert.algebraic_Kernel4Ideal_Reference4Ideal := by
  intro m ρ m' ρ' _ he
  refine ⟨fun c => Kernel4Ideal.Gen.W25 m ρ c (Proc.devRef .tc Kernel4Ideal.main_v14),
    fun c => Kernel4Ideal.Gen.W25 m ρ c (Proc.devRef .tc Kernel4Ideal.main_v18),
    fun c => Kernel4Ideal.Gen.W25 m ρ c (Proc.devRef .tc Kernel4Ideal.main_v55),
    fun c => Kernel4Ideal.Gen.W25 m ρ c (Proc.devRef .tc Kernel4Ideal.main_v56),
    fun c => Kernel4Ideal.Gen.W25 m ρ c (Proc.devRef .tc Kernel4Ideal.main_v57),
    fun c => Kernel4Ideal.Gen.W25 m ρ c (Proc.devRef .tc Kernel4Ideal.main_v26),
    fun c => Kernel4Ideal.Gen.W25 m ρ c (Proc.devRef .tc Kernel4Ideal.main_v54), Kernel4Ideal.Prj.run_W25 m ρ, ?_⟩
  refine (θ_run _ _ _).mono (fun r h c => ?_) (Reference4Ideal.Value.run m' ρ')
  obtain ⟨h0, h1, h2, h3, h4, h5, h6, h7⟩ := h c
  obtain ⟨e0, e1, e2, e3, e4, e5, e6, e7, e8, e9, e10⟩ := he c
  have a0 : _ = mH m c := funext fun s => funext fun k => congrFun e0 (ix2 s k)
  have a1 : _ = mW m c := funext fun s => funext fun k => congrFun e1 (ix2 s k)
  have a3 : _ = mQ m c := funext fun s => funext fun k => congrFun e3 (ix2 s k)
  have a4 : _ = mR m c := funext fun s => funext fun k => congrFun e4 (ix2 s k)
  have a5 : _ = mK m c := funext fun s => funext fun k => congrFun e5 (ix2 s k)
  have a6 : _ = mV m c := funext fun s => funext fun k => congrFun e6 (ix2 s k)
  have a7 : _ = mLw m c := funext fun s => funext fun k => congrFun e7 (ix2 s k)
  have a8 : _ = mLa m c := funext fun s => funext fun k => congrFun e8 (ix2 s k)
  have a9 : _ = mLg m c := funext fun s => funext fun k => congrFun e9 (ix2 s k)
  have a10 : _ = mT m c := funext fun s => funext fun k => congrFun e10 (ix2 s k)
  refine ⟨h0.trans ?_, h1.trans ?_, h2.trans ?_, h3.trans ?_, h4.trans ?_, h5.trans ?_, h6.trans ?_, h7⟩
  · funext y
    obtain ⟨s, j, rfl⟩ : ∃ (s : Fin 4096) (j : Fin 6144), y = ix2 s j := ⟨y 0, y 1, by idx_vars y⟩
    refine Eq.trans ?_ (Kernel4Ideal.Prj.W25_v14 m ρ c s j).symm
    exact (Reference4Ideal.Prj.qkv_at _ _ _ s j).trans (congrArg₂ (· + ·) (proj_congr a0 a1 s _) (congrFun e2 (ix2 0 j)))
  · funext y
    obtain ⟨s, j, rfl⟩ : ∃ (s : Fin 4096) (j : Fin 12288), y = ix2 s j := ⟨y 0, y 1, by idx_vars y⟩
    refine Eq.trans ?_ (Kernel4Ideal.Prj.W25_v18 m ρ c s j).symm
    exact (Reference4Ideal.Prj.rkv_at _ _ s j).trans (proj_congr a0 a1 s _)
  · funext y
    obtain ⟨s, j, rfl⟩ : ∃ (s : Fin 4096) (j : Fin 128), y = ix2 s j := ⟨y 0, y 1, by idx_vars y⟩
    refine Eq.trans ?_ (Kernel4Ideal.Prj.W25_v55 m ρ c s j).symm
    exact (Reference4Ideal.Prj.w_at _ _ s j).trans (proj_congr a0 a1 s _)
  · funext y
    obtain ⟨s, j, rfl⟩ : ∃ (s : Fin 4096) (j : Fin 128), y = ix2 s j := ⟨y 0, y 1, by idx_vars y⟩
    refine Eq.trans ?_ (Kernel4Ideal.Prj.W25_v56 m ρ c s j).symm
    exact (Reference4Ideal.Prj.a_at _ _ s j).trans (proj_congr a0 a1 s _)
  · funext y
    obtain ⟨s, j, rfl⟩ : ∃ (s : Fin 4096) (j : Fin 480), y = ix2 s j := ⟨y 0, y 1, by idx_vars y⟩
    refine Eq.trans ?_ (Kernel4Ideal.Prj.W25_v57 m ρ c s j).symm
    exact (Reference4Ideal.Prj.g_at _ _ s j).trans (proj_congr a0 a1 s _)
  · funext y
    obtain ⟨s, j, rfl⟩ : ∃ (s : Fin 4096) (j : Fin 8192), y = ix2 s j := ⟨y 0, y 1, by idx_vars y⟩
    refine Eq.trans ?_ (Kernel4Ideal.Prj.W25_v26 m ρ c s j).symm
    exact (Reference4Ideal.Prj.gate_at _ _ s j).trans (proj_congr a0 a1 s _)
  · funext y
    obtain ⟨s, u, rfl⟩ : ∃ (s : Fin 4096) (u : Fin 27360), y = ix2 s u := ⟨y 0, y 1, by idx_vars y⟩
    rcases segments u with ⟨j, rfl⟩ | ⟨j, rfl⟩ | ⟨j, rfl⟩ | ⟨j, rfl⟩ | ⟨j, rfl⟩ | ⟨j, rfl⟩ | ⟨j, rfl⟩ | ⟨j, rfl⟩
    · refine Eq.trans ?_ (Kernel4Ideal.Prj.W25_sQ m ρ c s j).symm
      exact (Reference4Ideal.Prj.grad_sQ _ _ _ _ _ _ _ _ _ s j).trans (grad_congr a0 a3 s j)
    · refine Eq.trans ?_ (Kernel4Ideal.Prj.W25_sR m ρ c s j).symm
      exact (Reference4Ideal.Prj.grad_sR _ _ _ _ _ _ _ _ _ s j).trans (grad_congr a0 a4 s j)
    · refine Eq.trans ?_ (Kernel4Ideal.Prj.W25_sK m ρ c s j).symm
      exact (Reference4Ideal.Prj.grad_sK _ _ _ _ _ _ _ _ _ s j).trans (grad_congr a0 a5 s j)
    · refine Eq.trans ?_ (Kernel4Ideal.Prj.W25_sV m ρ c s j).symm
      exact (Reference4Ideal.Prj.grad_sV _ _ _ _ _ _ _ _ _ s j).trans (grad_congr a0 a6 s j)
    · refine Eq.trans ?_ (Kernel4Ideal.Prj.W25_sW m ρ c s j).symm
      exact (Reference4Ideal.Prj.grad_sW _ _ _ _ _ _ _ _ _ s j).trans (grad_congr a0 a7 s j)
    · refine Eq.trans ?_ (Kernel4Ideal.Prj.W25_sA m ρ c s j).symm
      exact (Reference4Ideal.Prj.grad_sA _ _ _ _ _ _ _ _ _ s j).trans (grad_congr a0 a8 s j)
    · refine Eq.trans ?_ (Kernel4Ideal.Prj.W25_sG m ρ c s j).symm
      exact (Reference4Ideal.Prj.grad_sG _ _ _ _ _ _ _ _ _ s j).trans (grad_congr a0 a9 s j)
    · refine Eq.trans ?_ (Kernel4Ideal.Prj.W25_sT m ρ c s j).symm
      exact (Reference4Ideal.Prj.grad_sT _ _ _ _ _ _ _ _ _ s j).trans (grad_congr a0 a10 s j)
end Prj
-- ==== Proof.RankRow.lean ====
module
public import proofs.«01_k».proof.Proof.FfnRow
public import proofs.«01_k».proof.Proof.ProjRow
@[expose] public section
noncomputable section

/-! The low ranks' activations, and the gradients of the weights behind them. -/
namespace Rnk
open Idealize.ShloMosaic
open Ffn (den)
open Prj (gG gW gA)

/-- The first of the columns that are laid together: the gate's 480, and zeros up to 512. -/
abbrev gU (j : Fin 512) : Fin 768 := ⟨j.val, by omega⟩
/-- What column `u` of the columns laid together becomes: the gate's go through the logistic function, the decay's through the hyperbolic tangent, the rate's stay. -/
def act (u : Fin 768) (x : EReal) : EReal := if u.val < 512 then Ideal.div 1 (den x) else if u.val < 640 then Ideal.tanh x else x
theorem act_u (j : Fin 512) (x : EReal) : act (gU j) x = Ideal.div 1 (den x) := if_pos j.isLt
theorem act_g (j : Fin 480) (x : EReal) : act (gG j) x = Ideal.div 1 (den x) := if_pos (show j.val < 512 by omega)
theorem act_w (j : Fin 128) (x : EReal) : act (gW j) x = Ideal.tanh x :=
  (if_neg (show ¬ 512 + j.val < 512 by omega)).trans (if_pos (show 512 + j.val < 640 by omega))
theorem act_a (j : Fin 128) (x : EReal) : act (gA j) x = x :=
  (if_neg (show ¬ 640 + j.val < 512 by omega)).trans (if_neg (show ¬ 640 + j.val < 640 by omega))
/-- Every column lies in one of the three parts. -/
theorem parts (u : Fin 768) : (∃ j, u = gU j) ∨ (∃ j, u = gW j) ∨ ∃ j, u = gA j := by
  rcases Nat.lt_or_ge u.val 512 with h0 | h0
  · exact .inl ⟨⟨u.val, h0⟩, rfl⟩
  rcases Nat.lt_or_ge u.val 640 with h1 | h1
  · exact .inr (.inl ⟨⟨u.val - 512, by omega⟩, Fin.ext (by dsimp; omega)⟩)
  exact .inr (.inr ⟨⟨u.val - 640, by omega⟩, Fin.ext (by dsimp; omega)⟩)
/-- A weight's gradient: the activations' columns against the cotangent's. -/
def grad {n : ℕ} (A : Fin 4096 → Fin n → EReal) (D : Fin 4096 → Fin 4096 → EReal) (i : Fin n) (j : Fin 4096) : EReal := ∑ s : Fin 4096, A s i * D s j
end Rnk
-- ==== Proof.RankArr.lean ====
module
public import proofs.«01_k».proof.Proof.Gen.Kernel5Ideal.Frame
public import Idealize.ShloMosaic.Lib.Pipeline.ValueKit
public import proofs.«01_k».proof.Proof.RankRow
@[expose] public section
set_option maxRecDepth 16384
noncomputable section

/-! The arrays the low ranks' activations and the three products leave. -/
namespace Cert.Kernel5Ideal.Rnk
open Idealize.ShloMosaic Idealize.ShloMosaic.TcCoe Idealize.SL.Sem
open Cert.Kernel5Ideal Cert.Kernel5Ideal.Gen _root_.Rnk
open _root_.Ffn (den)
open _root_.Prj (gW gA)
theorem idx0 : ∀ t : Fin cfg0.N, win0_0.index t = ![t.val, 0] ∧ win0_1.index t = ![t.val, 0] :=
  (by decide +kernel : ∀ t : Fin grid0.N, _)
theorem idx1 : ∀ t : Fin cfg1.N, win1_0.index t = ![0, 0, t.val / 4] ∧ win1_1.index t = ![0, 0, t.val % 4] ∧ win1_2.index t = ![0, t.val / 4, t.val % 4] :=
  (by decide +kernel : ∀ t : Fin grid1.N, _)
theorem idx2 : ∀ t : Fin cfg2.N, win2_0.index t = ![0, 0, t.val / 4] ∧ win2_1.index t = ![0, 0, t.val % 4] ∧ win2_2.index t = ![0, t.val / 4, t.val % 4] :=
  (by decide +kernel : ∀ t : Fin grid2.N, _)
theorem idx3 : ∀ t : Fin cfg3.N, win3_0.index t = ![0, 0, t.val / 4] ∧ win3_1.index t = ![0, 0, t.val % 4] ∧ win3_2.index t = ![0, t.val / 4, t.val % 4] :=
  (by decide +kernel : ∀ t : Fin grid3.N, _)

/-! ## What a point leaves, element by element -/
theorem pay0_u (x : FVec Ideal S256x768 .f32) (i : Fin 256) (j : Fin 512) : k0_pay1 (F := Ideal) x (ix2 i (gU j)) = Ideal.div 1 (den (x (ix2 i (gU j)))) := by
  pointwise [k0_pay1]
  rfl
theorem pay0_w (x : FVec Ideal S256x768 .f32) (i : Fin 256) (j : Fin 128) : k0_pay1 (F := Ideal) x (ix2 i (gW j)) = Ideal.tanh (x (ix2 i (gW j))) := by
  pointwise [k0_pay1]
theorem pay0_a (x : FVec Ideal S256x768 .f32) (i : Fin 256) (j : Fin 128) : k0_pay1 (F := Ideal) x (ix2 i (gA j)) = x (ix2 i (gA j)) := by
  pointwise [k0_pay1]
  have := j.isLt
  rw [dif_neg (by omega), dif_neg (by omega)]
  exact congrArg (fun z => x (ix2 i z)) (Fin.ext (by dsimp; omega))
theorem pay0 (x : FVec Ideal S256x768 .f32) (i : Fin 256) (u : Fin 768) : k0_pay1 (F := Ideal) x (ix2 i u) = act u (x (ix2 i u)) := by
  rcases parts u with ⟨j, rfl⟩ | ⟨j, rfl⟩ | ⟨j, rfl⟩
  · exact (pay0_u x i j).trans (act_u j _).symm
  · exact (pay0_w x i j).trans (act_w j _).symm
  · exact (pay0_a x i j).trans (act_a j _).symm
theorem pay1 (a : FVec Ideal S1x4096x256 .bf16) (b : FVec Ideal S1x4096x1024 .bf16) (i : Fin 256) (j : Fin 1024) :
    k1_pay1 (F := Ideal) a b (ix3 0 i j) = ∑ k : Fin 4096, a (ix3 0 k i) * b (ix3 0 k j) := by
  pointwise [k1_pay1]
theorem pay2 (a : FVec Ideal S1x4096x256 .bf16) (b : FVec Ideal S1x4096x1024 .bf16) (i : Fin 256) (j : Fin 1024) :
    k2_pay1 (F := Ideal) a b (ix3 0 i j) = ∑ k : Fin 4096, a (ix3 0 k i) * b (ix3 0 k j) := by
  pointwise [k2_pay1]
theorem pay3 (a : FVec Ideal S1x4096x256 .bf16) (b : FVec Ideal S1x4096x1024 .bf16) (i : Fin 256) (j : Fin 1024) :
    k3_pay1 (F := Ideal) a b (ix3 0 i j) = ∑ k : Fin 4096, a (ix3 0 k i) * b (ix3 0 k j) := by
  pointwise [k3_pay1]

/-! ## The arrays -/
/-- Two sums of products with equal factors. -/
theorem sum_mul_eq {p q p' q' : Fin 4096 → EReal} (h1 : ∀ k, p k = p' k) (h2 : ∀ k, q k = q' k) : ∑ k, p k * q k = ∑ k, p' k * q' k :=
  Finset.sum_congr rfl fun k _ => by rw [h1, h2]
/-- Columns against columns. -/
def cols (a : FVec Ideal S1x4096x768 .bf16) (b : FVec Ideal S1x4096x4096 .bf16) : FVec Ideal S1x768x4096 .f32 :=
  fun y => (∑ k : Fin 4096, (a (ix3 0 k (y 1)) : EReal) * b (ix3 0 k (y 2)) : EReal)
theorem cols_eq {a : FVec Ideal S1x4096x768 .bf16} {b : FVec Ideal S1x4096x4096 .bf16} {p q : Fin 4096 → EReal} {u : Fin 768} {f : Fin 4096}
    (h1 : ∀ k, (a (ix3 0 k u) : EReal) = p k) (h2 : ∀ k, (b (ix3 0 k f) : EReal) = q k) : (cols a b (ix3 0 u f) : EReal) = ∑ k, p k * q k :=
  sum_mul_eq h1 h2
/-- The activations of the columns laid together. -/
def acts (x : FVec Ideal S4096x768 .f32) : FVec Ideal S4096x768 .bf16 := fun y => (act (y 1) (x y) : EReal)
theorem acts_at (x : FVec Ideal S4096x768 .f32) (s : Fin 4096) (u : Fin 768) : (acts x (ix2 s u) : EReal) = act u (x (ix2 s u)) := rfl

variable (V : (c : Dev nD) → (b : Ref sig .tc) → Buf (Elt Ideal) ((c : Thread nD τ).loc b)) (c : Dev nD)
theorem arr0_1 : (dat0 V c).arrAt 1 cfg0.N = acts (V c main_v1) := by
  refine (dat0 V c).arrAt_eq_of_covers 1 _ (by decide +kernel) fun t hf y => ?_
  obtain ⟨q, j, rfl⟩ : ∃ (q : Fin 256) (j : Fin 768), y = ix2 q j := ⟨y 0, y 1, by idx_vars y⟩
  have ht : t.val < 16 := t.isLt
  have he : ((View.whole main_v2).slice (win0_1.rect t)).emb (ix2 q j) = ix2 (⟨t.val * 256 + q.val, by omega⟩ : Fin 4096) j := by
    blk_ext [idx0 t]
  blk_simp
  rw [after0_1]
  unfold out0_1
  frame_out
  rw [he]
  refine (pay0 _ q j).trans (Eq.trans (congrArg (act j) ?_) (acts_at _ _ j).symm)
  blk_ext [iblk0, idx0 t]
theorem arr1_2 : (dat1 V c).arrAt 2 cfg1.N = cols (V c main_v3) (V c main_v4) := by
  refine (dat1 V c).arrAt_eq_of_covers 2 _ (by decide +kernel) fun t hf y => ?_
  obtain ⟨z, q, j, rfl⟩ : ∃ (z : Fin 1) (q : Fin 256) (j : Fin 1024), y = ix3 z q j := ⟨y 0, y 1, y 2, by idx_vars y⟩
  obtain rfl : z = 0 := Subsingleton.elim _ _
  blk_simp
  rw [after1_2]
  unfold out1_2
  frame_out
  unfold cols
  refine (pay1 _ _ q j).trans (sum_mul_eq (fun k => ?_) fun k => ?_) <;> blk_ext [iblk1, idx1 t]
theorem arr2_2 : (dat2 V c).arrAt 2 cfg2.N = cols (V c main_v8) (V c main_v9) := by
  refine (dat2 V c).arrAt_eq_of_covers 2 _ (by decide +kernel) fun t hf y => ?_
  obtain ⟨z, q, j, rfl⟩ : ∃ (z : Fin 1) (q : Fin 256) (j : Fin 1024), y = ix3 z q j := ⟨y 0, y 1, y 2, by idx_vars y⟩
  obtain rfl : z = 0 := Subsingleton.elim _ _
  blk_simp
  rw [after2_2]
  unfold out2_2
  frame_out
  unfold cols
  refine (pay2 _ _ q j).trans (sum_mul_eq (fun k => ?_) fun k => ?_) <;> blk_ext [iblk2, idx2 t]
theorem arr3_2 : (dat3 V c).arrAt 2 cfg3.N = cols (V c main_v13) (V c main_v14) := by
  refine (dat3 V c).arrAt_eq_of_covers 2 _ (by decide +kernel) fun t hf y => ?_
  obtain ⟨z, q, j, rfl⟩ : ∃ (z : Fin 1) (q : Fin 256) (j : Fin 1024), y = ix3 z q j := ⟨y 0, y 1, y 2, by idx_vars y⟩
  obtain rfl : z = 0 := Subsingleton.elim _ _
  blk_simp
  rw [after3_2]
  unfold out3_2
  frame_out
  unfold cols
  refine (pay3 _ _ q j).trans (sum_mul_eq (fun k => ?_) fun k => ?_) <;> blk_ext [iblk3, idx3 t]
end Cert.Kernel5Ideal.Rnk
-- ==== Proof.RankRun.lean ====
module
public import proofs.«01_k».proof.Proof.RankArr
public import Idealize.ShloMosaic.Lib.Claim
public import Idealize.ShloMosaic.Lib.KernelVsHost
@[expose] public section
set_option maxRecDepth 16384
noncomputable section

/-! What a run of the low ranks' products leaves in its results. -/
namespace Cert.Kernel5Ideal.Rnk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen _root_.Rnk
open _root_.Ffn (den)
open _root_.Prj (lG gG gW gA)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run ends with every buffer of the program at the contents of the last boundary. -/
theorem run_W11 : θ_run defs (onTc (τ := τ) (main (F := Ideal))) ⟨m, fun _ => 0, ρ⟩ (fun r => ∀ c : Dev nD,
      r.2.mem ((c.tc : Thread nD τ).loc main_v18) = W11 m ρ c (Proc.devRef .tc main_v18)
      ∧ r.2.mem ((c.tc : Thread nD τ).loc main_v19) = W11 m ρ c (Proc.devRef .tc main_v19)
      ∧ r.2.mem ((c.tc : Thread nD τ).loc main_v21) = W11 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v18 (by decide)), h c _ (mem_uc main_v19 (by decide)), h c _ (mem_uc main_v21 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

variable (c : Dev nD)

/-! ## The arguments, by rows and columns -/
abbrev mW (s : Fin 4096) (k : Fin 128) : EReal := m ((c : Thread nD τ).loc main_arg0) (ix2 s k)
abbrev mA (s : Fin 4096) (k : Fin 128) : EReal := m ((c : Thread nD τ).loc main_arg1) (ix2 s k)
abbrev mG (s : Fin 4096) (k : Fin 480) : EReal := m ((c : Thread nD τ).loc main_arg2) (ix2 s k)
abbrev dW (s : Fin 4096) (k : Fin 4096) : EReal := m ((c : Thread nD τ).loc main_arg3) (ix2 s k)
abbrev dA (s : Fin 4096) (k : Fin 4096) : EReal := m ((c : Thread nD τ).loc main_arg4) (ix2 s k)
abbrev dG (s : Fin 4096) (k : Fin 4096) : EReal := m ((c : Thread nD τ).loc main_arg5) (ix2 s k)

/-! ## What each stretch of host code leaves, of any contents it finds -/
section
variable (W : Valuation τ sig (Elt Ideal)) (s k : Fin 4096) (u : Fin 768)
theorem pad_at (x : FVec Ideal S4096x480 .f32) (v : FVec Ideal S_ .f32) (k : Fin 4096) (j : Fin 480) :
    (pad S4096x512 ![0, 0] ![0, 32] ![0, 0] x v pads_S4096x480_S4096x512_000_0320 h_S_ : FVec Ideal S4096x512 .f32) (ix2 k (lG j)) = x (ix2 k j) :=
  pad_apply_of_inside _ _ _ _ _ _ _ _ (ix2 k j) (fun a => by match a with | 0 => simp [ix2] | 1 => simp [ix2])
theorem h01_v0 (j : Fin 480) : (StableHlo.after hostOps0_1 W (Proc.devRef .tc main_v0) (ix2 k (lG j)) : EReal) = W (Proc.devRef .tc main_arg2) (ix2 k j) := by
  entry_read
  exact pad_at (W (Proc.devRef .tc main_arg2)) _ k j
theorem h02_g (j : Fin 480) : (StableHlo.after hostOps0_2 W (Proc.devRef .tc main_v1) (ix2 k (gG j)) : EReal) = W (Proc.devRef .tc main_v0) (ix2 k (lG j)) := by
  entry_read
  pointwise
  have := j.isLt
  rw [dif_pos (by omega)]
theorem h02_w (j : Fin 128) : (StableHlo.after hostOps0_2 W (Proc.devRef .tc main_v1) (ix2 k (gW j)) : EReal) = W (Proc.devRef .tc main_arg0) (ix2 k j) := by
  entry_read
  pointwise
theorem h02_a (j : Fin 128) : (StableHlo.after hostOps0_2 W (Proc.devRef .tc main_v1) (ix2 k (gA j)) : EReal) = W (Proc.devRef .tc main_arg1) (ix2 k j) := by
  entry_read
  pointwise
  have := j.isLt
  rw [dif_neg (by omega), dif_neg (by omega)]
  exact congrArg (fun z => W (Proc.devRef .tc main_arg1) (ix2 k z)) (Fin.ext (by dsimp; omega))
theorem h1_v3 : (StableHlo.after hostOps1 W (Proc.devRef .tc main_v3) (ix3 0 s u) : EReal) = W (Proc.devRef .tc main_v2) (ix2 s u) := by
  entry_read
  pointwise
theorem h1_v4 : (StableHlo.after hostOps1 W (Proc.devRef .tc main_v4) (ix3 0 s k) : EReal) = W (Proc.devRef .tc main_arg5) (ix2 s k) := by
  entry_read
  pointwise
theorem h2_v8 : (StableHlo.after hostOps2 W (Proc.devRef .tc main_v8) (ix3 0 s u) : EReal) = W (Proc.devRef .tc main_v2) (ix2 s u) := by
  entry_read
  pointwise
theorem h2_v9 : (StableHlo.after hostOps2 W (Proc.devRef .tc main_v9) (ix3 0 s k) : EReal) = W (Proc.devRef .tc main_arg3) (ix2 s k) := by
  entry_read
  pointwise
theorem h3_v13 : (StableHlo.after hostOps3 W (Proc.devRef .tc main_v13) (ix3 0 s u) : EReal) = W (Proc.devRef .tc main_v2) (ix2 s u) := by
  entry_read
  pointwise
theorem h3_v14 : (StableHlo.after hostOps3 W (Proc.devRef .tc main_v14) (ix3 0 s k) : EReal) = W (Proc.devRef .tc main_arg4) (ix2 s k) := by
  entry_read
  pointwise
theorem h2_v7 (i : Fin 512) : (StableHlo.after hostOps2 W (Proc.devRef .tc main_v7) (ix2 i k) : EReal) = W (Proc.devRef .tc main_v5) (ix3 0 (gU i) k) := by
  entry_read
  pointwise
theorem h3_v12 (i : Fin 128) : (StableHlo.after hostOps3 W (Proc.devRef .tc main_v12) (ix2 i k) : EReal) = W (Proc.devRef .tc main_v10) (ix3 0 (gW i) k) := by
  entry_read
  pointwise
theorem h4_v18 (i : Fin 128) : (StableHlo.after hostOps4 W (Proc.devRef .tc main_v18) (ix2 i k) : EReal) = W (Proc.devRef .tc main_v12) (ix2 i k) := by
  entry_read
  pointwise
theorem h4_v19 (i : Fin 128) : (StableHlo.after hostOps4 W (Proc.devRef .tc main_v19) (ix2 i k) : EReal) = W (Proc.devRef .tc main_v15) (ix3 0 (gA i) k) := by
  entry_read
  pointwise
theorem h4_v21 (i : Fin 480) : (StableHlo.after hostOps4 W (Proc.devRef .tc main_v21) (ix2 i k) : EReal) = W (Proc.devRef .tc main_v7) (ix2 (lG i) k) := by
  entry_read
  pointwise
end

/-! ## The arrays, one after another -/
section
variable (s : Fin 4096)
theorem W3_g (j : Fin 480) : (W3 m ρ c (Proc.devRef .tc main_v1) (ix2 s (gG j)) : EReal) = mG m c s j :=
  (h02_g (W2 m ρ c) s j).trans ((h01_v0 (W1 m ρ c) s j).trans (congrFun (W1_args m ρ c main_arg2 (by decide)) _))
theorem W3_w (j : Fin 128) : (W3 m ρ c (Proc.devRef .tc main_v1) (ix2 s (gW j)) : EReal) = mW m c s j :=
  (h02_w (W2 m ρ c) s j).trans (congrFun (W2_args m ρ c main_arg0 (by decide)) _)
theorem W3_a (j : Fin 128) : (W3 m ρ c (Proc.devRef .tc main_v1) (ix2 s (gA j)) : EReal) = mA m c s j :=
  (h02_a (W2 m ρ c) s j).trans (congrFun (W2_args m ρ c main_arg1 (by decide)) _)
/-- The activations, part by part. -/
theorem W4_v2 (u : Fin 768) : (W4 m ρ c (Proc.devRef .tc main_v2) (ix2 s u) : EReal) = act u (W3 m ρ c (Proc.devRef .tc main_v1) (ix2 s u)) :=
  (congrFun ((W4_arr m ρ c 1).trans (arr0_1 _ c)) _).trans (acts_at _ s u)
theorem W4_g (j : Fin 480) : (W4 m ρ c (Proc.devRef .tc main_v2) (ix2 s (gG j)) : EReal) = Ideal.div 1 (den (mG m c s j)) :=
  (W4_v2 m ρ c s (gG j)).trans ((act_g j _).trans (congrArg (fun x => Ideal.div 1 (den x)) (W3_g m ρ c s j)))
theorem W4_w (j : Fin 128) : (W4 m ρ c (Proc.devRef .tc main_v2) (ix2 s (gW j)) : EReal) = Ideal.tanh (mW m c s j) :=
  (W4_v2 m ρ c s (gW j)).trans ((act_w j _).trans (congrArg Ideal.tanh (W3_w m ρ c s j)))
theorem W4_a (j : Fin 128) : (W4 m ρ c (Proc.devRef .tc main_v2) (ix2 s (gA j)) : EReal) = mA m c s j :=
  (W4_v2 m ρ c s (gA j)).trans ((act_a j _).trans (W3_a m ρ c s j))
end
/-- The three products, the columns of each that are kept. -/
theorem W6_v5 (i : Fin 480) (j : Fin 4096) : (W6 m ρ c (Proc.devRef .tc main_v5) (ix3 0 (gG i) j) : EReal) = grad (fun s i => Ideal.div 1 (den (mG m c s i))) (dG m c) i j :=
  (congrFun ((W6_arr m ρ c 2).trans (arr1_2 _ c)) _).trans
    (cols_eq (fun s => (h1_v3 (W4 m ρ c) s (gG i)).trans (W4_g m ρ c s i))
      fun s => (h1_v4 (W4 m ρ c) s j).trans (congrFun (W4_args m ρ c main_arg5 (by decide)) _))
theorem W8_v10 (i : Fin 128) (j : Fin 4096) : (W8 m ρ c (Proc.devRef .tc main_v10) (ix3 0 (gW i) j) : EReal) = grad (fun s i => Ideal.tanh (mW m c s i)) (dW m c) i j :=
  (congrFun ((W8_arr m ρ c 2).trans (arr2_2 _ c)) _).trans
    (cols_eq (fun s => (h2_v8 (W6 m ρ c) s (gW i)).trans ((congrFun ((W6_of m ρ c main_v2 (by decide +kernel)).trans (W5_of m ρ c main_v2 (by decide))) _).trans (W4_w m ρ c s i)))
      fun s => (h2_v9 (W6 m ρ c) s j).trans (congrFun (W6_args m ρ c main_arg3 (by decide)) _))
theorem W10_v15 (i : Fin 128) (j : Fin 4096) : (W10 m ρ c (Proc.devRef .tc main_v15) (ix3 0 (gA i) j) : EReal) = grad (mA m c) (dA m c) i j :=
  (congrFun ((W10_arr m ρ c 2).trans (arr3_2 _ c)) _).trans
    (cols_eq (fun s => (h3_v13 (W8 m ρ c) s (gA i)).trans ((congrFun ((W8_of m ρ c main_v2 (by decide +kernel)).trans ((W7_of m ρ c main_v2 (by decide)).trans ((W6_of m ρ c main_v2 (by decide +kernel)).trans (W5_of m ρ c main_v2 (by decide))))) _).trans (W4_a m ρ c s i)))
      fun s => (h3_v14 (W8 m ρ c) s j).trans (congrFun (W8_args m ρ c main_arg4 (by decide)) _))
/-- The results. -/
theorem W11_v21 (i : Fin 480) (j : Fin 4096) : (W11 m ρ c (Proc.devRef .tc main_v21) (ix2 i j) : EReal) = grad (fun s i => Ideal.div 1 (den (mG m c s i))) (dG m c) i j :=
  (h4_v21 (W10 m ρ c) j i).trans ((congrFun ((W10_of m ρ c main_v7 (by decide +kernel)).trans ((W9_of m ρ c main_v7 (by decide)).trans (W8_of m ρ c main_v7 (by decide +kernel)))) _).trans ((h2_v7 (W6 m ρ c) j (lG i)).trans (W6_v5 m ρ c i j)))
theorem W11_v18 (i : Fin 128) (j : Fin 4096) : (W11 m ρ c (Proc.devRef .tc main_v18) (ix2 i j) : EReal) = grad (fun s i => Ideal.tanh (mW m c s i)) (dW m c) i j :=
  (h4_v18 (W10 m ρ c) j i).trans ((congrFun (W10_of m ρ c main_v12 (by decide +kernel)) _).trans ((h3_v12 (W8 m ρ c) j i).trans (W8_v10 m ρ c i j)))
theorem W11_v19 (i : Fin 128) (j : Fin 4096) : (W11 m ρ c (Proc.devRef .tc main_v19) (ix2 i j) : EReal) = grad (mA m c) (dA m c) i j :=
  (h4_v19 (W10 m ρ c) j i).trans (W10_v15 m ρ c i j)
end Cert.Kernel5Ideal.Rnk
-- ==== Proof.RankFinal.lean ====
module
public import proofs.«01_k».proof.Proof.RankRun
public import proofs.«01_k».proof.Proof.Gen.Reference5Ideal.Run
public import Idealize.ShloMosaic.Lib.Pointwise
public import proofs.«01_k».proof.Defs
@[expose] public section
set_option maxRecDepth 16384
noncomputable section

/-! The low ranks' weight gradients: the reference's results element by element, and the equation of the two programs' results. -/
namespace Rnk
open Idealize.ShloMosaic Idealize.ShloMosaic.TcCoe Idealize.ShloMosaic.Tactic Idealize.SL.Sem
open Cert Cert.Reference5Ideal Cert.Reference5Ideal.Gen
open Cert.Kernel5Ideal.Rnk (mW mA mG dW dA dG)
open Ffn (den lgs div_den)

/-- Equal arguments give equal values. -/
theorem congr2 {α : Type} {n : ℕ} {X X' : Fin 4096 → Fin n → EReal} {D D' : Fin 4096 → Fin 4096 → EReal}
    (f : (Fin 4096 → Fin n → EReal) → (Fin 4096 → Fin 4096 → EReal) → α) (eX : X = X') (eD : D = D') : f X D = f X' D' := by
  subst eX eD
  rfl

section
variable (d : FVec Ideal S4096x4096 .bf16) (j : Fin 4096)
abbrev up (x : FVec Ideal S4096x4096 .bf16) : FVec Ideal S4096x4096 .f32 := extf .f32 x bitsLt_bf16_f32
abbrev one : FVec Ideal S4096x480 .f32 := broadcastInDim S4096x480 ![] bcast_S_S4096x480 (constant S_ .f32 0x3F800000#32)
/-- A gradient as the reference writes it: the cotangent's columns against the activations', and the two axes exchanged. -/
abbrev grN (x : FVec Ideal S4096x128 .f32) : FVec Ideal S128x4096 .bf16 := truncf .bf16 (transpose S128x4096 [1, 0]
  (Host.dotGeneral dot_S4096x4096_S4096x128_S4096x128_0_0_1_1_n_n none (up d) x) transposes_S4096x128_S128x4096_1_0) bitsLt_bf16_f32
abbrev grG (x : FVec Ideal S4096x480 .f32) : FVec Ideal S480x4096 .bf16 := truncf .bf16 (transpose S480x4096 [1, 0]
  (Host.dotGeneral dot_S4096x4096_S4096x480_S4096x480_0_0_1_1_n_n none (up d) x) transposes_S4096x480_S480x4096_1_0) bitsLt_bf16_f32
abbrev sg (x : FVec Ideal S4096x480 .f32) : FVec Ideal S4096x480 .f32 := Host.divf one (addf one (Host.exp (Host.negf x)))
theorem grN_at (x : FVec Ideal S4096x128 .f32) (i : Fin 128) : grN d x (ix2 i j) = ∑ s : Fin 4096, d (ix2 s j) * x (ix2 s i) := by
  pointwise
theorem grG_at (x : FVec Ideal S4096x480 .f32) (i : Fin 480) : grG d x (ix2 i j) = ∑ s : Fin 4096, d (ix2 s j) * x (ix2 s i) := by
  pointwise
theorem sg_at (x : FVec Ideal S4096x480 .f32) (s : Fin 4096) (i : Fin 480) : sg x (ix2 s i) = lgs (x (ix2 s i)) := by
  pointwise
  rfl
theorem tanh_at (x : FVec Ideal S4096x128 .f32) (s : Fin 4096) (i : Fin 128) : (Host.tanh x : FVec Ideal S4096x128 .f32) (ix2 s i) = Ideal.tanh (x (ix2 s i)) := by
  pointwise
/-- The three results. -/
theorem w_at (x : FVec Ideal S4096x128 .f32) (i : Fin 128) : grN d (Host.tanh x) (ix2 i j) = grad (fun s i => Ideal.tanh (x (ix2 s i))) (fun s k => d (ix2 s k)) i j :=
  (grN_at d j _ i).trans (Finset.sum_congr rfl fun s _ => by rw [tanh_at, mul_comm])
theorem a_at (x : FVec Ideal S4096x128 .f32) (i : Fin 128) : grN d x (ix2 i j) = grad (fun s i => x (ix2 s i)) (fun s k => d (ix2 s k)) i j :=
  (grN_at d j _ i).trans (Finset.sum_congr rfl fun s _ => mul_comm _ _)
theorem g_at (x : FVec Ideal S4096x480 .f32) (i : Fin 480) : grG d (sg x) (ix2 i j) = grad (fun s i => Ideal.div 1 (den (x (ix2 s i)))) (fun s k => d (ix2 s k)) i j :=
  (grG_at d j _ i).trans (Finset.sum_congr rfl fun s _ => by rw [sg_at, ← div_den, mul_comm])
end

set_option maxHeartbeats 1000000 in
/-- From memories that agree on the arguments the two programs end with the same results. -/
theorem algebraic : Cert.algebraic_Kernel5Ideal_Reference5Ideal := by
  intro m ρ m' ρ' _ he
  refine ⟨fun c => Kernel5Ideal.Gen.W11 m ρ c (Proc.devRef .tc Kernel5Ideal.main_v18),
    fun c => Kernel5Ideal.Gen.W11 m ρ c (Proc.devRef .tc Kernel5Ideal.main_v19),
    fun c => Kernel5Ideal.Gen.W11 m ρ c (Proc.devRef .tc Kernel5Ideal.main_v21), Kernel5Ideal.Rnk.run_W11 m ρ, ?_⟩
  refine (θ_run _ _ _).mono (fun r h c => ?_) (Reference5Ideal.Value.run m' ρ')
  obtain ⟨h0, h1, h2, h3⟩ := h c
  obtain ⟨e0, e1, e2, e3, e4, e5⟩ := he c
  have a0 : _ = mW m c := funext fun s => funext fun k => congrFun e0 (ix2 s k)
  have a1 : _ = mA m c := funext fun s => funext fun k => congrFun e1 (ix2 s k)
  have a2 : _ = mG m c := funext fun s => funext fun k => congrFun e2 (ix2 s k)
  have a3 : _ = dW m c := funext fun s => funext fun k => congrFun e3 (ix2 s k)
  have a4 : _ = dA m c := funext fun s => funext fun k => congrFun e4 (ix2 s k)
  have a5 : _ = dG m c := funext fun s => funext fun k => congrFun e5 (ix2 s k)
  refine ⟨h0.trans ?_, h1.trans ?_, h2.trans ?_, h3⟩
  · funext y
    obtain ⟨i, j, rfl⟩ : ∃ (i : Fin 128) (j : Fin 4096), y = ix2 i j := ⟨y 0, y 1, by idx_vars y⟩
    refine Eq.trans ?_ (Kernel5Ideal.Rnk.W11_v18 m ρ c i j).symm
    refine (w_at _ j _ i).trans ?_
    have key := congr2 (fun X D => grad (fun s i => Ideal.tanh (X s i)) D i j) a0 a3
    exact key
  · funext y
    obtain ⟨i, j, rfl⟩ : ∃ (i : Fin 128) (j : Fin 4096), y = ix2 i j := ⟨y 0, y 1, by idx_vars y⟩
    refine Eq.trans ?_ (Kernel5Ideal.Rnk.W11_v19 m ρ c i j).symm
    refine (a_at _ j _ i).trans ?_
    have key := congr2 (fun X D => grad X D i j) a1 a4
    exact key
  · funext y
    obtain ⟨i, j, rfl⟩ : ∃ (i : Fin 480) (j : Fin 4096), y = ix2 i j := ⟨y 0, y 1, by idx_vars y⟩
    refine Eq.trans ?_ (Kernel5Ideal.Rnk.W11_v21 m ρ c i j).symm
    refine (g_at _ j _ i).trans ?_
    have key := congr2 (fun X D => grad (fun s i => Ideal.div 1 (den (X s i))) D i j) a2 a5
    exact key
end Rnk
-- ==== Proof.RowsArr.lean ====
module
public import proofs.«01_k».proof.Proof.Gen.Kernel6Ideal.Frame
public import Idealize.ShloMosaic.Lib.Pipeline.ValueKit
public import proofs.«01_k».proof.Proof.MergeRow
@[expose] public section
set_option maxRecDepth 16384
noncomputable section

/-! The arrays the row gradient's products leave: each adds a product of rows against rows onto an array. -/
namespace Cert.Kernel6Ideal.Rws
open Idealize.ShloMosaic Idealize.ShloMosaic.TcCoe Idealize.SL.Sem
open Cert.Kernel6Ideal Cert.Kernel6Ideal.Gen
theorem idx0 : ∀ t : Fin cfg0.N, win0_0.index t = ![0, t.val / 4, 0] ∧ win0_1.index t = ![0, t.val % 4, 0] ∧ win0_2.index t = ![0, t.val / 4, t.val % 4] ∧
    win0_3.index t = ![0, t.val / 4, t.val % 4] :=
  (by decide +kernel : ∀ t : Fin grid0.N, _)
theorem idx1 : ∀ t : Fin cfg1.N, win1_0.index t = ![0, t.val / 4, 0] ∧ win1_1.index t = ![0, t.val % 4, 0] ∧ win1_2.index t = ![0, t.val / 4, t.val % 4] ∧
    win1_3.index t = ![0, t.val / 4, t.val % 4] :=
  (by decide +kernel : ∀ t : Fin grid1.N, _)
theorem idx2 : ∀ t : Fin cfg2.N, win2_0.index t = ![0, t.val / 4, 0] ∧ win2_1.index t = ![0, t.val % 4, 0] ∧ win2_2.index t = ![0, t.val / 4, t.val % 4] ∧
    win2_3.index t = ![0, t.val / 4, t.val % 4] :=
  (by decide +kernel : ∀ t : Fin grid2.N, _)
theorem pay0 (a : FVec Ideal S1x512x4096 .bf16) (b : FVec Ideal S1x1024x4096 .bf16) (x : FVec Ideal S1x512x1024 .f32) (i : Fin 512) (j : Fin 1024) :
    k0_pay1 (F := Ideal) a b x (ix3 0 i j) = (∑ k : Fin 4096, a (ix3 0 i k) * b (ix3 0 j k)) + x (ix3 0 i j) := by
  pointwise [k0_pay1]
theorem pay1 (a : FVec Ideal S1x512x4096 .bf16) (b : FVec Ideal S1x1024x4096 .bf16) (x : FVec Ideal S1x512x1024 .f32) (i : Fin 512) (j : Fin 1024) :
    k1_pay1 (F := Ideal) a b x (ix3 0 i j) = (∑ k : Fin 4096, a (ix3 0 i k) * b (ix3 0 j k)) + x (ix3 0 i j) := by
  pointwise [k1_pay1]
theorem pay2 (a : FVec Ideal S1x512x4096 .bf16) (b : FVec Ideal S1x1024x4096 .bf16) (x : FVec Ideal S1x512x1024 .f32) (i : Fin 512) (j : Fin 1024) :
    k2_pay1 (F := Ideal) a b x (ix3 0 i j) = (∑ k : Fin 4096, a (ix3 0 i k) * b (ix3 0 j k)) + x (ix3 0 i j) := by
  pointwise [k2_pay1]

/-- A sum of products plus a term, of equal parts. -/
theorem sum_add_eq {p q p' q' : Fin 4096 → EReal} {x x' : EReal} (h1 : ∀ k, p k = p' k) (h2 : ∀ k, q k = q' k) (h3 : x = x') :
    (∑ k, p k * q k) + x = (∑ k, p' k * q' k) + x' := by
  rw [h3]
  exact congrArg (· + x') (Finset.sum_congr rfl fun k _ => by rw [h1, h2])
/-- Rows against rows, added onto an array. -/
def onto (a b : FVec Ideal S1x4096x4096 .bf16) (x : FVec Ideal S1x4096x4096 .f32) : FVec Ideal S1x4096x4096 .f32 :=
  fun y => ((∑ k : Fin 4096, (a (ix3 0 (y 1) k) : EReal) * b (ix3 0 (y 2) k)) + (x (ix3 0 (y 1) (y 2)) : EReal) : EReal)
theorem onto_eq {a b : FVec Ideal S1x4096x4096 .bf16} {x : FVec Ideal S1x4096x4096 .f32} {p q : Fin 4096 → EReal} {z : EReal} {s f : Fin 4096}
    (h1 : ∀ k, (a (ix3 0 s k) : EReal) = p k) (h2 : ∀ k, (b (ix3 0 f k) : EReal) = q k) (h3 : (x (ix3 0 s f) : EReal) = z) :
    (onto a b x (ix3 0 s f) : EReal) = (∑ k, p k * q k) + z :=
  sum_add_eq h1 h2 h3

variable (V : (c : Dev nD) → (b : Ref sig .tc) → Buf (Elt Ideal) ((c : Thread nD τ).loc b)) (c : Dev nD)
theorem arr0_3 : (dat0 V c).arrAt 3 cfg0.N = onto (V c main_v2) (V c main_v3) (V c main_v4) := by
  refine (dat0 V c).arrAt_eq_of_covers 3 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after0_3]
  unfold out0_3
  frame_out
  unfold onto
  refine (pay0 _ _ _ q j).trans (sum_add_eq (fun k => ?_) (fun k => ?_) ?_) <;> blk_ext [iblk0, idx0 t]
theorem arr1_3 : (dat1 V c).arrAt 3 cfg1.N = onto (V c main_v8) (V c main_v9) (V c main_v10) := by
  refine (dat1 V c).arrAt_eq_of_covers 3 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after1_3]
  unfold out1_3
  frame_out
  unfold onto
  refine (pay1 _ _ _ q j).trans (sum_add_eq (fun k => ?_) (fun k => ?_) ?_) <;> blk_ext [iblk1, idx1 t]
theorem arr2_3 : (dat2 V c).arrAt 3 cfg2.N = onto (V c main_v14) (V c main_v15) (V c main_v16) := by
  refine (dat2 V c).arrAt_eq_of_covers 3 _ (by decide +kernel) fun t hf y => ?_
  obtain ⟨z, q, j, rfl⟩ : ∃ (z : Fin 1) (q : Fin 512) (j : Fin 1024), y = ix3 z q j := ⟨y 0, y 1, y 2, by idx_vars y⟩
  obtain rfl : z = 0 := Subsingleton.elim _ _
  blk_simp
  rw [after2_3]
  unfold out2_3
  frame_out
  unfold onto
  refine (pay2 _ _ _ q j).trans (sum_add_eq (fun k => ?_) (fun k => ?_) ?_) <;> blk_ext [iblk2, idx2 t]
end Cert.Kernel6Ideal.Rws
-- ==== Proof.RowsRun.lean ====
module
public import proofs.«01_k».proof.Proof.RowsArr
public import Idealize.ShloMosaic.Lib.Claim
@[expose] public section
set_option maxRecDepth 16384
noncomputable section

/-! What a run of the row gradient's products leaves in its result. -/
namespace Cert.Kernel6Ideal.Rws
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
open _root_.Mrg (mulT)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run ends with every buffer of the program at the contents of the last boundary. -/
theorem run_W7 : θ_run defs (onTc (τ := τ) (main (F := Ideal))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v18 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

variable (c : Dev nD)

/-! ## The arguments, by rows and columns; the weight's three segments of columns -/
abbrev c0 (j : Fin 4096) : Fin 12288 := ⟨j.val, by omega⟩
abbrev c1 (j : Fin 4096) : Fin 12288 := ⟨4096 + j.val, by omega⟩
abbrev c2 (j : Fin 4096) : Fin 12288 := ⟨8192 + j.val, by omega⟩
abbrev mH (s : Fin 4096) (k : Fin 4096) : EReal := m ((c : Thread nD τ).loc main_arg0) (ix2 s k)
abbrev mR (s : Fin 4096) (k : Fin 4096) : EReal := m ((c : Thread nD τ).loc main_arg1) (ix2 s k)
abbrev mK (s : Fin 4096) (k : Fin 4096) : EReal := m ((c : Thread nD τ).loc main_arg2) (ix2 s k)
abbrev mV (s : Fin 4096) (k : Fin 4096) : EReal := m ((c : Thread nD τ).loc main_arg3) (ix2 s k)
abbrev mW (s : Fin 4096) (k : Fin 12288) : EReal := m ((c : Thread nD τ).loc main_arg4) (ix2 s k)

/-! ## What each stretch of host code leaves, of any contents it finds -/
section
variable (W : Valuation τ sig (Elt Ideal)) (s k : Fin 4096)
theorem h0_v0 (u : Fin 12288) : (StableHlo.after hostOps0 W (Proc.devRef .tc main_v0) (ix2 s u) : EReal) = W (Proc.devRef .tc main_arg4) (ix2 s u) := by
  entry_read
  pointwise
theorem h0_v2 : (StableHlo.after hostOps0 W (Proc.devRef .tc main_v2) (ix3 0 s k) : EReal) = W (Proc.devRef .tc main_arg1) (ix2 s k) := by
  entry_read
  pointwise
theorem h0_v3 : (StableHlo.after hostOps0 W (Proc.devRef .tc main_v3) (ix3 0 s k) : EReal) = W (Proc.devRef .tc main_arg4) (ix2 s (c0 k)) := by
  entry_read
  pointwise
theorem h0_v4 : (StableHlo.after hostOps0 W (Proc.devRef .tc main_v4) (ix3 0 s k) : EReal) = W (Proc.devRef .tc main_arg0) (ix2 s k) := by
  entry_read
  pointwise
theorem h1_v8 : (StableHlo.after hostOps1 W (Proc.devRef .tc main_v8) (ix3 0 s k) : EReal) = W (Proc.devRef .tc main_arg2) (ix2 s k) := by
  entry_read
  pointwise
theorem h1_v9 : (StableHlo.after hostOps1 W (Proc.devRef .tc main_v9) (ix3 0 s k) : EReal) = W (Proc.devRef .tc main_v0) (ix2 s (c1 k)) := by
  entry_read
  pointwise
theorem h1_v10 : (StableHlo.after hostOps1 W (Proc.devRef .tc main_v10) (ix3 0 s k) : EReal) = W (Proc.devRef .tc main_v5) (ix3 0 s k) := by
  entry_read
  pointwise
theorem h2_v14 : (StableHlo.after hostOps2 W (Proc.devRef .tc main_v14) (ix3 0 s k) : EReal) = W (Proc.devRef .tc main_arg3) (ix2 s k) := by
  entry_read
  pointwise
theorem h2_v15 : (StableHlo.after hostOps2 W (Proc.devRef .tc main_v15) (ix3 0 s k) : EReal) = W (Proc.devRef .tc main_v0) (ix2 s (c2 k)) := by
  entry_read
  pointwise
theorem h2_v16 : (StableHlo.after hostOps2 W (Proc.devRef .tc main_v16) (ix3 0 s k) : EReal) = W (Proc.devRef .tc main_v11) (ix3 0 s k) := by
  entry_read
  pointwise
theorem h3_v18 : (StableHlo.after hostOps3 W (Proc.devRef .tc main_v18) (ix2 s k) : EReal) = W (Proc.devRef .tc main_v17) (ix3 0 s k) := by
  entry_read
  pointwise
end

/-! ## The arrays, one after another -/
variable (s j : Fin 4096)
/-- The array of the first product, added onto the argument. -/
abbrev g0 (s j : Fin 4096) : EReal := mulT (mR m c) (fun i k => mW m c i (c0 k)) s j + mH m c s j
/-- The second's, added onto the first's. -/
abbrev g1 (s j : Fin 4096) : EReal := mulT (mK m c) (fun i k => mW m c i (c1 k)) s j + g0 m c s j
/-- The third's, added onto the second's. -/
abbrev g2 (s j : Fin 4096) : EReal := mulT (mV m c) (fun i k => mW m c i (c2 k)) s j + g1 m c s j
theorem W2_v5 : (W2 m ρ c (Proc.devRef .tc main_v5) (ix3 0 s j) : EReal) = g0 m c s j :=
  (congrFun ((W2_arr m ρ c 3).trans (arr0_3 _ c)) _).trans
    (onto_eq (fun k => h0_v2 (W0 m ρ c) s k) (fun k => h0_v3 (W0 m ρ c) j k) (h0_v4 (W0 m ρ c) s j))
theorem W4_v11 : (W4 m ρ c (Proc.devRef .tc main_v11) (ix3 0 s j) : EReal) = g1 m c s j :=
  (congrFun ((W4_arr m ρ c 3).trans (arr1_3 _ c)) _).trans
    (onto_eq (fun k => (h1_v8 (W2 m ρ c) s k).trans (congrFun (W2_args m ρ c main_arg2 (by decide)) _))
      (fun k => (h1_v9 (W2 m ρ c) j k).trans ((congrFun (W2_of m ρ c main_v0 (by decide +kernel)) _).trans (h0_v0 (W0 m ρ c) j (c1 k))))
      ((h1_v10 (W2 m ρ c) s j).trans (W2_v5 m ρ c s j)))
theorem W6_v17 : (W6 m ρ c (Proc.devRef .tc main_v17) (ix3 0 s j) : EReal) = g2 m c s j :=
  (congrFun ((W6_arr m ρ c 3).trans (arr2_3 _ c)) _).trans
    (onto_eq (fun k => (h2_v14 (W4 m ρ c) s k).trans (congrFun (W4_args m ρ c main_arg3 (by decide)) _))
      (fun k => (h2_v15 (W4 m ρ c) j k).trans ((congrFun ((W4_of m ρ c main_v0 (by decide +kernel)).trans ((W3_of m ρ c main_v0 (by decide)).trans (W2_of m ρ c main_v0 (by decide +kernel)))) _).trans (h0_v0 (W0 m ρ c) j (c2 k))))
      ((h2_v16 (W4 m ρ c) s j).trans (W4_v11 m ρ c s j)))
theorem W7_v18 : (W7 m ρ c (Proc.devRef .tc main_v18) (ix2 s j) : EReal) = g2 m c s j :=
  (h3_v18 (W6 m ρ c) s j).trans (W6_v17 m ρ c s j)
end Cert.Kernel6Ideal.Rws
-- ==== Proof.RowsFinal.lean ====
module
public import proofs.«01_k».proof.Proof.RowsRun
public import proofs.«01_k».proof.Proof.Gen.Reference6Ideal.Run
public import Idealize.ShloMosaic.Lib.Pointwise
public import proofs.«01_k».proof.Defs
@[expose] public section
set_option maxRecDepth 16384
noncomputable section

/-! The row gradient: the reference's result element by element, and the equation of the two programs' results. -/
namespace Rws
open Idealize.ShloMosaic Idealize.ShloMosaic.TcCoe Idealize.ShloMosaic.Tactic Idealize.SL.Sem
open Cert Cert.Reference6Ideal Cert.Reference6Ideal.Gen
open Cert.Kernel6Ideal.Rws (mH mR mK mV mW c0 c1 c2)
open Mrg (mulT)

section
variable (h p q r : FVec Ideal S4096x4096 .f32) (x : FVec Ideal S4096x4096 .bf16) (w : FVec Ideal S4096x12288 .f32) (s j : Fin 4096)
abbrev up (x : FVec Ideal S4096x4096 .bf16) : FVec Ideal S4096x4096 .f32 := extf .f32 x bitsLt_bf16_f32
abbrev dotN (p q : FVec Ideal S4096x4096 .f32) : FVec Ideal S4096x4096 .f32 := Host.dotGeneral dot_S4096x4096_S4096x4096_S4096x4096_1_0_0_1_n_n none p q
abbrev flip (x : FVec Ideal S4096x4096 .f32) : FVec Ideal S4096x4096 .f32 := transpose S4096x4096 [1, 0] x transposes_S4096x4096_S4096x4096_1_0
/-- The three segments of the weight's columns. -/
abbrev w0 : FVec Ideal S4096x4096 .f32 := extractStridedSlice S4096x4096 ![0, 0] w slices_S4096x12288_S4096x4096_0_0
abbrev w1 : FVec Ideal S4096x4096 .f32 := extractStridedSlice S4096x4096 ![0, 4096] w slices_S4096x12288_S4096x4096_0_4096
abbrev w2 : FVec Ideal S4096x4096 .f32 := extractStridedSlice S4096x4096 ![0, 8192] w slices_S4096x12288_S4096x4096_0_8192
theorem dot0_at : dotN (up x) (flip (w0 w)) (ix2 s j) = mulT (fun s k => x (ix2 s k)) (fun i k => w (ix2 i (c0 k))) s j := by
  pointwise
  rfl
theorem dot1_at : dotN (up x) (flip (w1 w)) (ix2 s j) = mulT (fun s k => x (ix2 s k)) (fun i k => w (ix2 i (c1 k))) s j := by
  pointwise
  rfl
theorem dot2_at : dotN (up x) (flip (w2 w)) (ix2 s j) = mulT (fun s k => x (ix2 s k)) (fun i k => w (ix2 i (c2 k))) s j := by
  pointwise
  rfl
theorem add_at : (addf h (addf (addf p q) r) : FVec Ideal S4096x4096 .f32) (ix2 s j) = (h (ix2 s j) : EReal) + (p (ix2 s j) + q (ix2 s j) + r (ix2 s j)) := by
  pointwise
end
/-- The reference's result. -/
theorem sum_at (h : FVec Ideal S4096x4096 .f32) (x y z : FVec Ideal S4096x4096 .bf16) (w : FVec Ideal S4096x12288 .f32) (s j : Fin 4096) :
    (addf h (addf (addf (dotN (up x) (flip (w0 w))) (dotN (up y) (flip (w1 w)))) (dotN (up z) (flip (w2 w)))) : FVec Ideal S4096x4096 .f32) (ix2 s j) =
      mulT (fun s k => z (ix2 s k)) (fun i k => w (ix2 i (c2 k))) s j + (mulT (fun s k => y (ix2 s k)) (fun i k => w (ix2 i (c1 k))) s j +
        (mulT (fun s k => x (ix2 s k)) (fun i k => w (ix2 i (c0 k))) s j + h (ix2 s j))) := by
  refine (add_at h _ _ _ s j).trans ?_
  rw [dot0_at, dot1_at, dot2_at]
  generalize mulT _ _ s j = a
  generalize mulT _ _ s j = b
  generalize mulT _ _ s j = d
  rw [add_comm, add_comm (a + b), add_assoc d, add_comm a b, add_assoc b]

/-- Equal arguments give equal values. -/
theorem congr5 {α : Type} {H H' X X' Y Y' Z Z' : Fin 4096 → Fin 4096 → EReal} {W W' : Fin 4096 → Fin 12288 → EReal}
    (f : (Fin 4096 → Fin 4096 → EReal) → (Fin 4096 → Fin 4096 → EReal) → (Fin 4096 → Fin 4096 → EReal) → (Fin 4096 → Fin 4096 → EReal) →
      (Fin 4096 → Fin 12288 → EReal) → α)
    (eH : H = H') (eX : X = X') (eY : Y = Y') (eZ : Z = Z') (eW : W = W') : f H X Y Z W = f H' X' Y' Z' W' := by
  subst eH eX eY eZ eW
  rfl

set_option maxHeartbeats 1000000 in
/-- From memories that agree on the arguments the two programs end with the same result. -/
theorem algebraic : Cert.algebraic_Kernel6Ideal_Reference6Ideal := by
  intro m ρ m' ρ' _ he
  refine ⟨fun c => Kernel6Ideal.Gen.W7 m ρ c (Proc.devRef .tc Kernel6Ideal.main_v18), Kernel6Ideal.Rws.run_W7 m ρ, ?_⟩
  refine (θ_run _ _ _).mono (fun r h c => ?_) (Reference6Ideal.Value.run m' ρ')
  obtain ⟨h0, h1⟩ := h c
  obtain ⟨e0, e1, e2, e3, e4⟩ := he c
  have a0 : _ = mH m c := funext fun s => funext fun k => congrFun e0 (ix2 s k)
  have a1 : _ = mR m c := funext fun s => funext fun k => congrFun e1 (ix2 s k)
  have a2 : _ = mK m c := funext fun s => funext fun k => congrFun e2 (ix2 s k)
  have a3 : _ = mV m c := funext fun s => funext fun k => congrFun e3 (ix2 s k)
  have a4 : _ = mW m c := funext fun s => funext fun k => congrFun e4 (ix2 s k)
  refine ⟨h0.trans ?_, h1⟩
  funext y
  obtain ⟨s, j, rfl⟩ : ∃ (s j : Fin 4096), y = ix2 s j := ⟨y 0, y 1, by idx_vars y⟩
  refine Eq.trans ?_ (Kernel6Ideal.Rws.W7_v18 m ρ c s j).symm
  refine (sum_at _ _ _ _ _ s j).trans ?_
  have key := congr5 (fun H X Y Z W => mulT Z (fun i k => W i (c2 k)) s j + (mulT Y (fun i k => W i (c1 k)) s j + (mulT X (fun i k => W i (c0 k)) s j + H s j))) a0 a1 a2 a3 a4
  exact key
end Rws
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Final
public import proofs.«01_k».proof.Proof.FfnFinal
public import proofs.«01_k».proof.Proof.MergeFinal
public import proofs.«01_k».proof.Proof.ProjFinal
public import proofs.«01_k».proof.Proof.RankFinal
public import proofs.«01_k».proof.Proof.RowsFinal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments and, having no semaphores, every counter at zero. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun _ h => ⟨fun c => (h c).2.2.2, sem_eq_zero_of_no_sems (by decide) _⟩) (Cert.ReferenceIdeal.Value.run m g)

/-- The second reference leaves its arguments and, having no semaphores, every counter at zero. -/
theorem refFrame2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run _ _ _).mono (fun _ h => ⟨fun c => (h c).2.2.2, sem_eq_zero_of_no_sems (by decide) _⟩) (Cert.Reference2Ideal.Value.run m g)

/-- The third reference leaves its arguments and, having no semaphores, every counter at zero. -/
theorem refFrame3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
        ∧ r.2.sem = fun _ => 0) :=
  (θ_run _ _ _).mono (fun _ h => ⟨fun c => (h c).2.2.2.2.2.2.2, sem_eq_zero_of_no_sems (by decide) _⟩) (Cert.Reference3Ideal.Value.run m g)

/-- The fourth reference leaves its arguments and, having no semaphores, every counter at zero. -/
theorem refFrame4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
        ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
        ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
        ∧ r.2.sem = fun _ => 0) :=
  (θ_run _ _ _).mono (fun _ h => ⟨fun c => (h c).2.2.2.2.2.2.2, sem_eq_zero_of_no_sems (by decide) _⟩) (Cert.Reference4Ideal.Value.run m g)

/-- The fifth reference leaves its arguments and, having no semaphores, every counter at zero. -/
theorem refFrame5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
        ∧ r.2.sem = fun _ => 0) :=
  (θ_run _ _ _).mono (fun _ h => ⟨fun c => (h c).2.2.2, sem_eq_zero_of_no_sems (by decide) _⟩) (Cert.Reference5Ideal.Value.run m g)

/-- The sixth reference leaves its arguments and, having no semaphores, every counter at zero. -/
theorem refFrame6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
        ∧ r.2.sem = fun _ => 0) :=
  (θ_run _ _ _).mono (fun _ h => ⟨fun c => (h c).2, sem_eq_zero_of_no_sems (by decide) _⟩) (Cert.Reference6Ideal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Att.preFacts,
    fun m g _ => Cert.Kernel.Gen.frame m g, fun m g _ => Cert.KernelIdeal.Gen.frame m g, fun m g _ => Cert.KernelIdeal.Gen.frame m g,
    fun m g _ => refFrame m g, fun m g _ => refFrame m g,
    fun m g _ => Cert.Kernel2.Gen.frame m g, fun m g _ => Cert.Kernel2Ideal.Gen.frame m g, fun m g _ => refFrame2 m g,
    fun m g _ => Cert.Kernel3.Gen.frame m g, fun m g _ => Cert.Kernel3Ideal.Gen.frame m g, fun m g _ => refFrame3 m g,
    fun m g _ => Cert.Kernel4.Gen.frame m g, fun m g _ => Cert.Kernel4Ideal.Gen.frame m g, fun m g _ => refFrame4 m g,
    fun m g _ => Cert.Kernel5.Gen.frame m g, fun m g _ => Cert.Kernel5Ideal.Gen.frame m g, fun m g _ => refFrame5 m g,
    fun m g _ => Cert.Kernel6.Gen.frame m g, fun m g _ => Cert.Kernel6Ideal.Gen.frame m g, fun m g _ => refFrame6 m g,
    IdealRules.named_const.statement Cert.KernelIdeal.κ "mask" .f32 0xF149F2CA#32 ⊥ rfl,
    @Att.algebraic Att.preFacts, trivial, Ffn.algebraic, trivial, Mrg.algebraic, trivial, Prj.algebraic,
    trivial, Rnk.algebraic, trivial, Rws.algebraic⟩

end Cert.Proof

end
